-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_tame.lean ====
abbrev S8192x10240 : Shape := ⟨2, ![8192, 10240]⟩
abbrev S8192x128 : Shape := ⟨2, ![8192, 128]⟩
abbrev S16x10240 : Shape := ⟨2, ![16, 10240]⟩
abbrev S16x128 : Shape := ⟨2, ![16, 128]⟩
abbrev S8192x1024 : Shape := ⟨2, ![8192, 1024]⟩
abbrev S8192x2048 : Shape := ⟨2, ![8192, 2048]⟩
abbrev S1x4x1024 : Shape := ⟨3, ![1, 4, 1024]⟩
abbrev S1x1024 : Shape := ⟨2, ![1, 1024]⟩
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩
abbrev S16x2048 : Shape := ⟨2, ![16, 2048]⟩
abbrev S8192x4 : Shape := ⟨2, ![8192, 4]⟩
abbrev S16x4 : Shape := ⟨2, ![16, 4]⟩

class Facts : Prop where
  slices_S8192x10240_S8192x2048_0_0 : S8192x10240.Slices ![0, 0] S8192x2048
  bitsLt_bf16_f32 : FTy.bits .bf16 < FTy.bits .f32
  bcast_S_S8192x2048 : S_.BroadcastsInDim S8192x2048 (![] : Fin 0 → Fin S8192x2048.rank)
  slices_S16x10240_S16x2048_0_0 : S16x10240.Slices ![0, 0] S16x2048
  bcast_S_S16x2048 : S_.BroadcastsInDim S16x2048 (![] : Fin 0 → Fin S16x2048.rank)
  bcast_S_S1x4x1024 : S_.BroadcastsInDim S1x4x1024 (![] : Fin 0 → Fin S1x4x1024.rank)
  bcast_S_S1x1024 : S_.BroadcastsInDim S1x1024 (![] : Fin 0 → Fin S1x1024.rank)
  slices_S8192x128_S8192x4_0_0 : S8192x128.Slices ![0, 0] S8192x4
  bcast_S_S8192x4 : S_.BroadcastsInDim S8192x4 (![] : Fin 0 → Fin S8192x4.rank)
  slices_S16x128_S16x4_0_0 : S16x128.Slices ![0, 0] S16x4
  bcast_S_S16x4 : S_.BroadcastsInDim S16x4 (![] : Fin 0 → Fin S16x4.rank)
  slices_S8192x128_S8192x4_0_4 : S8192x128.Slices ![0, 4] S8192x4
  slices_S16x128_S16x4_0_4 : S16x128.Slices ![0, 4] S16x4

variable [Facts]

def fn_part1 {F : FTy → Type} [FloatOps F] (main_arg1 : FVec F S8192x128 .f32) (main_arg3 : FVec F S16x128 .f32) (main_v4 : IVec S8192x2048 1) (main_v9 : IVec S16x2048 1) (main_v12 : IVec S1x4x1024 1) (main_v15 : IVec S1x1024 1) (main_v18 : IVec S8192x4 1) : IVec S8192x2048 1 × IVec S16x2048 1 × IVec S1x4x1024 1 × IVec S1x1024 1 × IVec S8192x4 1 × IVec S16x4 1 × IVec S8192x4 1 × IVec S16x4 1 :=
  let main_v19 : FVec F S16x4 .f32 := (extractStridedSlice S16x4 ![0, 0] · slices_S16x128_S16x4_0_0) main_arg3
  let main_cst_4 : FVec F S_ .f32 := constant S_ .f32 0x7F800000#32
  let main_v20 : FVec F S16x4 .f32 := broadcastInDim S16x4 ![] bcast_S_S16x4 main_cst_4
  let main_v21 : IVec S16x4 1 := cmpf .olt main_v19 main_v20
  let main_v22 : FVec F S8192x4 .f32 := (extractStridedSlice S8192x4 ![0, 4] · slices_S8192x128_S8192x4_0_4) main_arg1
  let main_cst_5 : FVec F S_ .f32 := constant S_ .f32 0xFF800000#32
  let main_v23 : FVec F S8192x4 .f32 := broadcastInDim S8192x4 ![] bcast_S_S8192x4 main_cst_5
  let main_v24 : IVec S8192x4 1 := cmpf .ogt main_v22 main_v23
  let main_v25 : FVec F S16x4 .f32 := (extractStridedSlice S16x4 ![0, 4] · slices_S16x128_S16x4_0_4) main_arg3
  let main_cst_6 : FVec F S_ .f32 := constant S_ .f32 0xFF800000#32
  let main_v26 : FVec F S16x4 .f32 := broadcastInDim S16x4 ![] bcast_S_S16x4 main_cst_6
  let main_v27 : IVec S16x4 1 := cmpf .ogt main_v25 main_v26
  (main_v4, main_v9, main_v12, main_v15, main_v18, main_v21, main_v24, main_v27)

def fn {F : FTy → Type} [FloatOps F] (main_arg0 : FVec F S8192x10240 .bf16) (main_arg1 : FVec F S8192x128 .f32) (main_arg2 : FVec F S16x10240 .bf16) (main_arg3 : FVec F S16x128 .f32) (main_arg4 : FVec F S8192x1024 .bf16) (main_arg5 : FVec F S8192x2048 .f32) (main_arg6 : FVec F S1x4x1024 .f32) (main_arg7 : FVec F S1x1024 .f32) (main_arg8 : FVec F S1x1024 .f32) (main_arg9 : FVec F S1024x2048 .bf16) (main_arg10 : FVec F S1024x2048 .bf16) (main_arg11 : FVec F S2048x2048 .bf16) (main_arg12 : FVec F S1x2048 .f32) : IVec S8192x2048 1 × IVec S16x2048 1 × IVec S1x4x1024 1 × IVec S1x1024 1 × IVec S8192x4 1 × IVec S16x4 1 × IVec S8192x4 1 × IVec S16x4 1 :=
  let main_v0 : FVec F S8192x2048 .bf16 := (extractStridedSlice S8192x2048 ![0, 0] · slices_S8192x10240_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S16x2048 .bf16 := (extractStridedSlice S16x2048 ![0, 0] · slices_S16x10240_S16x2048_0_0) main_arg2
  let main_v6 : FVec F S16x2048 .f32 := (extf .f32 · bitsLt_bf16_f32) main_v5
  let main_v7 : FVec F S16x2048 .f32 := Host.absf main_v6
  let main_cst_0 : FVec F S_ .f32 := constant S_ .f32 0x7F800000#32
  let main_v8 : FVec F S16x2048 .f32 := broadcastInDim S16x2048 ![] bcast_S_S16x2048 main_cst_0
  let main_v9 : IVec S16x2048 1 := cmpf .olt main_v7 main_v8
  let main_v10 : FVec F S1x4x1024 .f32 := Host.absf main_arg6
  let main_cst_1 : FVec F S_ .f32 := constant S_ .f32 0x7F800000#32
  let main_v11 : FVec F S1x4x1024 .f32 := broadcastInDim S1x4x1024 ![] bcast_S_S1x4x1024 main_cst_1
  let main_v12 : IVec S1x4x1024 1 := cmpf .olt main_v10 main_v11
  let main_v13 : FVec F S1x1024 .f32 := Host.absf main_arg7
  let main_cst_2 : FVec F S_ .f32 := constant S_ .f32 0x7F800000#32
  let main_v14 : FVec F S1x1024 .f32 := broadcastInDim S1x1024 ![] bcast_S_S1x1024 main_cst_2
  let main_v15 : IVec S1x1024 1 := cmpf .olt main_v13 main_v14
  let main_v16 : FVec F S8192x4 .f32 := (extractStridedSlice S8192x4 ![0, 0] · slices_S8192x128_S8192x4_0_0) main_arg1
  let main_cst_3 : FVec F S_ .f32 := constant S_ .f32 0x7F800000#32
  let main_v17 : FVec F S8192x4 .f32 := broadcastInDim S8192x4 ![] bcast_S_S8192x4 main_cst_3
  let main_v18 : IVec S8192x4 1 := cmpf .olt main_v16 main_v17
  fn_part1 (F := F) main_arg1 main_arg3 main_v4 main_v9 main_v12 main_v15 main_v18
-- ==== Kernel.lean ====
abbrev S8192x10240 : Shape := ⟨2, ![8192, 10240]⟩
abbrev S8192x128 : Shape := ⟨2, ![8192, 128]⟩
abbrev S16x10240 : Shape := ⟨2, ![16, 10240]⟩
abbrev S16x128 : Shape := ⟨2, ![16, 128]⟩
abbrev S8192x1024 : Shape := ⟨2, ![8192, 1024]⟩
abbrev S8192x2048 : Shape := ⟨2, ![8192, 2048]⟩
abbrev S1x4x1024 : Shape := ⟨3, ![1, 4, 1024]⟩
abbrev S1x1024 : Shape := ⟨2, ![1, 1024]⟩
abbrev S1024x2048 : Shape := ⟨2, ![1024, 2048]⟩
abbrev S2048x2048 : Shape := ⟨2, ![2048, 2048]⟩
abbrev S1x2048 : Shape := ⟨2, ![1, 2048]⟩
abbrev S4x1024 : Shape := ⟨2, ![4, 1024]⟩
abbrev S1024 : Shape := ⟨1, ![1024]⟩
abbrev S2048 : Shape := ⟨1, ![2048]⟩
abbrev S_ : Shape := ⟨0, ![]⟩
abbrev S2x1024 : Shape := ⟨2, ![2, 1024]⟩
abbrev S8x1024 : Shape := ⟨2, ![8, 1024]⟩
abbrev S256x1024 : Shape := ⟨2, ![256, 1024]⟩
abbrev S256x4096 : Shape := ⟨2, ![256, 4096]⟩
abbrev S256x2048 : Shape := ⟨2, ![256, 2048]⟩
abbrev S256x3072 : Shape := ⟨2, ![256, 3072]⟩
abbrev S256x128 : Shape := ⟨2, ![256, 128]⟩
abbrev S16x3072 : Shape := ⟨2, ![16, 3072]⟩
abbrev S4x128x384 : Shape := ⟨3, ![4, 128, 384]⟩
abbrev S4x8x128 : Shape := ⟨3, ![4, 8, 128]⟩
abbrev S264x1024 : Shape := ⟨2, ![264, 1024]⟩
abbrev S16x1024 : Shape := ⟨2, ![16, 1024]⟩
abbrev S16x16 : Shape := ⟨2, ![16, 16]⟩
abbrev S16x256 : Shape := ⟨2, ![16, 256]⟩
abbrev S16x384 : Shape := ⟨2, ![16, 384]⟩
abbrev S16x1 : Shape := ⟨2, ![16, 1]⟩
abbrev S1x1 : Shape := ⟨2, ![1, 1]⟩
abbrev S1x8x128 : Shape := ⟨3, ![1, 8, 128]⟩
abbrev S8x128 : Shape := ⟨2, ![8, 128]⟩
abbrev S1 : Shape := ⟨1, ![1]⟩
abbrev S128x384 : Shape := ⟨2, ![128, 384]⟩
abbrev S1x128x384 : Shape := ⟨3, ![1, 128, 384]⟩
abbrev S256x256 : Shape := ⟨2, ![256, 256]⟩
abbrev S128x256 : Shape := ⟨2, ![128, 256]⟩
abbrev S256x384 : Shape := ⟨2, ![256, 384]⟩
abbrev S256x1 : Shape := ⟨2, ![256, 1]⟩
abbrev S1x256 : Shape := ⟨2, ![1, 256]⟩
abbrev S256 : Shape := ⟨1, ![256]⟩

abbrev nBuf : Space → Nat
  | .hbm => 24
  | .vmem => 24
  | .smem => 0
  | _ => 0

abbrev bufTy : (tb : Table) → Fin (tcTables nBuf tb) → BufTy
  | .hbm, ⟨0, _⟩ => ⟨S8192x10240, .bf16⟩
  | .hbm, ⟨1, _⟩ => ⟨S8192x128, .f32⟩
  | .hbm, ⟨2, _⟩ => ⟨S16x10240, .bf16⟩
  | .hbm, ⟨3, _⟩ => ⟨S16x128, .f32⟩
  | .hbm, ⟨4, _⟩ => ⟨S8192x1024, .bf16⟩
  | .hbm, ⟨5, _⟩ => ⟨S8192x2048, .f32⟩
  | .hbm, ⟨6, _⟩ => ⟨S1x4x1024, .f32⟩
  | .hbm, ⟨7, _⟩ => ⟨S1x1024, .f32⟩
  | .hbm, ⟨8, _⟩ => ⟨S1x1024, .f32⟩
  | .hbm, ⟨9, _⟩ => ⟨S1024x2048, .bf16⟩
  | .hbm, ⟨10, _⟩ => ⟨S1024x2048, .bf16⟩
  | .hbm, ⟨11, _⟩ => ⟨S2048x2048, .bf16⟩
  | .hbm, ⟨12, _⟩ => ⟨S1x2048, .f32⟩
  | .hbm, ⟨13, _⟩ => ⟨S4x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S2048, .f32⟩
  | .hbm, ⟨19, _⟩ => ⟨S1x2048, .f32⟩
  | .hbm, ⟨20, _⟩ => ⟨S_, .f32⟩
  | .hbm, ⟨21, _⟩ => ⟨S2x1024, .f32⟩
  | .hbm, ⟨22, _⟩ => ⟨S8x1024, .f32⟩
  | .hbm, ⟨23, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x4096, .bf16⟩
  | .local _ .vmem, ⟨3, _⟩ => ⟨S256x4096, .bf16⟩
  | .local _ .vmem, ⟨4, _⟩ => ⟨S256x2048, .f32⟩
  | .local _ .vmem, ⟨5, _⟩ => ⟨S256x2048, .f32⟩
  | .local _ .vmem, ⟨6, _⟩ => ⟨S1024x2048, .bf16⟩
  | .local _ .vmem, ⟨7, _⟩ => ⟨S1024x2048, .bf16⟩
  | .local _ .vmem, ⟨8, _⟩ => ⟨S2048x2048, .bf16⟩
  | .local _ .vmem, ⟨9, _⟩ => ⟨S1x2048, .f32⟩
  | .local _ .vmem, ⟨10, _⟩ => ⟨S256x3072, .bf16⟩
  | .local _ .vmem, ⟨11, _⟩ => ⟨S256x3072, .bf16⟩
  | .local _ .vmem, ⟨12, _⟩ => ⟨S256x128, .f32⟩
  | .local _ .vmem, ⟨13, _⟩ => ⟨S256x128, .f32⟩
  | .local _ .vmem, ⟨14, _⟩ => ⟨S16x3072, .bf16⟩
  | .local _ .vmem, ⟨15, _⟩ => ⟨S16x128, .f32⟩
  | .local _ .vmem, ⟨16, _⟩ => ⟨S8x1024, .f32⟩
  | .local _ .vmem, ⟨17, _⟩ => ⟨S256x2048, .f32⟩
  | .local _ .vmem, ⟨18, _⟩ => ⟨S256x2048, .f32⟩
  | .local _ .vmem, ⟨19, _⟩ => ⟨S256x1024, .bf16⟩
  | .local _ .vmem, ⟨20, _⟩ => ⟨S256x1024, .bf16⟩
  | .local _ .vmem, ⟨21, _⟩ => ⟨S4x128x384, .f32⟩
  | .local _ .vmem, ⟨22, _⟩ => ⟨S4x8x128, .f32⟩
  | .local _ .vmem, ⟨23, _⟩ => ⟨S264x1024, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![33], ![false]⟩

def k0_mult1 (i : grid0.Coords) : BitVec 32 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c256_i32 : BitVec 32 := 256#32
  let v2 : BitVec 32 := Scalar.muli v1 c256_i32
  v2
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c32_i32 : BitVec 32 := 32#32
  let v4 : BitVec 1 := Scalar.cmpi .slt arg0 c32_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c32_i32_3 : BitVec 32 := 32#32
  let v8 : BitVec 1 := Scalar.cmpi .eq arg0 c32_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c256_i32 : BitVec 32 := 256#32
  let v2 : BitVec 32 := Scalar.muli v1 c256_i32
  let v3 : BitVec 32 := v2
  let c6144_i32 : BitVec 32 := 6144#32
  let c0_i32_0 : BitVec 32 := 0#32
  ![v3.toNat, c6144_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8192x10240 : Shape := ⟨2, ![8192, 10240]⟩
abbrev S8192x128 : Shape := ⟨2, ![8192, 128]⟩
abbrev S16x10240 : Shape := ⟨2, ![16, 10240]⟩
abbrev S16x128 : Shape := ⟨2, ![16, 128]⟩
abbrev S8192x1024 : Shape := ⟨2, ![8192, 1024]⟩
abbrev S8192x2048 : Shape := ⟨2, ![8192, 2048]⟩
abbrev S1x4x1024 : Shape := ⟨3, ![1, 4, 1024]⟩
abbrev S1x1024 : Shape := ⟨2, ![1, 1024]⟩
abbrev S1024x2048 : Shape := ⟨2, ![1024, 2048]⟩
abbrev S2048x2048 : Shape := ⟨2, ![2048, 2048]⟩
abbrev S1x2048 : Shape := ⟨2, ![1, 2048]⟩
abbrev S8208x10240 : Shape := ⟨2, ![8208, 10240]⟩
abbrev S8208x128 : Shape := ⟨2, ![8208, 128]⟩
abbrev S8208x1024 : Shape := ⟨2, ![8208, 1024]⟩
abbrev S8208x4 : Shape := ⟨2, ![8208, 4]⟩
abbrev S_ : Shape := ⟨0, ![]⟩
abbrev S8211x1024 : Shape := ⟨2, ![8211, 1024]⟩
abbrev S1024 : Shape := ⟨1, ![1024]⟩
abbrev S1x1x1024 : Shape := ⟨3, ![1, 1, 1024]⟩
abbrev S8208x512 : Shape := ⟨2, ![8208, 512]⟩
abbrev S8208x4x128 : Shape := ⟨3, ![8208, 4, 128]⟩
abbrev S4x8208x128 : Shape := ⟨3, ![4, 8208, 128]⟩
abbrev S8208x4x256 : Shape := ⟨3, ![8208, 4, 256]⟩
abbrev S4x8208x256 : Shape := ⟨3, ![4, 8208, 256]⟩
abbrev S4x8208 : Shape := ⟨2, ![4, 8208]⟩
abbrev S4x8256x128 : Shape := ⟨3, ![4, 8256, 128]⟩
abbrev S4x8256x256 : Shape := ⟨3, ![4, 8256, 256]⟩
abbrev S4x8256 : Shape := ⟨2, ![4, 8256]⟩
abbrev S4x129x64x128 : Shape := ⟨4, ![4, 129, 64, 128]⟩
abbrev S129x4x64x128 : Shape := ⟨4, ![129, 4, 64, 128]⟩
abbrev S4x129x64x256 : Shape := ⟨4, ![4, 129, 64, 256]⟩
abbrev S129x4x64x256 : Shape := ⟨4, ![129, 4, 64, 256]⟩
abbrev S4x129x64 : Shape := ⟨3, ![4, 129, 64]⟩
abbrev S129x4x64 : Shape := ⟨3, ![129, 4, 64]⟩
abbrev S64x64 : Shape := ⟨2, ![64, 64]⟩
abbrev S4x128x256 : Shape := ⟨3, ![4, 128, 256]⟩
abbrev S4x128 : Shape := ⟨2, ![4, 128]⟩
abbrev S4 : Shape := ⟨1, ![4]⟩
abbrev S1x4x64x128 : Shape := ⟨4, ![1, 4, 64, 128]⟩
abbrev S4x64x128 : Shape := ⟨3, ![4, 64, 128]⟩
abbrev S1x4x64x256 : Shape := ⟨4, ![1, 4, 64, 256]⟩
abbrev S4x64x256 : Shape := ⟨3, ![4, 64, 256]⟩
abbrev S1x4x64 : Shape := ⟨3, ![1, 4, 64]⟩
abbrev S4x64 : Shape := ⟨2, ![4, 64]⟩
abbrev S4x1 : Shape := ⟨2, ![4, 1]⟩
abbrev S4x64x1 : Shape := ⟨3, ![4, 64, 1]⟩
abbrev S4x1x64 : Shape := ⟨3, ![4, 1, 64]⟩
abbrev S4x64x64 : Shape := ⟨3, ![4, 64, 64]⟩
abbrev S4x1x1 : Shape := ⟨3, ![4, 1, 1]⟩
abbrev S8192x4x256 : Shape := ⟨3, ![8192, 4, 256]⟩
abbrev S4x256 : Shape := ⟨2, ![4, 256]⟩
abbrev S8192x4 : Shape := ⟨2, ![8192, 4]⟩
abbrev S8192x4x1 : Shape := ⟨3, ![8192, 4, 1]⟩
abbrev S1x4x256 : Shape := ⟨3, ![1, 4, 256]⟩
abbrev S2048 : Shape := ⟨1, ![2048]⟩
abbrev S8192 : Shape := ⟨1, ![8192]⟩
abbrev S8192x1 : Shape := ⟨2, ![8192, 1]⟩

abbrev nBuf : Space → Nat
  | .hbm => 339
  | .vmem => 0
  | .smem => 0
  | _ => 0

abbrev hbmTy0_0 (i : Nat) : BufTy := match i % 128 with
  | 0 => ⟨S8192x10240, .bf16⟩
  | 1 => ⟨S8192x128, .f32⟩
  | 2 => ⟨S16x10240, .bf16⟩
  | 3 => ⟨S16x128, .f32⟩
  | 4 => ⟨S8192x1024, .bf16⟩
  | 5 => ⟨S8192x2048, .f32⟩
  | 6 => ⟨S1x4x1024, .f32⟩
  | 7 => ⟨S1x1024, .f32⟩
  | 8 => ⟨S1x1024, .f32⟩
  | 9 => ⟨S1024x2048, .bf16⟩
  | 10 => ⟨S1024x2048, .bf16⟩
  | 11 => ⟨S2048x2048, .bf16⟩
  | 12 => ⟨S1x2048, .f32⟩
  | 13 => ⟨S8208x10240, .bf16⟩
  | 14 => ⟨S8208x10240, .f32⟩
  | 15 => ⟨S8208x128, .f32⟩
  | 16 => ⟨S8208x1024, .f32⟩
  | 17 => ⟨S8208x1024, .f32⟩
  | 18 => ⟨S8208x4, .f32⟩
  | 19 => ⟨S8208x4, .f32⟩
  | 20 => ⟨S_, .i32⟩
  | 21 => ⟨S_, .f32⟩
  | 22 => ⟨S8211x1024, .f32⟩
  | 23 => ⟨S1024, .f32⟩
  | 24 => ⟨S1x1x1024, .f32⟩
  | 25 => ⟨S1024, .f32⟩
  | 26 => ⟨S8208x1024, .f32⟩
  | 27 => ⟨S1x1024, .f32⟩
  | 28 => ⟨S8208x1024, .f32⟩
  | 29 => ⟨S8208x1024, .f32⟩
  | 30 => ⟨S1x1024, .f32⟩
  | 31 => ⟨S8208x1024, .f32⟩
  | 32 => ⟨S8208x1024, .f32⟩
  | 33 => ⟨S1x1x1024, .f32⟩
  | 34 => ⟨S1024, .f32⟩
  | 35 => ⟨S8208x1024, .f32⟩
  | 36 => ⟨S1x1024, .f32⟩
  | 37 => ⟨S8208x1024, .f32⟩
  | 38 => ⟨S8208x1024, .f32⟩
  | 39 => ⟨S8208x1024, .f32⟩
  | 40 => ⟨S1x1x1024, .f32⟩
  | 41 => ⟨S1024, .f32⟩
  | 42 => ⟨S8208x1024, .f32⟩
  | 43 => ⟨S1x1024, .f32⟩
  | 44 => ⟨S8208x1024, .f32⟩
  | 45 => ⟨S8208x1024, .f32⟩
  | 46 => ⟨S8208x1024, .f32⟩
  | 47 => ⟨S1x1x1024, .f32⟩
  | 48 => ⟨S1024, .f32⟩
  | 49 => ⟨S8208x1024, .f32⟩
  | 50 => ⟨S1x1024, .f32⟩
  | 51 => ⟨S8208x1024, .f32⟩
  | 52 => ⟨S8208x1024, .f32⟩
  | 53 => ⟨S8208x1024, .f32⟩
  | 54 => ⟨S8208x1024, .f32⟩
  | 55 => ⟨S8208x1024, .f32⟩
  | 56 => ⟨S_, .f32⟩
  | 57 => ⟨S8208x1024, .f32⟩
  | 58 => ⟨S8208x1024, .f32⟩
  | 59 => ⟨S_, .f32⟩
  | 60 => ⟨S8208x1024, .f32⟩
  | 61 => ⟨S8208x1024, .f32⟩
  | 62 => ⟨S8208x1024, .f32⟩
  | 63 => ⟨S8208x512, .f32⟩
  | 64 => ⟨S8208x4x128, .f32⟩
  | 65 => ⟨S4x8208x128, .f32⟩
  | 66 => ⟨S8208x512, .f32⟩
  | 67 => ⟨S8208x4x128, .f32⟩
  | 68 => ⟨S4x8208x128, .f32⟩
  | 69 => ⟨S_, .f32⟩
  | 70 => ⟨S4x8208x128, .f32⟩
  | 71 => ⟨S4x8208x128, .f32⟩
  | 72 => ⟨S8208x4x256, .f32⟩
  | 73 => ⟨S4x8208x256, .f32⟩
  | 74 => ⟨S4x8208, .f32⟩
  | 75 => ⟨S8208x4, .f32⟩
  | 76 => ⟨S_, .f32⟩
  | 77 => ⟨S8208x4, .f32⟩
  | 78 => ⟨S8208x4, .f32⟩
  | 79 => ⟨S8208x4, .f32⟩
  | 80 => ⟨S8208x4, .f32⟩
  | 81 => ⟨S8208x4, .i1⟩
  | 82 => ⟨S8208x4, .f32⟩
  | 83 => ⟨S8208x4, .f32⟩
  | 84 => ⟨S8208x4, .f32⟩
  | 85 => ⟨S8208x4, .f32⟩
  | 86 => ⟨S8208x4, .f32⟩
  | 87 => ⟨S8208x4, .f32⟩
  | 88 => ⟨S8208x4, .f32⟩
  | 89 => ⟨S8208x4, .f32⟩
  | 90 => ⟨S4x8208, .f32⟩
  | 91 => ⟨S4x8208, .f32⟩
  | 92 => ⟨S_, .i32⟩
  | 93 => ⟨S_, .f32⟩
  | 94 => ⟨S4x8256x128, .f32⟩
  | 95 => ⟨S_, .i32⟩
  | 96 => ⟨S_, .f32⟩
  | 97 => ⟨S4x8256x128, .f32⟩
  | 98 => ⟨S_, .i32⟩
  | 99 => ⟨S_, .f32⟩
  | 100 => ⟨S4x8256x256, .f32⟩
  | 101 => ⟨S_, .f32⟩
  | 102 => ⟨S_, .f32⟩
  | 103 => ⟨S4x8256, .f32⟩
  | 104 => ⟨S_, .i32⟩
  | 105 => ⟨S_, .f32⟩
  | 106 => ⟨S4x8256, .f32⟩
  | 107 => ⟨S4x129x64x128, .f32⟩
  | 108 => ⟨S129x4x64x128, .f32⟩
  | 109 => ⟨S4x129x64x128, .f32⟩
  | 110 => ⟨S129x4x64x128, .f32⟩
  | 111 => ⟨S4x129x64x256, .f32⟩
  | 112 => ⟨S129x4x64x256, .f32⟩
  | 113 => ⟨S4x129x64, .f32⟩
  | 114 => ⟨S129x4x64, .f32⟩
  | 115 => ⟨S4x129x64, .f32⟩
  | 116 => ⟨S129x4x64, .f32⟩
  | 117 => ⟨S_, .f32⟩
  | 118 => ⟨S_, .f32⟩
  | 119 => ⟨S129x4x64, .f32⟩
  | 120 => ⟨S_, .i1⟩
  | 121 => ⟨S64x64, .i1⟩
  | 122 => ⟨S64x64, .i32⟩
  | 123 => ⟨S_, .i32⟩
  | 124 => ⟨S64x64, .i32⟩
  | 125 => ⟨S64x64, .i32⟩
  | 126 => ⟨S64x64, .i32⟩
  | 127 => ⟨S64x64, .i1⟩
  | _ => ⟨S8192x10240, .bf16⟩

abbrev hbmTy0_1 (i : Nat) : BufTy := match i % 128 with
  | 0 => ⟨S_, .i1⟩
  | 1 => ⟨S64x64, .i1⟩
  | 2 => ⟨S64x64, .i1⟩
  | 3 => ⟨S_, .f32⟩
  | 4 => ⟨S4x128x256, .f32⟩
  | 5 => ⟨S_, .f32⟩
  | 6 => ⟨S4x128, .f32⟩
  | 7 => ⟨S_, .f32⟩
  | 8 => ⟨S4, .f32⟩
  | 9 => ⟨S_, .f32⟩
  | 10 => ⟨S129x4x64x256, .f32⟩
  | 11 => ⟨S_, .i32⟩
  | 12 => ⟨S129x4x64x128, .f32⟩
  | 13 => ⟨S129x4x64x128, .f32⟩
  | 14 => ⟨S129x4x64x256, .f32⟩
  | 15 => ⟨S129x4x64, .f32⟩
  | 16 => ⟨S129x4x64, .f32⟩
  | 17 => ⟨S64x64, .i1⟩
  | 18 => ⟨S_, .i32⟩
  | 19 => ⟨S4x128x256, .f32⟩
  | 20 => ⟨S4x128, .f32⟩
  | 21 => ⟨S4, .f32⟩
  | 22 => ⟨S129x4x64x256, .f32⟩
  | 23 => ⟨S_, .i32⟩
  | 24 => ⟨S_, .i1⟩
  | 25 => ⟨S_, .i32⟩
  | 26 => ⟨S_, .i32⟩
  | 27 => ⟨S_, .i32⟩
  | 28 => ⟨S1x4x64x128, .f32⟩
  | 29 => ⟨S4x64x128, .f32⟩
  | 30 => ⟨S_, .i32⟩
  | 31 => ⟨S_, .i32⟩
  | 32 => ⟨S_, .i32⟩
  | 33 => ⟨S1x4x64x128, .f32⟩
  | 34 => ⟨S4x64x128, .f32⟩
  | 35 => ⟨S_, .i32⟩
  | 36 => ⟨S_, .i32⟩
  | 37 => ⟨S_, .i32⟩
  | 38 => ⟨S1x4x64x256, .f32⟩
  | 39 => ⟨S4x64x256, .f32⟩
  | 40 => ⟨S_, .i32⟩
  | 41 => ⟨S_, .i32⟩
  | 42 => ⟨S1x4x64, .f32⟩
  | 43 => ⟨S4x64, .f32⟩
  | 44 => ⟨S_, .i32⟩
  | 45 => ⟨S_, .i32⟩
  | 46 => ⟨S1x4x64, .f32⟩
  | 47 => ⟨S4x64, .f32⟩
  | 48 => ⟨S4x1, .f32⟩
  | 49 => ⟨S4, .f32⟩
  | 50 => ⟨S4x64x1, .f32⟩
  | 51 => ⟨S4x1x64, .f32⟩
  | 52 => ⟨S4x64x64, .f32⟩
  | 53 => ⟨S4x64x64, .f32⟩
  | 54 => ⟨S4x64x64, .f32⟩
  | 55 => ⟨S4x1x64, .f32⟩
  | 56 => ⟨S4x64x64, .f32⟩
  | 57 => ⟨S4x64x64, .f32⟩
  | 58 => ⟨S_, .f32⟩
  | 59 => ⟨S_, .f32⟩
  | 60 => ⟨S4x64x64, .i1⟩
  | 61 => ⟨S4x64x64, .f32⟩
  | 62 => ⟨S4x64x64, .f32⟩
  | 63 => ⟨S4x1, .f32⟩
  | 64 => ⟨S4x64, .f32⟩
  | 65 => ⟨S4x64, .f32⟩
  | 66 => ⟨S_, .f32⟩
  | 67 => ⟨S4x64, .f32⟩
  | 68 => ⟨S4x64, .f32⟩
  | 69 => ⟨S4x64, .f32⟩
  | 70 => ⟨S4x64, .f32⟩
  | 71 => ⟨S4x64x64, .f32⟩
  | 72 => ⟨S4x64x1, .f32⟩
  | 73 => ⟨S4x64x64, .f32⟩
  | 74 => ⟨S4x64x64, .f32⟩
  | 75 => ⟨S4x64x64, .f32⟩
  | 76 => ⟨S4x64x64, .f32⟩
  | 77 => ⟨S4x64x1, .f32⟩
  | 78 => ⟨S4x64x256, .f32⟩
  | 79 => ⟨S4x64x256, .f32⟩
  | 80 => ⟨S4x64x256, .f32⟩
  | 81 => ⟨S4x64x256, .f32⟩
  | 82 => ⟨S4x64x256, .f32⟩
  | 83 => ⟨S4x64, .f32⟩
  | 84 => ⟨S4x64, .f32⟩
  | 85 => ⟨S_, .f32⟩
  | 86 => ⟨S4x64, .f32⟩
  | 87 => ⟨S4x64, .f32⟩
  | 88 => ⟨S4x64, .f32⟩
  | 89 => ⟨S4x64, .f32⟩
  | 90 => ⟨S4x64, .f32⟩
  | 91 => ⟨S4x64, .f32⟩
  | 92 => ⟨S4x64x1, .f32⟩
  | 93 => ⟨S4x64x256, .f32⟩
  | 94 => ⟨S4x64x256, .f32⟩
  | 95 => ⟨S4x1, .f32⟩
  | 96 => ⟨S4x64, .f32⟩
  | 97 => ⟨S4x64, .f32⟩
  | 98 => ⟨S4x64, .f32⟩
  | 99 => ⟨S4, .f32⟩
  | 100 => ⟨S_, .f32⟩
  | 101 => ⟨S4, .f32⟩
  | 102 => ⟨S4, .f32⟩
  | 103 => ⟨S4x1, .f32⟩
  | 104 => ⟨S4x64, .f32⟩
  | 105 => ⟨S4x64, .f32⟩
  | 106 => ⟨S4x64, .f32⟩
  | 107 => ⟨S4, .f32⟩
  | 108 => ⟨S4, .f32⟩
  | 109 => ⟨S4, .f32⟩
  | 110 => ⟨S4x1x1, .f32⟩
  | 111 => ⟨S4x128x256, .f32⟩
  | 112 => ⟨S4x128x256, .f32⟩
  | 113 => ⟨S4x64x1, .f32⟩
  | 114 => ⟨S4x64x128, .f32⟩
  | 115 => ⟨S4x64x128, .f32⟩
  | 116 => ⟨S4x128x256, .f32⟩
  | 117 => ⟨S4x128x256, .f32⟩
  | 118 => ⟨S4x1, .f32⟩
  | 119 => ⟨S4x128, .f32⟩
  | 120 => ⟨S4x128, .f32⟩
  | 121 => ⟨S4x128, .f32⟩
  | 122 => ⟨S4x128, .f32⟩
  | 123 => ⟨S1x4x64x256, .f32⟩
  | 124 => ⟨S_, .i32⟩
  | 125 => ⟨S_, .i32⟩
  | 126 => ⟨S_, .i32⟩
  | 127 => ⟨S129x4x64x256, .f32⟩
  | _ => ⟨S8192x10240, .bf16⟩

abbrev hbmTy0_2 (i : Nat) : BufTy := match i % 128 with
  | 0 => ⟨S_, .i32⟩
  | 1 => ⟨S_, .i32⟩
  | 2 => ⟨S4x129x64x256, .f32⟩
  | 3 => ⟨S4x8256x256, .f32⟩
  | 4 => ⟨S4x8208x256, .f32⟩
  | 5 => ⟨S8192x10240, .f32⟩
  | 6 => ⟨S8192x1024, .f32⟩
  | 7 => ⟨S8192x2048, .f32⟩
  | 8 => ⟨S8192x2048, .f32⟩
  | 9 => ⟨S8208x4x256, .f32⟩
  | 10 => ⟨S8192x4x256, .f32⟩
  | 11 => ⟨S1024, .f32⟩
  | 12 => ⟨S4x256, .f32⟩
  | 13 => ⟨S8192x4x256, .f32⟩
  | 14 => ⟨S_, .f32⟩
  | 15 => ⟨S8192x4, .f32⟩
  | 16 => ⟨S8192x4x1, .f32⟩
  | 17 => ⟨S_, .f32⟩
  | 18 => ⟨S8192x4x1, .f32⟩
  | 19 => ⟨S8192x4x1, .f32⟩
  | 20 => ⟨S_, .f32⟩
  | 21 => ⟨S8192x4x1, .f32⟩
  | 22 => ⟨S8192x4x1, .f32⟩
  | 23 => ⟨S8192x4x1, .f32⟩
  | 24 => ⟨S8192x4x256, .f32⟩
  | 25 => ⟨S8192x4x256, .f32⟩
  | 26 => ⟨S1x4x256, .f32⟩
  | 27 => ⟨S8192x4x256, .f32⟩
  | 28 => ⟨S8192x4x256, .f32⟩
  | 29 => ⟨S8192x1024, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S8192x1024, .f32⟩
  | 39 => ⟨S1024x2048, .f32⟩
  | 40 => ⟨S8192x2048, .f32⟩
  | 41 => ⟨S8192x1024, .f32⟩
  | 42 => ⟨S1024x2048, .f32⟩
  | 43 => ⟨S8192x2048, .f32⟩
  | 44 => ⟨S8192x2048, .f32⟩
  | 45 => ⟨S8192x2048, .f32⟩
  | 46 => ⟨S_, .f32⟩
  | 47 => ⟨S8192x2048, .f32⟩
  | 48 => ⟨S8192x2048, .f32⟩
  | 49 => ⟨S_, .f32⟩
  | 50 => ⟨S8192x2048, .f32⟩
  | 51 => ⟨S8192x2048, .f32⟩
  | 52 => ⟨S8192x2048, .f32⟩
  | 53 => ⟨S8192x2048, .f32⟩
  | 54 => ⟨S8192x2048, .f32⟩
  | 55 => ⟨S_, .f32⟩
  | 56 => ⟨S8192x2048, .f32⟩
  | 57 => ⟨S8192x2048, .f32⟩
  | 58 => ⟨S_, .f32⟩
  | 59 => ⟨S8192x2048, .f32⟩
  | 60 => ⟨S8192x2048, .f32⟩
  | 61 => ⟨S8192x2048, .f32⟩
  | 62 => ⟨S8192x2048, .f32⟩
  | 63 => ⟨S2048x2048, .f32⟩
  | 64 => ⟨S8192x2048, .f32⟩
  | 65 => ⟨S2048, .f32⟩
  | 66 => ⟨S8192x2048, .f32⟩
  | 67 => ⟨S_, .f32⟩
  | 68 => ⟨S8192, .f32⟩
  | 69 => ⟨S8192x1, .f32⟩
  | 70 => ⟨S_, .f32⟩
  | 71 => ⟨S8192x1, .f32⟩
  | 72 => ⟨S8192x1, .f32⟩
  | 73 => ⟨S_, .f32⟩
  | 74 => ⟨S8192x1, .f32⟩
  | 75 => ⟨S8192x1, .f32⟩
  | 76 => ⟨S8192x1, .f32⟩
  | 77 => ⟨S8192x2048, .f32⟩
  | 78 => ⟨S8192x2048, .f32⟩
  | 79 => ⟨S1x2048, .f32⟩
  | 80 => ⟨S8192x2048, .f32⟩
  | 81 => ⟨S8192x2048, .f32⟩
  | 82 => ⟨S8192x2048, .f32⟩
  | _ => ⟨S8192x10240, .bf16⟩

abbrev hbmTy (i : Nat) : BufTy := match i / 128 with
  | 0 => hbmTy0_0 i
  | 1 => hbmTy0_1 i
  | 2 => hbmTy0_2 i
  | _ => ⟨S8192x10240, .bf16⟩

abbrev bufTy : (tb : Table) → Fin (tcTables nBuf tb) → BufTy
  | .hbm, ⟨i, _⟩ => hbmTy i
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call0_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_c_0 : Ref sig .tc := ⟨.hbm, 92, rfl⟩
abbrev main_call3_v0 : Ref sig .tc := ⟨.hbm, 93, rfl⟩
abbrev main_v55 : Ref sig .tc := ⟨.hbm, 94, rfl⟩
abbrev main_c_1 : Ref sig .tc := ⟨.hbm, 95, rfl⟩
abbrev main_call4_v0 : Ref sig .tc := ⟨.hbm, 96, rfl⟩
abbrev main_v56 : Ref sig .tc := ⟨.hbm, 97, rfl⟩
abbrev main_c_2 : Ref sig .tc := ⟨.hbm, 98, rfl⟩
abbrev main_call5_v0 : Ref sig .tc := ⟨.hbm, 99, rfl⟩
abbrev main_v57 : Ref sig .tc := ⟨.hbm, 100, rfl⟩
abbrev main_cst_3 : Ref sig .tc := ⟨.hbm, 101, rfl⟩
abbrev main_call6_v0 : Ref sig .tc := ⟨.hbm, 102, rfl⟩
abbrev main_v58 : Ref sig .tc := ⟨.hbm, 103, rfl⟩
abbrev main_c_4 : Ref sig .tc := ⟨.hbm, 104, rfl⟩
abbrev main_call7_v0 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_call8_call0_cst : Ref sig .tc := ⟨.hbm, 117, rfl⟩
abbrev main_call8_call0_v0 : Ref sig .tc := ⟨.hbm, 118, rfl⟩
abbrev main_v70 : Ref sig .tc := ⟨.hbm, 119, rfl⟩
abbrev main_c_5 : Ref sig .tc := ⟨.hbm, 120, rfl⟩
abbrev main_v71 : Ref sig .tc := ⟨.hbm, 121, rfl⟩
abbrev main_call9_v0 : Ref sig .tc := ⟨.hbm, 122, rfl⟩
abbrev main_call9_c : Ref sig .tc := ⟨.hbm, 123, rfl⟩
abbrev main_call9_v1 : Ref sig .tc := ⟨.hbm, 124, rfl⟩
abbrev main_call9_v2 : Ref sig .tc := ⟨.hbm, 125, rfl⟩
abbrev main_call9_v3 : Ref sig .tc := ⟨.hbm, 126, rfl⟩
abbrev main_call9_v4 : Ref sig .tc := ⟨.hbm, 127, rfl⟩
abbrev main_call9_c_0 : Ref sig .tc := ⟨.hbm, 128, rfl⟩
abbrev main_call9_v5 : Ref sig .tc := ⟨.hbm, 129, rfl⟩
abbrev main_v72 : Ref sig .tc := ⟨.hbm, 130, rfl⟩
abbrev main_cst_6 : Ref sig .tc := ⟨.hbm, 131, rfl⟩
abbrev main_v73 : Ref sig .tc := ⟨.hbm, 132, rfl⟩
abbrev main_cst_7 : Ref sig .tc := ⟨.hbm, 133, rfl⟩
abbrev main_v74 : Ref sig .tc := ⟨.hbm, 134, rfl⟩
abbrev main_cst_8 : Ref sig .tc := ⟨.hbm, 135, rfl⟩
abbrev main_v75 : Ref sig .tc := ⟨.hbm, 136, rfl⟩
abbrev main_cst_9 : Ref sig .tc := ⟨.hbm, 137, rfl⟩
abbrev main_v76 : Ref sig .tc := ⟨.hbm, 138, rfl⟩
abbrev main_c_10 : Ref sig .tc := ⟨.hbm, 139, rfl⟩
abbrev main_v77_0 : Ref sig .tc := ⟨.hbm, 140, rfl⟩
abbrev main_v77_1 : Ref sig .tc := ⟨.hbm, 141, rfl⟩
abbrev main_v77_2 : Ref sig .tc := ⟨.hbm, 142, rfl⟩
abbrev main_v77_3 : Ref sig .tc := ⟨.hbm, 143, rfl⟩
abbrev main_v77_4 : Ref sig .tc := ⟨.hbm, 144, rfl⟩
abbrev main_v77_5 : Ref sig .tc := ⟨.hbm, 145, rfl⟩
abbrev main_v77_6 : Ref sig .tc := ⟨.hbm, 146, rfl⟩
abbrev main_v77_7 : Ref sig .tc := ⟨.hbm, 147, rfl⟩
abbrev main_v77_8 : Ref sig .tc := ⟨.hbm, 148, rfl⟩
abbrev main_v77_9 : Ref sig .tc := ⟨.hbm, 149, rfl⟩
abbrev main_v77_10 : Ref sig .tc := ⟨.hbm, 150, rfl⟩
abbrev main_while0c_c_33 : Ref sig .tc := ⟨.hbm, 151, rfl⟩
abbrev main_while0c_v147 : Ref sig .tc := ⟨.hbm, 152, rfl⟩
abbrev main_while0b_call10_c : Ref sig .tc := ⟨.hbm, 153, rfl⟩
abbrev main_while0b_call10_c_0 : Ref sig .tc := ⟨.hbm, 154, rfl⟩
abbrev main_while0b_call10_c_1 : Ref sig .tc := ⟨.hbm, 155, rfl⟩
abbrev main_while0b_call10_v0 : Ref sig .tc := ⟨.hbm, 156, rfl⟩
abbrev main_while0b_v147 : Ref sig .tc := ⟨.hbm, 157, rfl⟩
abbrev main_while0b_call11_c : Ref sig .tc := ⟨.hbm, 158, rfl⟩
abbrev main_while0b_call11_c_0 : Ref sig .tc := ⟨.hbm, 159, rfl⟩
abbrev main_while0b_call11_c_1 : Ref sig .tc := ⟨.hbm, 160, rfl⟩
abbrev main_while0b_call11_v0 : Ref sig .tc := ⟨.hbm, 161, rfl⟩
abbrev main_while0b_v148 : Ref sig .tc := ⟨.hbm, 162, rfl⟩
abbrev main_while0b_call12_c : Ref sig .tc := ⟨.hbm, 163, rfl⟩
abbrev main_while0b_call12_c_0 : Ref sig .tc := ⟨.hbm, 164, rfl⟩
abbrev main_while0b_call12_c_1 : Ref sig .tc := ⟨.hbm, 165, rfl⟩
abbrev main_while0b_call12_v0 : Ref sig .tc := ⟨.hbm, 166, rfl⟩
abbrev main_while0b_v149 : Ref sig .tc := ⟨.hbm, 167, rfl⟩
abbrev main_while0b_call13_c : Ref sig .tc := ⟨.hbm, 168, rfl⟩
abbrev main_while0b_call13_c_0 : Ref sig .tc := ⟨.hbm, 169, rfl⟩
abbrev main_while0b_call13_v0 : Ref sig .tc := ⟨.hbm, 170, rfl⟩
abbrev main_while0b_v150 : Ref sig .tc := ⟨.hbm, 171, rfl⟩
abbrev main_while0b_call14_c : Ref sig .tc := ⟨.hbm, 172, rfl⟩
abbrev main_while0b_call14_c_0 : Ref sig .tc := ⟨.hbm, 173, rfl⟩
abbrev main_while0b_call14_v0 : Ref sig .tc := ⟨.hbm, 174, rfl⟩
abbrev main_while0b_v151 : Ref sig .tc := ⟨.hbm, 175, rfl⟩
abbrev main_while0b_v152 : Ref sig .tc := ⟨.hbm, 176, rfl⟩
abbrev main_while0b_v153 : Ref sig .tc := ⟨.hbm, 177, rfl⟩
abbrev main_while0b_v154 : Ref sig .tc := ⟨.hbm, 178, rfl⟩
abbrev main_while0b_v155 : Ref sig .tc := ⟨.hbm, 179, rfl⟩
abbrev main_while0b_v156 : Ref sig .tc := ⟨.hbm, 180, rfl⟩
abbrev main_while0b_v157 : Ref sig .tc := ⟨.hbm, 181, rfl⟩
abbrev main_while0b_v158 : Ref sig .tc := ⟨.hbm, 182, rfl⟩
abbrev main_while0b_v159 : Ref sig .tc := ⟨.hbm, 183, rfl⟩
abbrev main_while0b_v160 : Ref sig .tc := ⟨.hbm, 184, rfl⟩
abbrev main_while0b_v161 : Ref sig .tc := ⟨.hbm, 185, rfl⟩
abbrev main_while0b_cst_33 : Ref sig .tc := ⟨.hbm, 186, rfl⟩
abbrev main_while0b_call15_v0 : Ref sig .tc := ⟨.hbm, 187, rfl⟩
abbrev main_while0b_call15_v1 : Ref sig .tc := ⟨.hbm, 188, rfl⟩
abbrev main_while0b_call15_v2 : Ref sig .tc := ⟨.hbm, 189, rfl⟩
abbrev main_while0b_v162 : Ref sig .tc := ⟨.hbm, 190, rfl⟩
abbrev main_while0b_v163 : Ref sig .tc := ⟨.hbm, 191, rfl⟩
abbrev main_while0b_v164 : Ref sig .tc := ⟨.hbm, 192, rfl⟩
abbrev main_while0b_v165 : Ref sig .tc := ⟨.hbm, 193, rfl⟩
abbrev main_while0b_cst_34 : Ref sig .tc := ⟨.hbm, 194, rfl⟩
abbrev main_while0b_v166 : Ref sig .tc := ⟨.hbm, 195, rfl⟩
abbrev main_while0b_v167 : Ref sig .tc := ⟨.hbm, 196, rfl⟩
abbrev main_while0b_v168 : Ref sig .tc := ⟨.hbm, 197, rfl⟩
abbrev main_while0b_v169 : Ref sig .tc := ⟨.hbm, 198, rfl⟩
abbrev main_while0b_v170 : Ref sig .tc := ⟨.hbm, 199, rfl⟩
abbrev main_while0b_v171 : Ref sig .tc := ⟨.hbm, 200, rfl⟩
abbrev main_while0b_v172 : Ref sig .tc := ⟨.hbm, 201, rfl⟩
abbrev main_while0b_v173 : Ref sig .tc := ⟨.hbm, 202, rfl⟩
abbrev main_while0b_v174 : Ref sig .tc := ⟨.hbm, 203, rfl⟩
abbrev main_while0b_v175 : Ref sig .tc := ⟨.hbm, 204, rfl⟩
abbrev main_while0b_v176 : Ref sig .tc := ⟨.hbm, 205, rfl⟩
abbrev main_while0b_v177 : Ref sig .tc := ⟨.hbm, 206, rfl⟩
abbrev main_while0b_v178 : Ref sig .tc := ⟨.hbm, 207, rfl⟩
abbrev main_while0b_v179 : Ref sig .tc := ⟨.hbm, 208, rfl⟩
abbrev main_while0b_v180 : Ref sig .tc := ⟨.hbm, 209, rfl⟩
abbrev main_while0b_v181 : Ref sig .tc := ⟨.hbm, 210, rfl⟩
abbrev main_while0b_v182 : Ref sig .tc := ⟨.hbm, 211, rfl⟩
abbrev main_while0b_v183 : Ref sig .tc := ⟨.hbm, 212, rfl⟩
abbrev main_while0b_cst_35 : Ref sig .tc := ⟨.hbm, 213, rfl⟩
abbrev main_while0b_v184 : Ref sig .tc := ⟨.hbm, 214, rfl⟩
abbrev main_while0b_v185 : Ref sig .tc := ⟨.hbm, 215, rfl⟩
abbrev main_while0b_v186 : Ref sig .tc := ⟨.hbm, 216, rfl⟩
abbrev main_while0b_v187 : Ref sig .tc := ⟨.hbm, 217, rfl⟩
abbrev main_while0b_v188 : Ref sig .tc := ⟨.hbm, 218, rfl⟩
abbrev main_while0b_v189 : Ref sig .tc := ⟨.hbm, 219, rfl⟩
abbrev main_while0b_v190 : Ref sig .tc := ⟨.hbm, 220, rfl⟩
abbrev main_while0b_v191 : Ref sig .tc := ⟨.hbm, 221, rfl⟩
abbrev main_while0b_v192 : Ref sig .tc := ⟨.hbm, 222, rfl⟩
abbrev main_while0b_v193 : Ref sig .tc := ⟨.hbm, 223, rfl⟩
abbrev main_while0b_v194 : Ref sig .tc := ⟨.hbm, 224, rfl⟩
abbrev main_while0b_v195 : Ref sig .tc := ⟨.hbm, 225, rfl⟩
abbrev main_while0b_v196 : Ref sig .tc := ⟨.hbm, 226, rfl⟩
abbrev main_while0b_v197 : Ref sig .tc := ⟨.hbm, 227, rfl⟩
abbrev main_while0b_cst_36 : Ref sig .tc := ⟨.hbm, 228, rfl⟩
abbrev main_while0b_v198 : Ref sig .tc := ⟨.hbm, 229, rfl⟩
abbrev main_while0b_v199 : Ref sig .tc := ⟨.hbm, 230, rfl⟩
abbrev main_while0b_v200 : Ref sig .tc := ⟨.hbm, 231, rfl⟩
abbrev main_while0b_v201 : Ref sig .tc := ⟨.hbm, 232, rfl⟩
abbrev main_while0b_v202 : Ref sig .tc := ⟨.hbm, 233, rfl⟩
abbrev main_while0b_v203 : Ref sig .tc := ⟨.hbm, 234, rfl⟩
abbrev main_while0b_v204 : Ref sig .tc := ⟨.hbm, 235, rfl⟩
abbrev main_while0b_v205 : Ref sig .tc := ⟨.hbm, 236, rfl⟩
abbrev main_while0b_v206 : Ref sig .tc := ⟨.hbm, 237, rfl⟩
abbrev main_while0b_v207 : Ref sig .tc := ⟨.hbm, 238, rfl⟩
abbrev main_while0b_v208 : Ref sig .tc := ⟨.hbm, 239, rfl⟩
abbrev main_while0b_v209 : Ref sig .tc := ⟨.hbm, 240, rfl⟩
abbrev main_while0b_v210 : Ref sig .tc := ⟨.hbm, 241, rfl⟩
abbrev main_while0b_v211 : Ref sig .tc := ⟨.hbm, 242, rfl⟩
abbrev main_while0b_v212 : Ref sig .tc := ⟨.hbm, 243, rfl⟩
abbrev main_while0b_v213 : Ref sig .tc := ⟨.hbm, 244, rfl⟩
abbrev main_while0b_v214 : Ref sig .tc := ⟨.hbm, 245, rfl⟩
abbrev main_while0b_v215 : Ref sig .tc := ⟨.hbm, 246, rfl⟩
abbrev main_while0b_v216 : Ref sig .tc := ⟨.hbm, 247, rfl⟩
abbrev main_while0b_v217 : Ref sig .tc := ⟨.hbm, 248, rfl⟩
abbrev main_while0b_v218 : Ref sig .tc := ⟨.hbm, 249, rfl⟩
abbrev main_while0b_v219 : Ref sig .tc := ⟨.hbm, 250, rfl⟩
abbrev main_while0b_call16_v0 : Ref sig .tc := ⟨.hbm, 251, rfl⟩
abbrev main_while0b_call16_c : Ref sig .tc := ⟨.hbm, 252, rfl⟩
abbrev main_while0b_call16_c_0 : Ref sig .tc := ⟨.hbm, 253, rfl⟩
abbrev main_while0b_call16_c_1 : Ref sig .tc := ⟨.hbm, 254, rfl⟩
abbrev main_while0b_v220 : Ref sig .tc := ⟨.hbm, 255, rfl⟩
abbrev main_while0b_c_37 : Ref sig .tc := ⟨.hbm, 256, rfl⟩
abbrev main_while0b_v221 : Ref sig .tc := ⟨.hbm, 257, rfl⟩
abbrev main_v78 : Ref sig .tc := ⟨.hbm, 258, rfl⟩
abbrev main_v79 : Ref sig .tc := ⟨.hbm, 259, rfl⟩
abbrev main_v80 : Ref sig .tc := ⟨.hbm, 260, rfl⟩
abbrev main_v81 : Ref sig .tc := ⟨.hbm, 261, rfl⟩
abbrev main_v82 : Ref sig .tc := ⟨.hbm, 262, rfl⟩
abbrev main_v83 : Ref sig .tc := ⟨.hbm, 263, rfl⟩
abbrev main_v84 : Ref sig .tc := ⟨.hbm, 264, rfl⟩
abbrev main_v85 : Ref sig .tc := ⟨.hbm, 265, rfl⟩
abbrev main_v86 : Ref sig .tc := ⟨.hbm, 266, rfl⟩
abbrev main_v87 : Ref sig .tc := ⟨.hbm, 267, rfl⟩
abbrev main_v88 : Ref sig .tc := ⟨.hbm, 268, rfl⟩
abbrev main_v89 : Ref sig .tc := ⟨.hbm, 269, rfl⟩
abbrev main_cst_11 : Ref sig .tc := ⟨.hbm, 270, rfl⟩
abbrev main_v90 : Ref sig .tc := ⟨.hbm, 271, rfl⟩
abbrev main_v91 : Ref sig .tc := ⟨.hbm, 272, rfl⟩
abbrev main_cst_12 : Ref sig .tc := ⟨.hbm, 273, rfl⟩
abbrev main_v92 : Ref sig .tc := ⟨.hbm, 274, rfl⟩
abbrev main_v93 : Ref sig .tc := ⟨.hbm, 275, rfl⟩
abbrev main_cst_13 : Ref sig .tc := ⟨.hbm, 276, rfl⟩
abbrev main_v94 : Ref sig .tc := ⟨.hbm, 277, rfl⟩
abbrev main_v95 : Ref sig .tc := ⟨.hbm, 278, rfl⟩
abbrev main_v96 : Ref sig .tc := ⟨.hbm, 279, rfl⟩
abbrev main_v97 : Ref sig .tc := ⟨.hbm, 280, rfl⟩
abbrev main_v98 : Ref sig .tc := ⟨.hbm, 281, rfl⟩
abbrev main_v99 : Ref sig .tc := ⟨.hbm, 282, rfl⟩
abbrev main_v100 : Ref sig .tc := ⟨.hbm, 283, rfl⟩
abbrev main_v101 : Ref sig .tc := ⟨.hbm, 284, rfl⟩
abbrev main_v102 : Ref sig .tc := ⟨.hbm, 285, rfl⟩
abbrev main_v103 : Ref sig .tc := ⟨.hbm, 286, rfl⟩
abbrev main_v104 : Ref sig .tc := ⟨.hbm, 287, rfl⟩
abbrev main_cst_14 : Ref sig .tc := ⟨.hbm, 288, rfl⟩
abbrev main_v105 : Ref sig .tc := ⟨.hbm, 289, rfl⟩
abbrev main_v106 : Ref sig .tc := ⟨.hbm, 290, rfl⟩
abbrev main_cst_15 : Ref sig .tc := ⟨.hbm, 291, rfl⟩
abbrev main_v107 : Ref sig .tc := ⟨.hbm, 292, rfl⟩
abbrev main_v108 : Ref sig .tc := ⟨.hbm, 293, rfl⟩
abbrev main_v109 : Ref sig .tc := ⟨.hbm, 294, rfl⟩
abbrev main_v110 : Ref sig .tc := ⟨.hbm, 295, rfl⟩
abbrev main_v111 : Ref sig .tc := ⟨.hbm, 296, rfl⟩
abbrev main_v112 : Ref sig .tc := ⟨.hbm, 297, rfl⟩
abbrev main_v113 : Ref sig .tc := ⟨.hbm, 298, rfl⟩
abbrev main_v114 : Ref sig .tc := ⟨.hbm, 299, rfl⟩
abbrev main_v115 : Ref sig .tc := ⟨.hbm, 300, rfl⟩
abbrev main_v116 : Ref sig .tc := ⟨.hbm, 301, rfl⟩
abbrev main_cst_16 : Ref sig .tc := ⟨.hbm, 302, rfl⟩
abbrev main_v117 : Ref sig .tc := ⟨.hbm, 303, rfl⟩
abbrev main_v118 : Ref sig .tc := ⟨.hbm, 304, rfl⟩
abbrev main_cst_17 : Ref sig .tc := ⟨.hbm, 305, rfl⟩
abbrev main_v119 : Ref sig .tc := ⟨.hbm, 306, rfl⟩
abbrev main_v120 : Ref sig .tc := ⟨.hbm, 307, rfl⟩
abbrev main_v121 : Ref sig .tc := ⟨.hbm, 308, rfl⟩
abbrev main_v122 : Ref sig .tc := ⟨.hbm, 309, rfl⟩
abbrev main_v123 : Ref sig .tc := ⟨.hbm, 310, rfl⟩
abbrev main_cst_18 : Ref sig .tc := ⟨.hbm, 311, rfl⟩
abbrev main_v124 : Ref sig .tc := ⟨.hbm, 312, rfl⟩
abbrev main_v125 : Ref sig .tc := ⟨.hbm, 313, rfl⟩
abbrev main_cst_19 : Ref sig .tc := ⟨.hbm, 314, rfl⟩
abbrev main_v126 : Ref sig .tc := ⟨.hbm, 315, rfl⟩
abbrev main_v127 : Ref sig .tc := ⟨.hbm, 316, rfl⟩
abbrev main_v128 : Ref sig .tc := ⟨.hbm, 317, rfl⟩
abbrev main_v129 : Ref sig .tc := ⟨.hbm, 318, rfl⟩
abbrev main_v130 : Ref sig .tc := ⟨.hbm, 319, rfl⟩
abbrev main_v131 : Ref sig .tc := ⟨.hbm, 320, rfl⟩
abbrev main_v132 : Ref sig .tc := ⟨.hbm, 321, rfl⟩
abbrev main_v133 : Ref sig .tc := ⟨.hbm, 322, rfl⟩
abbrev main_cst_20 : Ref sig .tc := ⟨.hbm, 323, rfl⟩
abbrev main_v134 : Ref sig .tc := ⟨.hbm, 324, rfl⟩
abbrev main_v135 : Ref sig .tc := ⟨.hbm, 325, rfl⟩
abbrev main_cst_21 : Ref sig .tc := ⟨.hbm, 326, rfl⟩
abbrev main_v136 : Ref sig .tc := ⟨.hbm, 327, rfl⟩
abbrev main_v137 : Ref sig .tc := ⟨.hbm, 328, rfl⟩
abbrev main_cst_22 : Ref sig .tc := ⟨.hbm, 329, rfl⟩
abbrev main_v138 : Ref sig .tc := ⟨.hbm, 330, rfl⟩
abbrev main_v139 : Ref sig .tc := ⟨.hbm, 331, rfl⟩
abbrev main_v140 : Ref sig .tc := ⟨.hbm, 332, rfl⟩
abbrev main_v141 : Ref sig .tc := ⟨.hbm, 333, rfl⟩
abbrev main_v142 : Ref sig .tc := ⟨.hbm, 334, rfl⟩
abbrev main_v143 : Ref sig .tc := ⟨.hbm, 335, rfl⟩
abbrev main_v144 : Ref sig .tc := ⟨.hbm, 336, rfl⟩
abbrev main_v145 : Ref sig .tc := ⟨.hbm, 337, rfl⟩
abbrev main_v146 : Ref sig .tc := ⟨.hbm, 338, rfl⟩

abbrev nD : Nat := 1
abbrev τ : Topo := Topo.v7x

variable {F : FTy → Type} [FloatOps F]

abbrev main_while0_count : Scf.Loop 32 := ⟨0#32, 129#32, 1#32⟩
-- ==== Kernel2.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S1x2048x5632 : Shape := ⟨3, ![1, 2048, 5632]⟩
abbrev S1x5632x2048 : Shape := ⟨3, ![1, 5632, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S16x2048 : Shape := ⟨2, ![16, 2048]⟩
abbrev S16 : Shape := ⟨1, ![16]⟩
abbrev S16x1 : Shape := ⟨2, ![16, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 14
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048x5632, .bf16⟩
  | .hbm, ⟨11, _⟩ => ⟨S1x2048x5632, .bf16⟩
  | .hbm, ⟨12, _⟩ => ⟨S1x5632x2048, .bf16⟩
  | .hbm, ⟨13, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x2048, .f32⟩
  | .hbm, ⟨39, _⟩ => ⟨S2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S8192x2048, .f32⟩
  | .hbm, ⟨58, _⟩ => ⟨S8192x2048, .f32⟩
  | .hbm, ⟨59, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel3.lean ====
abbrev S1x8192x2048 : Shape := ⟨3, ![1, 8192, 2048]⟩
abbrev S16x2048 : Shape := ⟨2, ![16, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S8192x2048 : Shape := ⟨2, ![8192, 2048]⟩
abbrev S2048 : Shape := ⟨1, ![2048]⟩
abbrev S1024x2048 : Shape := ⟨2, ![1024, 2048]⟩
abbrev S1x2048x256 : Shape := ⟨3, ![1, 2048, 256]⟩
abbrev S1x256x2048 : Shape := ⟨3, ![1, 256, 2048]⟩
abbrev S1040x2048 : Shape := ⟨2, ![1040, 2048]⟩
abbrev S16 : Shape := ⟨1, ![16]⟩
abbrev S16x1 : Shape := ⟨2, ![16, 1]⟩
abbrev S2048x256 : Shape := ⟨2, ![2048, 256]⟩
abbrev S1040x256 : Shape := ⟨2, ![1040, 256]⟩
abbrev S256x2048 : Shape := ⟨2, ![256, 2048]⟩
abbrev S1024x256 : Shape := ⟨2, ![1024, 256]⟩

abbrev nBuf : Space → Nat
  | .hbm => 14
  | .vmem => 16
  | .smem => 0
  | _ => 0

abbrev bufTy : (tb : Table) → Fin (tcTables nBuf tb) → BufTy
  | .hbm, ⟨0, _⟩ => ⟨S1x8192x2048, .f32⟩
  | .hbm, ⟨1, _⟩ => ⟨S16x2048, .f32⟩
  | .hbm, ⟨2, _⟩ => ⟨S1x2048, .f32⟩
  | .hbm, ⟨3, _⟩ => ⟨S1x2048, .f32⟩
  | .hbm, ⟨4, _⟩ => ⟨S1x2048x5632, .f32⟩
  | .hbm, ⟨5, _⟩ => ⟨S1x2048x5632, .f32⟩
  | .hbm, ⟨6, _⟩ => ⟨S1x5632x2048, .f32⟩
  | .hbm, ⟨7, _⟩ => ⟨S8192x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S8192x2048, .f32⟩
  | .hbm, ⟨13, _⟩ => ⟨S16x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x256x2048, .f32⟩
  | .local _ .vmem, ⟨9, _⟩ => ⟨S1x256x2048, .f32⟩
  | .local _ .vmem, ⟨10, _⟩ => ⟨S16x2048, .f32⟩
  | .local _ .vmem, ⟨11, _⟩ => ⟨S1024x2048, .f32⟩
  | .local _ .vmem, ⟨12, _⟩ => ⟨S1024x2048, .f32⟩
  | .local _ .vmem, ⟨13, _⟩ => ⟨S16x2048, .f32⟩
  | .local _ .vmem, ⟨14, _⟩ => ⟨S1040x2048, .bf16⟩
  | .local _ .vmem, ⟨15, _⟩ => ⟨S16x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![8, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_4 : BitVec 32 := 0#32
  let v8 : BitVec 1 := Scalar.cmpi .eq arg0 c0_i32_4
  let v9 : BitVec 32 := Scalar.extui v8
  let c0_i32_5 : BitVec 32 := 0#32
  let v10 : BitVec 1 := Scalar.cmpi .ne v9 c0_i32_5
  v10

def k0_cond4 (i : grid0.Coords) : BitVec 1 :=
  let arg0 : BitVec 32 := BitVec.ofNat 32 (i 0).val
  let c0_i32_6 : BitVec 32 := 0#32
  let v11 : BitVec 1 := Scalar.cmpi .sgt arg0 c0_i32_6
  let v12 : BitVec 32 := Scalar.extui v11
  let c0_i32_7 : BitVec 32 := 0#32
  let v13 : BitVec 1 := Scalar.cmpi .ne v12 c0_i32_7
  v13

def k0_cond6 (i : grid0.Coords) : BitVec 1 :=
  let arg1 : BitVec 32 := BitVec.ofNat 32 (i 1).val
  let c21_i32_10 : BitVec 32 := 21#32
  let v19 : BitVec 1 := Scalar.cmpi .eq arg1 c21_i32_10
  let v20 : BitVec 32 := Scalar.extui v19
  let c0_i32_11 : BitVec 32 := 0#32
  let v21 : BitVec 1 := Scalar.cmpi .ne v20 c0_i32_11
  v21

def k0_cond5 (i : grid0.Coords) : BitVec 1 :=
  let arg0 : BitVec 32 := BitVec.ofNat 32 (i 0).val
  let c0_i32_8 : BitVec 32 := 0#32
  let v14 : BitVec 1 := Scalar.cmpi .eq arg0 c0_i32_8
  let arg1 : BitVec 32 := BitVec.ofNat 32 (i 1).val
  let c21_i32 : BitVec 32 := 21#32
  let v15 : BitVec 1 := Scalar.cmpi .eq arg1 c21_i32
  let v16 : BitVec 1 := Scalar.andi v14 v15
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S16x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference3Ideal.lean ====
abbrev S1x8192x2048 : Shape := ⟨3, ![1, 8192, 2048]⟩
abbrev S16x2048 : Shape := ⟨2, ![16, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S8192x2048 : Shape := ⟨2, ![8192, 2048]⟩
abbrev S8208x2048 : Shape := ⟨2, ![8208, 2048]⟩
abbrev S2048 : Shape := ⟨1, ![2048]⟩
abbrev S_ : Shape := ⟨0, ![]⟩
abbrev S8208 : Shape := ⟨1, ![8208]⟩
abbrev S8208x1 : Shape := ⟨2, ![8208, 1]⟩
abbrev S2048x5632 : Shape := ⟨2, ![2048, 5632]⟩
abbrev S5632x2048 : Shape := ⟨2, ![5632, 2048]⟩
abbrev S8208x5632 : Shape := ⟨2, ![8208, 5632]⟩

abbrev nBuf : Space → Nat
  | .hbm => 65
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S16x2048, .f32⟩
  | .hbm, ⟨2, _⟩ => ⟨S1x2048, .f32⟩
  | .hbm, ⟨3, _⟩ => ⟨S1x2048, .f32⟩
  | .hbm, ⟨4, _⟩ => ⟨S1x2048x5632, .f32⟩
  | .hbm, ⟨5, _⟩ => ⟨S1x2048x5632, .f32⟩
  | .hbm, ⟨6, _⟩ => ⟨S1x5632x2048, .f32⟩
  | .hbm, ⟨7, _⟩ => ⟨S8192x2048, .f32⟩
  | .hbm, ⟨8, _⟩ => ⟨S8208x2048, .f32⟩
  | .hbm, ⟨9, _⟩ => ⟨S2048, .f32⟩
  | .hbm, ⟨10, _⟩ => ⟨S8208x2048, .f32⟩
  | .hbm, ⟨11, _⟩ => ⟨S_, .f32⟩
  | .hbm, ⟨12, _⟩ => ⟨S8208, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1, .f32⟩
  | .hbm, ⟨21, _⟩ => ⟨S8208x2048, .f32⟩
  | .hbm, ⟨22, _⟩ => ⟨S8208x2048, .f32⟩
  | .hbm, ⟨23, _⟩ => ⟨S1x2048, .f32⟩
  | .hbm, ⟨24, _⟩ => ⟨S8208x2048, .f32⟩
  | .hbm, ⟨25, _⟩ => ⟨S8208x2048, .f32⟩
  | .hbm, ⟨26, _⟩ => ⟨S2048x5632, .f32⟩
  | .hbm, ⟨27, _⟩ => ⟨S2048x5632, .f32⟩
  | .hbm, ⟨28, _⟩ => ⟨S5632x2048, .f32⟩
  | .hbm, ⟨29, _⟩ => ⟨S8208x5632, .f32⟩
  | .hbm, ⟨30, _⟩ => ⟨S8208x5632, .f32⟩
  | .hbm, ⟨31, _⟩ => ⟨S8208x5632, .f32⟩
  | .hbm, ⟨32, _⟩ => ⟨S_, .f32⟩
  | .hbm, ⟨33, _⟩ => ⟨S8208x5632, .f32⟩
  | .hbm, ⟨34, _⟩ => ⟨S8208x5632, .f32⟩
  | .hbm, ⟨35, _⟩ => ⟨S_, .f32⟩
  | .hbm, ⟨36, _⟩ => ⟨S8208x5632, .f32⟩
  | .hbm, ⟨37, _⟩ => ⟨S8208x5632, .f32⟩
  | .hbm, ⟨38, _⟩ => ⟨S8208x5632, .f32⟩
  | .hbm, ⟨39, _⟩ => ⟨S8208x5632, .f32⟩
  | .hbm, ⟨40, _⟩ => ⟨S8208x5632, .f32⟩
  | .hbm, ⟨41, _⟩ => ⟨S8208x2048, .f32⟩
  | .hbm, ⟨42, _⟩ => ⟨S2048, .f32⟩
  | .hbm, ⟨43, _⟩ => ⟨S8208x2048, .f32⟩
  | .hbm, ⟨44, _⟩ => ⟨S_, .f32⟩
  | .hbm, ⟨45, _⟩ => ⟨S8208, .f32⟩
  | .hbm, ⟨46, _⟩ => ⟨S8208x1, .f32⟩
  | .hbm, ⟨47, _⟩ => ⟨S_, .f32⟩
  | .hbm, ⟨48, _⟩ => ⟨S8208x1, .f32⟩
  | .hbm, ⟨49, _⟩ => ⟨S8208x1, .f32⟩
  | .hbm, ⟨50, _⟩ => ⟨S_, .f32⟩
  | .hbm, ⟨51, _⟩ => ⟨S8208x1, .f32⟩
  | .hbm, ⟨52, _⟩ => ⟨S8208x1, .f32⟩
  | .hbm, ⟨53, _⟩ => ⟨S8208x1, .f32⟩
  | .hbm, ⟨54, _⟩ => ⟨S8208x2048, .f32⟩
  | .hbm, ⟨55, _⟩ => ⟨S8208x2048, .f32⟩
  | .hbm, ⟨56, _⟩ => ⟨S1x2048, .f32⟩
  | .hbm, ⟨57, _⟩ => ⟨S8208x2048, .f32⟩
  | .hbm, ⟨58, _⟩ => ⟨S8208x2048, .f32⟩
  | .hbm, ⟨59, _⟩ => ⟨S_, .f32⟩
  | .hbm, ⟨60, _⟩ => ⟨S8208x2048, .f32⟩
  | .hbm, ⟨61, _⟩ => ⟨S8208x2048, .f32⟩
  | .hbm, ⟨62, _⟩ => ⟨S8208x2048, .f32⟩
  | .hbm, ⟨63, _⟩ => ⟨S8192x2048, .f32⟩
  | .hbm, ⟨64, _⟩ => ⟨S16x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== Proof.Mix.RunC.lean ====
/- The run of the mixing call at its last grid point, where only the merge of the block before runs.  It follows the
   runs of the other two cases; the conditionals are decided first, and only then is the merge opened. -/
module

public import proofs.«01_k».proof.Proof.Gen.KernelIdeal.Frame.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 32), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_C (c : Dev nD) (i : grid0.Coords) (arg1 : Memref sig .tc .vmem S256x1024 .bf16) (harg1 : arg1.IsWhole) (arg2 : Memref sig .tc .vmem S256x4096 .bf16) (harg2 : arg2.IsWhole) (arg3 : Memref sig .tc .vmem S256x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S256x3072 .bf16) (harg8 : arg8.IsWhole) (arg9 : Memref sig .tc .vmem S256x128 .f32) (harg9 : arg9.IsWhole) (arg10 : Memref sig .tc .vmem S16x3072 .bf16) (harg10 : arg10.IsWhole) (arg11 : Memref sig .tc .vmem S16x128 .f32) (harg11 : arg11.IsWhole) (arg12 : Memref sig .tc .vmem S8x1024 .f32) (harg12 : arg12.IsWhole) (arg13 : Memref sig .tc .vmem S256x2048 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S4x128x384 .f32) (harg16 : arg16.IsWhole) (arg17 : Memref sig .tc .vmem S4x8x128 .f32) (harg17 : arg17.IsWhole) (arg18 : Memref sig .tc .vmem S264x1024 .f32) (harg18 : arg18.IsWhole) (hc0 : ¬cond0_0 i) (hc1 : ¬cond0_1 i) (hc2 : cond0_2 i)
    (x0 : Vec F S256x1024 .bf16) (x1 : Vec F S256x4096 .bf16) (x2 : Vec F S256x2048 .f32) (x3 : Vec F S1024x2048 .bf16) (x4 : Vec F S1024x2048 .bf16) (x5 : Vec F S2048x2048 .bf16) (x6 : Vec F S1x2048 .f32) (x7 : Vec F S256x3072 .bf16) (x8 : Vec F S256x128 .f32) (x9 : Vec F S16x3072 .bf16) (x10 : Vec F S16x128 .f32) (x11 : Vec F S8x1024 .f32) (xs0 : Vec F S256x1024 .bf16) (xs2 : Vec F S4x128x384 .f32) (xs3 : Vec F S4x8x128 .f32) (xs4 : Vec F S264x1024 .f32) :
    Σ' (L12 : List (View.Piece (Elt F) S256x2048 .f32)), Σ' (LS0 : List (View.Piece (Elt F) S256x1024 .bf16)), Σ' (LS2 : List (View.Piece (Elt F) S4x128x384 .f32)), Σ' (LS3 : List (View.Piece (Elt F) S4x8x128 .f32)), Σ' (LS4 : List (View.Piece (Elt F) S264x1024 .f32)), { LT1 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xs0 ∗ (∃ d, owns (c : Thread nD τ) arg15 fullShare d) ∗ owns (c : Thread nD τ) arg16 fullShare xs2 ∗ owns (c : Thread nD τ) arg17 fullShare xs3 ∗ owns (c : Thread nD τ) arg18 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ owns (c : Thread nD τ) arg14 fullShare xs0 ∗ (∃ f, arg15.view.loc (c : Thread nD τ) ↦[arg15.view.set]{fullShare} arg15.view.writes (Elt F) f LT1) ∗ owns (c : Thread nD τ) arg16 fullShare xs2 ∗ owns (c : Thread nD τ) arg17 fullShare xs3 ∗ owns (c : Thread nD τ) arg18 fullShare xs4) -∗ K ⟨⟩))
          ⊢ wp frame (wpE (defs₀ (F := F)) Variants.none c none) E (cc0_mixout i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], [], [], [], ?_, fun E K => ?run⟩
  case run =>
    simp only [cc0_mixout_eq_skeleton]; unfold cc0_mixout_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%ds1, %fs1, -, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hfs0; obtain rfl := harg16.eq_unread hfs2; obtain rfl := harg17.eq_unread hfs3; obtain rfl := harg18.eq_unread hfs4
    sl_exec (disch := first | sl_exact hc0 | sl_exact hc1 | sl_exact hc2)
    simp only [k0_part32_eq_skeleton]
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [HS0]
    · iexists _; isplitr; · ipureintro; exact harg14.read_unread _
      iexact HS0
    isplitl [HS1]; · iexists _; iexact HS1
    isplitl [HS2]
    · iexists _; isplitr; · ipureintro; exact harg16.read_unread _
      iexact HS2
    isplitl [HS3]
    · iexists _; isplitr; · ipureintro; exact harg17.read_unread _
      iexact HS3
    iexists _; isplitr; · ipureintro; exact harg18.read_unread _
    iexact HS4

end Cert.KernelIdeal.Gen

end
-- ==== Proof.Mix.Frame.lean ====
/- What the mixing call leaves in its output and in its scratch at every grid point, its launch and its frame: the
   frame over the three runs (the last of them `Mix/RunC.lean`). -/
module

public import proofs.«01_k».proof.Proof.Mix.RunC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section CaseA

variable (c : Dev nD) (i : grid0.Coords) (arg1 : Memref sig .tc .vmem S256x1024 .bf16) (harg1 : arg1.IsWhole) (arg2 : Memref sig .tc .vmem S256x4096 .bf16) (harg2 : arg2.IsWhole) (arg3 : Memref sig .tc .vmem S256x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S256x3072 .bf16) (harg8 : arg8.IsWhole) (arg9 : Memref sig .tc .vmem S256x128 .f32) (harg9 : arg9.IsWhole) (arg10 : Memref sig .tc .vmem S16x3072 .bf16) (harg10 : arg10.IsWhole) (arg11 : Memref sig .tc .vmem S16x128 .f32) (harg11 : arg11.IsWhole) (arg12 : Memref sig .tc .vmem S8x1024 .f32) (harg12 : arg12.IsWhole) (arg13 : Memref sig .tc .vmem S256x2048 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S4x128x384 .f32) (harg16 : arg16.IsWhole) (arg17 : Memref sig .tc .vmem S4x8x128 .f32) (harg17 : arg17.IsWhole) (arg18 : Memref sig .tc .vmem S264x1024 .f32) (harg18 : arg18.IsWhole) (hc0 : cond0_0 i) (hc1 : ¬cond0_1 i) (hc2 : ¬cond0_2 i)
    (x0 : Vec F S256x1024 .bf16) (x1 : Vec F S256x4096 .bf16) (x2 : Vec F S256x2048 .f32) (x3 : Vec F S1024x2048 .bf16) (x4 : Vec F S1024x2048 .bf16) (x5 : Vec F S2048x2048 .bf16) (x6 : Vec F S1x2048 .f32) (x7 : Vec F S256x3072 .bf16) (x8 : Vec F S256x128 .f32) (x9 : Vec F S16x3072 .bf16) (x10 : Vec F S16x128 .f32) (x11 : Vec F S8x1024 .f32)

/-- Case A stores nothing into output 12 (the window is idle at its points and not written back there):
    no pieces — a placeholder (junk read back) that nothing consults, since at these points the window is neither
    written back nor read at the next point. -/
def out0_A_12 : Vec F S256x2048 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).1)

/-- Case A's pieces for scratch `arg14`, which the kernel carries between points, cover it: 4 pieces of `S256x256` tiling it. -/
theorem scover0_A_0 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.1 S256x256.size (by sl_kernel_rfl) y

/-- What case A leaves in scratch `arg14`: its pieces read back over junk. -/
def sout0_A_0 : Vec F S256x1024 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.1)

/-- Case A's pieces for scratch `arg16`, which the kernel carries between points, cover it: one of them a store of the WHOLE buffer. -/
theorem scover0_A_2 (y : S4x128x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.1 (by sl_whole_mem) y

/-- What case A leaves in scratch `arg16`: its pieces read back over junk. -/
def sout0_A_2 : Vec F S4x128x384 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.1)

/-- Case A's pieces for scratch `arg17`, which the kernel carries between points, cover it: one of them a store of the WHOLE buffer. -/
theorem scover0_A_3 (y : S4x8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.1 (by sl_whole_mem) y

/-- What case A leaves in scratch `arg17`: its pieces read back over junk. -/
def sout0_A_3 : Vec F S4x8x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.1)

/-- Case A's pieces for scratch `arg18`, which the kernel carries between points, cover it: 5 pieces (stores and landed copies) of several sizes (`S16x1024`, `S256x1024`, `S8x1024`) tiling it when cut into blocks of `![8, 1024]`. -/
theorem scover0_A_4 (y : S264x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.2.1 ![8, 1024] (by sl_kernel_rfl) y

/-- What case A leaves in scratch `arg18`: its pieces read back over junk. -/
def sout0_A_4 : Vec F S264x1024 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.2.1)

end CaseA

section CaseB

variable (c : Dev nD) (i : grid0.Coords) (arg1 : Memref sig .tc .vmem S256x1024 .bf16) (harg1 : arg1.IsWhole) (arg2 : Memref sig .tc .vmem S256x4096 .bf16) (harg2 : arg2.IsWhole) (arg3 : Memref sig .tc .vmem S256x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S256x3072 .bf16) (harg8 : arg8.IsWhole) (arg9 : Memref sig .tc .vmem S256x128 .f32) (harg9 : arg9.IsWhole) (arg10 : Memref sig .tc .vmem S16x3072 .bf16) (harg10 : arg10.IsWhole) (arg11 : Memref sig .tc .vmem S16x128 .f32) (harg11 : arg11.IsWhole) (arg12 : Memref sig .tc .vmem S8x1024 .f32) (harg12 : arg12.IsWhole) (arg13 : Memref sig .tc .vmem S256x2048 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S4x128x384 .f32) (harg16 : arg16.IsWhole) (arg17 : Memref sig .tc .vmem S4x8x128 .f32) (harg17 : arg17.IsWhole) (arg18 : Memref sig .tc .vmem S264x1024 .f32) (harg18 : arg18.IsWhole) (hc0 : ¬cond0_0 i) (hc1 : cond0_1 i) (hc2 : ¬cond0_2 i)
    (x0 : Vec F S256x1024 .bf16) (x1 : Vec F S256x4096 .bf16) (x2 : Vec F S256x2048 .f32) (x3 : Vec F S1024x2048 .bf16) (x4 : Vec F S1024x2048 .bf16) (x5 : Vec F S2048x2048 .bf16) (x6 : Vec F S1x2048 .f32) (x7 : Vec F S256x3072 .bf16) (x8 : Vec F S256x128 .f32) (x9 : Vec F S16x3072 .bf16) (x10 : Vec F S16x128 .f32) (x11 : Vec F S8x1024 .f32) (xs0 : Vec F S256x1024 .bf16) (xs2 : Vec F S4x128x384 .f32) (xs3 : Vec F S4x8x128 .f32) (xs4 : Vec F S264x1024 .f32)

/-- Case B's pieces for output 12 tile its block (1 store of `S256x2048`), so they cover it. -/
theorem cover0_B_12 (y : S256x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).1 S256x2048.size (by sl_kernel_rfl) y

/-- What case B leaves in output 12's staging buffer: its pieces read back over junk. -/
def out0_B_12 : Vec F S256x2048 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).1)

/-- Case B's pieces for scratch `arg14`, which the kernel carries between points, cover it: 4 pieces of `S256x256` tiling it. -/
theorem scover0_B_0 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).2.1 S256x256.size (by sl_kernel_rfl) y

/-- What case B leaves in scratch `arg14`: its pieces read back over junk. -/
def sout0_B_0 : Vec F S256x1024 .bf16 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).2.1)

/-- Case B's pieces for scratch `arg16`, which the kernel carries between points, cover it: 4 pieces of `S1x128x384` tiling it. -/
theorem scover0_B_2 (y : S4x128x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).2.2.1 S1x128x384.size (by sl_kernel_rfl) y

/-- What case B leaves in scratch `arg16`: its pieces read back over junk. -/
def sout0_B_2 : Vec F S4x128x384 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).2.2.1)

/-- Case B's pieces for scratch `arg17`, which the kernel carries between points, cover it: 4 pieces of `S1x8x128` tiling it. -/
theorem scover0_B_3 (y : S4x8x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).2.2.2.1 S1x8x128.size (by sl_kernel_rfl) y

/-- What case B leaves in scratch `arg17`: its pieces read back over junk. -/
def sout0_B_3 : Vec F S4x8x128 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).2.2.2.1)

/-- Case B's pieces for scratch `arg18`, which the kernel carries between points, cover it: 2 pieces (stores and landed copies) of several sizes (`S256x1024`, `S8x1024`) tiling it when cut into blocks of `![8, 1024]`. -/
theorem scover0_B_4 (y : S264x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).2.2.2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).2.2.2.2.1 ![8, 1024] (by sl_kernel_rfl) y

/-- What case B leaves in scratch `arg18`: its pieces read back over junk. -/
def sout0_B_4 : Vec F S264x1024 .f32 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).2.2.2.2.1)

end CaseB

section CaseC

variable (c : Dev nD) (i : grid0.Coords) (arg1 : Memref sig .tc .vmem S256x1024 .bf16) (harg1 : arg1.IsWhole) (arg2 : Memref sig .tc .vmem S256x4096 .bf16) (harg2 : arg2.IsWhole) (arg3 : Memref sig .tc .vmem S256x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S256x3072 .bf16) (harg8 : arg8.IsWhole) (arg9 : Memref sig .tc .vmem S256x128 .f32) (harg9 : arg9.IsWhole) (arg10 : Memref sig .tc .vmem S16x3072 .bf16) (harg10 : arg10.IsWhole) (arg11 : Memref sig .tc .vmem S16x128 .f32) (harg11 : arg11.IsWhole) (arg12 : Memref sig .tc .vmem S8x1024 .f32) (harg12 : arg12.IsWhole) (arg13 : Memref sig .tc .vmem S256x2048 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S4x128x384 .f32) (harg16 : arg16.IsWhole) (arg17 : Memref sig .tc .vmem S4x8x128 .f32) (harg17 : arg17.IsWhole) (arg18 : Memref sig .tc .vmem S264x1024 .f32) (harg18 : arg18.IsWhole) (hc0 : ¬cond0_0 i) (hc1 : ¬cond0_1 i) (hc2 : cond0_2 i)
    (x0 : Vec F S256x1024 .bf16) (x1 : Vec F S256x4096 .bf16) (x2 : Vec F S256x2048 .f32) (x3 : Vec F S1024x2048 .bf16) (x4 : Vec F S1024x2048 .bf16) (x5 : Vec F S2048x2048 .bf16) (x6 : Vec F S1x2048 .f32) (x7 : Vec F S256x3072 .bf16) (x8 : Vec F S256x128 .f32) (x9 : Vec F S16x3072 .bf16) (x10 : Vec F S16x128 .f32) (x11 : Vec F S8x1024 .f32) (xs0 : Vec F S256x1024 .bf16) (xs2 : Vec F S4x128x384 .f32) (xs3 : Vec F S4x8x128 .f32) (xs4 : Vec F S264x1024 .f32)

/-- Case C's pieces for output 12 tile its block (1 store of `S256x2048`), so they cover it. -/
theorem cover0_C_12 (y : S256x2048.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).1 S256x2048.size (by sl_kernel_rfl) y

/-- What case C leaves in output 12's staging buffer: its pieces read back over junk. -/
def out0_C_12 : Vec F S256x2048 .f32 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs2 xs3 xs4).1)

end CaseC

/-- Case C stores nothing into scratch `arg14`: it holds what the point before left. -/
def sout0_C_0 (c : Dev nD) (i : grid0.Coords) (arg1 : Memref sig .tc .vmem S256x1024 .bf16) (harg1 : arg1.IsWhole) (arg2 : Memref sig .tc .vmem S256x4096 .bf16) (harg2 : arg2.IsWhole) (arg3 : Memref sig .tc .vmem S256x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S256x3072 .bf16) (harg8 : arg8.IsWhole) (arg9 : Memref sig .tc .vmem S256x128 .f32) (harg9 : arg9.IsWhole) (arg10 : Memref sig .tc .vmem S16x3072 .bf16) (harg10 : arg10.IsWhole) (arg11 : Memref sig .tc .vmem S16x128 .f32) (harg11 : arg11.IsWhole) (arg12 : Memref sig .tc .vmem S8x1024 .f32) (harg12 : arg12.IsWhole) (arg13 : Memref sig .tc .vmem S256x2048 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S4x128x384 .f32) (harg16 : arg16.IsWhole) (arg17 : Memref sig .tc .vmem S4x8x128 .f32) (harg17 : arg17.IsWhole) (arg18 : Memref sig .tc .vmem S264x1024 .f32) (harg18 : arg18.IsWhole) (hc0 : ¬cond0_0 i) (hc1 : ¬cond0_1 i) (hc2 : cond0_2 i)
    (x0 : Vec F S256x1024 .bf16) (x1 : Vec F S256x4096 .bf16) (x2 : Vec F S256x2048 .f32) (x3 : Vec F S1024x2048 .bf16) (x4 : Vec F S1024x2048 .bf16) (x5 : Vec F S2048x2048 .bf16) (x6 : Vec F S1x2048 .f32) (x7 : Vec F S256x3072 .bf16) (x8 : Vec F S256x128 .f32) (x9 : Vec F S16x3072 .bf16) (x10 : Vec F S16x128 .f32) (x11 : Vec F S8x1024 .f32) (xs0 : Vec F S256x1024 .bf16) (xs2 : Vec F S4x128x384 .f32) (xs3 : Vec F S4x8x128 .f32) (xs4 : Vec F S264x1024 .f32) : Vec F S256x1024 .bf16 := xs0

/-- Case C stores nothing into scratch `arg16`: it holds what the point before left. -/
def sout0_C_2 (c : Dev nD) (i : grid0.Coords) (arg1 : Memref sig .tc .vmem S256x1024 .bf16) (harg1 : arg1.IsWhole) (arg2 : Memref sig .tc .vmem S256x4096 .bf16) (harg2 : arg2.IsWhole) (arg3 : Memref sig .tc .vmem S256x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S256x3072 .bf16) (harg8 : arg8.IsWhole) (arg9 : Memref sig .tc .vmem S256x128 .f32) (harg9 : arg9.IsWhole) (arg10 : Memref sig .tc .vmem S16x3072 .bf16) (harg10 : arg10.IsWhole) (arg11 : Memref sig .tc .vmem S16x128 .f32) (harg11 : arg11.IsWhole) (arg12 : Memref sig .tc .vmem S8x1024 .f32) (harg12 : arg12.IsWhole) (arg13 : Memref sig .tc .vmem S256x2048 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S4x128x384 .f32) (harg16 : arg16.IsWhole) (arg17 : Memref sig .tc .vmem S4x8x128 .f32) (harg17 : arg17.IsWhole) (arg18 : Memref sig .tc .vmem S264x1024 .f32) (harg18 : arg18.IsWhole) (hc0 : ¬cond0_0 i) (hc1 : ¬cond0_1 i) (hc2 : cond0_2 i)
    (x0 : Vec F S256x1024 .bf16) (x1 : Vec F S256x4096 .bf16) (x2 : Vec F S256x2048 .f32) (x3 : Vec F S1024x2048 .bf16) (x4 : Vec F S1024x2048 .bf16) (x5 : Vec F S2048x2048 .bf16) (x6 : Vec F S1x2048 .f32) (x7 : Vec F S256x3072 .bf16) (x8 : Vec F S256x128 .f32) (x9 : Vec F S16x3072 .bf16) (x10 : Vec F S16x128 .f32) (x11 : Vec F S8x1024 .f32) (xs0 : Vec F S256x1024 .bf16) (xs2 : Vec F S4x128x384 .f32) (xs3 : Vec F S4x8x128 .f32) (xs4 : Vec F S264x1024 .f32) : Vec F S4x128x384 .f32 := xs2

/-- Case C stores nothing into scratch `arg17`: it holds what the point before left. -/
def sout0_C_3 (c : Dev nD) (i : grid0.Coords) (arg1 : Memref sig .tc .vmem S256x1024 .bf16) (harg1 : arg1.IsWhole) (arg2 : Memref sig .tc .vmem S256x4096 .bf16) (harg2 : arg2.IsWhole) (arg3 : Memref sig .tc .vmem S256x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S256x3072 .bf16) (harg8 : arg8.IsWhole) (arg9 : Memref sig .tc .vmem S256x128 .f32) (harg9 : arg9.IsWhole) (arg10 : Memref sig .tc .vmem S16x3072 .bf16) (harg10 : arg10.IsWhole) (arg11 : Memref sig .tc .vmem S16x128 .f32) (harg11 : arg11.IsWhole) (arg12 : Memref sig .tc .vmem S8x1024 .f32) (harg12 : arg12.IsWhole) (arg13 : Memref sig .tc .vmem S256x2048 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S4x128x384 .f32) (harg16 : arg16.IsWhole) (arg17 : Memref sig .tc .vmem S4x8x128 .f32) (harg17 : arg17.IsWhole) (arg18 : Memref sig .tc .vmem S264x1024 .f32) (harg18 : arg18.IsWhole) (hc0 : ¬cond0_0 i) (hc1 : ¬cond0_1 i) (hc2 : cond0_2 i)
    (x0 : Vec F S256x1024 .bf16) (x1 : Vec F S256x4096 .bf16) (x2 : Vec F S256x2048 .f32) (x3 : Vec F S1024x2048 .bf16) (x4 : Vec F S1024x2048 .bf16) (x5 : Vec F S2048x2048 .bf16) (x6 : Vec F S1x2048 .f32) (x7 : Vec F S256x3072 .bf16) (x8 : Vec F S256x128 .f32) (x9 : Vec F S16x3072 .bf16) (x10 : Vec F S16x128 .f32) (x11 : Vec F S8x1024 .f32) (xs0 : Vec F S256x1024 .bf16) (xs2 : Vec F S4x128x384 .f32) (xs3 : Vec F S4x8x128 .f32) (xs4 : Vec F S264x1024 .f32) : Vec F S4x8x128 .f32 := xs3

/-- Case C stores nothing into scratch `arg18`: it holds what the point before left. -/
def sout0_C_4 (c : Dev nD) (i : grid0.Coords) (arg1 : Memref sig .tc .vmem S256x1024 .bf16) (harg1 : arg1.IsWhole) (arg2 : Memref sig .tc .vmem S256x4096 .bf16) (harg2 : arg2.IsWhole) (arg3 : Memref sig .tc .vmem S256x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S256x3072 .bf16) (harg8 : arg8.IsWhole) (arg9 : Memref sig .tc .vmem S256x128 .f32) (harg9 : arg9.IsWhole) (arg10 : Memref sig .tc .vmem S16x3072 .bf16) (harg10 : arg10.IsWhole) (arg11 : Memref sig .tc .vmem S16x128 .f32) (harg11 : arg11.IsWhole) (arg12 : Memref sig .tc .vmem S8x1024 .f32) (harg12 : arg12.IsWhole) (arg13 : Memref sig .tc .vmem S256x2048 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S4x128x384 .f32) (harg16 : arg16.IsWhole) (arg17 : Memref sig .tc .vmem S4x8x128 .f32) (harg17 : arg17.IsWhole) (arg18 : Memref sig .tc .vmem S264x1024 .f32) (harg18 : arg18.IsWhole) (hc0 : ¬cond0_0 i) (hc1 : ¬cond0_1 i) (hc2 : cond0_2 i)
    (x0 : Vec F S256x1024 .bf16) (x1 : Vec F S256x4096 .bf16) (x2 : Vec F S256x2048 .f32) (x3 : Vec F S1024x2048 .bf16) (x4 : Vec F S1024x2048 .bf16) (x5 : Vec F S2048x2048 .bf16) (x6 : Vec F S1x2048 .f32) (x7 : Vec F S256x3072 .bf16) (x8 : Vec F S256x128 .f32) (x9 : Vec F S16x3072 .bf16) (x10 : Vec F S16x128 .f32) (x11 : Vec F S8x1024 .f32) (xs0 : Vec F S256x1024 .bf16) (xs2 : Vec F S4x128x384 .f32) (xs3 : Vec F S4x8x128 .f32) (xs4 : Vec F S264x1024 .f32) : Vec F S264x1024 .f32 := xs4

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x2048 .f32 × Vec F S256x1024 .bf16 × Vec F S4x128x384 .f32 × Vec F S4x8x128 .f32 × Vec F S264x1024 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (X0_7 m c ⟨0, hn⟩) (iblk m c 8 ⟨0, hn⟩) (X0_9 m c ⟨0, hn⟩) (iblk m c 10 ⟨0, hn⟩) (iblk m c 11 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (X0_7 m c ⟨0, hn⟩) (iblk m c 8 ⟨0, hn⟩) (X0_9 m c ⟨0, hn⟩) (iblk m c 10 ⟨0, hn⟩) (iblk m c 11 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (X0_7 m c ⟨0, hn⟩) (iblk m c 8 ⟨0, hn⟩) (X0_9 m c ⟨0, hn⟩) (iblk m c 10 ⟨0, hn⟩) (iblk m c 11 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (X0_7 m c ⟨0, hn⟩) (iblk m c 8 ⟨0, hn⟩) (X0_9 m c ⟨0, hn⟩) (iblk m c 10 ⟨0, hn⟩) (iblk m c 11 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (X0_7 m c ⟨0, hn⟩) (iblk m c 8 ⟨0, hn⟩) (X0_9 m c ⟨0, hn⟩) (iblk m c 10 ⟨0, hn⟩) (iblk m c 11 ⟨0, hn⟩))
  | n + 1, hn =>
    if h0 : (n + 1) % 33 = 0 then
      if h1 : (1 ≤ (n + 1) % 33 ∧ (n + 1) % 33 ≤ 31) then
        False.elim (by have hN : n + 1 < 33 := lt_of_lt_of_eq hn (show cfg0.N = 33 from N_0); omega)
      else
        if h2 : (n + 1) % 33 = 32 then
          False.elim (by have hN : n + 1 < 33 := lt_of_lt_of_eq hn (show cfg0.N = 33 from N_0); omega)
        else
          (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (X0_7 m c ⟨n + 1, hn⟩) (iblk m c 8 ⟨n + 1, hn⟩) (X0_9 m c ⟨n + 1, hn⟩) (iblk m c 10 ⟨n + 1, hn⟩) (iblk m c 11 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (X0_7 m c ⟨n + 1, hn⟩) (iblk m c 8 ⟨n + 1, hn⟩) (X0_9 m c ⟨n + 1, hn⟩) (iblk m c 10 ⟨n + 1, hn⟩) (iblk m c 11 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (X0_7 m c ⟨n + 1, hn⟩) (iblk m c 8 ⟨n + 1, hn⟩) (X0_9 m c ⟨n + 1, hn⟩) (iblk m c 10 ⟨n + 1, hn⟩) (iblk m c 11 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (X0_7 m c ⟨n + 1, hn⟩) (iblk m c 8 ⟨n + 1, hn⟩) (X0_9 m c ⟨n + 1, hn⟩) (iblk m c 10 ⟨n + 1, hn⟩) (iblk m c 11 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (X0_7 m c ⟨n + 1, hn⟩) (iblk m c 8 ⟨n + 1, hn⟩) (X0_9 m c ⟨n + 1, hn⟩) (iblk m c 10 ⟨n + 1, hn⟩) (iblk m c 11 ⟨n + 1, hn⟩))
    else
      if h1 : (1 ≤ (n + 1) % 33 ∧ (n + 1) % 33 ≤ 31) then
        if h2 : (n + 1) % 33 = 32 then
          False.elim (by have hN : n + 1 < 33 := lt_of_lt_of_eq hn (show cfg0.N = 33 from N_0); omega)
        else
          (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (X0_7 m c ⟨n + 1, hn⟩) (iblk m c 8 ⟨n + 1, hn⟩) (X0_9 m c ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (X0_7 m c ⟨n + 1, hn⟩) (iblk m c 8 ⟨n + 1, hn⟩) (X0_9 m c ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (X0_7 m c ⟨n + 1, hn⟩) (iblk m c 8 ⟨n + 1, hn⟩) (X0_9 m c ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (X0_7 m c ⟨n + 1, hn⟩) (iblk m c 8 ⟨n + 1, hn⟩) (X0_9 m c ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (X0_7 m c ⟨n + 1, hn⟩) (iblk m c 8 ⟨n + 1, hn⟩) (X0_9 m c ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        if h2 : (n + 1) % 33 = 32 then
          (out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (X0_7 m c ⟨n + 1, hn⟩) (iblk m c 8 ⟨n + 1, hn⟩) (X0_9 m c ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (X0_7 m c ⟨n + 1, hn⟩) (iblk m c 8 ⟨n + 1, hn⟩) (X0_9 m c ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (X0_7 m c ⟨n + 1, hn⟩) (iblk m c 8 ⟨n + 1, hn⟩) (X0_9 m c ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (X0_7 m c ⟨n + 1, hn⟩) (iblk m c 8 ⟨n + 1, hn⟩) (X0_9 m c ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (X0_7 m c ⟨n + 1, hn⟩) (iblk m c 8 ⟨n + 1, hn⟩) (X0_9 m c ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
        else
          False.elim (by have hN : n + 1 < 33 := lt_of_lt_of_eq hn (show cfg0.N = 33 from N_0); omega)

/-- `outsAt0` at a point of case A: that case's contents. -/
theorem outsAt0_A (c : Dev nD) (t : Fin cfg0.N) (h0 : t.val % 33 = 0) (h1 : ¬(1 ≤ t.val % 33 ∧ t.val % 33 ≤ 31)) (h2 : ¬t.val % 33 = 32) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 33 = 0) (h1 : (1 ≤ t.val % 33 ∧ t.val % 33 ≤ 31)) (h2 : ¬t.val % 33 = 32) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 33 = 0) (h1 : ¬(1 ≤ t.val % 33 ∧ t.val % 33 ≤ 31)) (h2 : t.val % 33 = 32) :
    outsAt0 m c t.val t.isLt = (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class, every scratch at anything; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ owns (c : Thread nD τ) scM0_2 fullShare ((outsAt0 m c (n - 1) (by omega)).2.2.1) ∗ owns (c : Thread nD τ) scM0_3 fullShare ((outsAt0 m c (n - 1) (by omega)).2.2.2.1) ∗ owns (c : Thread nD τ) scM0_4 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => X0_7 m c t
    | ⟨8, _⟩ => iblk m c 8 t
    | ⟨9, _⟩ => X0_9 m c t
    | ⟨10, _⟩ => iblk m c 10 t
    | ⟨11, _⟩ => iblk m c 11 t
    | ⟨12, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = X0_9 m c t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = X0_9 m c t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  by_cases h0 : t.val % 33 = 0
  · by_cases h1 : (1 ≤ t.val % 33 ∧ t.val % 33 ≤ 31)
    · exfalso; omega
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [Dat.leavesExact_idle (dats m 0 c) 12 t (idleAt0_12_A t ((hcond0_0 t).mpr h0) (fun h => h1 ((hcond0_1 t).mp h)) (fun h => h2 ((hcond0_2 t).mp h))) (noFlush0_12_A t ((hcond0_0 t).mpr h0) (fun h => h1 ((hcond0_1 t).mp h)) (fun h => h2 ((hcond0_2 t).mp h)))]
        by_cases hz : t.val = 0
        · rw [PhiS_castSucc m c t, PhiS_zero m c _ _ hz, PhiA0_eq]
          rw [outsAt0_A m c t h0 h1 h2]
          unfold sout0_A_0 sout0_A_2 sout0_A_3 sout0_A_4; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t)).2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, H12, ⟨%es0, HS0⟩, HS1, ⟨%es2, HS2⟩, ⟨%es3, HS3⟩, ⟨%es4, HS4⟩⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _)
              isplitl [HS1]
              · iexact HS1
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS4
              ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          iexists _; iexact H12
        · exfalso; have hN : t.val < 33 := lt_of_lt_of_eq t.isLt (show cfg0.N = 33 from N_0); omega
  · by_cases h1 : (1 ≤ t.val % 33 ∧ t.val % 33 ≤ 31)
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12_B t (fun h => h0 ((hcond0_0 t).mp h)) ((hcond0_1 t).mpr h1) (fun h => h2 ((hcond0_2 t).mp h))], after0_12]
        by_cases hz : t.val = 0
        · exfalso; have hN : t.val < 33 := lt_of_lt_of_eq t.isLt (show cfg0.N = 33 from N_0); omega
        · rw [PhiS_castSucc m c t, PhiS_pos m c _ _ hz]
          rw [outsAt0_B m c t h0 h1 h2]
          unfold out0_B_12 sout0_B_0 sout0_B_2 sout0_B_3 sout0_B_4; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t) _ _ _ _).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, ⟨%e12, H12⟩, ⟨%es0, HS0⟩, ⟨%fT1, HS1⟩, ⟨%es2, HS2⟩, ⟨%es3, HS3⟩, ⟨%es4, HS4⟩⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · iexists _; unfold owns; iexists _; isplitr
                swap; · iexact HS1
                ipureintro; rfl
              isplitl [HS2]
              · unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS4
              ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          unfold owns; iexists _; isplitr
          swap; · iexact H12
          ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _)
    · by_cases h2 : t.val % 33 = 32
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12_C t (fun h => h0 ((hcond0_0 t).mp h)) (fun h => h1 ((hcond0_1 t).mp h)) ((hcond0_2 t).mpr h2)], after0_12]
        by_cases hz : t.val = 0
        · exfalso; have hN : t.val < 33 := lt_of_lt_of_eq t.isLt (show cfg0.N = 33 from N_0); omega
        · rw [PhiS_castSucc m c t, PhiS_pos m c _ _ hz]
          rw [outsAt0_C m c t h0 h1 h2]
          unfold out0_C_12 sout0_C_0 sout0_C_2 sout0_C_3 sout0_C_4; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_C c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (X0_7 m c t) (iblk m c 8 t) (X0_9 m c t) (iblk m c 10 t) (iblk m c 11 t) _ _ _ _).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, ⟨%e12, H12⟩, HS0, ⟨%fT1, HS1⟩, HS2, HS3, HS4⟩
          isplitl [HS0 HS1 HS2 HS3 HS4 Hg]
          · isplitl [HS0 HS1 HS2 HS3 HS4]
            · isplitl [HS0]
              · iexact HS0
              isplitl [HS1]
              · iexists _; unfold owns; iexists _; isplitr
                swap; · iexact HS1
                ipureintro; rfl
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          unfold owns; iexists _; isplitr
          swap; · iexact H12
          ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Gen

end
-- ==== Proof.Mix.Same.lean ====
/- The kernel and its idealized form have the same text, so they are the same program over any float values; one run
   serves both frames. -/
module

public import proofs.«01_k».proof.Defs
public import proofs.«01_k».proof.Proof.Gen.Kernel
public import proofs.«01_k».proof.Proof.Mix.Frame

@[expose] public section

set_option maxRecDepth 65536

namespace Cert.Mix

open Idealize.ShloMosaic Idealize.SL.Sem

section
variable {F : FTy → Type} [FloatOps F] [Cert.Kernel.Facts] [Cert.KernelIdeal.Facts]

/-- The two bodies are one. -/
theorem body_same : @Cert.Kernel.cc0_mixout F _ _ = @Cert.KernelIdeal.cc0_mixout F _ _ := rfl

/-- The two tables of bodies are one. -/
theorem bodies_same : @Cert.Kernel.defs₀ F _ _ = @Cert.KernelIdeal.defs₀ F _ _ := by
  funext pr l a
  cases pr with
  | tc =>
    obtain rfl : l = (0 : Fin 1) := Subsingleton.elim (α := Fin 1) _ _
    obtain ⟨t, s⟩ := a
    rfl
  | scScalar n => rfl
  | scVector n k => rfl

/-- The two tables of calls are one. -/
theorem defs_same : @Cert.Kernel.defs F _ _ = @Cert.KernelIdeal.defs F _ _ :=
  congrArg (Pipeline.defs (Cert.Kernel.pcfgs (F := F))) bodies_same

/-- The two host programs are one. -/
theorem main_same : @Cert.Kernel.main F _ _ = @Cert.KernelIdeal.main F _ _ := rfl

end

/-- The frame of the kernel as it is, taken from the run of its idealized form. -/
theorem frame_kernel [Cert.Kernel.Facts] : Cert.quiescent_Kernel := fun m ρ _ =>
  Eq.mpr (congrArg₂ (fun d e => θ_run d (onTc (τ := Cert.Kernel.τ) e) ⟨m, fun _ => 0, ρ⟩ _) defs_same main_same)
    (Cert.KernelIdeal.Gen.frame (F := Bits) m ρ)

end Cert.Mix
-- ==== Proof.Mix.Recur.lean ====
/- The stabilised matrix-memory recurrence of one head over the reals: its running maximum, its state, and what a
   chunk of any length, started at any row, adds to them.  Nothing here names a program. -/
module

public import Idealize.ShloMosaic.Lib.Pointwise

@[expose] public section

noncomputable section

namespace Cert.Mix

open Idealize.ShloMosaic Finset

/-! ## Coercions -/

/-- A finite sum of reals, coerced, is the sum of the coerced terms. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a real is the real exponential. -/
theorem exp_coe (x : ℝ) : Ideal.exp (x : EReal) = (Real.exp x : EReal) := rfl

theorem exp_bot : Ideal.exp ⊥ = 0 := rfl

/-- The exponential of a logarithmic gate as a real: zero for a gate of −∞. -/
def gate (l : EReal) : ℝ := (Ideal.exp l).toReal

theorem exp_gate {l : EReal} (h : l ≠ ⊤) : Ideal.exp l = (gate l : EReal) := by
  induction l with
  | bot => simp [gate, exp_bot]
  | top => exact absurd rfl h
  | coe r => rfl

/-- The exponential of a real plus a gate. -/
theorem exp_add_gate (x : ℝ) {l : EReal} (h : l ≠ ⊤) :
    Ideal.exp ((x : EReal) + l) = ((Real.exp x * gate l : ℝ) : EReal) := by
  induction l with
  | bot => simp [gate, exp_bot]
  | top => exact absurd rfl h
  | coe r =>
    rw [← EReal.coe_add, exp_coe, Real.exp_add]
    rfl

/-- A real moves out of a sum with a gate. -/
theorem sub_add_gate_sub (x y z : ℝ) (l : EReal) :
    ((x : EReal) - y) + l - z = ((x - y - z : ℝ) : EReal) + l := by
  rw [sub_eq_add_neg, add_right_comm, ← EReal.coe_sub, ← EReal.coe_neg, ← EReal.coe_add, ← sub_eq_add_neg]

/-! ## The running maximum and the state -/

section
variable (lf : ℕ → ℝ) (li : ℕ → EReal)

/-- The sum of the first `n` logarithmic forget gates. -/
def S (n : ℕ) : ℝ := ∑ j ∈ range n, lf j

/-- The stabiliser before row `n`: it starts at zero, decays with the forget gate and rises to the input gate. -/
def MX : ℕ → ℝ
  | 0 => 0
  | n + 1 => (max ((lf n + MX n : ℝ) : EReal) (li n)).toReal

/-- The stabilised weight with which row `j` enters the state before row `n`. -/
def W (n j : ℕ) : ℝ := Real.exp (S lf n - S lf (j + 1) - MX lf li n) * gate (li j)

/-- One entry of the state before row `n`: the weighted sum of key times value over the rows before. -/
def Cst (k v : ℕ → ℝ) (n : ℕ) : ℝ := ∑ j ∈ range n, k j * W lf li n j * v j

theorem S_succ (n : ℕ) : S lf (n + 1) = S lf n + lf n := sum_range_succ _ _

theorem S_add (a n : ℕ) : S lf (a + n) = S lf a + ∑ j ∈ range n, lf (a + j) := sum_range_add _ _ _

variable {li}

theorem MX_succ (hli : ∀ j, li j ≠ ⊤) (n : ℕ) :
    ((MX lf li (n + 1) : ℝ) : EReal) = max ((lf n + MX lf li n : ℝ) : EReal) (li n) := by
  have h1 : max ((lf n + MX lf li n : ℝ) : EReal) (li n) ≠ ⊤ := by
    rw [Ne, _root_.max_eq_top, not_or]; exact ⟨EReal.coe_ne_top _, hli n⟩
  have h2 : max ((lf n + MX lf li n : ℝ) : EReal) (li n) ≠ ⊥ := by
    rw [Ne, _root_.max_eq_bot, not_and]; intro h; exact absurd h (EReal.coe_ne_bot _)
  exact EReal.coe_toReal h1 h2

theorem coe_add_max (r : ℝ) (x y : EReal) : (r : EReal) + max x y = max ((r : EReal) + x) ((r : EReal) + y) :=
  Monotone.map_max (f := fun z : EReal => (r : EReal) + z) fun _ _ h => add_le_add le_rfl h

theorem coe_add_sup (r : ℝ) (n : ℕ) (f : ℕ → EReal) :
    (r : EReal) + (range n).sup f = (range n).sup fun i => (r : EReal) + f i := by
  induction n with
  | zero => simp
  | succ n ih => rw [range_add_one, sup_insert, sup_insert, ← ih, ← coe_add_max]

/-- The running maximum after `n` rows of a chunk that starts at row `a`. -/
theorem MX_chunk (hli : ∀ j, li j ≠ ⊤) (a n : ℕ) :
    ((MX lf li (a + n) : ℝ) : EReal) = max ((S lf (a + n) - S lf a + MX lf li a : ℝ) : EReal)
      ((range n).sup fun i => ((S lf (a + n) - S lf (a + i + 1) : ℝ) : EReal) + li (a + i)) := by
  induction n with
  | zero => simp
  | succ n ih =>
    have e : ∀ i, ((S lf (a + n + 1) - S lf (a + i + 1) : ℝ) : EReal) + li (a + i)
        = (lf (a + n) : EReal) + (((S lf (a + n) - S lf (a + i + 1) : ℝ) : EReal) + li (a + i)) := by
      intro i
      rw [← add_assoc (lf (a + n) : EReal), ← EReal.coe_add, S_succ]
      congr 2; ring
    have e0 : (S lf (a + n + 1) - S lf a + MX lf li a : ℝ)
        = lf (a + n) + (S lf (a + n) - S lf a + MX lf li a) := by rw [S_succ]; ring
    rw [← Nat.add_assoc a n 1, MX_succ lf hli, EReal.coe_add, ih, coe_add_max, ← EReal.coe_add, coe_add_sup,
      range_add_one, sup_insert, max_assoc, e0]
    refine congrArg _ ?_
    rw [max_comm]
    refine congrArg₂ max ?_ (sup_congr rfl fun i _ => (e i).symm)
    rw [sub_self, EReal.coe_zero, zero_add]

theorem W_chunk (a n j : ℕ) : W lf li (a + n) j
    = Real.exp (S lf (a + n) - S lf a + MX lf li a - MX lf li (a + n)) * W lf li a j := by
  rw [W, W, ← mul_assoc, ← Real.exp_add]; congr 2; ring

/-- The state after `n` rows of a chunk that starts at row `a`: the old state decayed, and the chunk's own rows. -/
theorem Cst_chunk (k v : ℕ → ℝ) (a n : ℕ) : Cst lf li k v (a + n)
    = Real.exp (S lf (a + n) - S lf a + MX lf li a - MX lf li (a + n)) * Cst lf li k v a
      + ∑ i ∈ range n, k (a + i) * W lf li (a + n) (a + i) * v (a + i) := by
  rw [Cst, sum_range_add, Cst, mul_sum]
  refine congrArg₂ (· + ·) (sum_congr rfl fun j _ => ?_) rfl
  rw [W_chunk]; ring

/-! ## A maximum or a sum over a chunk's rows, written over `Fin` and masked -/

/-- A maximum over the rows of a chunk with those from `n` on masked to −∞ is the maximum over the first `n`. -/
theorem fold_max_mask {T : ℕ} (n : ℕ) (hn : n ≤ T) (f : ℕ → EReal) :
    (univ : Finset (Fin T)).fold max ⊥ (fun j : Fin T => if (j : ℕ) < n then f j else ⊥) = (range n).sup f := by
  change (univ : Finset (Fin T)).sup _ = _
  apply le_antisymm
  · refine Finset.sup_le fun j _ => ?_
    by_cases h : (j : ℕ) < n
    · simp only [h, if_true]; exact le_sup (f := f) (mem_range.2 h)
    · simp only [h, if_false]; exact bot_le
  · refine Finset.sup_le fun i hi => ?_
    have hi := mem_range.1 hi
    refine le_trans ?_ (le_sup (mem_univ (⟨i, by omega⟩ : Fin T)))
    simp [hi]

theorem fold_max_fin {T : ℕ} (f : ℕ → EReal) :
    (univ : Finset (Fin T)).fold max ⊥ (fun j : Fin T => f j) = (range T).sup f := by
  rw [← fold_max_mask (T := T) T le_rfl]
  simp only [Fin.is_lt, if_true]

theorem sum_fin_mask {T : ℕ} (n : ℕ) (hn : n ≤ T) (f : ℕ → ℝ) :
    (∑ j : Fin T, if (j : ℕ) < n then f j else 0) = ∑ j ∈ range n, f j := by
  rw [Fin.sum_univ_eq_sum_range (fun j => if j < n then f j else 0) T, ← sum_filter]
  refine sum_congr ?_ fun _ _ => rfl
  ext j; simp only [mem_filter, mem_range]; omega

end

/-! ## One chunk over the extended reals -/

section
variable {lf : ℕ → ℝ} {li : ℕ → EReal} {T : ℕ} {a : ℕ} {b : Fin T → ℝ} {g : ℝ}

/-- The running sums of a chunk's forget gates, from a product with the lower triangle of ones. -/
theorem cum_tri (hb : ∀ i : Fin T, b i = S lf (a + i + 1) - S lf a) (i : Fin T) :
    (∑ r : Fin T, (if (r : ℕ) ≤ i then (1 : EReal) else 0) * (lf (a + r) : EReal)) = (b i : EReal) := by
  have e : ∀ r : Fin T, (if (r : ℕ) ≤ i then (1 : EReal) else 0) * (lf (a + r) : EReal)
      = ((if (r : ℕ) < i + 1 then lf (a + r) else 0 : ℝ) : EReal) := by
    intro r
    by_cases h : (r : ℕ) ≤ i
    · simp [h, Nat.lt_succ_of_le h]
    · have h' : ¬ (r : ℕ) < i + 1 := by omega
      simp [h, h']
  rw [sum_congr rfl fun r _ => e r, ← coe_sum, sum_fin_mask (i + 1) i.2 (fun r => lf (a + r)), hb,
    add_assoc, S_add, add_sub_cancel_left]

/-- The row stabiliser of a chunk's row `i`. -/
theorem row_max (hli : ∀ j, li j ≠ ⊤) (hb : ∀ i : Fin T, b i = S lf (a + i + 1) - S lf a) (i : Fin T) :
    max ((b i : EReal) + (MX lf li a : EReal))
      ((univ : Finset (Fin T)).fold max ⊥ fun j : Fin T => if (j : ℕ) ≤ i then ((b i : EReal) - b j) + li (a + j) else ⊥)
      = (MX lf li (a + i + 1) : EReal) := by
  have e : (fun j : Fin T => if (j : ℕ) ≤ i then ((b i : EReal) - b j) + li (a + j) else ⊥)
      = fun j : Fin T => if (j : ℕ) < i + 1 then
          ((S lf (a + (i + 1)) - S lf (a + j + 1) : ℝ) : EReal) + li (a + j) else ⊥ := by
    funext j
    by_cases h : (j : ℕ) ≤ i
    · rw [if_pos h, if_pos (Nat.lt_succ_of_le h), ← EReal.coe_sub, hb, hb, ← add_assoc]
      congr 2; ring
    · rw [if_neg h, if_neg (by omega)]
  rw [e, fold_max_mask (i + 1) i.2 (fun j => ((S lf (a + (i + 1)) - S lf (a + j + 1) : ℝ) : EReal) + li (a + j)),
    add_assoc a, MX_chunk lf hli, ← EReal.coe_add, hb, add_assoc a]

/-- The stabiliser that a chunk hands on. -/
theorem end_max (hli : ∀ j, li j ≠ ⊤) (hb : ∀ i : Fin T, b i = S lf (a + i + 1) - S lf a)
    (hg : g = S lf (a + T) - S lf a) :
    max ((g : EReal) + (MX lf li a : EReal))
      ((univ : Finset (Fin T)).fold max ⊥ fun j : Fin T => ((g : EReal) - b j) + li (a + j))
      = (MX lf li (a + T) : EReal) := by
  have e : (fun j : Fin T => ((g : EReal) - b j) + li (a + j))
      = fun j : Fin T => ((S lf (a + T) - S lf (a + j + 1) : ℝ) : EReal) + li (a + j) := by
    funext j
    rw [← EReal.coe_sub, hb, hg]
    congr 2; ring
  rw [e, fold_max_fin (fun j => ((S lf (a + T) - S lf (a + j + 1) : ℝ) : EReal) + li (a + j)),
    MX_chunk lf hli, ← EReal.coe_add, hg]

/-- The weight of row `j` seen from row `i` of the same chunk: its real value, zero above the diagonal. -/
theorem row_weight (hli : ∀ j, li j ≠ ⊤) (hb : ∀ i : Fin T, b i = S lf (a + i + 1) - S lf a) (i j : Fin T) :
    Ideal.exp ((if (j : ℕ) ≤ i then ((b i : EReal) - b j) + li (a + j) else ⊥) - (MX lf li (a + i + 1) : EReal))
      = ((if (j : ℕ) < i + 1 then W lf li (a + (i + 1)) (a + j) else 0 : ℝ) : EReal) := by
  by_cases h : (j : ℕ) ≤ i
  · rw [if_pos h, if_pos (Nat.lt_succ_of_le h), sub_add_gate_sub, exp_add_gate _ (hli _), W, hb, hb, ← add_assoc]
    congr 3; ring
  · rw [if_neg h, if_neg (by omega)]
    simp [exp_bot]

theorem end_weight (hli : ∀ j, li j ≠ ⊤) (hb : ∀ i : Fin T, b i = S lf (a + i + 1) - S lf a)
    (hg : g = S lf (a + T) - S lf a) (j : Fin T) :
    Ideal.exp (((g : EReal) - b j) + li (a + j) - (MX lf li (a + T) : EReal))
      = (W lf li (a + T) (a + j) : EReal) := by
  rw [sub_add_gate_sub, exp_add_gate _ (hli _), W, hb, hg]
  congr 3; ring

/-- What a chunk's row `i` reads from the state with its query: the decayed old state and the masked, weighted
    products within the chunk together are the query against the state after row `i`. -/
theorem row_read {D : ℕ} (hli : ∀ j, li j ≠ ⊤) (hb : ∀ i : Fin T, b i = S lf (a + i + 1) - S lf a)
    (q : Fin D → ℝ) (k : Fin D → ℕ → ℝ) (v : ℕ → ℝ) (i : Fin T) :
    Ideal.exp (((b i : EReal) + (MX lf li a : EReal)) - (MX lf li (a + i + 1) : EReal))
        * (∑ d : Fin D, (q d : EReal) * (Cst lf li (k d) v a : EReal))
      + ∑ j : Fin T, ((∑ d : Fin D, (q d : EReal) * (k d (a + j) : EReal))
          * Ideal.exp ((if (j : ℕ) ≤ i then ((b i : EReal) - b j) + li (a + j) else ⊥)
              - (MX lf li (a + i + 1) : EReal))) * (v (a + j) : EReal)
      = ((∑ d : Fin D, q d * Cst lf li (k d) v (a + i + 1) : ℝ) : EReal) := by
  simp only [row_weight hli hb]
  simp only [← EReal.coe_mul, ← EReal.coe_add, ← EReal.coe_sub, exp_coe, ← coe_sum]
  refine congrArg _ ?_
  have e : ∀ d : Fin D, q d * Cst lf li (k d) v (a + i + 1)
      = Real.exp (b i + MX lf li a - MX lf li (a + i + 1)) * (q d * Cst lf li (k d) v a)
        + ∑ j : Fin T, q d * k d (a + j) * (if (j : ℕ) < i + 1 then W lf li (a + (i + 1)) (a + j) else 0) * v (a + j) := by
    intro d
    rw [add_assoc a, Cst_chunk, hb, mul_add, ← add_assoc a]
    refine congrArg₂ (· + ·) (by ring) ?_
    rw [← sum_fin_mask (i + 1) i.2 (fun j => k d (a + j) * W lf li (a + i + 1) (a + j) * v (a + j)), mul_sum]
    refine sum_congr rfl fun j _ => ?_
    split_ifs <;> ring
  rw [sum_congr rfl fun d _ => e d, sum_add_distrib, ← mul_sum, sum_comm]
  refine congrArg₂ (· + ·) rfl (sum_congr rfl fun j _ => ?_)
  rw [sum_mul, sum_mul]

/-- The state that a chunk hands on. -/
theorem end_state (hli : ∀ j, li j ≠ ⊤) (hb : ∀ i : Fin T, b i = S lf (a + i + 1) - S lf a)
    (hg : g = S lf (a + T) - S lf a) (k v : ℕ → ℝ) :
    Ideal.exp (((g : EReal) + (MX lf li a : EReal)) - (MX lf li (a + T) : EReal)) * (Cst lf li k v a : EReal)
      + ∑ j : Fin T, ((k (a + j) : EReal)
          * Ideal.exp (((g : EReal) - b j) + li (a + j) - (MX lf li (a + T) : EReal))) * (v (a + j) : EReal)
      = (Cst lf li k v (a + T) : EReal) := by
  simp only [end_weight hli hb hg]
  simp only [← EReal.coe_mul, ← EReal.coe_add, ← EReal.coe_sub, exp_coe, ← coe_sum]
  refine congrArg _ ?_
  rw [Cst_chunk, hg, Fin.sum_univ_eq_sum_range (fun j => k (a + j) * W lf li (a + T) (a + j) * v (a + j)) T]

end

/-! ## Rows that are only padding -/

/-- While the gates are those of padding, the stabiliser stays at zero and the state stays empty. -/
theorem pad_state {lf : ℕ → ℝ} {li : ℕ → EReal} {n : ℕ} (hf : ∀ j < n, lf j = 0) (hi : ∀ j < n, li j = ⊥)
    (k v : ℕ → ℝ) : MX lf li n = 0 ∧ Cst lf li k v n = 0 := by
  constructor
  · induction n with
    | zero => rfl
    | succ n ih =>
      have h := ih (fun j h => hf j (by omega)) (fun j h => hi j (by omega))
      simp [MX, h, hf n (by omega), hi n (by omega)]
  · refine sum_eq_zero fun j hj => ?_
    rw [W, hi j (mem_range.1 hj)]
    simp [gate, exp_bot]

end Cert.Mix

end
-- ==== Proof.Mix.Seqs.lean ====
/- The sequences of the layer, row after row: 48 rows of padding, the 16 meta rows, the rows of the text.
   Both programs compute the closed forms over these. -/
module

public import Idealize.ShloMosaic.Lib.Pointwise
public import proofs.«01_k».proof.Proof.Mix.Recur

@[expose] public section

noncomputable section

namespace Cert.Mix

open Idealize.ShloMosaic

/-- The logarithm of the logistic function as both programs compute it. -/
def lsg (x : EReal) : EReal := min x 0 - Ideal.log1p (Ideal.exp (0 - max x (-x)))

theorem log1p_exp_coe (r : ℝ) : ∃ s : ℝ, Ideal.log1p (Ideal.exp (r : EReal)) = (s : EReal) := by
  have h : (0 : ℝ) < 1 + Real.exp r := by positivity
  refine ⟨Real.log (1 + Real.exp r), ?_⟩
  change Ideal.log ((1 : EReal) + ((Real.exp r : ℝ) : EReal)) = _
  rw [← EReal.coe_one, ← EReal.coe_add]
  change (if 1 + Real.exp r ≤ 0 then (⊥ : EReal) else ((Real.log (1 + Real.exp r) : ℝ) : EReal)) = _
  rw [if_neg (not_le.2 h)]

theorem logistic_coe (r : ℝ) : ∃ s : ℝ, Ideal.logistic (r : EReal) = (s : EReal) := by
  have h : (0 : ℝ) < 1 + Real.exp (-r) := by positivity
  refine ⟨(1 + Real.exp (-r))⁻¹, ?_⟩
  change Ideal.div 1 ((1 : EReal) + Ideal.exp (-(r : EReal))) = _
  rw [← EReal.coe_neg]
  change Ideal.div 1 ((1 : EReal) + ((Real.exp (-r) : ℝ) : EReal)) = _
  rw [← EReal.coe_one, ← EReal.coe_add, Ideal.div, if_neg (fun e => h.ne' (EReal.coe_eq_zero.1 e)), ← EReal.coe_inv, EReal.coe_one, one_mul]

theorem lsg_coe {x : EReal} (h : x ≠ ⊥) : ((lsg x).toReal : EReal) = lsg x := by
  induction x with
  | bot => exact absurd rfl h
  | top =>
    have e : lsg ⊤ = 0 := by
      have : Ideal.exp (0 - max (⊤ : EReal) (-⊤)) = 0 := by
        rw [max_eq_left le_top]
        rfl
      rw [lsg, this, Ideal.log1p, add_zero, min_eq_right le_top, ← EReal.coe_one]
      change (0 : EReal) - (if (1 : ℝ) ≤ 0 then (⊥ : EReal) else ((Real.log 1 : ℝ) : EReal)) = 0
      rw [if_neg (by norm_num), Real.log_one]; simp
    rw [e]; rfl
  | coe r =>
    obtain ⟨s, hs⟩ := log1p_exp_coe (0 - max r (-r))
    have e : lsg (r : EReal) = ((min r 0 - s : ℝ) : EReal) := by
      rw [lsg, EReal.coe_sub, ← hs]
      push_cast
      rfl
    rw [e, EReal.toReal_coe]

/-- The scale of the keys, 128 to the power −1/2 rounded. -/
def kap : ℝ := (Ideal.ofBits FTy.f32 0x3DB504F3#32).toReal

theorem kap_coe : Ideal.ofBits FTy.f32 0x3DB504F3#32 = (kap : EReal) := by
  rw [kap, EReal.coe_toReal] <;> simp [Ideal.ofBits, Ideal.ieee, -EReal.coe_mul]

theorem one_word : Ideal.ofBits FTy.bf16 0x3F80#16 = 1 := by
  simp [Ideal.ofBits, Ideal.ieee, -EReal.coe_mul]
  norm_num

/-- What the recurrence reads: the projected rows, the gates' pre-activations, the convolution's weights. -/
structure Seqs where
  x : ℕ → ℕ → ℝ
  g : ℕ → ℕ → EReal
  cw : ℕ → ℕ → ℝ
  cb : ℕ → ℝ
  mo : ℕ → ℕ → EReal
  ng : ℕ → EReal

namespace Seqs
variable (s : Seqs)

/-- The causal convolution of four rows. -/
def pre (p c : ℕ) : ℝ :=
  (((s.cb c + s.cw 0 c * s.x (p - 3) c) + s.cw 1 c * s.x (p - 2) c) + s.cw 2 c * s.x (p - 1) c) + s.cw 3 c * s.x p c

/-- The activated convolution. -/
def y (p c : ℕ) : ℝ := ((s.pre p c : EReal) * Ideal.logistic (s.pre p c : EReal)).toReal

theorem y_coe (p c : ℕ) : (s.y p c : EReal) = (s.pre p c : EReal) * Ideal.logistic (s.pre p c : EReal) := by
  obtain ⟨r, hr⟩ := logistic_coe (s.pre p c)
  rw [y, hr, ← EReal.coe_mul, EReal.toReal_coe]

def q (h : ℕ) (d : Fin 128) (p : ℕ) : ℝ := if p < 48 then 0 else s.y p (128 * h + d)
def k (h : ℕ) (d : Fin 128) (p : ℕ) : ℝ := if p < 48 then 0 else s.y p (512 + 128 * h + d) * kap
def v (h : ℕ) (e p : ℕ) : ℝ := if e < 256 then s.x p (1024 + 256 * h + e) else 1
def li (h : ℕ) (p : ℕ) : EReal := if p < 48 then ⊥ else s.g p h
def lf (h : ℕ) (p : ℕ) : ℝ := if p < 48 then 0 else (lsg (s.g p (4 + h))).toReal

/-- The gates are such that the recurrence stays finite. -/
structure Good : Prop where
  hi : ∀ p h, h < 4 → s.g p h ≠ ⊤
  hf : ∀ p h, h < 4 → s.g p (4 + h) ≠ ⊥

variable {s}

theorem Good.li_top (G : s.Good) (h : ℕ) (hh : h < 4) (p : ℕ) : s.li h p ≠ ⊤ := by
  unfold li; split
  · exact bot_ne_top
  · exact G.hi p h hh

theorem Good.lf_coe (G : s.Good) (h : ℕ) (hh : h < 4) (p : ℕ) (hp : 48 ≤ p) : (s.lf h p : EReal) = lsg (s.g p (4 + h)) := by
  rw [lf, if_neg (by omega), lsg_coe (G.hf p h hh)]

variable (s)

/-- What row `p` reads from the state in column `e`. -/
def num (h e p : ℕ) : ℝ :=
  ∑ d : Fin 128, s.q h d p * Cst (s.lf h) (s.li h) (s.k h d) (s.v h e) (p + 1)

/-- Row `p` normalised. -/
def hv (h e p : ℕ) : EReal :=
  Ideal.div (s.num h e p : EReal)
    (max (max (s.num h 256 p : EReal) (-(s.num h 256 p : EReal))) (Ideal.exp (0 - (MX (s.lf h) (s.li h) (p + 1) : EReal))))

/-- Row `p` scaled by its root mean square. -/
def hn (h e p : ℕ) : EReal :=
  s.hv h e p * Ideal.rsqrt (Ideal.div (∑ e' : Fin 256, s.hv h e' p * s.hv h e' p) (Ideal.ofBits FTy.f32 0x43800000#32)
    + Ideal.ofBits FTy.f32 0x358637BD#32)

/-- Column `c` of row `p` after the output gate: the four heads side by side, 256 columns each. -/
def hm (p c : ℕ) : EReal := Ideal.logistic (s.mo p c) * (s.hn (c / 256) (c % 256) p * s.ng c)

end Seqs

end Cert.Mix

end
-- ==== Proof.Mix.Args.lean ====
/- The recurrence's sequences as the thirteen argument arrays give them. -/
module

public import proofs.«01_k».proof.Proof.Mix.Seqs

@[expose] public section
noncomputable section
namespace Cert.Mix
open Idealize.ShloMosaic

/-- A matrix of extended reals. -/
abbrev Mat (R C : ℕ) : Type := (⟨2, ![R, C]⟩ : Shape).Idx → EReal

/-- The entry of a matrix at natural coordinates, zero outside. -/
def at2 {R C : ℕ} (X : Mat R C) (i c : ℕ) : EReal := if h : i < R ∧ c < C then X (ix2 ⟨i, h.1⟩ ⟨c, h.2⟩) else 0

theorem at2_of {R C : ℕ} (X : Mat R C) (i : Fin R) (c : Fin C) {i' c' : ℕ} (hi : i' = i.val) (hc : c' = c.val) : at2 X i' c' = X (ix2 i c) := by
  subst hi; subst hc
  exact dif_pos ⟨i.2, c.2⟩

/-- What is asked of the arguments: finite queries, keys, values and convolution weights, input gates below `⊤`, forget gates above `⊥`. -/
structure Tame (zx : Mat 8192 10240) (gx : Mat 8192 128) (zm : Mat 16 10240) (gm : Mat 16 128)
    (cw : (⟨3, ![1, 4, 1024]⟩ : Shape).Idx → EReal) (cb : Mat 1 1024) : Prop where
  zx : ∀ (i : Fin 8192) (c : Fin 10240), c.val < 2048 → zx (ix2 i c) ≠ ⊤ ∧ zx (ix2 i c) ≠ ⊥
  zm : ∀ (i : Fin 16) (c : Fin 10240), c.val < 2048 → zm (ix2 i c) ≠ ⊤ ∧ zm (ix2 i c) ≠ ⊥
  cw : ∀ (k : Fin 4) (c : Fin 1024), cw (ix3 0 k c) ≠ ⊤ ∧ cw (ix3 0 k c) ≠ ⊥
  cb : ∀ (c : Fin 1024), cb (ix2 0 c) ≠ ⊤ ∧ cb (ix2 0 c) ≠ ⊥
  xi : ∀ (i : Fin 8192) (l : Fin 128), l.val < 4 → gx (ix2 i l) ≠ ⊤
  mi : ∀ (i : Fin 16) (l : Fin 128), l.val < 4 → gm (ix2 i l) ≠ ⊤
  xf : ∀ (i : Fin 8192) (l : Fin 128), 4 ≤ l.val → l.val < 8 → gx (ix2 i l) ≠ ⊥
  mf : ∀ (i : Fin 16) (l : Fin 128), 4 ≤ l.val → l.val < 8 → gm (ix2 i l) ≠ ⊥

/-- Position `p` of the padded sequence: 48 rows of zeros, 16 rows of `zm`, then the rows of `zx`. -/
def seqs (zx : Mat 8192 10240) (gx : Mat 8192 128) (zm : Mat 16 10240) (gm : Mat 16 128)
    (cw : (⟨3, ![1, 4, 1024]⟩ : Shape).Idx → EReal) (cb ng : Mat 1 1024) : Seqs where
  x p c := if p < 48 then 0 else (if p < 64 then at2 zm (p - 48) c else at2 zx (p - 64) c).toReal
  g p l := if p < 64 then at2 gm (p - 48) l else at2 gx (p - 64) l
  cw k c := (if h : k < 4 ∧ c < 1024 then cw (ix3 0 ⟨k, h.1⟩ ⟨c, h.2⟩) else 0).toReal
  cb c := (at2 cb 0 c).toReal
  mo p c := at2 zx (p - 64) (2048 + c)
  ng c := at2 ng 0 c

section
variable {zx : Mat 8192 10240} {gx : Mat 8192 128} {zm : Mat 16 10240} {gm : Mat 16 128}
  {cw : (⟨3, ![1, 4, 1024]⟩ : Shape).Idx → EReal} {cb ng : Mat 1 1024}

theorem seqs_good (H : Tame zx gx zm gm cw cb) : (seqs zx gx zm gm cw cb ng).Good where
  hi p h hh := by
    simp only [seqs, at2]
    split <;> split
    · exact H.mi _ _ hh
    · exact EReal.zero_ne_top
    · exact H.xi _ _ hh
    · exact EReal.zero_ne_top
  hf p h hh := by
    simp only [seqs, at2]
    split <;> split
    · exact H.mf _ _ (Nat.le_add_right 4 h) (show 4 + h < 8 by omega)
    · exact EReal.zero_ne_bot
    · exact H.xf _ _ (Nat.le_add_right 4 h) (show 4 + h < 8 by omega)
    · exact EReal.zero_ne_bot

theorem seqs_x (H : Tame zx gx zm gm cw cb) (i : Fin 8192) (c : Fin 10240) (hc : c.val < 2048) {p c' : ℕ} (hp : p = 64 + i.val) (h : c' = c.val) :
    ((seqs zx gx zm gm cw cb ng).x p c' : EReal) = zx (ix2 i c) := by
  subst hp
  simp only [seqs]
  rw [if_neg (by omega), if_neg (by omega), at2_of zx i c (by omega) h]
  exact EReal.coe_toReal (H.zx i c hc).1 (H.zx i c hc).2

theorem seqs_m (H : Tame zx gx zm gm cw cb) (i : Fin 16) (c : Fin 10240) (hc : c.val < 2048) {p c' : ℕ} (hp : p = 48 + i.val) (h : c' = c.val) :
    ((seqs zx gx zm gm cw cb ng).x p c' : EReal) = zm (ix2 i c) := by
  subst hp
  simp only [seqs]
  rw [if_neg (by omega), if_pos (by omega), at2_of zm i c (by omega) h]
  exact EReal.coe_toReal (H.zm i c hc).1 (H.zm i c hc).2

theorem seqs_0 {p : ℕ} (c : ℕ) (hp : p < 48) : (seqs zx gx zm gm cw cb ng).x p c = 0 := if_pos hp

theorem seqs_gx (i : Fin 8192) (l : Fin 128) {p l' : ℕ} (hp : p = 64 + i.val) (h : l' = l.val) :
    (seqs zx gx zm gm cw cb ng).g p l' = gx (ix2 i l) := by
  subst hp
  simp only [seqs]
  rw [if_neg (by omega), at2_of gx i l (by omega) h]

theorem seqs_gm (i : Fin 16) (l : Fin 128) {p l' : ℕ} (hp : p = 48 + i.val) (h : l' = l.val) :
    (seqs zx gx zm gm cw cb ng).g p l' = gm (ix2 i l) := by
  subst hp
  simp only [seqs]
  rw [if_pos (by omega), at2_of gm i l (by omega) h]

theorem seqs_w (H : Tame zx gx zm gm cw cb) (k : Fin 4) (c : Fin 1024) : ((seqs zx gx zm gm cw cb ng).cw k.val c.val : EReal) = cw (ix3 0 k c) := by
  simp only [seqs]
  rw [dif_pos ⟨k.2, c.2⟩]
  exact EReal.coe_toReal (H.cw k c).1 (H.cw k c).2

theorem seqs_b (H : Tame zx gx zm gm cw cb) (c : Fin 1024) : ((seqs zx gx zm gm cw cb ng).cb c.val : EReal) = cb (ix2 0 c) := by
  simp only [seqs]
  rw [show at2 cb 0 c.val = cb (ix2 0 c) from at2_of cb 0 c rfl rfl]
  exact EReal.coe_toReal (H.cb c).1 (H.cb c).2

theorem seqs_mo (i : Fin 8192) (c : Fin 10240) {p c' : ℕ} (hp : p = 64 + i.val) (h : 2048 + c' = c.val) :
    (seqs zx gx zm gm cw cb ng).mo p c' = zx (ix2 i c) := by
  subst hp
  exact at2_of zx i c (by omega) h

theorem seqs_ng (c : Fin 1024) : (seqs zx gx zm gm cw cb ng).ng c.val = ng (ix2 0 c) := at2_of ng 0 c rfl rfl
end

/-- A row of the result from the row's head outputs, attention outputs, branch gates and residual. -/
def mrow (hm ha : Fin 1024 → EReal) (g1 g2 h gp : Fin 2048 → EReal) (MW AW : Fin 1024 → Fin 2048 → EReal) (WO : Fin 2048 → Fin 2048 → EReal) (c : Fin 2048) : EReal :=
  let out : Fin 2048 → EReal := fun j => ∑ k : Fin 2048,
    (Ideal.logistic (g1 k) * (∑ q : Fin 1024, hm q * MW q k) + Ideal.logistic (g2 k) * (∑ q : Fin 1024, ha q * AW q k)) * WO k j
  h c + (out c * Ideal.rsqrt (Ideal.div (∑ j : Fin 2048, out j * out j) (Ideal.ofBits FTy.f32 0x45000000#32) + Ideal.ofBits FTy.f32 0x358637BD#32)) * gp c

/-- The layer's result from its gated mLSTM rows `hm` (row `r` of the text at position `64 + r`). -/
def result (hm : ℕ → ℕ → EReal) (zx : Mat 8192 10240) (ha : Mat 8192 1024) (h : Mat 8192 2048) (mw aw : Mat 1024 2048) (wo : Mat 2048 2048) (gp : Mat 1 2048) : Mat 8192 2048 :=
  fun y => mrow (fun q => hm (64 + (y 0).val) q.val) (fun q => ha (ix2 (y 0 : Fin 8192) q)) (fun k => zx (ix2 (y 0 : Fin 8192) (⟨6144 + k, by omega⟩ : Fin 10240)))
    (fun k => zx (ix2 (y 0 : Fin 8192) (⟨8192 + k, by omega⟩ : Fin 10240))) (fun k => h (ix2 (y 0 : Fin 8192) k)) (fun k => gp (ix2 0 k))
    (fun q k => mw (ix2 q k)) (fun q k => aw (ix2 q k)) (fun q k => wo (ix2 q k)) (y 1)

end Cert.Mix
end
-- ==== Proof.Mix.RefSetup.lean ====
/- What the reference computes before its loop, entry by entry. -/
module

public import proofs.«01_k».proof.Proof.Mix.Args
public import proofs.«01_k».proof.Proof.Gen.ReferenceIdeal.Step
public import Idealize.ShloMosaic.Lib.WordCmp

@[expose] public section
set_option maxRecDepth 16384
noncomputable section
namespace Cert.Mix.Ref
open Idealize.ShloMosaic
open Cert.ReferenceIdeal Cert.ReferenceIdeal.Step

variable (a0 : Mat 8192 10240) (a1 : Mat 8192 128) (a2 : Mat 16 10240) (a3 : Mat 16 128)
  (a6 : (⟨3, ![1, 4, 1024]⟩ : Shape).Idx → EReal) (a7 : Mat 1 1024)

theorem one_f32 : Ideal.ofBits FTy.f32 0x3F800000#32 = 1 := by
  simp [Ideal.ofBits, Ideal.ieee, -EReal.coe_mul]
  norm_num

theorem bot_f32 : Ideal.ofBits FTy.f32 0xFF800000#32 = ⊥ := by
  simp [Ideal.ofBits, Ideal.ieee]

theorem zero_f32 : Ideal.ofBits FTy.f32 0x00000000#32 = 0 := by
  simp [Ideal.ofBits, Ideal.ieee]

theorem zero_int : FloatOps.sitofp (F := Ideal) FTy.f32 0#32 = (0 : EReal) := by
  show (((0#32 : BitVec 32).toInt : ℝ) : EReal) = 0
  simp

/-- Row `r` of the projected rows, the 16 meta rows first. -/
theorem v1_at (r : Fin 8208) (c : Fin 10240) : A_main_v1 (F := Ideal) a0 a1 a2 a3 a6 a7 (ix2 r c)
    = if h : r.val < 16 then a2 (ix2 ⟨r.val, h⟩ c) else a0 (ix2 ⟨r.val - 16, by omega⟩ c) := by
  pointwise [A_main_v1, A_main_v0, hlo_ix]

/-- Row `r` of the gates' pre-activations, the 16 meta rows first. -/
theorem v2_at (r : Fin 8208) (c : Fin 128) : A_main_v2 (F := Ideal) a0 a1 a2 a3 a6 a7 (ix2 r c)
    = if h : r.val < 16 then a3 (ix2 ⟨r.val, h⟩ c) else a1 (ix2 ⟨r.val - 16, by omega⟩ c) := by
  pointwise [A_main_v2, hlo_ix]

/-- The rows the convolution reads, three rows of zeros in front. -/
theorem v7_at (r : Fin 8211) (c : Fin 1024) : A_main_v7 (F := Ideal) a0 a1 a2 a3 a6 a7 (ix2 r c)
    = if h : 3 ≤ r.val ∧ r.val - 3 < 8208 then A_main_v1 (F := Ideal) a0 a1 a2 a3 a6 a7 (ix2 (⟨r.val - 3, by omega⟩ : Fin 8208) ⟨c.val, by omega⟩) else 0 := by
  rw [← zero_int]
  pointwise [A_main_v7, A_main_v3, K_main_call0_v0, K_main_c, hlo_ix]

/-- The convolution of four rows. -/
theorem v38_at (r : Fin 8208) (c : Fin 1024) : A_main_v38 (F := Ideal) a0 a1 a2 a3 a6 a7 (ix2 r c)
    = (((a7 (ix2 0 c) + a6 (ix3 0 0 c) * A_main_v7 (F := Ideal) a0 a1 a2 a3 a6 a7 (ix2 (⟨r.val, by omega⟩ : Fin 8211) c))
      + a6 (ix3 0 1 c) * A_main_v7 (F := Ideal) a0 a1 a2 a3 a6 a7 (ix2 (⟨1 + r.val, by omega⟩ : Fin 8211) c))
      + a6 (ix3 0 2 c) * A_main_v7 (F := Ideal) a0 a1 a2 a3 a6 a7 (ix2 (⟨2 + r.val, by omega⟩ : Fin 8211) c))
      + a6 (ix3 0 3 c) * A_main_v7 (F := Ideal) a0 a1 a2 a3 a6 a7 (ix2 (⟨3 + r.val, by omega⟩ : Fin 8211) c) := by
  pointwise [A_main_v38, A_main_v37, A_main_v36, A_main_v35, A_main_v34, A_main_v33, A_main_v32, A_main_v31, A_main_v30, A_main_v29, A_main_v28, A_main_v27, A_main_v26,
    A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, hlo_ix]

/-- The activated convolution. -/
theorem v39_at (r : Fin 8208) (c : Fin 1024) : A_main_v39 (F := Ideal) a0 a1 a2 a3 a6 a7 (ix2 r c)
    = A_main_v38 (F := Ideal) a0 a1 a2 a3 a6 a7 (ix2 r c) * Ideal.logistic (A_main_v38 (F := Ideal) a0 a1 a2 a3 a6 a7 (ix2 r c)) := by
  show _ = A_main_v38 (F := Ideal) a0 a1 a2 a3 a6 a7 (ix2 r c) * Ideal.div 1 (1 + Ideal.exp (-A_main_v38 (F := Ideal) a0 a1 a2 a3 a6 a7 (ix2 r c)))
  pointwise [A_main_v39, A_main_call1_v5, A_main_call1_v3, A_main_call1_v1, A_main_call1_v0, K_main_call1_v4, K_main_call1_v2, K_main_call1_cst, K_main_call1_cst_0, hlo_ix]

/-- The chunks of the queries. -/
theorem v61_at (n : Fin 129) (h : Fin 4) (i : Fin 64) (d : Fin 128) : A_main_v61 (F := Ideal) a0 a1 a2 a3 a6 a7 (ix4 n h i d)
    = if h_1 : 48 ≤ n.val * 64 + i.val ∧ n.val * 64 + i.val - 48 < 8208 then
      A_main_v39 (F := Ideal) a0 a1 a2 a3 a6 a7 (ix2 (⟨n.val * 64 + i.val - 48, by omega⟩ : Fin 8208) (⟨h.val * 128 + d.val, by omega⟩ : Fin 1024))
    else 0 := by
  rw [← zero_int]
  pointwise [A_main_v61, A_main_v60, A_main_v55, A_main_v42, A_main_v41, A_main_v40, K_main_call3_v0, K_main_c_0, hlo_ix]

/-- The chunks of the keys. -/
theorem v63_at (n : Fin 129) (h : Fin 4) (i : Fin 64) (d : Fin 128) : A_main_v63 (F := Ideal) a0 a1 a2 a3 a6 a7 (ix4 n h i d)
    = if h_1 : 48 ≤ n.val * 64 + i.val ∧ n.val * 64 + i.val - 48 < 8208 then
      A_main_v39 (F := Ideal) a0 a1 a2 a3 a6 a7 (ix2 (⟨n.val * 64 + i.val - 48, by omega⟩ : Fin 8208) (⟨512 + (h.val * 128 + d.val), by omega⟩ : Fin 1024))
        * Ideal.ofBits FTy.f32 0x3DB504F3#32
    else 0 := by
  rw [← zero_int]
  pointwise [A_main_v63, A_main_v62, A_main_v56, A_main_v47, A_main_v45, A_main_v44, A_main_v43, K_main_call4_v0, K_main_c_1, K_main_v46, K_main_cst, hlo_ix]

/-- The chunks of the values. -/
theorem v65_at (n : Fin 129) (h : Fin 4) (i : Fin 64) (e : Fin 256) : A_main_v65 (F := Ideal) a0 a1 a2 a3 a6 a7 (ix4 n h i e)
    = if h_1 : 48 ≤ n.val * 64 + i.val ∧ n.val * 64 + i.val - 48 < 8208 then
      A_main_v1 (F := Ideal) a0 a1 a2 a3 a6 a7 (ix2 (⟨n.val * 64 + i.val - 48, by omega⟩ : Fin 8208) (⟨1024 + (h.val * 256 + e.val), by omega⟩ : Fin 10240))
    else 0 := by
  rw [← zero_int]
  pointwise [A_main_v65, A_main_v64, A_main_v57, A_main_v49, A_main_v48, A_main_v4, K_main_call5_v0, K_main_c_2, hlo_ix]

/-- The chunks of the input gates. -/
theorem v67_at (n : Fin 129) (h : Fin 4) (i : Fin 64) : A_main_v67 (F := Ideal) a0 a1 a2 a3 a6 a7 (ix3 n h i)
    = if h_1 : 48 ≤ n.val * 64 + i.val ∧ n.val * 64 + i.val - 48 < 8208 then
      A_main_v2 (F := Ideal) a0 a1 a2 a3 a6 a7 (ix2 (⟨n.val * 64 + i.val - 48, by omega⟩ : Fin 8208) (⟨h.val, by omega⟩ : Fin 128))
    else ⊥ := by
  rw [← bot_f32]
  unfold A_main_v67 A_main_v66 A_main_v58 K_main_call6_v0 id
  pointwise [A_main_v67, A_main_v66, A_main_v58, A_main_v50, A_main_v5, K_main_call6_v0, K_main_cst_3, hlo_ix]

/-- The chunks of the logarithms of the forget gates. -/
theorem v69_at (n : Fin 129) (h : Fin 4) (i : Fin 64) : A_main_v69 (F := Ideal) a0 a1 a2 a3 a6 a7 (ix3 n h i)
    = if h_1 : 48 ≤ n.val * 64 + i.val ∧ n.val * 64 + i.val - 48 < 8208 then
      A_main_v54 (F := Ideal) a0 a1 a2 a3 a6 a7 (ix2 h (⟨n.val * 64 + i.val - 48, by omega⟩ : Fin 8208))
    else 0 := by
  rw [← zero_int]
  pointwise [A_main_v69, A_main_v68, A_main_v59, K_main_call7_v0, K_main_c_4, hlo_ix]

/-- The negated softplus of `-x` is the logarithm of the logistic function of `x`. -/
theorem neg_softplus (x : EReal) :
    -(max (-x) 0 + Ideal.log1p (Ideal.exp (-max (-x - 0) (-(-x - 0))))) = lsg x := by
  have hL : ∃ r : ℝ, Ideal.log1p (Ideal.exp (-max x (-x))) = (r : EReal) := by
    have h0 : Ideal.log1p (Ideal.exp ⊥) = ((0 : ℝ) : EReal) := by
      show Ideal.log ((1 : EReal) + 0) = _
      rw [add_zero, ← EReal.coe_one]
      change (if (1 : ℝ) ≤ 0 then (⊥ : EReal) else ((Real.log 1 : ℝ) : EReal)) = _
      rw [if_neg (by norm_num), Real.log_one]
    induction x with
    | bot => exact ⟨0, by rw [EReal.neg_bot, max_eq_right bot_le, EReal.neg_top]; exact h0⟩
    | top => exact ⟨0, by rw [max_eq_left le_top, EReal.neg_top]; exact h0⟩
    | coe r =>
      obtain ⟨s, hs⟩ := log1p_exp_coe (-max r (-r))
      exact ⟨s, by rw [← hs]; push_cast; rfl⟩
  obtain ⟨r, hr⟩ := hL
  have hm : -max (-x) 0 = min x 0 := by
    rcases le_total x 0 with h | h
    · rw [max_eq_left (EReal.neg_nonneg.2 h), neg_neg, min_eq_left h]
    · rw [max_eq_right (EReal.neg_le.1 (by rwa [neg_zero])), neg_zero, min_eq_right h]
  rw [sub_zero, neg_neg, max_comm (-x) x, lsg, zero_sub, hr,
    EReal.neg_add (Or.inr (EReal.coe_ne_top r)) (Or.inr (EReal.coe_ne_bot r)), hm]

/-- The logarithm of the forget gate of row `r`. -/
theorem v54_at (r : Fin 8208) (h : Fin 4) : A_main_v54 (F := Ideal) a0 a1 a2 a3 a6 a7 (ix2 h r)
    = lsg (A_main_v2 (F := Ideal) a0 a1 a2 a3 a6 a7 (ix2 r (⟨4 + h.val, by omega⟩ : Fin 128))) := by
  rw [← neg_softplus, ← zero_f32]
  have e (x : EReal) : (FloatOps.absf (F := Ideal) (φ := .f32) x : EReal) = max x (-x) := rfl
  pointwise [A_main_v54, A_main_v53, A_main_v52, A_main_call2_v11, A_main_call2_v10, A_main_call2_v9, A_main_call2_v8, A_main_call2_v7, A_main_call2_v6, A_main_call2_v4, A_main_call2_v3, A_main_call2_v1, A_main_v51, A_main_v6,
    K_main_call2_v0, K_main_call2_v2, K_main_call2_v5, K_main_call2_cst, hlo_ix]
  simp [e]
  trace_state

/-- A sum over the one-row windows is a sum over their 64 columns. -/
theorem window_sum (f : (⟨3, ![1, 1, 64]⟩ : Shape).Idx → EReal) :
    ∑ u, f u = ∑ w : Fin 64, f (ix3 0 0 w) := by
  refine Fintype.sum_equiv ⟨fun u => u 2, fun w => ix3 0 0 w, fun u => ?_, fun w => rfl⟩ _ _ fun u => ?_
  · funext a
    match a with
    | 0 => exact Subsingleton.elim (α := Fin 1) _ _
    | 1 => exact Subsingleton.elim (α := Fin 1) _ _
    | 2 => rfl
  · congr 1
    funext a
    match a with
    | 0 => exact Subsingleton.elim (α := Fin 1) _ _
    | 1 => exact Subsingleton.elim (α := Fin 1) _ _
    | 2 => rfl

theorem foldl_sum {α : Type} (g : α → EReal) (l : List α) (v : EReal) : l.foldl (fun r m => r + g m) v = v + (l.map g).sum := by
  induction l generalizing v with
  | nil => simp
  | cons x l ih => rw [List.foldl_cons, ih, List.map_cons, List.sum_cons, add_assoc]

/-- The sums over windows that end at a column, as sums over the window. -/
theorem window_at (X : S129x4x64.Idx → EReal) (hh : S129x4x64.ReduceWindows (![1, 1, 64] : Fin 3 → Nat) ![1, 1, 1] ![0, 0, 63] ![0, 0, 0] S129x4x64)
    (n : Fin 129) (h : Fin 4) (i : Fin 64) :
    Ideal.hostReduceWindowAdd ![1, 1, 64] ![1, 1, 1] ![0, 0, 63] ![0, 0, 0] hh X 0 (ix3 n h i)
    = ∑ w : Fin 64, if hw : 63 ≤ i.val + w.val then X (ix3 n h ⟨i.val + w.val - 63, by omega⟩) else 0 := by
  unfold Ideal.hostReduceWindowAdd Host.reduceWindow
  refine (foldl_sum _ _ _).trans ?_
  rw [← Fin.sum_univ_def, zero_add]
  let p (u : (⟨3, ![1, 1, 64]⟩ : Shape).Idx) (a : Fin 3) : ℕ := (ix3 n h i a).val * (![1, 1, 1] : Fin 3 → ℕ) a + (u a).val
  let g (u : (⟨3, ![1, 1, 64]⟩ : Shape).Idx) : EReal :=
    if hin : ∀ a : Fin 3, (![0, 0, 63] : Fin 3 → ℕ) a ≤ p u a ∧ p u a - (![0, 0, 63] : Fin 3 → ℕ) a < S129x4x64.size a then
      X (fun a => ⟨p u a - (![0, 0, 63] : Fin 3 → ℕ) a, (hin a).2⟩) else 0
  refine Eq.trans (b := ∑ m, g ((⟨3, ![1, 1, 64]⟩ : Shape).rowMajor.symm m)) (Finset.sum_congr rfl fun m _ => ?_) ?_
  · by_cases hin : ∀ a : Fin 3, (![0, 0, 63] : Fin 3 → ℕ) a ≤ p ((⟨3, ![1, 1, 64]⟩ : Shape).rowMajor.symm m) a ∧
        p ((⟨3, ![1, 1, 64]⟩ : Shape).rowMajor.symm m) a - (![0, 0, 63] : Fin 3 → ℕ) a < S129x4x64.size a
    · have hg : g ((⟨3, ![1, 1, 64]⟩ : Shape).rowMajor.symm m) = X (fun a => ⟨p ((⟨3, ![1, 1, 64]⟩ : Shape).rowMajor.symm m) a - (![0, 0, 63] : Fin 3 → ℕ) a, (hin a).2⟩) := dif_pos hin
      rw [hg]; exact dif_pos hin
    · have hg : g ((⟨3, ![1, 1, 64]⟩ : Shape).rowMajor.symm m) = 0 := dif_neg hin
      rw [hg]; exact dif_neg hin
  refine (Equiv.sum_comp ((⟨3, ![1, 1, 64]⟩ : Shape).rowMajor.symm) g).trans ((window_sum g).trans (Finset.sum_congr rfl fun w _ => ?_))
  have p0 : p (ix3 0 0 w) 0 = n.val := by show n.val * 1 + 0 = n.val; omega
  have p1 : p (ix3 0 0 w) 1 = h.val := by show h.val * 1 + 0 = h.val; omega
  have p2 : p (ix3 0 0 w) 2 = i.val + w.val := by show i.val * 1 + w.val = _; omega
  by_cases hw : 63 ≤ i.val + w.val
  · have hin : ∀ a : Fin 3, (![0, 0, 63] : Fin 3 → ℕ) a ≤ p (ix3 0 0 w) a ∧ p (ix3 0 0 w) a - (![0, 0, 63] : Fin 3 → ℕ) a < S129x4x64.size a := fun a =>
      match a with
      | 0 => ⟨Nat.zero_le _, by rw [p0]; exact n.2⟩
      | 1 => ⟨Nat.zero_le _, by rw [p1]; exact h.2⟩
      | 2 => ⟨by rw [p2]; exact hw, by rw [p2]; show i.val + w.val - 63 < 64; omega⟩
    rw [dif_pos hw]
    refine (dif_pos hin).trans (congrArg X (funext fun a => ?_))
    match a with
    | 0 => exact Fin.ext p0
    | 1 => exact Fin.ext p1
    | 2 => exact Fin.ext (congrArg (· - 63) p2)
  · rw [dif_neg hw]
    exact dif_neg fun hin => hw (by have := (hin 2).1; rw [p2] at this; exact this)

/-- The sum over the window that ends at column `i` is the sum of the first `i + 1` columns. -/
theorem window_real (f : ℕ → ℝ) (i : ℕ) (hi : i < 64) :
    (∑ w : Fin 64, if 63 ≤ i + w.val then f (i + w.val - 63) else 0) = ∑ j ∈ Finset.range (i + 1), f j := by
  rw [Fin.sum_univ_eq_sum_range (fun w => if 63 ≤ i + w then f (i + w - 63) else 0) 64,
    show 64 = (63 - i) + (i + 1) by omega, Finset.sum_range_add,
    Finset.sum_eq_zero fun w hw => if_neg (by have := Finset.mem_range.1 hw; omega), zero_add]
  refine Finset.sum_congr rfl fun j hj => ?_
  rw [if_pos (by omega)]
  congr 1; omega

section
variable {a0 a1 a2 a3 a6 a7} {a8 : Mat 1 1024}

theorem x_at (H : Tame a0 a1 a2 a3 a6 a7) (r : Fin 8208) (c : Fin 10240) (hc : c.val < 2048) {p c' : ℕ} (hp : p = 48 + r.val) (h : c' = c.val) :
    A_main_v1 (F := Ideal) a0 a1 a2 a3 a6 a7 (ix2 r c) = ((seqs a0 a1 a2 a3 a6 a7 a8).x p c' : EReal) := by
  rw [v1_at]
  split
  · exact (seqs_m H _ c hc hp h).symm
  · exact (seqs_x H _ c hc (by show p = 64 + (r.val - 16); omega) h).symm

theorem g_at (r : Fin 8208) (c : Fin 128) {p c' : ℕ} (hp : p = 48 + r.val) (h : c' = c.val) :
    A_main_v2 (F := Ideal) a0 a1 a2 a3 a6 a7 (ix2 r c) = (seqs a0 a1 a2 a3 a6 a7 a8).g p c' := by
  rw [v2_at]
  split
  · exact (seqs_gm _ c hp h).symm
  · exact (seqs_gx _ c (by show p = 64 + (r.val - 16); omega) h).symm

theorem xs_at (H : Tame a0 a1 a2 a3 a6 a7) (r : Fin 8211) (c : Fin 1024) {p : ℕ} (hp : p = 45 + r.val) :
    A_main_v7 (F := Ideal) a0 a1 a2 a3 a6 a7 (ix2 r c) = ((seqs a0 a1 a2 a3 a6 a7 a8).x p c.val : EReal) := by
  rw [v7_at]
  split
  · exact x_at H _ _ (by show c.val < 2048; omega) (by show p = 48 + (r.val - 3); omega) rfl
  · rw [seqs_0 _ (by omega)]; rfl

theorem pre_at (H : Tame a0 a1 a2 a3 a6 a7) (r : Fin 8208) (c : Fin 1024) :
    A_main_v38 (F := Ideal) a0 a1 a2 a3 a6 a7 (ix2 r c) = ((seqs a0 a1 a2 a3 a6 a7 a8).pre (48 + r.val) c.val : EReal) := by
  rw [v38_at, Seqs.pre, xs_at (a8 := a8) H _ c (show 48 + r.val - 3 = 45 + r.val by omega), xs_at (a8 := a8) H _ c (show 48 + r.val - 2 = 45 + (1 + r.val) by omega),
    xs_at (a8 := a8) H _ c (show 48 + r.val - 1 = 45 + (2 + r.val) by omega), xs_at (a8 := a8) H _ c (show 48 + r.val = 45 + (3 + r.val) by omega)]
  push_cast
  rw [← seqs_b (ng := a8) H c, ← seqs_w (ng := a8) H 0 c, ← seqs_w (ng := a8) H 1 c, ← seqs_w (ng := a8) H 2 c, ← seqs_w (ng := a8) H 3 c]
  rfl

theorem y_at (H : Tame a0 a1 a2 a3 a6 a7) (r : Fin 8208) (c : Fin 1024) {p c' : ℕ} (hp : p = 48 + r.val) (h : c' = c.val) :
    A_main_v39 (F := Ideal) a0 a1 a2 a3 a6 a7 (ix2 r c) = ((seqs a0 a1 a2 a3 a6 a7 a8).y p c' : EReal) := by
  subst hp; subst h
  rw [v39_at, pre_at (a8 := a8) H, Seqs.y_coe]

/-- The queries of chunk `n`. -/
theorem q_at (H : Tame a0 a1 a2 a3 a6 a7) (n : Fin 129) (h : Fin 4) (i : Fin 64) (d : Fin 128) :
    A_main_v61 (F := Ideal) a0 a1 a2 a3 a6 a7 (ix4 n h i d) = ((seqs a0 a1 a2 a3 a6 a7 a8).q h d (64 * n.val + i.val) : EReal) := by
  rw [v61_at, Seqs.q]
  split
  · rw [if_neg (by omega)]
    exact y_at H _ _ (by show _ = 48 + (n.val * 64 + i.val - 48); omega) (by show _ = h.val * 128 + d.val; omega)
  · rw [if_pos (by omega)]; rfl

/-- The keys of chunk `n`. -/
theorem k_at (H : Tame a0 a1 a2 a3 a6 a7) (n : Fin 129) (h : Fin 4) (i : Fin 64) (d : Fin 128) :
    A_main_v63 (F := Ideal) a0 a1 a2 a3 a6 a7 (ix4 n h i d) = ((seqs a0 a1 a2 a3 a6 a7 a8).k h d (64 * n.val + i.val) : EReal) := by
  rw [v63_at, Seqs.k]
  split
  · rw [if_neg (by omega), EReal.coe_mul, kap_coe]
    exact congrArg (· * (kap : EReal)) (y_at H _ _ (by show _ = 48 + (n.val * 64 + i.val - 48); omega) (by show _ = 512 + (h.val * 128 + d.val); omega))
  · rw [if_pos (by omega)]; rfl

/-- The values of chunk `n`. -/
theorem vv_at (H : Tame a0 a1 a2 a3 a6 a7) (n : Fin 129) (h : Fin 4) (i : Fin 64) (e : Fin 256) :
    A_main_v65 (F := Ideal) a0 a1 a2 a3 a6 a7 (ix4 n h i e) = ((seqs a0 a1 a2 a3 a6 a7 a8).v h e (64 * n.val + i.val) : EReal) := by
  rw [v65_at, Seqs.v, if_pos e.2]
  split
  · exact x_at H _ _ (by show 1024 + (h.val * 256 + e.val) < 2048; omega) (by show _ = 48 + (n.val * 64 + i.val - 48); omega) (by show _ = 1024 + (h.val * 256 + e.val); omega)
  · rw [seqs_0 _ (by omega)]; rfl

/-- The input gates of chunk `n`. -/
theorem li_at (n : Fin 129) (h : Fin 4) (i : Fin 64) :
    A_main_v67 (F := Ideal) a0 a1 a2 a3 a6 a7 (ix3 n h i) = (seqs a0 a1 a2 a3 a6 a7 a8).li h (64 * n.val + i.val) := by
  rw [v67_at, Seqs.li]
  split
  · rw [if_neg (by omega)]
    exact g_at _ _ (by show _ = 48 + (n.val * 64 + i.val - 48); omega) rfl
  · rw [if_pos (by omega)]

/-- The logarithms of the forget gates of chunk `n`. -/
theorem lf_at (H : Tame a0 a1 a2 a3 a6 a7) (n : Fin 129) (h : Fin 4) (i : Fin 64) :
    A_main_v69 (F := Ideal) a0 a1 a2 a3 a6 a7 (ix3 n h i) = ((seqs a0 a1 a2 a3 a6 a7 a8).lf h (64 * n.val + i.val) : EReal) := by
  rw [v69_at]
  split
  · rw [(seqs_good (ng := a8) H).lf_coe h h.2 _ (by omega), v54_at]
    exact congrArg lsg (g_at _ _ (by show _ = 48 + (n.val * 64 + i.val - 48); omega) rfl)
  · rw [Seqs.lf, if_pos (by omega)]; rfl

/-- The running sums of the logarithms of the forget gates within chunk `n`. -/
theorem b_at (H : Tame a0 a1 a2 a3 a6 a7) (n : Fin 129) (h : Fin 4) (i : Fin 64) :
    A_main_v70 (F := Ideal) a0 a1 a2 a3 a6 a7 (ix3 n h i) = ((S ((seqs a0 a1 a2 a3 a6 a7 a8).lf h) (64 * n.val + i.val + 1) - S ((seqs a0 a1 a2 a3 a6 a7 a8).lf h) (64 * n.val) : ℝ) : EReal) := by
  have e : A_main_v70 (F := Ideal) a0 a1 a2 a3 a6 a7 (ix3 n h i) = Ideal.hostReduceWindowAdd ![1, 1, 64] ![1, 1, 1] ![0, 0, 63] ![0, 0, 0]
      Gen.reduceWindows_S129x4x64_S129x4x64_w1s1p0_0_w1s1p0_0_w64s1p63_0 (A_main_v69 (F := Ideal) a0 a1 a2 a3 a6 a7) (Ideal.ofBits FTy.f32 0x00000000#32) (ix3 n h i) := rfl
  rw [e, zero_f32, window_at]
  have hs : S ((seqs a0 a1 a2 a3 a6 a7 a8).lf h) (64 * n.val + i.val + 1) - S ((seqs a0 a1 a2 a3 a6 a7 a8).lf h) (64 * n.val)
      = ∑ j ∈ Finset.range (i.val + 1), (seqs a0 a1 a2 a3 a6 a7 a8).lf h (64 * n.val + j) := by
    rw [S, S, add_assoc, Finset.sum_range_add, add_sub_cancel_left]
  rw [hs, ← window_real _ i.val i.2, coe_sum]
  refine Finset.sum_congr rfl fun w _ => ?_
  split
  · rw [lf_at (a8 := a8) H]
  · rfl
end

end Cert.Mix.Ref
end
-- ==== Proof.Mix.Pre.lean ====
/- What the precondition says of the entries. -/
module

public import proofs.«01_k».proof.Pre_tame
public import proofs.«01_k».proof.Proof.Mix.RefSetup

@[expose] public section
set_option maxRecDepth 16384
noncomputable section
namespace Cert.Mix
open Idealize.ShloMosaic Cert.Pre_tame

/-- The shape relations the precondition's operations take. -/
instance tame_facts : Cert.Pre_tame.Facts where
  slices_S8192x10240_S8192x2048_0_0 := by decide
  bitsLt_bf16_f32 := by decide
  bcast_S_S8192x2048 := by decide
  slices_S16x10240_S16x2048_0_0 := by decide
  bcast_S_S16x2048 := by decide
  bcast_S_S1x4x1024 := by decide
  bcast_S_S1x1024 := by decide
  slices_S8192x128_S8192x4_0_0 := by decide
  bcast_S_S8192x4 := by decide
  slices_S16x128_S16x4_0_0 := by decide
  bcast_S_S16x4 := by decide
  slices_S8192x128_S8192x4_0_4 := by decide
  slices_S16x128_S16x4_0_4 := by decide

theorem top_f32 : Ideal.ofBits FTy.f32 0x7F800000#32 = ⊤ := by
  simp [Ideal.ofBits, Ideal.ieee]

/-- A number whose absolute value is below the infinity is a real. -/
theorem real_of_abs {x : EReal} (h : BitVec.ofBool (decide (FloatOps.absf (F := Ideal) (φ := .f32) x < Ideal.ofBits FTy.f32 0x7F800000#32)) = 1#1) :
    x ≠ ⊤ ∧ x ≠ ⊥ := by
  have h' : max x (-x) < Ideal.ofBits FTy.f32 0x7F800000#32 := by
    by_contra hn
    rw [show FloatOps.absf (F := Ideal) (φ := .f32) x = max x (-x) from rfl, decide_eq_false hn] at h
    exact absurd h (by decide)
  rw [top_f32] at h'
  constructor <;> rintro rfl <;> simp at h'

/-- A number below the infinity is not the infinity. -/
theorem ne_top_of_lt {x : EReal} (h : BitVec.ofBool (decide (x < Ideal.ofBits FTy.f32 0x7F800000#32)) = 1#1) : x ≠ ⊤ := by
  rintro rfl
  rw [decide_eq_false not_top_lt] at h
  exact absurd h (by decide)

/-- A number above minus infinity is not minus infinity. -/
theorem ne_bot_of_gt {x : EReal} (h : BitVec.ofBool (decide (Ideal.ofBits FTy.f32 0xFF800000#32 < x)) = 1#1) : x ≠ ⊥ := by
  rintro rfl
  rw [decide_eq_false not_lt_bot] at h
  exact absurd h (by decide)

variable (a0 : Mat 8192 10240) (a1 : Mat 8192 128) (a2 : Mat 16 10240) (a3 : Mat 16 128) (a4 : Mat 8192 1024) (a5 : Mat 8192 2048)
  (a6 : (⟨3, ![1, 4, 1024]⟩ : Shape).Idx → EReal) (a7 a8 : Mat 1 1024) (a9 a10 : Mat 1024 2048) (a11 : Mat 2048 2048) (a12 : Mat 1 2048)

/-- The first bits compare the projected rows of the tokens. -/
theorem c1_at (i : Fin 8192) (c : Fin 2048) : (fn (F := Ideal) a0 a1 a2 a3 a4 a5 a6 a7 a8 a9 a10 a11 a12).1 (ix2 i c)
    = BitVec.ofBool (decide (FloatOps.absf (F := Ideal) (φ := .f32) (a0 (ix2 i ⟨c.val, by omega⟩)) < Ideal.ofBits FTy.f32 0x7F800000#32)) := by
  pointwise [fn, fn_part1, hlo_ix]

/-- The second bits compare the projected rows of the meta tokens. -/
theorem c2_at (i : Fin 16) (c : Fin 2048) : (fn (F := Ideal) a0 a1 a2 a3 a4 a5 a6 a7 a8 a9 a10 a11 a12).2.1 (ix2 i c)
    = BitVec.ofBool (decide (FloatOps.absf (F := Ideal) (φ := .f32) (a2 (ix2 i ⟨c.val, by omega⟩)) < Ideal.ofBits FTy.f32 0x7F800000#32)) := by
  pointwise [fn, fn_part1, hlo_ix]

/-- The third bits compare the convolution's weights. -/
theorem c3_at (k : Fin 4) (c : Fin 1024) : (fn (F := Ideal) a0 a1 a2 a3 a4 a5 a6 a7 a8 a9 a10 a11 a12).2.2.1 (ix3 0 k c)
    = BitVec.ofBool (decide (FloatOps.absf (F := Ideal) (φ := .f32) (a6 (ix3 0 k c)) < Ideal.ofBits FTy.f32 0x7F800000#32)) := by
  pointwise [fn, fn_part1, hlo_ix]

/-- The fourth bits compare the convolution's bias. -/
theorem c4_at (c : Fin 1024) : (fn (F := Ideal) a0 a1 a2 a3 a4 a5 a6 a7 a8 a9 a10 a11 a12).2.2.2.1 (ix2 0 c)
    = BitVec.ofBool (decide (FloatOps.absf (F := Ideal) (φ := .f32) (a7 (ix2 0 c)) < Ideal.ofBits FTy.f32 0x7F800000#32)) := by
  pointwise [fn, fn_part1, hlo_ix]

/-- The fifth bits compare the input gates of the tokens. -/
theorem c5_at (i : Fin 8192) (l : Fin 4) : (fn (F := Ideal) a0 a1 a2 a3 a4 a5 a6 a7 a8 a9 a10 a11 a12).2.2.2.2.1 (ix2 i l)
    = BitVec.ofBool (decide (a1 (ix2 i ⟨l.val, by omega⟩) < Ideal.ofBits FTy.f32 0x7F800000#32)) := by
  pointwise [fn, fn_part1, hlo_ix]

/-- The sixth bits compare the input gates of the meta tokens. -/
theorem c6_at (i : Fin 16) (l : Fin 4) : (fn (F := Ideal) a0 a1 a2 a3 a4 a5 a6 a7 a8 a9 a10 a11 a12).2.2.2.2.2.1 (ix2 i l)
    = BitVec.ofBool (decide (a3 (ix2 i ⟨l.val, by omega⟩) < Ideal.ofBits FTy.f32 0x7F800000#32)) := by
  pointwise [fn, fn_part1, hlo_ix]

/-- The seventh bits compare the forget gates of the tokens. -/
theorem c7_at (i : Fin 8192) (l : Fin 4) : (fn (F := Ideal) a0 a1 a2 a3 a4 a5 a6 a7 a8 a9 a10 a11 a12).2.2.2.2.2.2.1 (ix2 i l)
    = BitVec.ofBool (decide (Ideal.ofBits FTy.f32 0xFF800000#32 < a1 (ix2 i ⟨4 + l.val, by omega⟩))) := by
  pointwise [fn, fn_part1, hlo_ix]

/-- The eighth bits compare the forget gates of the meta tokens. -/
theorem c8_at (i : Fin 16) (l : Fin 4) : (fn (F := Ideal) a0 a1 a2 a3 a4 a5 a6 a7 a8 a9 a10 a11 a12).2.2.2.2.2.2.2 (ix2 i l)
    = BitVec.ofBool (decide (Ideal.ofBits FTy.f32 0xFF800000#32 < a3 (ix2 i ⟨4 + l.val, by omega⟩))) := by
  pointwise [fn, fn_part1, hlo_ix]

variable {a0 a1 a2 a3 a4 a5 a6 a7 a8 a9 a10 a11 a12}

/-- The eight arrays of bits being ones, the arguments are tame. -/
theorem tame_of
    (h1 : (fn (F := Ideal) a0 a1 a2 a3 a4 a5 a6 a7 a8 a9 a10 a11 a12).1 = fun _ => 1#1)
    (h2 : (fn (F := Ideal) a0 a1 a2 a3 a4 a5 a6 a7 a8 a9 a10 a11 a12).2.1 = fun _ => 1#1)
    (h3 : (fn (F := Ideal) a0 a1 a2 a3 a4 a5 a6 a7 a8 a9 a10 a11 a12).2.2.1 = fun _ => 1#1)
    (h4 : (fn (F := Ideal) a0 a1 a2 a3 a4 a5 a6 a7 a8 a9 a10 a11 a12).2.2.2.1 = fun _ => 1#1)
    (h5 : (fn (F := Ideal) a0 a1 a2 a3 a4 a5 a6 a7 a8 a9 a10 a11 a12).2.2.2.2.1 = fun _ => 1#1)
    (h6 : (fn (F := Ideal) a0 a1 a2 a3 a4 a5 a6 a7 a8 a9 a10 a11 a12).2.2.2.2.2.1 = fun _ => 1#1)
    (h7 : (fn (F := Ideal) a0 a1 a2 a3 a4 a5 a6 a7 a8 a9 a10 a11 a12).2.2.2.2.2.2.1 = fun _ => 1#1)
    (h8 : (fn (F := Ideal) a0 a1 a2 a3 a4 a5 a6 a7 a8 a9 a10 a11 a12).2.2.2.2.2.2.2 = fun _ => 1#1)
    : Tame a0 a1 a2 a3 a6 a7 where
  zx i c hc := real_of_abs ((c1_at a0 a1 a2 a3 a4 a5 a6 a7 a8 a9 a10 a11 a12 i ⟨c.val, hc⟩).symm.trans (congrFun h1 _))
  zm i c hc := real_of_abs ((c2_at a0 a1 a2 a3 a4 a5 a6 a7 a8 a9 a10 a11 a12 i ⟨c.val, hc⟩).symm.trans (congrFun h2 _))
  cw k c := real_of_abs ((c3_at a0 a1 a2 a3 a4 a5 a6 a7 a8 a9 a10 a11 a12 k c).symm.trans (congrFun h3 _))
  cb c := real_of_abs ((c4_at a0 a1 a2 a3 a4 a5 a6 a7 a8 a9 a10 a11 a12 c).symm.trans (congrFun h4 _))
  xi i l hl := ne_top_of_lt ((c5_at a0 a1 a2 a3 a4 a5 a6 a7 a8 a9 a10 a11 a12 i ⟨l.val, hl⟩).symm.trans (congrFun h5 _))
  mi i l hl := ne_top_of_lt ((c6_at a0 a1 a2 a3 a4 a5 a6 a7 a8 a9 a10 a11 a12 i ⟨l.val, hl⟩).symm.trans (congrFun h6 _))
  xf i l hl hu := by
    have h := ne_bot_of_gt ((c7_at a0 a1 a2 a3 a4 a5 a6 a7 a8 a9 a10 a11 a12 i ⟨l.val - 4, by omega⟩).symm.trans (congrFun h7 _))
    rwa [show (⟨4 + (l.val - 4), by omega⟩ : Fin 128) = l from Fin.ext (by show 4 + (l.val - 4) = l.val; omega)] at h
  mf i l hl hu := by
    have h := ne_bot_of_gt ((c8_at a0 a1 a2 a3 a4 a5 a6 a7 a8 a9 a10 a11 a12 i ⟨l.val - 4, by omega⟩).symm.trans (congrFun h8 _))
    rwa [show (⟨4 + (l.val - 4), by omega⟩ : Fin 128) = l from Fin.ext (by show 4 + (l.val - 4) = l.val; omega)] at h

end Cert.Mix
end
-- ==== Proof.Mix.Value.lean ====
/- What the mixing call's run leaves in its result and in its arguments, over `Mix/Frame.lean`. -/
module

public import proofs.«01_k».proof.Proof.Mix.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v9) = (dats m 0 c).arrAt 12 cfg0.N :=
  (h c).1 12

/-- After the frame run, argument `main_arg0` is as launched: input window 7 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 7).trans (((dats m 0 c).arrAt_in 7 rfl _).trans ((A_eq m c 7).trans (V_main_arg0 m c)))

/-- After the frame run, argument `main_arg1` is as launched: input window 8 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 8).trans (((dats m 0 c).arrAt_in 8 rfl _).trans ((A_eq m c 8).trans (V_main_arg1 m c)))

/-- After the frame run, argument `main_arg2` is as launched: input window 9 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 9).trans (((dats m 0 c).arrAt_in 9 rfl _).trans ((A_eq m c 9).trans (V_main_arg2 m c)))

/-- After the frame run, argument `main_arg3` is as launched: input window 10 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 10).trans (((dats m 0 c).arrAt_in 10 rfl _).trans ((A_eq m c 10).trans (V_main_arg3 m c)))

/-- After the frame run, argument `main_arg4` is as launched: input window 0 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 0).trans (((dats m 0 c).arrAt_in 0 rfl _).trans ((A_eq m c 0).trans (V_main_arg4 m c)))

/-- After the frame run, argument `main_arg5` is as launched: input window 2 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 2).trans (((dats m 0 c).arrAt_in 2 rfl _).trans ((A_eq m c 2).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: input window 3 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 3).trans (((dats m 0 c).arrAt_in 3 rfl _).trans ((A_eq m c 3).trans (V_main_arg9 m c)))

/-- After the frame run, argument `main_arg10` is as launched: input window 4 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 4).trans (((dats m 0 c).arrAt_in 4 rfl _).trans ((A_eq m c 4).trans (V_main_arg10 m c)))

/-- After the frame run, argument `main_arg11` is as launched: input window 5 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 5).trans (((dats m 0 c).arrAt_in 5 rfl _).trans ((A_eq m c 5).trans (V_main_arg11 m c)))

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- The run with the output array after it named, `(dats m 0 c).arrAt 12 N`, and the arguments unchanged. -/
theorem run_blocks : θ_run defs (onTc (τ := τ) (main (F := F))) ⟨m, fun _ => 0, ρ⟩ fun r => ∀ c : Dev nD,
      r.2.mem ((c : Thread nD τ).loc main_v9) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.KernelIdeal.Value

end
-- ==== Proof.Mix.Head.lean ====
/- One head's part of a chunk of the mixing call, as functions of the pieces it reads: the stabiliser's row values, the
   output rows, the state handed on.  Every payload of the call's four heads is one of these. -/
module

public import Idealize.ShloMosaic.Lib.Pointwise
public import Idealize.ShloMosaic.Lib.Pipeline.ValueKit
public import proofs.«01_k».proof.Proof.Gen.KernelIdeal.Skeleton
public import proofs.«01_k».proof.Proof.Mix.Recur

@[expose] public section

set_option maxRecDepth 16384

noncomputable section

namespace Cert.Mix

open Idealize.ShloMosaic Idealize.ShloMosaic.TcCoe Idealize.SL.Sem
open Cert.KernelIdeal Cert.KernelIdeal.Gen

variable {F : FTy → Type} [FloatOps F]

/-! ## The functions -/

/-- The masked logarithmic weights of a chunk, row against row. -/
def hLog (bc : Vec F S256x1 .f32) (lr br : Vec F S1x256 .f32) : FVec F S256x256 .f32 :=
  select k0_pay135
    (addf (subf (broadcastTo S256x256 bc broadcasts_S256x1_S256x256) (broadcastTo S256x256 br broadcasts_S1x256_S256x256))
      (broadcastTo S256x256 lr broadcasts_S1x256_S256x256))
    (broadcast S256x256 (Scalar.ofBits .f32 0xFF800000#32))

/-- The logarithmic weight of the state carried in, per row. -/
def hInter (bc : Vec F S256x1 .f32) (mp : Vec F S1x1 .f32) : FVec F S256x1 .f32 :=
  addf bc (broadcastTo S256x1 mp broadcasts_S1x1_S256x1)

/-- The stabiliser of each row. -/
def hRow (bc : Vec F S256x1 .f32) (lr br : Vec F S1x256 .f32) (mp : Vec F S1x1 .f32) : FVec F S256x1 .f32 :=
  maximumf (hInter bc mp) (shapeCast S256x1 (multiReduction .maximumf [1] S256 (hLog bc lr br) 0xFF800000#32
    reduces_S256x256_S256 (.inl rfl) rfl) shapeCasts_S256_S256x1)

/-- The query-key products of a chunk, weighted. -/
def hSd (qf kf : Vec F S256x128 .f32) (bc : Vec F S256x1 .f32) (lr br : Vec F S1x256 .f32) (mp : Vec F S1x1 .f32) :
    FVec F S256x256 .bf16 :=
  truncf .bf16 (mulf (matmul dot_S256x128_S256x128_S256x256_1_1_0_0_n_n none (truncf .bf16 qf bitsLt_bf16_f32)
      (truncf .bf16 kf bitsLt_bf16_f32) (constant S256x256 .f32 0x00000000#32))
    (exp (subf (hLog bc lr br) (broadcastTo S256x256 (hRow bc lr br mp) broadcasts_S256x1_S256x256)))) bitsLt_bf16_f32

/-- What each row reads from the state: values first, the normaliser in the columns after them. -/
def hNd (qf kf : Vec F S256x128 .f32) (ve : Vec F S256x384 .bf16) (bc : Vec F S256x1 .f32) (lr br : Vec F S1x256 .f32)
    (mp : Vec F S1x1 .f32) (C : Vec F S1x128x384 .f32) : FVec F S256x384 .f32 :=
  addf
    (mulf (broadcastTo S256x384 (exp (subf (hInter bc mp) (hRow bc lr br mp))) broadcasts_S256x1_S256x384)
      (matmul dot_S256x128_S128x384_S256x384_1_0_0_1_n_n none (truncf .bf16 qf bitsLt_bf16_f32)
        (truncf .bf16 (shapeCast S128x384 C shapeCasts_S1x128x384_S128x384) bitsLt_bf16_f32)
        (constant S256x384 .f32 0x00000000#32)))
    (matmul dot_S256x256_S256x384_S256x384_1_0_0_1_n_n none (hSd qf kf bc lr br mp) ve (constant S256x384 .f32 0x00000000#32))

/-- The normalised rows. -/
def hDiv (nd : Vec F S256x384 .f32) (mr : Vec F S256x1 .f32) : FVec F S256x256 .f32 :=
  divf (extractStridedSlice S256x256 ![0, 0] nd slices_S256x384_o0_0_S256x256)
    (broadcastTo S256x256
      (maximumf (absf (extractStridedSlice S256x1 ![0, 256] nd slices_S256x384_o0_256_S256x1))
        (exp (subf (broadcast S256x1 (Scalar.ofBits .f32 0x00000000#32)) mr))) broadcasts_S256x1_S256x256)

/-- The rows scaled by their root mean square, the head's gain and the output gate. -/
def hGate (h : Vec F S256x256 .f32) (ng : Vec F S1x256 .f32) (mo : Vec F S256x256 .bf16) : FVec F S256x256 .bf16 :=
  truncf .bf16
    (mulf (logistic (extf .f32 mo bitsLt_bf16_f32))
      (mulf
        (mulf h (broadcastTo S256x256
          (rsqrt (addf (divf (shapeCast S256x1 (multiReduction .add [1] S256 (mulf h h) 0x00000000#32
              reduces_S256x256_S256 (.inl rfl) rfl) shapeCasts_S256_S256x1)
            (broadcast S256x1 (Scalar.ofBits .f32 0x43800000#32))) (broadcast S256x1 (Scalar.ofBits .f32 0x358637BD#32))))
          broadcasts_S256x1_S256x256))
        (broadcastTo S256x256 ng broadcasts_S1x256_S256x256)))
    bitsLt_bf16_f32

/-- The logarithmic weights with which a chunk's rows enter the state. -/
def hLogW (lc bc : Vec F S256x1 .f32) (gt : Vec F S1x1 .f32) : FVec F S256x1 .f32 :=
  addf (subf (broadcastTo S256x1 gt broadcasts_S1x1_S256x1) bc) lc

/-- The stabiliser handed on. -/
def hNew (lc bc : Vec F S256x1 .f32) (gt mp : Vec F S1x1 .f32) : FVec F S1x1 .f32 :=
  maximumf (addf gt mp) (shapeCast S1x1 (multiReduction .maximumf [0] S1 (hLogW lc bc gt) 0xFF800000#32
    reduces_S256x1_S1 (.inl rfl) rfl) shapeCasts_S1_S1x1)

/-- The stabiliser handed on, stored over a whole tile. -/
def hTile (mn : Vec F S1x1 .f32) : FVec F S1x8x128 .f32 :=
  shapeCast S1x8x128 (broadcastTo S8x128 mn broadcasts_S1x1_S8x128) shapeCasts_S8x128_S1x8x128

/-- The state handed on. -/
def hState (kf : Vec F S256x128 .f32) (ve : Vec F S256x384 .bf16) (lc bc : Vec F S256x1 .f32) (gt mp : Vec F S1x1 .f32)
    (C : Vec F S1x128x384 .f32) : FVec F S1x128x384 .f32 :=
  shapeCast S1x128x384
    (addf
      (mulf (broadcastTo S128x384 (exp (subf (addf gt mp) (hNew lc bc gt mp))) broadcasts_S1x1_S128x384)
        (shapeCast S128x384 C shapeCasts_S1x128x384_S128x384))
      (matmul dot_S256x128_S256x384_S128x384_0_0_1_1_n_n none
        (truncf .bf16 (mulf kf (broadcastTo S256x128
          (exp (subf (hLogW lc bc gt) (broadcastTo S256x1 (hNew lc bc gt mp) broadcasts_S1x1_S256x1)))
          broadcasts_S256x1_S256x128)) bitsLt_bf16_f32) ve (constant S128x384 .f32 0x00000000#32)))
    shapeCasts_S128x384_S1x128x384

/-- The same three for the meta rows, sixteen of them. -/
def mLogW (lc bc : Vec F S16x1 .f32) (gt : Vec F S1x1 .f32) : FVec F S16x1 .f32 :=
  addf (subf (broadcastTo S16x1 gt broadcasts_S1x1_S16x1) bc) lc

def mNew (lc bc : Vec F S16x1 .f32) (gt mp : Vec F S1x1 .f32) : FVec F S1x1 .f32 :=
  maximumf (addf gt mp) (shapeCast S1x1 (multiReduction .maximumf [0] S1 (mLogW lc bc gt) 0xFF800000#32
    reduces_S16x1_S1 (.inl rfl) rfl) shapeCasts_S1_S1x1)

def mState (kf : Vec F S16x128 .f32) (ve : Vec F S16x384 .bf16) (lc bc : Vec F S16x1 .f32) (gt mp : Vec F S1x1 .f32)
    (C : Vec F S1x128x384 .f32) : FVec F S1x128x384 .f32 :=
  shapeCast S1x128x384
    (addf
      (mulf (broadcastTo S128x384 (exp (subf (addf gt mp) (mNew lc bc gt mp))) broadcasts_S1x1_S128x384)
        (shapeCast S128x384 C shapeCasts_S1x128x384_S128x384))
      (matmul dot_S16x128_S16x384_S128x384_0_0_1_1_n_n none
        (truncf .bf16 (mulf kf (broadcastTo S16x128
          (exp (subf (mLogW lc bc gt) (broadcastTo S16x1 (mNew lc bc gt mp) broadcasts_S1x1_S16x1)))
          broadcasts_S16x1_S16x128)) bitsLt_bf16_f32) ve (constant S128x384 .f32 0x00000000#32)))
    shapeCasts_S128x384_S1x128x384

end Cert.Mix

end
-- ==== Proof.Mix.HeadVal.lean ====
/- The values of one head's part of a chunk over the extended reals: the closed forms of the recurrence. -/
module

public import proofs.«01_k».proof.Proof.Mix.Head
public import Idealize.ShloMosaic.Lib.WordCmp

@[expose] public section

set_option maxRecDepth 16384

noncomputable section

namespace Cert.Mix

open Idealize.ShloMosaic Idealize.ShloMosaic.TcCoe Idealize.SL.Sem
open Cert.KernelIdeal Cert.KernelIdeal.Gen

/-- The word of negative infinity. -/
theorem bot_word : Ideal.ofBits FTy.f32 0xFF800000#32 = ⊥ := by
  simp [Ideal.ofBits, Ideal.ieee]

theorem select_sge (i j : Fin 256) (x y : EReal) :
    Scalar.select (IntOp.cmpi CmpIPredicate.sge (BitVec.ofNat 32 (i : ℕ)) (BitVec.ofNat 32 (j : ℕ))) x y
      = if (j : ℕ) ≤ i then x else y := by
  simp (disch := word_cmp_side) only [hlo_ix]

section
variable {lf : ℕ → ℝ} {li : ℕ → EReal} {a : ℕ}
  {q k : Fin 128 → ℕ → ℝ} {v : ℕ → ℕ → ℝ}
  {qf kf : FVec Ideal S256x128 .f32} {ve : FVec Ideal S256x384 .bf16} {bc lc : FVec Ideal S256x1 .f32}
  {lr br : FVec Ideal S1x256 .f32} {mp gt : FVec Ideal S1x1 .f32} {C : FVec Ideal S1x128x384 .f32}

/-- The running sum of the forget gates within a chunk. -/
def bs (lf : ℕ → ℝ) (a : ℕ) (i : ℕ) : ℝ := S lf (a + i + 1) - S lf a

theorem hLog_val (hbc : ∀ i : Fin 256, bc (ix2 i 0) = (bs lf a i : EReal)) (hlr : ∀ j : Fin 256, lr (ix2 0 j) = li (a + j))
    (hbr : ∀ j : Fin 256, br (ix2 0 j) = (bs lf a j : EReal)) (i j : Fin 256) :
    hLog (F := Ideal) bc lr br (ix2 i j) = if (j : ℕ) ≤ i then ((bs lf a i : EReal) - bs lf a j) + li (a + j) else ⊥ := by
  pointwise [hLog, k0_pay135, hbc, hlr, hbr]
  have h := select_sge i j ((bs lf a i : EReal) - bs lf a j + li (a + j)) ⊥
  rw [bot_word]; exact h

theorem hRow_val (hli : ∀ j, li j ≠ ⊤) (hbc : ∀ i : Fin 256, bc (ix2 i 0) = (bs lf a i : EReal)) (hlr : ∀ j : Fin 256, lr (ix2 0 j) = li (a + j))
    (hbr : ∀ j : Fin 256, br (ix2 0 j) = (bs lf a j : EReal)) (hmp : mp (ix2 0 0) = (MX lf li a : EReal)) (i : Fin 256) :
    hRow (F := Ideal) bc lr br mp (ix2 i 0) = (MX lf li (a + i + 1) : EReal) := by
  pointwise [hRow, hInter, hbc, hmp, hLog_val hbc hlr hbr]
  rw [bot_word]
  exact row_max hli (b := fun i : Fin 256 => bs lf a i) (fun _ => rfl) i

theorem hNd_val (hli : ∀ j, li j ≠ ⊤) (hqf : ∀ (i : Fin 256) (d : Fin 128), qf (ix2 i d) = (q d (a + i) : EReal))
    (hkf : ∀ (i : Fin 256) (d : Fin 128), kf (ix2 i d) = (k d (a + i) : EReal))
    (hve : ∀ (i : Fin 256) (e : Fin 384), ve (ix2 i e) = (v e (a + i) : EReal))
    (hbc : ∀ i : Fin 256, bc (ix2 i 0) = (bs lf a i : EReal)) (hlr : ∀ j : Fin 256, lr (ix2 0 j) = li (a + j))
    (hbr : ∀ j : Fin 256, br (ix2 0 j) = (bs lf a j : EReal)) (hmp : mp (ix2 0 0) = (MX lf li a : EReal))
    (hC : ∀ (d : Fin 128) (e : Fin 384), C (ix3 0 d e) = (Cst lf li (k d) (v e) a : EReal)) (i : Fin 256) (e : Fin 384) :
    hNd (F := Ideal) qf kf ve bc lr br mp C (ix2 i e) = ((∑ d : Fin 128, q d (a + i) * Cst lf li (k d) (v e) (a + i + 1) : ℝ) : EReal) := by
  pointwise [hNd, hSd, hInter, hqf, hkf, hve, hbc, hmp, hC, hLog_val hbc hlr hbr, hRow_val hli hbc hlr hbr hmp]
  exact row_read hli (b := fun i : Fin 256 => bs lf a i) (fun _ => rfl) (fun d => q d (a + i)) k (v e) i

theorem hLogW_val (hbc : ∀ i : Fin 256, bc (ix2 i 0) = (bs lf a i : EReal)) (hlc : ∀ j : Fin 256, lc (ix2 j 0) = li (a + j))
    (hgt : gt (ix2 0 0) = (bs lf a 255 : EReal)) (j : Fin 256) :
    hLogW (F := Ideal) lc bc gt (ix2 j 0) = ((bs lf a 255 : EReal) - bs lf a j) + li (a + j) := by
  pointwise [hLogW, hbc, hlc, hgt]

theorem hNew_val (hli : ∀ j, li j ≠ ⊤) (hbc : ∀ i : Fin 256, bc (ix2 i 0) = (bs lf a i : EReal)) (hlc : ∀ j : Fin 256, lc (ix2 j 0) = li (a + j))
    (hgt : gt (ix2 0 0) = (bs lf a 255 : EReal)) (hmp : mp (ix2 0 0) = (MX lf li a : EReal)) :
    hNew (F := Ideal) lc bc gt mp (ix2 0 0) = (MX lf li (a + 256) : EReal) := by
  pointwise [hNew, hmp, hgt, hLogW_val hbc hlc hgt]
  rw [bot_word]
  exact end_max hli (b := fun i : Fin 256 => bs lf a i) (fun _ => rfl) rfl

theorem hTile_val {mn : FVec Ideal S1x1 .f32} (r : Fin 8) (l : Fin 128) : hTile (F := Ideal) mn (ix3 0 r l) = mn (ix2 0 0) := by
  pointwise [hTile]

theorem hState_val (hli : ∀ j, li j ≠ ⊤) (hkf : ∀ (i : Fin 256) (d : Fin 128), kf (ix2 i d) = (k d (a + i) : EReal))
    (hve : ∀ (i : Fin 256) (e : Fin 384), ve (ix2 i e) = (v e (a + i) : EReal))
    (hbc : ∀ i : Fin 256, bc (ix2 i 0) = (bs lf a i : EReal)) (hlc : ∀ j : Fin 256, lc (ix2 j 0) = li (a + j))
    (hgt : gt (ix2 0 0) = (bs lf a 255 : EReal)) (hmp : mp (ix2 0 0) = (MX lf li a : EReal))
    (hC : ∀ (d : Fin 128) (e : Fin 384), C (ix3 0 d e) = (Cst lf li (k d) (v e) a : EReal)) (d : Fin 128) (e : Fin 384) :
    hState (F := Ideal) kf ve lc bc gt mp C (ix3 0 d e) = (Cst lf li (k d) (v e) (a + 256) : EReal) := by
  pointwise [hState, hkf, hve, hmp, hgt, hC, hLogW_val hbc hlc hgt, hNew_val hli hbc hlc hgt hmp]
  exact end_state hli (b := fun i : Fin 256 => bs lf a i) (fun _ => rfl) rfl (k d) (v e)

end

section
variable {lf : ℕ → ℝ} {li : ℕ → EReal} {a : ℕ}
  {k : Fin 128 → ℕ → ℝ} {v : ℕ → ℕ → ℝ}
  {kf : FVec Ideal S16x128 .f32} {ve : FVec Ideal S16x384 .bf16} {bc lc : FVec Ideal S16x1 .f32}
  {mp gt : FVec Ideal S1x1 .f32} {C : FVec Ideal S1x128x384 .f32}

theorem mLogW_val (hbc : ∀ i : Fin 16, bc (ix2 i 0) = (bs lf a i : EReal)) (hlc : ∀ j : Fin 16, lc (ix2 j 0) = li (a + j))
    (hgt : gt (ix2 0 0) = (bs lf a 15 : EReal)) (j : Fin 16) :
    mLogW (F := Ideal) lc bc gt (ix2 j 0) = ((bs lf a 15 : EReal) - bs lf a j) + li (a + j) := by
  pointwise [mLogW, hbc, hlc, hgt]

theorem mNew_val (hli : ∀ j, li j ≠ ⊤) (hbc : ∀ i : Fin 16, bc (ix2 i 0) = (bs lf a i : EReal)) (hlc : ∀ j : Fin 16, lc (ix2 j 0) = li (a + j))
    (hgt : gt (ix2 0 0) = (bs lf a 15 : EReal)) (hmp : mp (ix2 0 0) = (MX lf li a : EReal)) :
    mNew (F := Ideal) lc bc gt mp (ix2 0 0) = (MX lf li (a + 16) : EReal) := by
  pointwise [mNew, hmp, hgt, mLogW_val hbc hlc hgt]
  rw [bot_word]
  exact end_max hli (b := fun i : Fin 16 => bs lf a i) (fun _ => rfl) rfl

theorem mState_val (hli : ∀ j, li j ≠ ⊤) (hkf : ∀ (i : Fin 16) (d : Fin 128), kf (ix2 i d) = (k d (a + i) : EReal))
    (hve : ∀ (i : Fin 16) (e : Fin 384), ve (ix2 i e) = (v e (a + i) : EReal))
    (hbc : ∀ i : Fin 16, bc (ix2 i 0) = (bs lf a i : EReal)) (hlc : ∀ j : Fin 16, lc (ix2 j 0) = li (a + j))
    (hgt : gt (ix2 0 0) = (bs lf a 15 : EReal)) (hmp : mp (ix2 0 0) = (MX lf li a : EReal))
    (hC : ∀ (d : Fin 128) (e : Fin 384), C (ix3 0 d e) = (Cst lf li (k d) (v e) a : EReal)) (d : Fin 128) (e : Fin 384) :
    mState (F := Ideal) kf ve lc bc gt mp C (ix3 0 d e) = (Cst lf li (k d) (v e) (a + 16) : EReal) := by
  pointwise [mState, hkf, hve, hmp, hgt, hC, mLogW_val hbc hlc hgt, mNew_val hli hbc hlc hgt hmp]
  exact end_state hli (b := fun i : Fin 16 => bs lf a i) (fun _ => rfl) rfl (k d) (v e)

end

end Cert.Mix

end
-- ==== Proof.Mix.Gate.lean ====
/- The pieces each head reads of a chunk: gates summed up within the chunk, their transposes, queries, keys, values. -/
module

public import proofs.«01_k».proof.Proof.Mix.HeadVal
public import proofs.«01_k».proof.Proof.Mix.Seqs

@[expose] public section

set_option maxRecDepth 16384

noncomputable section

namespace Cert.Mix

open Idealize.ShloMosaic Idealize.ShloMosaic.TcCoe Idealize.SL.Sem
open Cert.KernelIdeal Cert.KernelIdeal.Gen

theorem bit_one : FloatOps.sitofp (F := Ideal) FTy.f32 (BitVec.setWidth 32 (1#1)) = (1 : EReal) := by
  change (((BitVec.setWidth 32 (1#1)).toInt : ℝ) : EReal) = 1
  have : (BitVec.setWidth 32 (1#1)).toInt = 1 := by decide
  rw [this]; simp

theorem bit_zero : FloatOps.sitofp (F := Ideal) FTy.f32 (BitVec.setWidth 32 (0#1)) = (0 : EReal) := by
  change (((BitVec.setWidth 32 (0#1)).toInt : ℝ) : EReal) = 0
  have : (BitVec.setWidth 32 (0#1)).toInt = 0 := by decide
  rw [this]; simp

theorem tri_one {T : ℕ} (hT : T ≤ 256) (i r : Fin T) :
    FloatOps.sitofp (F := Ideal) FTy.f32 (BitVec.setWidth 32 (IntOp.cmpi CmpIPredicate.sge (BitVec.ofNat 32 (i : ℕ)) (BitVec.ofNat 32 (r : ℕ))))
      = if (r : ℕ) ≤ i then (1 : EReal) else 0 := by
  have hi := i.2
  have hr := r.2
  by_cases h : (r : ℕ) ≤ i
  · rw [if_pos h, (WordCmp.cmpi_sge_ofNat_eq_one_iff (by omega) (by omega)).2 h, bit_one]
  · rw [if_neg h, (WordCmp.cmpi_sge_ofNat_eq_zero_iff (by omega) (by omega)).2 h, bit_zero]

theorem bcol_raw (x8 : FVec Ideal S256x128 .f32) (i : Fin 256) (l : Fin 128) :
    k0_pay132 (F := Ideal) x8 (ix2 i l) = ∑ r : Fin 256, (if (r : ℕ) ≤ i then (1 : EReal) else 0) * lsg (x8 (ix2 r l)) := by
  pointwise [k0_pay132]
  exact Finset.sum_congr rfl fun r _ => congrArg₂ (· * ·) (tri_one le_rfl i r) rfl

theorem sel_raw (x8 : FVec Ideal S256x128 .f32) (i : Fin 256) (l : Fin 128) :
    k0_pay133 (F := Ideal) x8 (ix2 i l) = if (l : ℕ) < 4 then x8 (ix2 i l) else k0_pay132 (F := Ideal) x8 (ix2 i l) := by
  pointwise [k0_pay133]
  simp (disch := word_cmp_side) only [hlo_ix]

theorem mcol_raw (x10 : FVec Ideal S16x128 .f32) (i : Fin 16) (l : Fin 128) :
    k0_pay14 (F := Ideal) (k0_pay12 x10) k0_pay13 (ix2 i l)
      = ∑ r : Fin 16, (if (r : ℕ) ≤ i then (1 : EReal) else 0) * lsg (x10 (ix2 r l)) := by
  pointwise [k0_pay14, k0_pay12, k0_pay13]
  exact Finset.sum_congr rfl fun r _ => congrArg₂ (· * ·) (tri_one (by norm_num) i r) rfl

end Cert.Mix

end
-- ==== Proof.Mix.Heads.lean ====
/- The four heads of a chunk: every payload that leaves one is a head's function of the pieces it reads, and its value. -/
module

public import proofs.«01_k».proof.Proof.Mix.Gate

@[expose] public section

set_option maxRecDepth 16384

noncomputable section

namespace Cert.Mix

open Idealize.ShloMosaic Idealize.ShloMosaic.TcCoe Idealize.SL.Sem
open Cert.KernelIdeal Cert.KernelIdeal.Gen

/-- The gates a head reads in the chunk of 256 rows from `a` on, and the stabiliser handed to it, against the sequences. -/
structure InG (s : Seqs) (h a : ℕ) (x8 : FVec Ideal S256x128 .f32) (mt : FVec Ideal S1x8x128 .f32) : Prop where
  good : s.Good
  ha : 48 ≤ a
  hh : h < 4
  h8 : ∀ (i : Fin 256) (l : Fin 128), (l : ℕ) < 8 → x8 (ix2 i l) = s.g (a + i) l
  hm : mt (ix3 0 0 0) = (MX (s.lf h) (s.li h) a : EReal)

/-- All a head reads there. -/
structure In (s : Seqs) (h a : ℕ) (X : FVec Ideal S256x1024 .f32) (x8 : FVec Ideal S256x128 .f32) (V : FVec Ideal S256x256 .bf16)
    (mt : FVec Ideal S1x8x128 .f32) (C : FVec Ideal S1x128x384 .f32) : Prop extends InG s h a x8 mt where
  hX : ∀ (i : Fin 256) (c : Fin 1024), X (ix2 i c) = (s.y (a + i) c : EReal)
  hV : ∀ (i : Fin 256) (e : Fin 256), V (ix2 i e) = (s.x (a + i) (1024 + 256 * h + e) : EReal)
  hC : ∀ (d : Fin 128) (e : Fin 384), C (ix3 0 d e) = (Cst (s.lf h) (s.li h) (s.k h d) (s.v h e) a : EReal)

/-- The same for the meta rows. -/
structure InGM (s : Seqs) (h a : ℕ) (x10 : FVec Ideal S16x128 .f32) (mt : FVec Ideal S1x8x128 .f32) : Prop where
  good : s.Good
  ha : 48 ≤ a
  hh : h < 4
  h8 : ∀ (i : Fin 16) (l : Fin 128), (l : ℕ) < 8 → x10 (ix2 i l) = s.g (a + i) l
  hm : mt (ix3 0 0 0) = (MX (s.lf h) (s.li h) a : EReal)

structure InM (s : Seqs) (h a : ℕ) (X : FVec Ideal S16x1024 .f32) (x10 : FVec Ideal S16x128 .f32) (V : FVec Ideal S16x256 .bf16)
    (mt : FVec Ideal S1x8x128 .f32) (C : FVec Ideal S1x128x384 .f32) : Prop extends InGM s h a x10 mt where
  hX : ∀ (i : Fin 16) (c : Fin 1024), X (ix2 i c) = (s.y (a + i) c : EReal)
  hV : ∀ (i : Fin 16) (e : Fin 256), V (ix2 i e) = (s.x (a + i) (1024 + 256 * h + e) : EReal)
  hC : ∀ (d : Fin 128) (e : Fin 384), C (ix3 0 d e) = (Cst (s.lf h) (s.li h) (s.k h d) (s.v h e) a : EReal)

theorem hDiv_val (nd : FVec Ideal S256x384 .f32) (mr : FVec Ideal S256x1 .f32) (i e : Fin 256) :
    hDiv (F := Ideal) nd mr (ix2 i e)
      = Ideal.div (nd (ix2 i ⟨e, by omega⟩)) (max (max (nd (ix2 i 256)) (-(nd (ix2 i 256)))) (Ideal.exp (0 - mr (ix2 i 0)))) := by
  pointwise [hDiv]
  rfl

theorem hGate_val (h : FVec Ideal S256x256 .f32) (ng : FVec Ideal S1x256 .f32) (mo : FVec Ideal S256x256 .bf16) (i e : Fin 256) :
    hGate (F := Ideal) h ng mo (ix2 i e)
      = Ideal.logistic (mo (ix2 i e)) * ((h (ix2 i e) * Ideal.rsqrt (Ideal.div (∑ e' : Fin 256, h (ix2 i e') * h (ix2 i e'))
          (Ideal.ofBits FTy.f32 0x43800000#32) + Ideal.ofBits FTy.f32 0x358637BD#32)) * ng (ix2 0 e)) := by
  pointwise [hGate]

/-- A head's output rows. -/
theorem hOut_val {s : Seqs} {h a : ℕ} (hli : ∀ j, s.li h j ≠ ⊤)
    {qf kf : FVec Ideal S256x128 .f32} {ve : FVec Ideal S256x384 .bf16} {bc : FVec Ideal S256x1 .f32}
    {lr br : FVec Ideal S1x256 .f32} {mp : FVec Ideal S1x1 .f32} {C : FVec Ideal S1x128x384 .f32}
    (hqf : ∀ (i : Fin 256) (d : Fin 128), qf (ix2 i d) = (s.q h d (a + i) : EReal))
    (hkf : ∀ (i : Fin 256) (d : Fin 128), kf (ix2 i d) = (s.k h d (a + i) : EReal))
    (hve : ∀ (i : Fin 256) (e : Fin 384), ve (ix2 i e) = (s.v h e (a + i) : EReal))
    (hbc : ∀ i : Fin 256, bc (ix2 i 0) = (bs (s.lf h) a i : EReal)) (hlr : ∀ j : Fin 256, lr (ix2 0 j) = s.li h (a + j))
    (hbr : ∀ j : Fin 256, br (ix2 0 j) = (bs (s.lf h) a j : EReal)) (hmp : mp (ix2 0 0) = (MX (s.lf h) (s.li h) a : EReal))
    (hC : ∀ (d : Fin 128) (e : Fin 384), C (ix3 0 d e) = (Cst (s.lf h) (s.li h) (s.k h d) (s.v h e) a : EReal))
    (ng : FVec Ideal S1x256 .f32) (mo : FVec Ideal S256x256 .bf16) (i e : Fin 256) :
    hGate (F := Ideal) (hDiv (F := Ideal) (hNd (F := Ideal) qf kf ve bc lr br mp C) (hRow (F := Ideal) bc lr br mp)) ng mo (ix2 i e)
      = Ideal.logistic (mo (ix2 i e)) * (s.hn h e (a + i) * ng (ix2 0 e)) := by
  have e1 : ∀ e : Fin 256, hDiv (F := Ideal) (hNd (F := Ideal) qf kf ve bc lr br mp C) (hRow (F := Ideal) bc lr br mp) (ix2 i e) = s.hv h e (a + i) := by
    intro e
    rw [hDiv_val, hNd_val hli hqf hkf hve hbc hlr hbr hmp hC, hNd_val hli hqf hkf hve hbc hlr hbr hmp hC,
      hRow_val hli hbc hlr hbr hmp]
    rfl
  rw [hGate_val]
  simp only [e1]
  rfl

/-! ## Head 0 -/

section
variable {s : Seqs} {a : ℕ} {X : FVec Ideal S256x1024 .f32} {x8 : FVec Ideal S256x128 .f32} {V : FVec Ideal S256x256 .bf16}
  {mt : FVec Ideal S1x8x128 .f32} {C : FVec Ideal S1x128x384 .f32}

theorem q0 (H : In s 0 a X x8 V mt C) (i : Fin 256) (d : Fin 128) :
    (extractStridedSlice S256x128 ![0, 0] X slices_S256x1024_o0_0_S256x128) (ix2 i d) = (s.q 0 d (a + i) : EReal) := by
  have ha := H.ha
  pointwise [H.hX]
  rw [Seqs.q, if_neg (by omega)]
  norm_num

theorem k0 (H : In s 0 a X x8 V mt C) (i : Fin 256) (d : Fin 128) :
    (k0_pay139 (F := Ideal) X) (ix2 i d) = (s.k 0 d (a + i) : EReal) := by
  have ha := H.ha
  pointwise [k0_pay139, H.hX]
  rw [Seqs.k, if_neg (by omega), kap_coe, EReal.coe_mul]

theorem v0 (H : In s 0 a X x8 V mt C) (i : Fin 256) (e : Fin 384) :
    (k0_pay140 (F := Ideal) V) (ix2 i e) = (s.v 0 e (a + i) : EReal) := by
  pointwise [k0_pay140, k0_pay136, H.hV]
  rw [Seqs.v]
  split <;> rfl

theorem lc0 (H : InG s 0 a x8 mt) (i : Fin 256) : (k0_pay141 (F := Ideal) x8) (ix2 i 0) = s.li 0 (a + i) := by
  have ha := H.ha
  pointwise [k0_pay141]
  rw [H.h8 i _ (by norm_num), Seqs.li, if_neg (by omega)]; rfl

theorem bl0 (H : InG s 0 a x8 mt) (i : Fin 256) : (k0_pay132 (F := Ideal) x8) (ix2 i 4) = (bs (s.lf 0) a i : EReal) := by
  have ha := H.ha
  rw [bcol_raw]
  refine (Finset.sum_congr rfl fun r _ => ?_).trans (cum_tri (lf := s.lf 0) (a := a) (b := fun i : Fin 256 => bs (s.lf 0) a i) (fun _ => rfl) i)
  rw [H.h8 r _ (by norm_num), H.good.lf_coe 0 H.hh _ (by omega)]; rfl

theorem bc0 (H : InG s 0 a x8 mt) (i : Fin 256) : (k0_pay142 (F := Ideal) (k0_pay132 (F := Ideal) x8)) (ix2 i 0) = (bs (s.lf 0) a i : EReal) := by
  pointwise [k0_pay142]
  exact bl0 H i

theorem gt0 (H : InG s 0 a x8 mt) : (k0_pay143 (F := Ideal) (k0_pay132 (F := Ideal) x8)) (ix2 0 0) = (bs (s.lf 0) a 255 : EReal) := by
  pointwise [k0_pay143, k0_pay142]
  exact bl0 H 255

theorem mp0 (H : InG s 0 a x8 mt) : (k0_pay144 (F := Ideal) mt) (ix2 0 0) = (MX (s.lf 0) (s.li 0) a : EReal) := by
  pointwise [k0_pay144, k0_pay202]
  exact H.hm

theorem lr0 (H : InG s 0 a x8 mt) (j : Fin 256) : (extractStridedSlice S1x256 ![0, 0] (k0_pay134 (F := Ideal) (k0_pay133 (F := Ideal) x8)) slices_S128x256_o0_0_S1x256) (ix2 0 j) = s.li 0 (a + j) := by
  have ha := H.ha
  pointwise [k0_pay134]
  rw [sel_raw, if_pos (by norm_num), H.h8 j _ (by norm_num), Seqs.li, if_neg (by omega)]; rfl

theorem br0 (H : InG s 0 a x8 mt) (j : Fin 256) : (extractStridedSlice S1x256 ![4, 0] (k0_pay134 (F := Ideal) (k0_pay133 (F := Ideal) x8)) slices_S128x256_o4_0_S1x256) (ix2 0 j) = (bs (s.lf 0) a j : EReal) := by
  pointwise [k0_pay134]
  rw [sel_raw, if_neg (by norm_num)]
  exact bl0 H j

/-- The rows head 0 leaves. -/
theorem hm0 (H : In s 0 a X x8 V mt C) (ng : FVec Ideal S1x256 .f32) (mo : FVec Ideal S256x256 .bf16) (i e : Fin 256) :
    k0_pay150 (F := Ideal) (k0_pay149 (F := Ideal) (k0_pay138 (F := Ideal) X) (k0_pay140 (F := Ideal) V) (k0_pay146 (F := Ideal) (k0_pay132 (F := Ideal) x8) mt) (k0_pay147 (F := Ideal) (k0_pay132 (F := Ideal) x8) (k0_pay133 (F := Ideal) x8) mt) (k0_pay148 (F := Ideal) X (k0_pay132 (F := Ideal) x8) (k0_pay133 (F := Ideal) x8) mt) C ng mo) (ix2 i e)
      = Ideal.logistic (mo (ix2 i e)) * (s.hn 0 e (a + i) * ng (ix2 0 e)) := by
  refine Eq.trans ?_ (hOut_val (s := s) (h := 0) (a := a) (H.good.li_top 0 H.hh) (q0 H) (k0 H) (v0 H) (bc0 H.toInG) (lr0 H.toInG) (br0 H.toInG) (mp0 H.toInG) H.hC ng mo i e)
  refine congrFun (a := ix2 i e) ?_
  simp only [k0_pay150, k0_pay149, k0_pay148, k0_pay147, k0_pay146, k0_pay145, k0_pay138, shapeCast_id]
  rfl

/-- The state head 0 hands on. -/
theorem cs0 (H : In s 0 a X x8 V mt C) (d : Fin 128) (e : Fin 384) :
    k0_pay153 (F := Ideal) (k0_pay139 (F := Ideal) X) (k0_pay140 (F := Ideal) V) (k0_pay141 (F := Ideal) x8) (k0_pay142 (F := Ideal) (k0_pay132 (F := Ideal) x8)) (k0_pay143 (F := Ideal) (k0_pay132 (F := Ideal) x8)) (k0_pay144 (F := Ideal) mt) C (ix3 0 d e)
      = (Cst (s.lf 0) (s.li 0) (s.k 0 d) (s.v 0 e) (a + 256) : EReal) :=
  hState_val (H.good.li_top 0 H.hh) (k0 H) (v0 H) (bc0 H.toInG) (lc0 H.toInG) (gt0 H.toInG) (mp0 H.toInG) H.hC d e

/-- The stabiliser head 0 hands on. -/
theorem ms0 (H : InG s 0 a x8 mt) (r : Fin 8) (l : Fin 128) :
    k0_pay154 (F := Ideal) (k0_pay141 (F := Ideal) x8) (k0_pay142 (F := Ideal) (k0_pay132 (F := Ideal) x8)) (k0_pay143 (F := Ideal) (k0_pay132 (F := Ideal) x8)) (k0_pay144 (F := Ideal) mt) (ix3 0 r l)
      = (MX (s.lf 0) (s.li 0) (a + 256) : EReal) := by
  refine Eq.trans ?_ (hNew_val (H.good.li_top 0 H.hh) (bc0 H) (lc0 H) (gt0 H) (mp0 H))
  pointwise [k0_pay154, k0_pay152, k0_pay151, hNew, hLogW]

end

/-! ## Head 1 -/

section
variable {s : Seqs} {a : ℕ} {X : FVec Ideal S256x1024 .f32} {x8 : FVec Ideal S256x128 .f32} {V : FVec Ideal S256x256 .bf16}
  {mt : FVec Ideal S1x8x128 .f32} {C : FVec Ideal S1x128x384 .f32}

theorem q1 (H : In s 1 a X x8 V mt C) (i : Fin 256) (d : Fin 128) :
    (extractStridedSlice S256x128 ![0, 128] X slices_S256x1024_o0_128_S256x128) (ix2 i d) = (s.q 1 d (a + i) : EReal) := by
  have ha := H.ha
  pointwise [H.hX]
  rw [Seqs.q, if_neg (by omega)]

theorem k1 (H : In s 1 a X x8 V mt C) (i : Fin 256) (d : Fin 128) :
    (k0_pay157 (F := Ideal) X) (ix2 i d) = (s.k 1 d (a + i) : EReal) := by
  have ha := H.ha
  pointwise [k0_pay157, H.hX]
  rw [Seqs.k, if_neg (by omega), kap_coe, EReal.coe_mul]

theorem v1 (H : In s 1 a X x8 V mt C) (i : Fin 256) (e : Fin 384) :
    (k0_pay158 (F := Ideal) (k0_pay136 (F := Ideal)) V) (ix2 i e) = (s.v 1 e (a + i) : EReal) := by
  pointwise [k0_pay158, k0_pay136, H.hV]
  rw [Seqs.v]
  split <;> rfl

theorem lc1 (H : InG s 1 a x8 mt) (i : Fin 256) : (k0_pay159 (F := Ideal) x8) (ix2 i 0) = s.li 1 (a + i) := by
  have ha := H.ha
  pointwise [k0_pay159]
  rw [H.h8 i _ (by norm_num), Seqs.li, if_neg (by omega)]; rfl

theorem bl1 (H : InG s 1 a x8 mt) (i : Fin 256) : (k0_pay132 (F := Ideal) x8) (ix2 i 5) = (bs (s.lf 1) a i : EReal) := by
  have ha := H.ha
  rw [bcol_raw]
  refine (Finset.sum_congr rfl fun r _ => ?_).trans (cum_tri (lf := s.lf 1) (a := a) (b := fun i : Fin 256 => bs (s.lf 1) a i) (fun _ => rfl) i)
  rw [H.h8 r _ (by norm_num), H.good.lf_coe 1 H.hh _ (by omega)]; rfl

theorem bc1 (H : InG s 1 a x8 mt) (i : Fin 256) : (k0_pay160 (F := Ideal) (k0_pay132 (F := Ideal) x8)) (ix2 i 0) = (bs (s.lf 1) a i : EReal) := by
  pointwise [k0_pay160]
  exact bl1 H i

theorem gt1 (H : InG s 1 a x8 mt) : (k0_pay161 (F := Ideal) (k0_pay132 (F := Ideal) x8)) (ix2 0 0) = (bs (s.lf 1) a 255 : EReal) := by
  pointwise [k0_pay161, k0_pay160]
  exact bl1 H 255

theorem mp1 (H : InG s 1 a x8 mt) : (k0_pay162 (F := Ideal) mt) (ix2 0 0) = (MX (s.lf 1) (s.li 1) a : EReal) := by
  pointwise [k0_pay162, k0_pay202]
  exact H.hm

theorem lr1 (H : InG s 1 a x8 mt) (j : Fin 256) : (extractStridedSlice S1x256 ![1, 0] (k0_pay134 (F := Ideal) (k0_pay133 (F := Ideal) x8)) slices_S128x256_o1_0_S1x256) (ix2 0 j) = s.li 1 (a + j) := by
  have ha := H.ha
  pointwise [k0_pay134]
  rw [sel_raw, if_pos (by norm_num), H.h8 j _ (by norm_num), Seqs.li, if_neg (by omega)]; rfl

theorem br1 (H : InG s 1 a x8 mt) (j : Fin 256) : (extractStridedSlice S1x256 ![5, 0] (k0_pay134 (F := Ideal) (k0_pay133 (F := Ideal) x8)) slices_S128x256_o5_0_S1x256) (ix2 0 j) = (bs (s.lf 1) a j : EReal) := by
  pointwise [k0_pay134]
  rw [sel_raw, if_neg (by norm_num)]
  exact bl1 H j

/-- The rows head 1 leaves. -/
theorem hm1 (H : In s 1 a X x8 V mt C) (ng : FVec Ideal S1x256 .f32) (mo : FVec Ideal S256x256 .bf16) (i e : Fin 256) :
    k0_pay167 (F := Ideal) (k0_pay165 (F := Ideal) (k0_pay132 (F := Ideal) x8) (k0_pay134 (F := Ideal) (k0_pay133 (F := Ideal) x8)) k0_pay135 mt) (k0_pay166 (F := Ideal) X (k0_pay132 (F := Ideal) x8) (k0_pay134 (F := Ideal) (k0_pay133 (F := Ideal) x8)) k0_pay135 (k0_pay136 (F := Ideal)) (k0_pay156 (F := Ideal) X) V mt C) ng mo (ix2 i e)
      = Ideal.logistic (mo (ix2 i e)) * (s.hn 1 e (a + i) * ng (ix2 0 e)) := by
  refine Eq.trans ?_ (hOut_val (s := s) (h := 1) (a := a) (H.good.li_top 1 H.hh) (q1 H) (k1 H) (v1 H) (bc1 H.toInG) (lr1 H.toInG) (br1 H.toInG) (mp1 H.toInG) H.hC ng mo i e)
  refine congrFun (a := ix2 i e) ?_
  simp only [k0_pay167, k0_pay166, k0_pay165, k0_pay164, k0_pay163, k0_pay156, shapeCast_id]
  rfl

/-- The state head 1 hands on. -/
theorem cs1 (H : In s 1 a X x8 V mt C) (d : Fin 128) (e : Fin 384) :
    k0_pay172 (F := Ideal) (k0_pay157 (F := Ideal) X) (k0_pay158 (F := Ideal) (k0_pay136 (F := Ideal)) V) (k0_pay169 (F := Ideal) (k0_pay159 (F := Ideal) x8) (k0_pay160 (F := Ideal) (k0_pay132 (F := Ideal) x8)) (k0_pay161 (F := Ideal) (k0_pay132 (F := Ideal) x8)) (k0_pay162 (F := Ideal) mt)) (k0_pay170 (F := Ideal) (k0_pay159 (F := Ideal) x8) (k0_pay160 (F := Ideal) (k0_pay132 (F := Ideal) x8)) (k0_pay161 (F := Ideal) (k0_pay132 (F := Ideal) x8)) (k0_pay162 (F := Ideal) mt)) (k0_pay171 (F := Ideal) (k0_pay161 (F := Ideal) (k0_pay132 (F := Ideal) x8)) (k0_pay162 (F := Ideal) mt)) C (ix3 0 d e)
      = (Cst (s.lf 1) (s.li 1) (s.k 1 d) (s.v 1 e) (a + 256) : EReal) :=
  hState_val (H.good.li_top 1 H.hh) (k1 H) (v1 H) (bc1 H.toInG) (lc1 H.toInG) (gt1 H.toInG) (mp1 H.toInG) H.hC d e

/-- The stabiliser head 1 hands on. -/
theorem ms1 (H : InG s 1 a x8 mt) (r : Fin 8) (l : Fin 128) :
    k0_pay173 (F := Ideal) (k0_pay169 (F := Ideal) (k0_pay159 (F := Ideal) x8) (k0_pay160 (F := Ideal) (k0_pay132 (F := Ideal) x8)) (k0_pay161 (F := Ideal) (k0_pay132 (F := Ideal) x8)) (k0_pay162 (F := Ideal) mt)) (ix3 0 r l)
      = (MX (s.lf 1) (s.li 1) (a + 256) : EReal) := by
  refine Eq.trans ?_ (hNew_val (H.good.li_top 1 H.hh) (bc1 H) (lc1 H) (gt1 H) (mp1 H))
  pointwise [k0_pay173, k0_pay169, k0_pay168, hNew, hLogW]

end

/-! ## Head 2 -/

section
variable {s : Seqs} {a : ℕ} {X : FVec Ideal S256x1024 .f32} {x8 : FVec Ideal S256x128 .f32} {V : FVec Ideal S256x256 .bf16}
  {mt : FVec Ideal S1x8x128 .f32} {C : FVec Ideal S1x128x384 .f32}

theorem q2 (H : In s 2 a X x8 V mt C) (i : Fin 256) (d : Fin 128) :
    (extractStridedSlice S256x128 ![0, 256] X slices_S256x1024_o0_256_S256x128) (ix2 i d) = (s.q 2 d (a + i) : EReal) := by
  have ha := H.ha
  pointwise [H.hX]
  rw [Seqs.q, if_neg (by omega)]

theorem k2 (H : In s 2 a X x8 V mt C) (i : Fin 256) (d : Fin 128) :
    (k0_pay176 (F := Ideal) X) (ix2 i d) = (s.k 2 d (a + i) : EReal) := by
  have ha := H.ha
  pointwise [k0_pay176, H.hX]
  rw [Seqs.k, if_neg (by omega), kap_coe, EReal.coe_mul]

theorem v2 (H : In s 2 a X x8 V mt C) (i : Fin 256) (e : Fin 384) :
    (k0_pay178 (F := Ideal) (k0_pay136 (F := Ideal)) V) (ix2 i e) = (s.v 2 e (a + i) : EReal) := by
  pointwise [k0_pay178, k0_pay136, H.hV]
  rw [Seqs.v]
  split <;> rfl

theorem lc2 (H : InG s 2 a x8 mt) (i : Fin 256) : (k0_pay179 (F := Ideal) x8) (ix2 i 0) = s.li 2 (a + i) := by
  have ha := H.ha
  pointwise [k0_pay179]
  rw [H.h8 i _ (by norm_num), Seqs.li, if_neg (by omega)]; rfl

theorem bl2 (H : InG s 2 a x8 mt) (i : Fin 256) : (k0_pay132 (F := Ideal) x8) (ix2 i 6) = (bs (s.lf 2) a i : EReal) := by
  have ha := H.ha
  rw [bcol_raw]
  refine (Finset.sum_congr rfl fun r _ => ?_).trans (cum_tri (lf := s.lf 2) (a := a) (b := fun i : Fin 256 => bs (s.lf 2) a i) (fun _ => rfl) i)
  rw [H.h8 r _ (by norm_num), H.good.lf_coe 2 H.hh _ (by omega)]; rfl

theorem bc2 (H : InG s 2 a x8 mt) (i : Fin 256) : (k0_pay180 (F := Ideal) (k0_pay132 (F := Ideal) x8)) (ix2 i 0) = (bs (s.lf 2) a i : EReal) := by
  pointwise [k0_pay180]
  exact bl2 H i

theorem gt2 (H : InG s 2 a x8 mt) : (k0_pay183 (F := Ideal) (k0_pay132 (F := Ideal) x8)) (ix2 0 0) = (bs (s.lf 2) a 255 : EReal) := by
  pointwise [k0_pay183, k0_pay180]
  exact bl2 H 255

theorem mp2 (H : InG s 2 a x8 mt) : (k0_pay184 (F := Ideal) mt) (ix2 0 0) = (MX (s.lf 2) (s.li 2) a : EReal) := by
  pointwise [k0_pay184, k0_pay202]
  exact H.hm

theorem lr2 (H : InG s 2 a x8 mt) (j : Fin 256) : (extractStridedSlice S1x256 ![2, 0] (k0_pay134 (F := Ideal) (k0_pay133 (F := Ideal) x8)) slices_S128x256_o2_0_S1x256) (ix2 0 j) = s.li 2 (a + j) := by
  have ha := H.ha
  pointwise [k0_pay134]
  rw [sel_raw, if_pos (by norm_num), H.h8 j _ (by norm_num), Seqs.li, if_neg (by omega)]; rfl

theorem br2 (H : InG s 2 a x8 mt) (j : Fin 256) : (extractStridedSlice S1x256 ![6, 0] (k0_pay134 (F := Ideal) (k0_pay133 (F := Ideal) x8)) slices_S128x256_o6_0_S1x256) (ix2 0 j) = (bs (s.lf 2) a j : EReal) := by
  pointwise [k0_pay134]
  rw [sel_raw, if_neg (by norm_num)]
  exact bl2 H j

/-- The rows head 2 leaves. -/
theorem hm2 (H : In s 2 a X x8 V mt C) (ng : FVec Ideal S1x256 .f32) (mo : FVec Ideal S256x256 .bf16) (i e : Fin 256) :
    k0_pay187 (F := Ideal) (k0_pay185 (F := Ideal) k0_pay135 (k0_pay175 (F := Ideal) X) (k0_pay177 (F := Ideal) X) (k0_pay178 (F := Ideal) (k0_pay136 (F := Ideal)) V) (k0_pay180 (F := Ideal) (k0_pay132 (F := Ideal) x8)) (k0_pay181 (F := Ideal) (k0_pay134 (F := Ideal) (k0_pay133 (F := Ideal) x8))) (k0_pay182 (F := Ideal) (k0_pay134 (F := Ideal) (k0_pay133 (F := Ideal) x8))) mt C) (k0_pay186 (F := Ideal) k0_pay135 (k0_pay175 (F := Ideal) X) (k0_pay177 (F := Ideal) X) (k0_pay178 (F := Ideal) (k0_pay136 (F := Ideal)) V) (k0_pay180 (F := Ideal) (k0_pay132 (F := Ideal) x8)) (k0_pay181 (F := Ideal) (k0_pay134 (F := Ideal) (k0_pay133 (F := Ideal) x8))) (k0_pay182 (F := Ideal) (k0_pay134 (F := Ideal) (k0_pay133 (F := Ideal) x8))) mt C) ng mo (ix2 i e)
      = Ideal.logistic (mo (ix2 i e)) * (s.hn 2 e (a + i) * ng (ix2 0 e)) := by
  refine Eq.trans ?_ (hOut_val (s := s) (h := 2) (a := a) (H.good.li_top 2 H.hh) (q2 H) (k2 H) (v2 H) (bc2 H.toInG) (lr2 H.toInG) (br2 H.toInG) (mp2 H.toInG) H.hC ng mo i e)
  refine congrFun (a := ix2 i e) ?_
  simp only [k0_pay187, k0_pay186, k0_pay185, k0_pay181, k0_pay182, k0_pay175, k0_pay177, shapeCast_id]
  rfl

/-- The state head 2 hands on. -/
theorem cs2 (H : In s 2 a X x8 V mt C) (d : Fin 128) (e : Fin 384) :
    k0_pay190 (F := Ideal) (k0_pay176 (F := Ideal) X) (k0_pay178 (F := Ideal) (k0_pay136 (F := Ideal)) V) (k0_pay179 (F := Ideal) x8) (k0_pay180 (F := Ideal) (k0_pay132 (F := Ideal) x8)) (k0_pay183 (F := Ideal) (k0_pay132 (F := Ideal) x8)) (k0_pay184 (F := Ideal) mt) C (ix3 0 d e)
      = (Cst (s.lf 2) (s.li 2) (s.k 2 d) (s.v 2 e) (a + 256) : EReal) :=
  hState_val (H.good.li_top 2 H.hh) (k2 H) (v2 H) (bc2 H.toInG) (lc2 H.toInG) (gt2 H.toInG) (mp2 H.toInG) H.hC d e

/-- The stabiliser head 2 hands on. -/
theorem ms2 (H : InG s 2 a x8 mt) (r : Fin 8) (l : Fin 128) :
    k0_pay191 (F := Ideal) (k0_pay189 (F := Ideal) (k0_pay179 (F := Ideal) x8) (k0_pay180 (F := Ideal) (k0_pay132 (F := Ideal) x8)) (k0_pay183 (F := Ideal) (k0_pay132 (F := Ideal) x8)) (k0_pay184 (F := Ideal) mt)) (ix3 0 r l)
      = (MX (s.lf 2) (s.li 2) (a + 256) : EReal) := by
  refine Eq.trans ?_ (hNew_val (H.good.li_top 2 H.hh) (bc2 H) (lc2 H) (gt2 H) (mp2 H))
  pointwise [k0_pay191, k0_pay189, k0_pay188, hNew, hLogW]

end

/-! ## Head 3 -/

section
variable {s : Seqs} {a : ℕ} {X : FVec Ideal S256x1024 .f32} {x8 : FVec Ideal S256x128 .f32} {V : FVec Ideal S256x256 .bf16}
  {mt : FVec Ideal S1x8x128 .f32} {C : FVec Ideal S1x128x384 .f32}

theorem q3 (H : In s 3 a X x8 V mt C) (i : Fin 256) (d : Fin 128) :
    (extractStridedSlice S256x128 ![0, 384] X slices_S256x1024_o0_384_S256x128) (ix2 i d) = (s.q 3 d (a + i) : EReal) := by
  have ha := H.ha
  pointwise [H.hX]
  rw [Seqs.q, if_neg (by omega)]

theorem k3 (H : In s 3 a X x8 V mt C) (i : Fin 256) (d : Fin 128) :
    (k0_pay194 (F := Ideal) X) (ix2 i d) = (s.k 3 d (a + i) : EReal) := by
  have ha := H.ha
  pointwise [k0_pay194, H.hX]
  rw [Seqs.k, if_neg (by omega), kap_coe, EReal.coe_mul]

theorem v3 (H : In s 3 a X x8 V mt C) (i : Fin 256) (e : Fin 384) :
    (k0_pay196 (F := Ideal) (k0_pay136 (F := Ideal)) V) (ix2 i e) = (s.v 3 e (a + i) : EReal) := by
  pointwise [k0_pay196, k0_pay136, H.hV]
  rw [Seqs.v]
  split <;> rfl

theorem lc3 (H : InG s 3 a x8 mt) (i : Fin 256) : (k0_pay197 (F := Ideal) x8) (ix2 i 0) = s.li 3 (a + i) := by
  have ha := H.ha
  pointwise [k0_pay197]
  rw [H.h8 i _ (by norm_num), Seqs.li, if_neg (by omega)]; rfl

theorem bl3 (H : InG s 3 a x8 mt) (i : Fin 256) : (k0_pay132 (F := Ideal) x8) (ix2 i 7) = (bs (s.lf 3) a i : EReal) := by
  have ha := H.ha
  rw [bcol_raw]
  refine (Finset.sum_congr rfl fun r _ => ?_).trans (cum_tri (lf := s.lf 3) (a := a) (b := fun i : Fin 256 => bs (s.lf 3) a i) (fun _ => rfl) i)
  rw [H.h8 r _ (by norm_num), H.good.lf_coe 3 H.hh _ (by omega)]; rfl

theorem bc3 (H : InG s 3 a x8 mt) (i : Fin 256) : (k0_pay198 (F := Ideal) (k0_pay132 (F := Ideal) x8)) (ix2 i 0) = (bs (s.lf 3) a i : EReal) := by
  pointwise [k0_pay198]
  exact bl3 H i

theorem gt3 (H : InG s 3 a x8 mt) : (k0_pay201 (F := Ideal) (k0_pay132 (F := Ideal) x8)) (ix2 0 0) = (bs (s.lf 3) a 255 : EReal) := by
  pointwise [k0_pay201, k0_pay198]
  exact bl3 H 255

theorem mp3 (H : InG s 3 a x8 mt) : (k0_pay203 (F := Ideal) (k0_pay202 (F := Ideal) mt)) (ix2 0 0) = (MX (s.lf 3) (s.li 3) a : EReal) := by
  pointwise [k0_pay203, k0_pay202]
  exact H.hm

theorem lr3 (H : InG s 3 a x8 mt) (j : Fin 256) : (extractStridedSlice S1x256 ![3, 0] (k0_pay134 (F := Ideal) (k0_pay133 (F := Ideal) x8)) slices_S128x256_o3_0_S1x256) (ix2 0 j) = s.li 3 (a + j) := by
  have ha := H.ha
  pointwise [k0_pay134]
  rw [sel_raw, if_pos (by norm_num), H.h8 j _ (by norm_num), Seqs.li, if_neg (by omega)]; rfl

theorem br3 (H : InG s 3 a x8 mt) (j : Fin 256) : (extractStridedSlice S1x256 ![7, 0] (k0_pay134 (F := Ideal) (k0_pay133 (F := Ideal) x8)) slices_S128x256_o7_0_S1x256) (ix2 0 j) = (bs (s.lf 3) a j : EReal) := by
  pointwise [k0_pay134]
  rw [sel_raw, if_neg (by norm_num)]
  exact bl3 H j

/-- The rows head 3 leaves. -/
theorem hm3 (H : In s 3 a X x8 V mt C) (ng : FVec Ideal S1x256 .f32) (mo : FVec Ideal S256x256 .bf16) (i e : Fin 256) :
    k0_pay205 (F := Ideal) (k0_pay204 (F := Ideal) k0_pay135 (k0_pay193 (F := Ideal) X) (k0_pay195 (F := Ideal) X) (k0_pay196 (F := Ideal) (k0_pay136 (F := Ideal)) V) (k0_pay198 (F := Ideal) (k0_pay132 (F := Ideal) x8)) (k0_pay199 (F := Ideal) (k0_pay134 (F := Ideal) (k0_pay133 (F := Ideal) x8))) (k0_pay200 (F := Ideal) (k0_pay134 (F := Ideal) (k0_pay133 (F := Ideal) x8))) (k0_pay202 (F := Ideal) mt) C) ng mo (ix2 i e)
      = Ideal.logistic (mo (ix2 i e)) * (s.hn 3 e (a + i) * ng (ix2 0 e)) := by
  refine Eq.trans ?_ (hOut_val (s := s) (h := 3) (a := a) (H.good.li_top 3 H.hh) (q3 H) (k3 H) (v3 H) (bc3 H.toInG) (lr3 H.toInG) (br3 H.toInG) (mp3 H.toInG) H.hC ng mo i e)
  refine congrFun (a := ix2 i e) ?_
  simp only [k0_pay205, k0_pay204, k0_pay199, k0_pay200, k0_pay193, k0_pay195, shapeCast_id]
  rfl

/-- The state head 3 hands on. -/
theorem cs3 (H : In s 3 a X x8 V mt C) (d : Fin 128) (e : Fin 384) :
    k0_pay208 (F := Ideal) (k0_pay194 (F := Ideal) X) (k0_pay196 (F := Ideal) (k0_pay136 (F := Ideal)) V) (k0_pay197 (F := Ideal) x8) (k0_pay198 (F := Ideal) (k0_pay132 (F := Ideal) x8)) (k0_pay201 (F := Ideal) (k0_pay132 (F := Ideal) x8)) (k0_pay203 (F := Ideal) (k0_pay202 (F := Ideal) mt)) C (ix3 0 d e)
      = (Cst (s.lf 3) (s.li 3) (s.k 3 d) (s.v 3 e) (a + 256) : EReal) :=
  hState_val (H.good.li_top 3 H.hh) (k3 H) (v3 H) (bc3 H.toInG) (lc3 H.toInG) (gt3 H.toInG) (mp3 H.toInG) H.hC d e

/-- The stabiliser head 3 hands on. -/
theorem ms3 (H : InG s 3 a x8 mt) (r : Fin 8) (l : Fin 128) :
    k0_pay3 (F := Ideal) (k0_pay209 (F := Ideal) (k0_pay197 (F := Ideal) x8) (k0_pay198 (F := Ideal) (k0_pay132 (F := Ideal) x8)) (k0_pay201 (F := Ideal) (k0_pay132 (F := Ideal) x8)) (k0_pay203 (F := Ideal) (k0_pay202 (F := Ideal) mt))) (ix3 0 r l)
      = (MX (s.lf 3) (s.li 3) (a + 256) : EReal) := by
  refine Eq.trans ?_ (hNew_val (H.good.li_top 3 H.hh) (bc3 H) (lc3 H) (gt3 H) (mp3 H))
  pointwise [k0_pay3, k0_pay209, k0_pay207, k0_pay206, hNew, hLogW]

end

end Cert.Mix

end
-- ==== Proof.Mix.HeadsMeta.lean ====
/- The four heads of the meta rows: the state they hand to the first chunk. -/
module

public import proofs.«01_k».proof.Proof.Mix.Heads

@[expose] public section

set_option maxRecDepth 16384

noncomputable section

namespace Cert.Mix

open Idealize.ShloMosaic Idealize.ShloMosaic.TcCoe Idealize.SL.Sem
open Cert.KernelIdeal Cert.KernelIdeal.Gen

/-! ## Head 0 -/

section
variable {s : Seqs} {a : ℕ} {X : FVec Ideal S16x1024 .f32} {x10 : FVec Ideal S16x128 .f32} {V : FVec Ideal S16x256 .bf16}
  {mt : FVec Ideal S1x8x128 .f32} {C : FVec Ideal S1x128x384 .f32}

theorem mk0 (H : InM s 0 a X x10 V mt C) (i : Fin 16) (d : Fin 128) :
    (mulf (extractStridedSlice S16x128 ![0, 512] X slices_S16x1024_o0_512_S16x128) (broadcast S16x128 (Scalar.ofBits .f32 0x3DB504F3#32)) : FVec Ideal S16x128 .f32) (ix2 i d) = (s.k 0 d (a + i) : EReal) := by
  have ha := H.ha
  pointwise [H.hX]
  rw [Seqs.k, if_neg (by omega), kap_coe, EReal.coe_mul]

theorem mv0 (H : InM s 0 a X x10 V mt C) (i : Fin 16) (e : Fin 384) :
    (concatenate S16x384 1 [⟨S16x256, V⟩, ⟨S16x128, k0_pay15 (F := Ideal)⟩] concatenates_S16x256_S16x128_S16x384_d1 : FVec Ideal S16x384 .bf16) (ix2 i e) = (s.v 0 e (a + i) : EReal) := by
  pointwise [k0_pay15, H.hV]
  rw [Seqs.v]
  split <;> rfl

theorem mlc0 (H : InGM s 0 a x10 mt) (i : Fin 16) : (extractStridedSlice S16x1 ![0, 0] x10 slices_S16x128_o0_0_S16x1 : FVec Ideal S16x1 .f32) (ix2 i 0) = s.li 0 (a + i) := by
  have ha := H.ha
  pointwise
  rw [H.h8 i _ (by norm_num), Seqs.li, if_neg (by omega)]; rfl

theorem mbc0 (H : InGM s 0 a x10 mt) (i : Fin 16) : (extractStridedSlice S16x1 ![0, 4] (k0_pay14 (F := Ideal) (k0_pay12 (F := Ideal) x10) k0_pay13) slices_S16x128_o0_4_S16x1 : FVec Ideal S16x1 .f32) (ix2 i 0) = (bs (s.lf 0) a i : EReal) := by
  have ha := H.ha
  pointwise
  rw [mcol_raw]
  refine (Finset.sum_congr rfl fun r _ => ?_).trans (cum_tri (lf := s.lf 0) (a := a) (b := fun i : Fin 16 => bs (s.lf 0) a i) (fun _ => rfl) i)
  rw [H.h8 r _ (by norm_num), H.good.lf_coe 0 H.hh _ (by omega)]; rfl

theorem mgt0 (H : InGM s 0 a x10 mt) : (extractStridedSlice S1x1 ![15, 0] (extractStridedSlice S16x1 ![0, 4] (k0_pay14 (F := Ideal) (k0_pay12 (F := Ideal) x10) k0_pay13) slices_S16x128_o0_4_S16x1 : FVec Ideal S16x1 .f32) slices_S16x1_o15_0_S1x1 : FVec Ideal S1x1 .f32) (ix2 0 0) = (bs (s.lf 0) a 15 : EReal) := by
  have e := mbc0 H 15
  pointwise at e ⊢
  exact e

theorem mmp0 (H : InGM s 0 a x10 mt) : (k0_pay18 (F := Ideal) mt) (ix2 0 0) = (MX (s.lf 0) (s.li 0) a : EReal) := by
  pointwise [k0_pay18]
  exact H.hm

/-- The state head 0 hands on. -/
theorem mcs0 (H : InM s 0 a X x10 V mt C) (d : Fin 128) (e : Fin 384) :
    k0_pay21 (F := Ideal) X x10 (k0_pay12 (F := Ideal) x10) k0_pay13 V mt C (ix3 0 d e)
      = (Cst (s.lf 0) (s.li 0) (s.k 0 d) (s.v 0 e) (a + 16) : EReal) :=
  mState_val (H.good.li_top 0 H.hh) (mk0 H) (mv0 H) (mbc0 H.toInGM) (mlc0 H.toInGM) (mgt0 H.toInGM) (mmp0 H.toInGM) H.hC d e

/-- The stabiliser head 0 hands on. -/
theorem mms0 (H : InGM s 0 a x10 mt) (r : Fin 8) (l : Fin 128) :
    k0_pay22 (F := Ideal) (k0_pay20 (F := Ideal) x10 (k0_pay12 (F := Ideal) x10) k0_pay13 mt) (ix3 0 r l)
      = (MX (s.lf 0) (s.li 0) (a + 16) : EReal) := by
  refine Eq.trans ?_ (mNew_val (H.good.li_top 0 H.hh) (mbc0 H) (mlc0 H) (mgt0 H) (mmp0 H))
  pointwise [k0_pay22]
  rfl

end

/-! ## Head 1 -/

section
variable {s : Seqs} {a : ℕ} {X : FVec Ideal S16x1024 .f32} {x10 : FVec Ideal S16x128 .f32} {V : FVec Ideal S16x256 .bf16}
  {mt : FVec Ideal S1x8x128 .f32} {C : FVec Ideal S1x128x384 .f32}

theorem mk1 (H : InM s 1 a X x10 V mt C) (i : Fin 16) (d : Fin 128) :
    (mulf (extractStridedSlice S16x128 ![0, 640] X slices_S16x1024_o0_640_S16x128) (broadcast S16x128 (Scalar.ofBits .f32 0x3DB504F3#32)) : FVec Ideal S16x128 .f32) (ix2 i d) = (s.k 1 d (a + i) : EReal) := by
  have ha := H.ha
  pointwise [H.hX]
  rw [Seqs.k, if_neg (by omega), kap_coe, EReal.coe_mul]

theorem mv1 (H : InM s 1 a X x10 V mt C) (i : Fin 16) (e : Fin 384) :
    (concatenate S16x384 1 [⟨S16x256, V⟩, ⟨S16x128, k0_pay15 (F := Ideal)⟩] concatenates_S16x256_S16x128_S16x384_d1 : FVec Ideal S16x384 .bf16) (ix2 i e) = (s.v 1 e (a + i) : EReal) := by
  pointwise [k0_pay15, H.hV]
  rw [Seqs.v]
  split <;> rfl

theorem mlc1 (H : InGM s 1 a x10 mt) (i : Fin 16) : (extractStridedSlice S16x1 ![0, 1] x10 slices_S16x128_o0_1_S16x1 : FVec Ideal S16x1 .f32) (ix2 i 0) = s.li 1 (a + i) := by
  have ha := H.ha
  pointwise
  rw [H.h8 i _ (by norm_num), Seqs.li, if_neg (by omega)]; rfl

theorem mbc1 (H : InGM s 1 a x10 mt) (i : Fin 16) : (extractStridedSlice S16x1 ![0, 5] (k0_pay14 (F := Ideal) (k0_pay12 (F := Ideal) x10) k0_pay13) slices_S16x128_o0_5_S16x1 : FVec Ideal S16x1 .f32) (ix2 i 0) = (bs (s.lf 1) a i : EReal) := by
  have ha := H.ha
  pointwise
  rw [mcol_raw]
  refine (Finset.sum_congr rfl fun r _ => ?_).trans (cum_tri (lf := s.lf 1) (a := a) (b := fun i : Fin 16 => bs (s.lf 1) a i) (fun _ => rfl) i)
  rw [H.h8 r _ (by norm_num), H.good.lf_coe 1 H.hh _ (by omega)]; rfl

theorem mgt1 (H : InGM s 1 a x10 mt) : (extractStridedSlice S1x1 ![15, 0] (extractStridedSlice S16x1 ![0, 5] (k0_pay14 (F := Ideal) (k0_pay12 (F := Ideal) x10) k0_pay13) slices_S16x128_o0_5_S16x1 : FVec Ideal S16x1 .f32) slices_S16x1_o15_0_S1x1 : FVec Ideal S1x1 .f32) (ix2 0 0) = (bs (s.lf 1) a 15 : EReal) := by
  have e := mbc1 H 15
  pointwise at e ⊢
  exact e

theorem mmp1 (H : InGM s 1 a x10 mt) : (k0_pay18 (F := Ideal) mt) (ix2 0 0) = (MX (s.lf 1) (s.li 1) a : EReal) := by
  pointwise [k0_pay18]
  exact H.hm

/-- The state head 1 hands on. -/
theorem mcs1 (H : InM s 1 a X x10 V mt C) (d : Fin 128) (e : Fin 384) :
    k0_pay29 (F := Ideal) (k0_pay28 (F := Ideal) X x10 (k0_pay14 (F := Ideal) (k0_pay12 (F := Ideal) x10) k0_pay13) (k0_pay15 (F := Ideal)) V mt C) (ix3 0 d e)
      = (Cst (s.lf 1) (s.li 1) (s.k 1 d) (s.v 1 e) (a + 16) : EReal) :=
  mState_val (H.good.li_top 1 H.hh) (mk1 H) (mv1 H) (mbc1 H.toInGM) (mlc1 H.toInGM) (mgt1 H.toInGM) (mmp1 H.toInGM) H.hC d e

/-- The stabiliser head 1 hands on. -/
theorem mms1 (H : InGM s 1 a x10 mt) (r : Fin 8) (l : Fin 128) :
    k0_pay30 (F := Ideal) (k0_pay27 (F := Ideal) x10 (k0_pay14 (F := Ideal) (k0_pay12 (F := Ideal) x10) k0_pay13) mt) (ix3 0 r l)
      = (MX (s.lf 1) (s.li 1) (a + 16) : EReal) := by
  refine Eq.trans ?_ (mNew_val (H.good.li_top 1 H.hh) (mbc1 H) (mlc1 H) (mgt1 H) (mmp1 H))
  pointwise [k0_pay30]
  rfl

end

/-! ## Head 2 -/

section
variable {s : Seqs} {a : ℕ} {X : FVec Ideal S16x1024 .f32} {x10 : FVec Ideal S16x128 .f32} {V : FVec Ideal S16x256 .bf16}
  {mt : FVec Ideal S1x8x128 .f32} {C : FVec Ideal S1x128x384 .f32}

theorem mk2 (H : InM s 2 a X x10 V mt C) (i : Fin 16) (d : Fin 128) :
    (mulf (extractStridedSlice S16x128 ![0, 768] X slices_S16x1024_o0_768_S16x128) (broadcast S16x128 (Scalar.ofBits .f32 0x3DB504F3#32)) : FVec Ideal S16x128 .f32) (ix2 i d) = (s.k 2 d (a + i) : EReal) := by
  have ha := H.ha
  pointwise [H.hX]
  rw [Seqs.k, if_neg (by omega), kap_coe, EReal.coe_mul]

theorem mv2 (H : InM s 2 a X x10 V mt C) (i : Fin 16) (e : Fin 384) :
    (concatenate S16x384 1 [⟨S16x256, V⟩, ⟨S16x128, k0_pay15 (F := Ideal)⟩] concatenates_S16x256_S16x128_S16x384_d1 : FVec Ideal S16x384 .bf16) (ix2 i e) = (s.v 2 e (a + i) : EReal) := by
  pointwise [k0_pay15, H.hV]
  rw [Seqs.v]
  split <;> rfl

theorem mlc2 (H : InGM s 2 a x10 mt) (i : Fin 16) : (extractStridedSlice S16x1 ![0, 2] x10 slices_S16x128_o0_2_S16x1 : FVec Ideal S16x1 .f32) (ix2 i 0) = s.li 2 (a + i) := by
  have ha := H.ha
  pointwise
  rw [H.h8 i _ (by norm_num), Seqs.li, if_neg (by omega)]; rfl

theorem mbc2 (H : InGM s 2 a x10 mt) (i : Fin 16) : (extractStridedSlice S16x1 ![0, 6] (k0_pay14 (F := Ideal) (k0_pay12 (F := Ideal) x10) k0_pay13) slices_S16x128_o0_6_S16x1 : FVec Ideal S16x1 .f32) (ix2 i 0) = (bs (s.lf 2) a i : EReal) := by
  have ha := H.ha
  pointwise
  rw [mcol_raw]
  refine (Finset.sum_congr rfl fun r _ => ?_).trans (cum_tri (lf := s.lf 2) (a := a) (b := fun i : Fin 16 => bs (s.lf 2) a i) (fun _ => rfl) i)
  rw [H.h8 r _ (by norm_num), H.good.lf_coe 2 H.hh _ (by omega)]; rfl

theorem mgt2 (H : InGM s 2 a x10 mt) : (extractStridedSlice S1x1 ![15, 0] (extractStridedSlice S16x1 ![0, 6] (k0_pay14 (F := Ideal) (k0_pay12 (F := Ideal) x10) k0_pay13) slices_S16x128_o0_6_S16x1 : FVec Ideal S16x1 .f32) slices_S16x1_o15_0_S1x1 : FVec Ideal S1x1 .f32) (ix2 0 0) = (bs (s.lf 2) a 15 : EReal) := by
  have e := mbc2 H 15
  pointwise at e ⊢
  exact e

theorem mmp2 (H : InGM s 2 a x10 mt) : (k0_pay18 (F := Ideal) mt) (ix2 0 0) = (MX (s.lf 2) (s.li 2) a : EReal) := by
  pointwise [k0_pay18]
  exact H.hm

/-- The state head 2 hands on. -/
theorem mcs2 (H : InM s 2 a X x10 V mt C) (d : Fin 128) (e : Fin 384) :
    k0_pay37 (F := Ideal) (k0_pay36 (F := Ideal) X x10 (k0_pay14 (F := Ideal) (k0_pay12 (F := Ideal) x10) k0_pay13) (k0_pay15 (F := Ideal)) V mt C) (ix3 0 d e)
      = (Cst (s.lf 2) (s.li 2) (s.k 2 d) (s.v 2 e) (a + 16) : EReal) :=
  mState_val (H.good.li_top 2 H.hh) (mk2 H) (mv2 H) (mbc2 H.toInGM) (mlc2 H.toInGM) (mgt2 H.toInGM) (mmp2 H.toInGM) H.hC d e

/-- The stabiliser head 2 hands on. -/
theorem mms2 (H : InGM s 2 a x10 mt) (r : Fin 8) (l : Fin 128) :
    k0_pay38 (F := Ideal) (k0_pay35 (F := Ideal) x10 (k0_pay14 (F := Ideal) (k0_pay12 (F := Ideal) x10) k0_pay13) mt) (ix3 0 r l)
      = (MX (s.lf 2) (s.li 2) (a + 16) : EReal) := by
  refine Eq.trans ?_ (mNew_val (H.good.li_top 2 H.hh) (mbc2 H) (mlc2 H) (mgt2 H) (mmp2 H))
  pointwise [k0_pay38]
  rfl

end

/-! ## Head 3 -/

section
variable {s : Seqs} {a : ℕ} {X : FVec Ideal S16x1024 .f32} {x10 : FVec Ideal S16x128 .f32} {V : FVec Ideal S16x256 .bf16}
  {mt : FVec Ideal S1x8x128 .f32} {C : FVec Ideal S1x128x384 .f32}

theorem mk3 (H : InM s 3 a X x10 V mt C) (i : Fin 16) (d : Fin 128) :
    (mulf (extractStridedSlice S16x128 ![0, 896] X slices_S16x1024_o0_896_S16x128) (broadcast S16x128 (Scalar.ofBits .f32 0x3DB504F3#32)) : FVec Ideal S16x128 .f32) (ix2 i d) = (s.k 3 d (a + i) : EReal) := by
  have ha := H.ha
  pointwise [H.hX]
  rw [Seqs.k, if_neg (by omega), kap_coe, EReal.coe_mul]

theorem mv3 (H : InM s 3 a X x10 V mt C) (i : Fin 16) (e : Fin 384) :
    (concatenate S16x384 1 [⟨S16x256, V⟩, ⟨S16x128, k0_pay15 (F := Ideal)⟩] concatenates_S16x256_S16x128_S16x384_d1 : FVec Ideal S16x384 .bf16) (ix2 i e) = (s.v 3 e (a + i) : EReal) := by
  pointwise [k0_pay15, H.hV]
  rw [Seqs.v]
  split <;> rfl

theorem mlc3 (H : InGM s 3 a x10 mt) (i : Fin 16) : (extractStridedSlice S16x1 ![0, 3] x10 slices_S16x128_o0_3_S16x1 : FVec Ideal S16x1 .f32) (ix2 i 0) = s.li 3 (a + i) := by
  have ha := H.ha
  pointwise
  rw [H.h8 i _ (by norm_num), Seqs.li, if_neg (by omega)]; rfl

theorem mbc3 (H : InGM s 3 a x10 mt) (i : Fin 16) : (extractStridedSlice S16x1 ![0, 7] (k0_pay14 (F := Ideal) (k0_pay12 (F := Ideal) x10) k0_pay13) slices_S16x128_o0_7_S16x1 : FVec Ideal S16x1 .f32) (ix2 i 0) = (bs (s.lf 3) a i : EReal) := by
  have ha := H.ha
  pointwise
  rw [mcol_raw]
  refine (Finset.sum_congr rfl fun r _ => ?_).trans (cum_tri (lf := s.lf 3) (a := a) (b := fun i : Fin 16 => bs (s.lf 3) a i) (fun _ => rfl) i)
  rw [H.h8 r _ (by norm_num), H.good.lf_coe 3 H.hh _ (by omega)]; rfl

theorem mgt3 (H : InGM s 3 a x10 mt) : (extractStridedSlice S1x1 ![15, 0] (extractStridedSlice S16x1 ![0, 7] (k0_pay14 (F := Ideal) (k0_pay12 (F := Ideal) x10) k0_pay13) slices_S16x128_o0_7_S16x1 : FVec Ideal S16x1 .f32) slices_S16x1_o15_0_S1x1 : FVec Ideal S1x1 .f32) (ix2 0 0) = (bs (s.lf 3) a 15 : EReal) := by
  have e := mbc3 H 15
  pointwise at e ⊢
  exact e

theorem mmp3 (H : InGM s 3 a x10 mt) : (k0_pay18 (F := Ideal) mt) (ix2 0 0) = (MX (s.lf 3) (s.li 3) a : EReal) := by
  pointwise [k0_pay18]
  exact H.hm

/-- The state head 3 hands on. -/
theorem mcs3 (H : InM s 3 a X x10 V mt C) (d : Fin 128) (e : Fin 384) :
    k0_pay47 (F := Ideal) (k0_pay44 (F := Ideal) X x10 (k0_pay14 (F := Ideal) (k0_pay12 (F := Ideal) x10) k0_pay13) (k0_pay15 (F := Ideal)) V mt) (k0_pay45 (F := Ideal) C) (k0_pay46 (F := Ideal) x10 (k0_pay14 (F := Ideal) (k0_pay12 (F := Ideal) x10) k0_pay13) mt) (ix3 0 d e)
      = (Cst (s.lf 3) (s.li 3) (s.k 3 d) (s.v 3 e) (a + 16) : EReal) :=
  mState_val (H.good.li_top 3 H.hh) (mk3 H) (mv3 H) (mbc3 H.toInGM) (mlc3 H.toInGM) (mgt3 H.toInGM) (mmp3 H.toInGM) H.hC d e

/-- The stabiliser head 3 hands on. -/
theorem mms3 (H : InGM s 3 a x10 mt) (r : Fin 8) (l : Fin 128) :
    k0_pay48 (F := Ideal) (k0_pay43 (F := Ideal) x10 (k0_pay14 (F := Ideal) (k0_pay12 (F := Ideal) x10) k0_pay13) mt) (ix3 0 r l)
      = (MX (s.lf 3) (s.li 3) (a + 16) : EReal) := by
  refine Eq.trans ?_ (mNew_val (H.good.li_top 3 H.hh) (mbc3 H) (mlc3 H) (mgt3 H) (mmp3 H))
  pointwise [k0_pay48]
  rfl

end

end Cert.Mix

end
-- ==== Proof.Mix.HeadsFirst.lean ====
/- The first point's main chunk is compiled to other payloads: they are the later points' payloads. -/
module

public import proofs.«01_k».proof.Proof.Mix.Heads

@[expose] public section

set_option maxRecDepth 16384

noncomputable section

namespace Cert.Mix

open Idealize.ShloMosaic Idealize.ShloMosaic.TcCoe Idealize.SL.Sem
open Cert.KernelIdeal Cert.KernelIdeal.Gen

variable (X : FVec Ideal S256x1024 .f32) (x8 : FVec Ideal S256x128 .f32) (V : FVec Ideal S256x256 .bf16)
  (mt : FVec Ideal S1x8x128 .f32) (C : FVec Ideal S1x128x384 .f32) (ng : FVec Ideal S1x256 .f32) (mo : FVec Ideal S256x256 .bf16)

theorem first_hm0 :
    k0_pay70 (F := Ideal) (k0_pay58 (F := Ideal) X) (k0_pay60 (F := Ideal) V) (k0_pay66 (F := Ideal) (k0_pay53 (F := Ideal) x8) mt) (k0_pay67 (F := Ideal) x8 (k0_pay53 (F := Ideal) x8) k0_pay54 mt) (k0_pay68 (F := Ideal) X x8 (k0_pay53 (F := Ideal) x8) k0_pay54 mt) (k0_pay69 (F := Ideal) C) (constant (F := Ideal) S256x384 .f32 0x00000000#32) ng mo
      = k0_pay150 (F := Ideal) (k0_pay149 (F := Ideal) (k0_pay138 (F := Ideal) X) (k0_pay140 (F := Ideal) V) (k0_pay146 (F := Ideal) (k0_pay132 (F := Ideal) x8) mt) (k0_pay147 (F := Ideal) (k0_pay132 (F := Ideal) x8) (k0_pay133 (F := Ideal) x8) mt) (k0_pay148 (F := Ideal) X (k0_pay132 (F := Ideal) x8) (k0_pay133 (F := Ideal) x8) mt) C ng mo) := rfl

theorem first_cs0 :
    k0_pay74 (F := Ideal) (k0_pay59 (F := Ideal) X) (k0_pay60 (F := Ideal) V) (k0_pay63 (F := Ideal) (k0_pay53 (F := Ideal) x8)) (k0_pay64 (F := Ideal) mt) (k0_pay71 (F := Ideal) (k0_pay61 (F := Ideal) x8) (k0_pay62 (F := Ideal) (k0_pay53 (F := Ideal) x8)) (k0_pay63 (F := Ideal) (k0_pay53 (F := Ideal) x8))) (k0_pay72 (F := Ideal) (k0_pay63 (F := Ideal) (k0_pay53 (F := Ideal) x8)) (k0_pay64 (F := Ideal) mt)) C
      = k0_pay153 (F := Ideal) (k0_pay139 (F := Ideal) X) (k0_pay140 (F := Ideal) V) (k0_pay141 (F := Ideal) x8) (k0_pay142 (F := Ideal) (k0_pay132 (F := Ideal) x8)) (k0_pay143 (F := Ideal) (k0_pay132 (F := Ideal) x8)) (k0_pay144 (F := Ideal) mt) C := rfl

theorem first_ms0 :
    k0_pay75 (F := Ideal) (k0_pay71 (F := Ideal) (k0_pay61 (F := Ideal) x8) (k0_pay62 (F := Ideal) (k0_pay53 (F := Ideal) x8)) (k0_pay63 (F := Ideal) (k0_pay53 (F := Ideal) x8))) (k0_pay72 (F := Ideal) (k0_pay63 (F := Ideal) (k0_pay53 (F := Ideal) x8)) (k0_pay64 (F := Ideal) mt))
      = k0_pay154 (F := Ideal) (k0_pay141 (F := Ideal) x8) (k0_pay142 (F := Ideal) (k0_pay132 (F := Ideal) x8)) (k0_pay143 (F := Ideal) (k0_pay132 (F := Ideal) x8)) (k0_pay144 (F := Ideal) mt) := rfl

theorem first_hm1 :
    k0_pay88 (F := Ideal) (k0_pay86 (F := Ideal) k0_pay56 (k0_pay76 (F := Ideal) X) (k0_pay78 (F := Ideal) X) (k0_pay79 (F := Ideal) (k0_pay57 (F := Ideal)) V) (k0_pay81 (F := Ideal) (k0_pay53 (F := Ideal) x8)) (k0_pay82 (F := Ideal) (k0_pay55 (F := Ideal) x8 (k0_pay53 (F := Ideal) x8) k0_pay54)) (k0_pay83 (F := Ideal) (k0_pay55 (F := Ideal) x8 (k0_pay53 (F := Ideal) x8) k0_pay54)) mt C) (k0_pay87 (F := Ideal) k0_pay56 (k0_pay76 (F := Ideal) X) (k0_pay78 (F := Ideal) X) (k0_pay79 (F := Ideal) (k0_pay57 (F := Ideal)) V) (k0_pay81 (F := Ideal) (k0_pay53 (F := Ideal) x8)) (k0_pay82 (F := Ideal) (k0_pay55 (F := Ideal) x8 (k0_pay53 (F := Ideal) x8) k0_pay54)) (k0_pay83 (F := Ideal) (k0_pay55 (F := Ideal) x8 (k0_pay53 (F := Ideal) x8) k0_pay54)) mt C) ng mo
      = k0_pay167 (F := Ideal) (k0_pay165 (F := Ideal) (k0_pay132 (F := Ideal) x8) (k0_pay134 (F := Ideal) (k0_pay133 (F := Ideal) x8)) k0_pay135 mt) (k0_pay166 (F := Ideal) X (k0_pay132 (F := Ideal) x8) (k0_pay134 (F := Ideal) (k0_pay133 (F := Ideal) x8)) k0_pay135 (k0_pay136 (F := Ideal)) (k0_pay156 (F := Ideal) X) V mt C) ng mo := rfl

theorem first_cs1 :
    k0_pay92 (F := Ideal) (k0_pay91 (F := Ideal) (k0_pay77 (F := Ideal) X) (k0_pay79 (F := Ideal) (k0_pay57 (F := Ideal)) V) (k0_pay80 (F := Ideal) x8) (k0_pay81 (F := Ideal) (k0_pay53 (F := Ideal) x8)) (k0_pay84 (F := Ideal) (k0_pay53 (F := Ideal) x8)) (k0_pay85 (F := Ideal) mt) C)
      = k0_pay172 (F := Ideal) (k0_pay157 (F := Ideal) X) (k0_pay158 (F := Ideal) (k0_pay136 (F := Ideal)) V) (k0_pay169 (F := Ideal) (k0_pay159 (F := Ideal) x8) (k0_pay160 (F := Ideal) (k0_pay132 (F := Ideal) x8)) (k0_pay161 (F := Ideal) (k0_pay132 (F := Ideal) x8)) (k0_pay162 (F := Ideal) mt)) (k0_pay170 (F := Ideal) (k0_pay159 (F := Ideal) x8) (k0_pay160 (F := Ideal) (k0_pay132 (F := Ideal) x8)) (k0_pay161 (F := Ideal) (k0_pay132 (F := Ideal) x8)) (k0_pay162 (F := Ideal) mt)) (k0_pay171 (F := Ideal) (k0_pay161 (F := Ideal) (k0_pay132 (F := Ideal) x8)) (k0_pay162 (F := Ideal) mt)) C := rfl

theorem first_ms1 :
    k0_pay93 (F := Ideal) (k0_pay90 (F := Ideal) (k0_pay80 (F := Ideal) x8) (k0_pay81 (F := Ideal) (k0_pay53 (F := Ideal) x8)) (k0_pay84 (F := Ideal) (k0_pay53 (F := Ideal) x8)) (k0_pay85 (F := Ideal) mt))
      = k0_pay173 (F := Ideal) (k0_pay169 (F := Ideal) (k0_pay159 (F := Ideal) x8) (k0_pay160 (F := Ideal) (k0_pay132 (F := Ideal) x8)) (k0_pay161 (F := Ideal) (k0_pay132 (F := Ideal) x8)) (k0_pay162 (F := Ideal) mt)) := rfl

theorem first_hm2 :
    k0_pay105 (F := Ideal) (k0_pay94 (F := Ideal) X) (k0_pay96 (F := Ideal) (k0_pay57 (F := Ideal)) V) (k0_pay102 (F := Ideal) (k0_pay53 (F := Ideal) x8) mt) (k0_pay103 (F := Ideal) (k0_pay53 (F := Ideal) x8) (k0_pay55 (F := Ideal) x8 (k0_pay53 (F := Ideal) x8) k0_pay54) k0_pay56 mt) (k0_pay104 (F := Ideal) X (k0_pay53 (F := Ideal) x8) (k0_pay55 (F := Ideal) x8 (k0_pay53 (F := Ideal) x8) k0_pay54) k0_pay56 mt) C ng mo
      = k0_pay187 (F := Ideal) (k0_pay185 (F := Ideal) k0_pay135 (k0_pay175 (F := Ideal) X) (k0_pay177 (F := Ideal) X) (k0_pay178 (F := Ideal) (k0_pay136 (F := Ideal)) V) (k0_pay180 (F := Ideal) (k0_pay132 (F := Ideal) x8)) (k0_pay181 (F := Ideal) (k0_pay134 (F := Ideal) (k0_pay133 (F := Ideal) x8))) (k0_pay182 (F := Ideal) (k0_pay134 (F := Ideal) (k0_pay133 (F := Ideal) x8))) mt C) (k0_pay186 (F := Ideal) k0_pay135 (k0_pay175 (F := Ideal) X) (k0_pay177 (F := Ideal) X) (k0_pay178 (F := Ideal) (k0_pay136 (F := Ideal)) V) (k0_pay180 (F := Ideal) (k0_pay132 (F := Ideal) x8)) (k0_pay181 (F := Ideal) (k0_pay134 (F := Ideal) (k0_pay133 (F := Ideal) x8))) (k0_pay182 (F := Ideal) (k0_pay134 (F := Ideal) (k0_pay133 (F := Ideal) x8))) mt C) ng mo := rfl

theorem first_cs2 :
    k0_pay108 (F := Ideal) (k0_pay95 (F := Ideal) X) (k0_pay96 (F := Ideal) (k0_pay57 (F := Ideal)) V) (k0_pay97 (F := Ideal) x8) (k0_pay98 (F := Ideal) (k0_pay53 (F := Ideal) x8)) (k0_pay99 (F := Ideal) (k0_pay53 (F := Ideal) x8)) (k0_pay100 (F := Ideal) mt) C
      = k0_pay190 (F := Ideal) (k0_pay176 (F := Ideal) X) (k0_pay178 (F := Ideal) (k0_pay136 (F := Ideal)) V) (k0_pay179 (F := Ideal) x8) (k0_pay180 (F := Ideal) (k0_pay132 (F := Ideal) x8)) (k0_pay183 (F := Ideal) (k0_pay132 (F := Ideal) x8)) (k0_pay184 (F := Ideal) mt) C := rfl

theorem first_ms2 :
    k0_pay109 (F := Ideal) (k0_pay97 (F := Ideal) x8) (k0_pay98 (F := Ideal) (k0_pay53 (F := Ideal) x8)) (k0_pay99 (F := Ideal) (k0_pay53 (F := Ideal) x8)) (k0_pay100 (F := Ideal) mt)
      = k0_pay191 (F := Ideal) (k0_pay189 (F := Ideal) (k0_pay179 (F := Ideal) x8) (k0_pay180 (F := Ideal) (k0_pay132 (F := Ideal) x8)) (k0_pay183 (F := Ideal) (k0_pay132 (F := Ideal) x8)) (k0_pay184 (F := Ideal) mt)) := rfl

theorem first_hm3 :
    k0_pay122 (F := Ideal) (k0_pay119 (F := Ideal) (k0_pay55 (F := Ideal) x8 (k0_pay53 (F := Ideal) x8) k0_pay54) k0_pay56 (k0_pay110 (F := Ideal) X) (k0_pay112 (F := Ideal) X) (k0_pay113 (F := Ideal) (k0_pay57 (F := Ideal)) V) (k0_pay115 (F := Ideal) (k0_pay53 (F := Ideal) x8)) (k0_pay116 (F := Ideal) (k0_pay55 (F := Ideal) x8 (k0_pay53 (F := Ideal) x8) k0_pay54)) mt C) (k0_pay120 (F := Ideal) (k0_pay55 (F := Ideal) x8 (k0_pay53 (F := Ideal) x8) k0_pay54) k0_pay56 (k0_pay110 (F := Ideal) X) (k0_pay112 (F := Ideal) X) (k0_pay113 (F := Ideal) (k0_pay57 (F := Ideal)) V) (k0_pay115 (F := Ideal) (k0_pay53 (F := Ideal) x8)) (k0_pay116 (F := Ideal) (k0_pay55 (F := Ideal) x8 (k0_pay53 (F := Ideal) x8) k0_pay54)) mt C) (k0_pay121 (F := Ideal)) ng mo
      = k0_pay205 (F := Ideal) (k0_pay204 (F := Ideal) k0_pay135 (k0_pay193 (F := Ideal) X) (k0_pay195 (F := Ideal) X) (k0_pay196 (F := Ideal) (k0_pay136 (F := Ideal)) V) (k0_pay198 (F := Ideal) (k0_pay132 (F := Ideal) x8)) (k0_pay199 (F := Ideal) (k0_pay134 (F := Ideal) (k0_pay133 (F := Ideal) x8))) (k0_pay200 (F := Ideal) (k0_pay134 (F := Ideal) (k0_pay133 (F := Ideal) x8))) (k0_pay202 (F := Ideal) mt) C) ng mo := rfl

theorem first_cs3 :
    k0_pay1 (F := Ideal) (k0_pay125 (F := Ideal) (k0_pay111 (F := Ideal) X) (k0_pay113 (F := Ideal) (k0_pay57 (F := Ideal)) V) (k0_pay114 (F := Ideal) x8) (k0_pay115 (F := Ideal) (k0_pay53 (F := Ideal) x8)) (k0_pay117 (F := Ideal) (k0_pay115 (F := Ideal) (k0_pay53 (F := Ideal) x8))) (k0_pay118 (F := Ideal) mt) C)
      = k0_pay208 (F := Ideal) (k0_pay194 (F := Ideal) X) (k0_pay196 (F := Ideal) (k0_pay136 (F := Ideal)) V) (k0_pay197 (F := Ideal) x8) (k0_pay198 (F := Ideal) (k0_pay132 (F := Ideal) x8)) (k0_pay201 (F := Ideal) (k0_pay132 (F := Ideal) x8)) (k0_pay203 (F := Ideal) (k0_pay202 (F := Ideal) mt)) C := rfl

theorem first_ms3 :
    k0_pay2 (F := Ideal) (k0_pay124 (F := Ideal) (k0_pay114 (F := Ideal) x8) (k0_pay115 (F := Ideal) (k0_pay53 (F := Ideal) x8)) (k0_pay117 (F := Ideal) (k0_pay115 (F := Ideal) (k0_pay53 (F := Ideal) x8))) (k0_pay118 (F := Ideal) mt))
      = k0_pay3 (F := Ideal) (k0_pay209 (F := Ideal) (k0_pay197 (F := Ideal) x8) (k0_pay198 (F := Ideal) (k0_pay132 (F := Ideal) x8)) (k0_pay201 (F := Ideal) (k0_pay132 (F := Ideal) x8)) (k0_pay203 (F := Ideal) (k0_pay202 (F := Ideal) mt))) := rfl

end Cert.Mix

end
-- ==== Proof.Mix.Reads.lean ====
/- Loads of part of a window and of the row buffer after its new rows are stored, and the convolution they feed. -/
module

public import proofs.«01_k».proof.Proof.Mix.Value
public import proofs.«01_k».proof.Proof.Mix.HeadsMeta
public import proofs.«01_k».proof.Proof.Mix.HeadsFirst
public import Idealize.ShloMosaic.Lib.Pipeline.ReadBack
public import Idealize.ShloMosaic.Lib.WritesUnit

@[expose] public section
set_option maxRecDepth 16384
noncomputable section
namespace Cert.Mix
open Idealize.ShloMosaic Idealize.ShloMosaic.TcCoe Idealize.SL.Sem
open Cert.KernelIdeal Cert.KernelIdeal.Gen

/-- A load through one rectangle within another, of a window that holds `X`. -/
theorem readAt_within {n0 n1 m0 m1 k0 k1 : ℕ} {e : EltTy}
    (w : Memref sig .tc .vmem ⟨2, ![n0, n1]⟩ e) (hw : w.IsWhole) (X : (⟨2, ![n0, n1]⟩ : Shape).Idx → Elt Ideal e)
    {o0 o1 p0 p1 : ℕ} (inb : ∀ a, ![o0, o1] a + ![m0, m1] a ≤ (⟨2, ![n0, n1]⟩ : Shape).size a)
    (inb2 : ∀ a, ![p0, p1] a + ![k0, k1] a ≤ (⟨2, ![m0, m1]⟩ : Shape).size a)
    (h0 : ∀ a, (Rect.unit (s := ⟨2, ![n0, n1]⟩) ![o0, o1] ![m0, m1] inb).stride a = 1) (i : Fin k0) (l : Fin k1)
    (hi : o0 + p0 + i.val < n0) (hl : o1 + p1 + l.val < n1) :
    (View.readAt (Elt Ideal) w.view
      ((Rect.unit (s := ⟨2, ![n0, n1]⟩) ![o0, o1] ![m0, m1] inb).withinL
        (Rect.unit (s := ⟨2, ![m0, m1]⟩) ![p0, p1] ![k0, k1] inb2).toLoadRect h0) (hw.unread X) :
      (⟨2, ![k0, k1]⟩ : Shape).Idx → Elt Ideal e) (ix2 i l)
      = X (ix2 ⟨o0 + p0 + i.val, hi⟩ ⟨o1 + p1 + l.val, hl⟩) := by
  refine (congrFun (hw.read_unread X) _).trans (congrArg X ?_)
  refine (Rect.idx_withinL (Rect.unit (s := ⟨2, ![n0, n1]⟩) ![o0, o1] ![m0, m1] inb) (Rect.unit (s := ⟨2, ![m0, m1]⟩) ![p0, p1] ![k0, k1] inb2).toLoadRect h0 (ix2 i l)).trans ?_
  funext a
  apply Fin.ext
  match a with
  | 0 => refine (Rect.emb_apply (Rect.unit (s := ⟨2, ![n0, n1]⟩) ![o0, o1] ![m0, m1] inb) ((Rect.unit (s := ⟨2, ![m0, m1]⟩) ![p0, p1] ![k0, k1] inb2).idx (ix2 i l)) 0).trans ?_; show o0 + 1 * (p0 + 1 * i.val) = o0 + p0 + i.val; omega
  | 1 => refine (Rect.emb_apply (Rect.unit (s := ⟨2, ![n0, n1]⟩) ![o0, o1] ![m0, m1] inb) ((Rect.unit (s := ⟨2, ![m0, m1]⟩) ![p0, p1] ![k0, k1] inb2).idx (ix2 i l)) 1).trans ?_; show o1 + 1 * (p1 + 1 * l.val) = o1 + p1 + l.val; omega

/-- Rows 8 and later of the row buffer after a chunk's rows are stored behind the eight rows of history. -/
theorem xbuf_new (hw : (Memref.whole cc0_scratch4).IsWhole) (X : Vec Ideal S264x1024 .f32) (w : Vec Ideal S256x1024 .f32)
    (r : Fin 264) (c : Fin 1024) (hr : 8 ≤ r.val) :
    View.read (Elt Ideal) (View.whole cc0_scratch4)
      ((View.whole cc0_scratch4).writes (Elt Ideal) (hw.unread X)
        [⟨Rect.unit ![8, 0] ![256, 1024] inb_S264x1024_S256x1024_8_0, w⟩]) (ix2 r c)
      = w (ix2 ⟨r.val - 8, by omega⟩ c) := by
  exact View.read_writes_cons_unit_of_mem (View.whole cc0_scratch4) _ _ _ _ (ix2 r c) _ rfl (fun a => by
    match a with
    | 0 => show r.val = 8 + (r.val - 8); omega
    | 1 => show c.val = 0 + c.val; omega)

/-- The first eight rows keep what they held. -/
theorem xbuf_old (hw : (Memref.whole cc0_scratch4).IsWhole) (X : Vec Ideal S264x1024 .f32) (w : Vec Ideal S256x1024 .f32)
    (r : Fin 264) (c : Fin 1024) (hr : r.val < 8) :
    View.read (Elt Ideal) (View.whole cc0_scratch4)
      ((View.whole cc0_scratch4).writes (Elt Ideal) (hw.unread X)
        [⟨Rect.unit ![8, 0] ![256, 1024] inb_S264x1024_S256x1024_8_0, w⟩]) (ix2 r c)
      = X (ix2 r c) := by
  rw [View.read_writes_cons_unit_of_not_mem (View.whole cc0_scratch4) _ _ _ _ (ix2 r c) rfl 0 (Or.inl hr)]
  exact congrFun (hw.read_unread X) _

/-- The convolution of a chunk at positions `a …` from its four shifted row blocks. -/
theorem conv_val {s : Seqs} {a : ℕ} {r0 r1 r2 r3 r4 : FVec Ideal S1x1024 .f32} {t0 t1 t2 t3 : FVec Ideal S256x1024 .f32}
    (hb : ∀ c : Fin 1024, r4 (ix2 0 c) = (s.cb c : EReal)) (h0 : ∀ c : Fin 1024, r0 (ix2 0 c) = (s.cw 0 c : EReal))
    (h1 : ∀ c : Fin 1024, r1 (ix2 0 c) = (s.cw 1 c : EReal)) (h2 : ∀ c : Fin 1024, r2 (ix2 0 c) = (s.cw 2 c : EReal))
    (h3 : ∀ c : Fin 1024, r3 (ix2 0 c) = (s.cw 3 c : EReal))
    (e0 : ∀ (i : Fin 256) (c : Fin 1024), t0 (ix2 i c) = (s.x (a + i - 3) c : EReal))
    (e1 : ∀ (i : Fin 256) (c : Fin 1024), t1 (ix2 i c) = (s.x (a + i - 2) c : EReal))
    (e2 : ∀ (i : Fin 256) (c : Fin 1024), t2 (ix2 i c) = (s.x (a + i - 1) c : EReal))
    (e3 : ∀ (i : Fin 256) (c : Fin 1024), t3 (ix2 i c) = (s.x (a + i) c : EReal)) (i : Fin 256) (c : Fin 1024) :
    k0_pay130 (F := Ideal) (k0_pay129 (F := Ideal) r4 r0 t0 r1 t1) r2 t2 r3 t3 (ix2 i c) = (s.y (a + i) c : EReal) := by
  pointwise [k0_pay130, k0_pay129, hb, h0, h1, h2, h3, e0, e1, e2, e3]
  rw [Seqs.y_coe, Seqs.pre]
  push_cast
  rfl

/-- The same for the meta rows. -/
theorem mconv_val {s : Seqs} {a : ℕ} {r0 r1 r2 r3 r4 : FVec Ideal S1x1024 .f32} {t0 t1 t2 t3 : FVec Ideal S16x1024 .f32}
    (hb : ∀ c : Fin 1024, r4 (ix2 0 c) = (s.cb c : EReal)) (h0 : ∀ c : Fin 1024, r0 (ix2 0 c) = (s.cw 0 c : EReal))
    (h1 : ∀ c : Fin 1024, r1 (ix2 0 c) = (s.cw 1 c : EReal)) (h2 : ∀ c : Fin 1024, r2 (ix2 0 c) = (s.cw 2 c : EReal))
    (h3 : ∀ c : Fin 1024, r3 (ix2 0 c) = (s.cw 3 c : EReal))
    (e0 : ∀ (i : Fin 16) (c : Fin 1024), t0 (ix2 i c) = (s.x (a + i - 3) c : EReal))
    (e1 : ∀ (i : Fin 16) (c : Fin 1024), t1 (ix2 i c) = (s.x (a + i - 2) c : EReal))
    (e2 : ∀ (i : Fin 16) (c : Fin 1024), t2 (ix2 i c) = (s.x (a + i - 1) c : EReal))
    (e3 : ∀ (i : Fin 16) (c : Fin 1024), t3 (ix2 i c) = (s.x (a + i) c : EReal)) (i : Fin 16) (c : Fin 1024) :
    k0_pay10 (F := Ideal) (k0_pay9 (F := Ideal) r4 r0 t0) r1 t1 r2 t2 r3 t3 (ix2 i c) = (s.y (a + i) c : EReal) := by
  pointwise [k0_pay10, k0_pay9, hb, h0, h1, h2, h3, e0, e1, e2, e3]
  rw [Seqs.y_coe, Seqs.pre]
  push_cast
  rfl

/-- The first point's convolution is compiled to other payloads: the same. -/
theorem first_conv (r0 r1 r2 r3 r4 : FVec Ideal S1x1024 .f32) (t0 t1 t2 t3 : FVec Ideal S256x1024 .f32) :
    k0_pay51 (F := Ideal) (k0_pay50 (F := Ideal) r4 r0 t0 r1 t1) r2 t2 r3 t3
      = k0_pay130 (F := Ideal) (k0_pay129 (F := Ideal) r4 r0 t0 r1 t1) r2 t2 r3 t3 := rfl

end Cert.Mix
end
-- ==== Proof.Mix.Points.lean ====
/- What the grid points leave in the scratch buffers, one point after another. -/
module

public import proofs.«01_k».proof.Proof.Mix.Reads

@[expose] public section
set_option maxRecDepth 16384
noncomputable section
namespace Cert.Mix
open Idealize.ShloMosaic Idealize.ShloMosaic.TcCoe Idealize.SL.Sem
open Cert.KernelIdeal Cert.KernelIdeal.Gen
open Idealize.ShloMosaic.Pipeline (Dat)

/-- What the windows of a chunk at positions `a …` hold: projected rows, gates, and the parameter rows. -/
structure Blk (s : Seqs) (a : ℕ) (x7 : FVec Ideal S256x3072 .bf16) (x8 : FVec Ideal S256x128 .f32) (x11 : FVec Ideal S8x1024 .f32) : Prop where
  good : s.Good
  ha : 48 ≤ a
  hx : ∀ (i : Fin 256) (c : Fin 3072), c.val < 2048 → x7 (ix2 i c) = (s.x (a + i) c : EReal)
  hmo : ∀ (i : Fin 256) (c : Fin 1024), x7 (ix2 i ⟨2048 + c, by omega⟩) = s.mo (a + i) c
  h8 : ∀ (i : Fin 256) (l : Fin 128), l.val < 8 → x8 (ix2 i l) = s.g (a + i) l
  hw : ∀ (k : Fin 8) (c : Fin 1024), k.val < 4 → x11 (ix2 k c) = (s.cw k c : EReal)
  hb : ∀ (c : Fin 1024), x11 (ix2 4 c) = (s.cb c : EReal)
  hng : ∀ (c : Fin 1024), x11 (ix2 5 c) = s.ng c

/-- The carried state before the chunk at `a`. -/
structure St (s : Seqs) (a : ℕ) (C : FVec Ideal S4x128x384 .f32) (M : FVec Ideal S4x8x128 .f32) (B : FVec Ideal S264x1024 .f32) : Prop where
  hc : ∀ y : S4x128x384.Idx, C y = (Cst (s.lf (y 0).val) (s.li (y 0).val) (s.k (y 0).val (y 1)) (s.v (y 0).val (y 2).val) a : EReal)
  hm : ∀ y : S4x8x128.Idx, M y = (MX (s.lf (y 0).val) (s.li (y 0).val) a : EReal)
  hx : ∀ (r : Fin 264) (c : Fin 1024), r.val < 8 → B (ix2 r c) = (s.x (a - 8 + r) c : EReal)

theorem rows8 (y : S1x8x128.Idx) : ∃ (r : Fin 8) (l : Fin 128), y = ix3 0 r l :=
  ⟨y 1, y 2, (eq_ix3 y).trans (congrArg (fun z => ix3 z (y 1) (y 2)) (Fin.ext (by have : (y 0).val < 1 := (y 0).2; show (y 0).val = 0; omega)))⟩

theorem rows128 (y : S1x128x384.Idx) : ∃ (r : Fin 128) (l : Fin 384), y = ix3 0 r l :=
  ⟨y 1, y 2, (eq_ix3 y).trans (congrArg (fun z => ix3 z (y 1) (y 2)) (Fin.ext (by have : (y 0).val < 1 := (y 0).2; show (y 0).val = 0; omega)))⟩

variable (m : (ℓ : Loc nD τ sig) → Buf (Elt Ideal) ℓ)

theorem B3 (c : Dev nD) (t : Fin cfg0.N) (h0 : ¬t.val % 33 = 0) (h1 : (1 ≤ t.val % 33 ∧ t.val % 33 ≤ 31)) (h2 : ¬t.val % 33 = 32)
    {s : Seqs} {a : ℕ} {x7 x11} (D : Blk s a x7 (iblk m c 8 t) x11) (hp : t.val - 1 < cfg0.N) {C B}
    (I : St s a C (outsAt0 m c (t.val - 1) hp).2.2.2.1 B) :
    ∀ y, (outsAt0 m c t.val t.isLt).2.2.2.1 y = (MX (s.lf (y 0).val) (s.li (y 0).val) (a + 256) : EReal) := by
  rw [outsAt0_B m c t h0 h1 h2]
  frame_open
  simp (disch := decide) only [↓ View.readCov_skip, ↓ View.readCov_cons_toLoadRect, ↓ View.readCov_fill]
  frame_out
  try simp only [read_unread_whole]
  intro y
  canon_tiles y hk
  all_goals
    rw [hk0, show (y 0).val = 0 by omega]
    obtain ⟨r, l, rfl⟩ := rows8 y
  · exact ms3 ⟨D.good, D.ha, by omega, D.h8, I.hm _⟩ r l
  · exact ms2 ⟨D.good, D.ha, by omega, D.h8, I.hm _⟩ r l
  · exact ms1 ⟨D.good, D.ha, by omega, D.h8, I.hm _⟩ r l
  · exact ms0 ⟨D.good, D.ha, by omega, D.h8, I.hm _⟩ r l

/-- A block of rows of the row buffer, loaded. -/
theorem ld_rows {s : Seqs} {a n : ℕ} {Q : FVec Ideal S264x1024 .f32} (ha : 48 ≤ a)
    (hQ : ∀ (r : Fin 264) (c : Fin 1024), Q (ix2 r c) = (s.x (a - 8 + r) c : EReal))
    (o : ℕ) (hb : ∀ b, ![o, 0] b + ![n, 1024] b ≤ S264x1024.size b) (ho : o ≤ 8) (hn : o + n ≤ 264) (i : Fin n) (cc : Fin 1024) (p : ℕ) (hp : a - 8 + (o + i.val) = p) :
    View.ld (Val := Elt Ideal) (e' := .f32) Q (Rect.unit (s := S264x1024) ![o, 0] ![n, 1024] hb) (ix2 i cc) = (s.x p cc : EReal) := by
  subst hp
  rw [View.ld_apply]
  refine Eq.trans (congrArg Q (?_ : _ = ix2 (⟨o + i.val, by omega⟩ : Fin 264) cc)) (hQ _ cc)
  funext b
  match b with
  | 0 => exact Fin.ext (by show o + 1 * i.val = o + i.val; omega)
  | 1 => exact Fin.ext (by show 0 + 1 * cc.val = cc.val; omega)

/-- The same where the buffer is known only by the pieces stored in it. -/
theorem cov_rows {f : ℕ → ℕ → EReal} {n : ℕ} {L : List (View.Piece (Elt Ideal) S264x1024 .f32)}
    (o : ℕ) (hb : ∀ b, ![o, 0] b + ![n, 1024] b ≤ S264x1024.size b) (hn : o + n ≤ 264)
    (hQ : ∀ (r : Fin 264) (c : Fin 1024), o ≤ r.val → r.val < o + n → View.canon L (ix2 r c) = f r c)
    (i : Fin n) (cc : Fin 1024) (p : EReal) (hp : f (o + i) cc = p) :
    ((View.whole cc0_scratch4).readCov L (Rect.unit (s := S264x1024) ![o, 0] ![n, 1024] hb).toLoadRect : (⟨2, ![n, 1024]⟩ : Shape).Idx → EReal) (ix2 i cc) = p := by
  subst hp
  rw [View.readCov_eq_canon']
  refine Eq.trans (congrArg (View.canon L) (?_ : _ = ix2 (⟨o + i.val, by omega⟩ : Fin 264) cc)) (hQ _ cc (by show o ≤ o + i.val; omega) (by show o + i.val < o + n; omega))
  funext b
  match b with
  | 0 => exact Fin.ext (by show o + 1 * i.val = o + i.val; omega)
  | 1 => exact Fin.ext (by show 0 + 1 * cc.val = cc.val; omega)

/-- A row under the last block of rows stored. -/
theorem row_hit {L : List (View.Piece (Elt Ideal) S264x1024 .f32)} (o n : ℕ) {hb : ∀ b, ![o, 0] b + ![n, 1024] b ≤ S264x1024.size b}
    (w : (⟨2, ![n, 1024]⟩ : Shape).Idx → Elt Ideal .f32) (r : Fin 264) (cc : Fin 1024) (h : o ≤ r.val) (hr : r.val - o < n) :
    View.canon (Val := Elt Ideal) (e := .f32) (⟨Rect.unit (s := S264x1024) ![o, 0] ![n, 1024] hb, w⟩ :: L) (ix2 r cc)
      = w (ix2 (⟨r.val - o, hr⟩ : Fin n) cc) := by
  refine (congrArg (View.canon _) (?_ : (ix2 r cc : S264x1024.Idx) = (Rect.unit (s := S264x1024) ![o, 0] ![n, 1024] hb).emb (ix2 (⟨r.val - o, hr⟩ : Fin n) cc))).trans (View.canon_cons_emb _ _ _ _)
  funext b
  match b with
  | 0 => exact Fin.ext ((Rect.emb_apply _ _ 0).trans (by show o + 1 * (r.val - o) = r.val; omega)).symm
  | 1 => exact Fin.ext ((Rect.emb_apply _ _ 1).trans (by show 0 + 1 * cc.val = cc.val; omega)).symm

/-- A row off it. -/
theorem row_miss {L : List (View.Piece (Elt Ideal) S264x1024 .f32)} (o n : ℕ) {hb : ∀ b, ![o, 0] b + ![n, 1024] b ≤ S264x1024.size b}
    (w : (⟨2, ![n, 1024]⟩ : Shape).Idx → Elt Ideal .f32) (r : Fin 264) (cc : Fin 1024) (h : r.val < o ∨ o + n ≤ r.val) :
    View.canon (Val := Elt Ideal) (e := .f32) (⟨Rect.unit (s := S264x1024) ![o, 0] ![n, 1024] hb, w⟩ :: L) (ix2 r cc)
      = View.canon L (ix2 r cc) := by
  refine View.canon_cons_of_not_mem _ L fun hm => ?_
  have h2 := (Rect.mem_set_unit (s := S264x1024) (inb := hb)).mp hm 0
  have : o ≤ r.val ∧ r.val < o + n := h2
  omega

/-- The convolved rows of a chunk, from its four shifted row blocks. -/
theorem conv_rows (c : Dev nD) (t : Fin cfg0.N) {s : Seqs} {a : ℕ}
    (D : Blk s a (X0_7 m c t) (iblk m c 8 t) (iblk m c 11 t))
    {t0 t1 t2 N : FVec Ideal S256x1024 .f32}
    (e0 : ∀ (i : Fin 256) (c : Fin 1024), t0 (ix2 i c) = (s.x (a + i - 3) c : EReal))
    (e1 : ∀ (i : Fin 256) (c : Fin 1024), t1 (ix2 i c) = (s.x (a + i - 2) c : EReal))
    (e2 : ∀ (i : Fin 256) (c : Fin 1024), t2 (ix2 i c) = (s.x (a + i - 1) c : EReal))
    (hN : ∀ (i : Fin 256) (c : Fin 1024), N (ix2 i c) = (s.x (a + i) c : EReal))
    (i4 i0 i1 i2 i3 r0 r1 r2 r3 h0 h1 h2 h3) (i : Fin 256) (cc : Fin 1024) :
    k0_pay130 (F := Ideal) (k0_pay129 (F := Ideal) (View.ld (iblk m c 11 t) (Rect.unit (s := S8x1024) ![4, 0] ![1, 1024] i4))
        (View.readAt (Elt Ideal) (ms0_11 t).view ((Rect.unit (s := S8x1024) ![0, 0] ![4, 1024] r0).withinL (Rect.unit (s := S4x1024) ![0, 0] ![1, 1024] i0).toLoadRect h0) ((hs0_11 t).unread (iblk m c 11 t))) t0
        (View.readAt (Elt Ideal) (ms0_11 t).view ((Rect.unit (s := S8x1024) ![0, 0] ![4, 1024] r1).withinL (Rect.unit (s := S4x1024) ![1, 0] ![1, 1024] i1).toLoadRect h1) ((hs0_11 t).unread (iblk m c 11 t))) t1)
      (View.readAt (Elt Ideal) (ms0_11 t).view ((Rect.unit (s := S8x1024) ![0, 0] ![4, 1024] r2).withinL (Rect.unit (s := S4x1024) ![2, 0] ![1, 1024] i2).toLoadRect h2) ((hs0_11 t).unread (iblk m c 11 t))) t2
      (View.readAt (Elt Ideal) (ms0_11 t).view ((Rect.unit (s := S8x1024) ![0, 0] ![4, 1024] r3).withinL (Rect.unit (s := S4x1024) ![3, 0] ![1, 1024] i3).toLoadRect h3) ((hs0_11 t).unread (iblk m c 11 t))) N (ix2 i cc) = (s.y (a + i) cc : EReal) := by
  have hW : ∀ (k : Fin 8) (cc : Fin 1024) (z : ℕ) (hz : z = cc.val) (hz' : z < 1024), k.val < 4 → iblk m c 11 t (ix2 k (⟨z, hz'⟩ : Fin 1024)) = (s.cw k cc : EReal) := by
    intro k cc z hz hz' hk
    subst hz
    exact D.hw k cc hk
  refine conv_val (s := s) (a := a) ?_ ?_ ?_ ?_ ?_ e0 e1 e2 hN i cc
  · intro cc
    refine Eq.trans ?_ (D.hb cc)
    exact congrArg (iblk m c 11 t) (by funext b; match b with | 0 => rfl | 1 => exact Fin.ext (by show 0 + 1 * cc.val = cc.val; omega))
  · intro cc
    exact (readAt_within (ms0_11 t) (hs0_11 t) (iblk m c 11 t) _ _ _ (0 : Fin 1) cc (by decide) (by omega)).trans (hW 0 cc _ (by omega) _ (by decide))
  · intro cc
    exact (readAt_within (ms0_11 t) (hs0_11 t) (iblk m c 11 t) _ _ _ (0 : Fin 1) cc (by decide) (by omega)).trans (hW 1 cc _ (by omega) _ (by decide))
  · intro cc
    exact (readAt_within (ms0_11 t) (hs0_11 t) (iblk m c 11 t) _ _ _ (0 : Fin 1) cc (by decide) (by omega)).trans (hW 2 cc _ (by omega) _ (by decide))
  · intro cc
    exact (readAt_within (ms0_11 t) (hs0_11 t) (iblk m c 11 t) _ _ _ (0 : Fin 1) cc (by decide) (by omega)).trans (hW 3 cc _ (by omega) _ (by decide))

/-- The convolved meta rows. -/
theorem conv_rows_meta (c : Dev nD) (t : Fin cfg0.N) {s : Seqs} {a : ℕ}
    (D : Blk s 64 (X0_7 m c t) (iblk m c 8 t) (iblk m c 11 t))
    {t0 t1 t2 N : FVec Ideal S16x1024 .f32}
    (e0 : ∀ (i : Fin 16) (c : Fin 1024), t0 (ix2 i c) = (s.x (a + i - 3) c : EReal))
    (e1 : ∀ (i : Fin 16) (c : Fin 1024), t1 (ix2 i c) = (s.x (a + i - 2) c : EReal))
    (e2 : ∀ (i : Fin 16) (c : Fin 1024), t2 (ix2 i c) = (s.x (a + i - 1) c : EReal))
    (hN : ∀ (i : Fin 16) (c : Fin 1024), N (ix2 i c) = (s.x (a + i) c : EReal))
    (i4 i0 i1 i2 i3 r0 r1 r2 r3 h0 h1 h2 h3) (i : Fin 16) (cc : Fin 1024) :
    k0_pay10 (F := Ideal) (k0_pay9 (F := Ideal) (View.ld (iblk m c 11 t) (Rect.unit (s := S8x1024) ![4, 0] ![1, 1024] i4))
        (View.readAt (Elt Ideal) (ms0_11 t).view ((Rect.unit (s := S8x1024) ![0, 0] ![4, 1024] r0).withinL (Rect.unit (s := S4x1024) ![0, 0] ![1, 1024] i0).toLoadRect h0) ((hs0_11 t).unread (iblk m c 11 t))) t0)
        (View.readAt (Elt Ideal) (ms0_11 t).view ((Rect.unit (s := S8x1024) ![0, 0] ![4, 1024] r1).withinL (Rect.unit (s := S4x1024) ![1, 0] ![1, 1024] i1).toLoadRect h1) ((hs0_11 t).unread (iblk m c 11 t))) t1
      (View.readAt (Elt Ideal) (ms0_11 t).view ((Rect.unit (s := S8x1024) ![0, 0] ![4, 1024] r2).withinL (Rect.unit (s := S4x1024) ![2, 0] ![1, 1024] i2).toLoadRect h2) ((hs0_11 t).unread (iblk m c 11 t))) t2
      (View.readAt (Elt Ideal) (ms0_11 t).view ((Rect.unit (s := S8x1024) ![0, 0] ![4, 1024] r3).withinL (Rect.unit (s := S4x1024) ![3, 0] ![1, 1024] i3).toLoadRect h3) ((hs0_11 t).unread (iblk m c 11 t))) N (ix2 i cc) = (s.y (a + i) cc : EReal) := by
  have hW : ∀ (k : Fin 8) (cc : Fin 1024) (z : ℕ) (hz : z = cc.val) (hz' : z < 1024), k.val < 4 → iblk m c 11 t (ix2 k (⟨z, hz'⟩ : Fin 1024)) = (s.cw k cc : EReal) := by
    intro k cc z hz hz' hk
    subst hz
    exact D.hw k cc hk
  refine mconv_val (s := s) (a := a) ?_ ?_ ?_ ?_ ?_ e0 e1 e2 hN i cc
  · intro cc
    refine Eq.trans ?_ (D.hb cc)
    exact congrArg (iblk m c 11 t) (by funext b; match b with | 0 => rfl | 1 => exact Fin.ext (by show 0 + 1 * cc.val = cc.val; omega))
  · intro cc
    exact (readAt_within (ms0_11 t) (hs0_11 t) (iblk m c 11 t) _ _ _ (0 : Fin 1) cc (by decide) (by omega)).trans (hW 0 cc _ (by omega) _ (by decide))
  · intro cc
    exact (readAt_within (ms0_11 t) (hs0_11 t) (iblk m c 11 t) _ _ _ (0 : Fin 1) cc (by decide) (by omega)).trans (hW 1 cc _ (by omega) _ (by decide))
  · intro cc
    exact (readAt_within (ms0_11 t) (hs0_11 t) (iblk m c 11 t) _ _ _ (0 : Fin 1) cc (by decide) (by omega)).trans (hW 2 cc _ (by omega) _ (by decide))
  · intro cc
    exact (readAt_within (ms0_11 t) (hs0_11 t) (iblk m c 11 t) _ _ _ (0 : Fin 1) cc (by decide) (by omega)).trans (hW 3 cc _ (by omega) _ (by decide))

/-- The chunk's own rows. -/
theorem own_rows (c : Dev nD) (t : Fin cfg0.N) {s : Seqs} {a : ℕ} (D : Blk s a (X0_7 m c t) (iblk m c 8 t) (iblk m c 11 t)) (u0) (i : Fin 256) (cc : Fin 1024) :
    k0_pay128 (F := Ideal) (View.ld (X0_7 m c t) (Rect.unit (s := S256x3072) ![0, 0] ![256, 1024] u0)) (ix2 i cc) = (s.x (a + i) cc : EReal) := by
  pointwise [k0_pay128]
  exact D.hx i ⟨cc, by omega⟩ (by show cc.val < 2048; omega)

/-- The row buffer of a later point once the chunk's rows are in it. -/
theorem buf_rows {s : Seqs} {a : ℕ} (ha : 48 ≤ a) {P : FVec Ideal S264x1024 .f32} {N : FVec Ideal S256x1024 .f32}
    (hx : ∀ (r : Fin 264) (c : Fin 1024), r.val < 8 → P (ix2 r c) = (s.x (a - 8 + r) c : EReal))
    (hN : ∀ (i : Fin 256) (c : Fin 1024), N (ix2 i c) = (s.x (a + i) c : EReal))
    (hw : (Memref.whole cc0_scratch4).IsWhole) (r : Fin 264) (cc : Fin 1024) :
    View.read (Elt Ideal) (View.whole cc0_scratch4) ((View.whole cc0_scratch4).writes (Elt Ideal) (hw.unread P)
          [⟨Rect.unit ![8, 0] ![256, 1024] inb_S264x1024_S256x1024_8_0, N⟩]) (ix2 r cc)
          = (s.x (a - 8 + r) cc : EReal) := by
  by_cases hr : r.val < 8
  · rw [xbuf_old hw P _ r cc hr, hx r cc hr]
  · rw [xbuf_new hw P _ r cc (by omega), hN]
    show (s.x (a + (r.val - 8)) cc : EReal) = _
    rw [show a + (r.val - 8) = a - 8 + r.val by omega]

/-- The carried state read at an index whose coordinates are known. -/
theorem cs_of {s : Seqs} {Y : S4x128x384.Idx} {h a : ℕ} (e0 : (Y 0).val = h) (d : Fin 128) (e : Fin 384) (e1 : (Y 1).val = d.val) (e2 : (Y 2).val = e.val)
    {L : EReal} (hL : L = (Cst (s.lf h) (s.li h) (s.k h d) (s.v h e) a : EReal)) :
    L = (Cst (s.lf (Y 0).val) (s.li (Y 0).val) (s.k (Y 0).val (Y 1)) (s.v (Y 0).val (Y 2).val) a : EReal) := by
  rw [e0, e2, show (Y 1 : Fin 128) = d from Fin.ext e1]
  exact hL

/-- A head's slice of the carried state. -/
theorem ld_state {s : Seqs} {a : ℕ} {P : FVec Ideal S4x128x384 .f32}
    (hc : ∀ y : S4x128x384.Idx, P y = (Cst (s.lf (y 0).val) (s.li (y 0).val) (s.k (y 0).val (y 1)) (s.v (y 0).val (y 2).val) a : EReal))
    (h : ℕ) (inb) (d : Fin 128) (e : Fin 384) :
    View.ld (Val := Elt Ideal) (e' := .f32) P (Rect.unit (s := S4x128x384) ![h, 0, 0] ![1, 128, 384] inb) (ix3 0 d e)
      = (Cst (s.lf h) (s.li h) (s.k h d) (s.v h e) a : EReal) := by
  rw [View.ld_apply]
  exact ((cs_of (by show h + 1 * 0 = h; omega) d e (by show 0 + 1 * d.val = d.val; omega) (by show 0 + 1 * e.val = e.val; omega) rfl).trans (hc _).symm).symm

/-- A head's values: 256 columns of the chunk's window. -/
theorem val_rows (c : Dev nD) (t : Fin cfg0.N) {s : Seqs} {a : ℕ} (D : Blk s a (X0_7 m c t) (iblk m c 8 t) (iblk m c 11 t)) {h p : ℕ} (hh : h < 4) (hp : p = 256 * h)
    (r0 i0 h0) (i : Fin 256) (e : Fin 256) :
    (View.readAt (Elt Ideal) (ms0_7 t).view ((Rect.unit (s := S256x3072) ![0, 1024] ![256, 1024] r0).withinL (Rect.unit (s := S256x1024) ![0, p] ![256, 256] i0).toLoadRect h0) ((hs0_7 t).unread (X0_7 m c t)) :
      S256x256.Idx → Elt Ideal .bf16) (ix2 i e)
      = (s.x (a + i) (1024 + 256 * h + e) : EReal) := by
  subst hp
  refine (readAt_within (ms0_7 t) (hs0_7 t) (X0_7 m c t) _ _ _ i e (by omega) (by omega)).trans ?_
  refine Eq.trans (congrArg (X0_7 m c t) (?_ : _ = ix2 i (⟨1024 + 256 * h + e, by omega⟩ : Fin 3072))) (D.hx i _ (by show 1024 + 256 * h + e.val < 2048; omega))
  funext b
  match b with
  | 0 => exact Fin.ext (by show 0 + 0 + i.val = i.val; omega)
  | 1 => rfl

/-- A head's output gate rows. -/
theorem gate_rows (c : Dev nD) (t : Fin cfg0.N) {s : Seqs} {a : ℕ} (D : Blk s a (X0_7 m c t) (iblk m c 8 t) (iblk m c 11 t)) {p : ℕ} (hp : p + 256 ≤ 1024)
    (r0 i0 h0) (i : Fin 256) (e : Fin 256) :
    (View.readAt (Elt Ideal) (ms0_7 t).view ((Rect.unit (s := S256x3072) ![0, 2048] ![256, 1024] r0).withinL (Rect.unit (s := S256x1024) ![0, p] ![256, 256] i0).toLoadRect h0) ((hs0_7 t).unread (X0_7 m c t)) :
      S256x256.Idx → Elt Ideal .bf16) (ix2 i e)
      = s.mo (a + i) (p + e) := by
  refine (readAt_within (ms0_7 t) (hs0_7 t) (X0_7 m c t) _ _ _ i e (by omega) (by omega)).trans ?_
  refine Eq.trans (congrArg (X0_7 m c t) (?_ : _ = ix2 i (⟨2048 + (⟨p + e, by omega⟩ : Fin 1024).val, by omega⟩ : Fin 3072))) (D.hmo i _)
  funext b
  match b with
  | 0 => exact Fin.ext (by show 0 + 0 + i.val = i.val; omega)
  | 1 => exact Fin.ext (by show 2048 + p + e.val = 2048 + (p + e.val); omega)

/-- A head's norm gains. -/
theorem gain_row (c : Dev nD) (t : Fin cfg0.N) {s : Seqs} {a : ℕ} (D : Blk s a (X0_7 m c t) (iblk m c 8 t) (iblk m c 11 t)) {p : ℕ} (hp : p + 256 ≤ 1024)
    (r0 i0 h0) (e : Fin 256) :
    (View.readAt (Elt Ideal) (ms0_11 t).view ((Rect.unit (s := S8x1024) ![5, 0] ![1, 1024] r0).withinL (Rect.unit (s := S1x1024) ![0, p] ![1, 256] i0).toLoadRect h0) ((hs0_11 t).unread (iblk m c 11 t)) :
      S1x256.Idx → Elt Ideal .f32) (ix2 0 e)
      = s.ng (p + e) := by
  refine (readAt_within (ms0_11 t) (hs0_11 t) (iblk m c 11 t) _ _ _ (0 : Fin 1) e (by decide) (by omega)).trans ?_
  refine Eq.trans (congrArg (iblk m c 11 t) (?_ : _ = ix2 (5 : Fin 8) (⟨p + e, by omega⟩ : Fin 1024))) (D.hng _)
  funext b
  match b with
  | 0 => rfl
  | 1 => exact Fin.ext (by show 0 + p + e.val = p + e.val; omega)

/-- A head's gated output in its columns of the whole row. -/
theorem hm_of {s : Seqs} {Y : S256x1024.Idx} {h a : ℕ} {mo : FVec Ideal S256x256 .bf16} {ng : FVec Ideal S1x256 .f32} {L : EReal} (i e : Fin 256)
    (e0 : (Y 0).val = i.val) (e1 : (Y 1).val = 256 * h + e.val)
    (hmo : mo (ix2 i e) = s.mo (a + i) (256 * h + e)) (hng : ng (ix2 0 e) = s.ng (256 * h + e))
    (hL : L = Ideal.logistic (mo (ix2 i e)) * (s.hn h e (a + i) * ng (ix2 0 e))) :
    L = s.hm (a + (Y 0).val) (Y 1).val := by
  rw [hL, hmo, hng, e0, e1, Seqs.hm, show (256 * h + e.val) / 256 = h by omega, show (256 * h + e.val) % 256 = e.val by omega]

theorem B2 (c : Dev nD) (t : Fin cfg0.N) (h0 : ¬t.val % 33 = 0) (h1 : (1 ≤ t.val % 33 ∧ t.val % 33 ≤ 31)) (h2 : ¬t.val % 33 = 32)
    {s : Seqs} {a : ℕ} (D : Blk s a (X0_7 m c t) (iblk m c 8 t) (iblk m c 11 t)) (hp : t.val - 1 < cfg0.N)
    (I : St s a (outsAt0 m c (t.val - 1) hp).2.2.1 (outsAt0 m c (t.val - 1) hp).2.2.2.1 (outsAt0 m c (t.val - 1) hp).2.2.2.2) :
    ∀ y, (outsAt0 m c t.val t.isLt).2.2.1 y = (Cst (s.lf (y 0).val) (s.li (y 0).val) (s.k (y 0).val (y 1)) (s.v (y 0).val (y 2).val) (a + 256) : EReal) := by
  rw [outsAt0_B m c t h0 h1 h2]
  frame_open
  simp (disch := decide) only [↓ View.readCov_skip, ↓ View.readCov_cons_toLoadRect, ↓ View.readCov_fill]
  frame_out
  try simp only [read_unread_whole]
  intro y
  canon_tiles y hk
  · obtain ⟨d, e, rfl⟩ := rows128 y
    refine cs_of (h := 3) (by rw [hk0]; rfl) d e hk1 hk2 ?_
    exact cs3 ⟨⟨D.good, D.ha, by omega, D.h8, I.hm _⟩, conv_rows m c t D (fun i cc => ld_rows D.ha (fun r cc => buf_rows D.ha I.hx (own_rows m c t D _) _ r cc) 5 _ (by omega) (by omega) i cc _ (by have := D.ha; omega)) (fun i cc => ld_rows D.ha (fun r cc => buf_rows D.ha I.hx (own_rows m c t D _) _ r cc) 6 _ (by omega) (by omega) i cc _ (by have := D.ha; omega)) (fun i cc => ld_rows D.ha (fun r cc => buf_rows D.ha I.hx (own_rows m c t D _) _ r cc) 7 _ (by omega) (by omega) i cc _ (by have := D.ha; omega)) (own_rows m c t D _) _ _ _ _ _ _ _ _ _ _ _ _ _, val_rows m c t D (by omega) rfl _ _ _, ld_state I.hc 3 _⟩ d e
  · obtain ⟨d, e, rfl⟩ := rows128 y
    refine cs_of (h := 2) (by rw [hk0]; rfl) d e hk1 hk2 ?_
    exact cs2 ⟨⟨D.good, D.ha, by omega, D.h8, I.hm _⟩, conv_rows m c t D (fun i cc => ld_rows D.ha (fun r cc => buf_rows D.ha I.hx (own_rows m c t D _) _ r cc) 5 _ (by omega) (by omega) i cc _ (by have := D.ha; omega)) (fun i cc => ld_rows D.ha (fun r cc => buf_rows D.ha I.hx (own_rows m c t D _) _ r cc) 6 _ (by omega) (by omega) i cc _ (by have := D.ha; omega)) (fun i cc => ld_rows D.ha (fun r cc => buf_rows D.ha I.hx (own_rows m c t D _) _ r cc) 7 _ (by omega) (by omega) i cc _ (by have := D.ha; omega)) (own_rows m c t D _) _ _ _ _ _ _ _ _ _ _ _ _ _, val_rows m c t D (by omega) rfl _ _ _, ld_state I.hc 2 _⟩ d e
  · obtain ⟨d, e, rfl⟩ := rows128 y
    refine cs_of (h := 1) (by rw [hk0]; rfl) d e hk1 hk2 ?_
    exact cs1 ⟨⟨D.good, D.ha, by omega, D.h8, I.hm _⟩, conv_rows m c t D (fun i cc => ld_rows D.ha (fun r cc => buf_rows D.ha I.hx (own_rows m c t D _) _ r cc) 5 _ (by omega) (by omega) i cc _ (by have := D.ha; omega)) (fun i cc => ld_rows D.ha (fun r cc => buf_rows D.ha I.hx (own_rows m c t D _) _ r cc) 6 _ (by omega) (by omega) i cc _ (by have := D.ha; omega)) (fun i cc => ld_rows D.ha (fun r cc => buf_rows D.ha I.hx (own_rows m c t D _) _ r cc) 7 _ (by omega) (by omega) i cc _ (by have := D.ha; omega)) (own_rows m c t D _) _ _ _ _ _ _ _ _ _ _ _ _ _, val_rows m c t D (by omega) rfl _ _ _, ld_state I.hc 1 _⟩ d e
  · obtain ⟨d, e, rfl⟩ := rows128 y
    refine cs_of (h := 0) (by rw [hk0]; rfl) d e hk1 hk2 ?_
    exact cs0 ⟨⟨D.good, D.ha, by omega, D.h8, I.hm _⟩, conv_rows m c t D (fun i cc => ld_rows D.ha (fun r cc => buf_rows D.ha I.hx (own_rows m c t D _) _ r cc) 5 _ (by omega) (by omega) i cc _ (by have := D.ha; omega)) (fun i cc => ld_rows D.ha (fun r cc => buf_rows D.ha I.hx (own_rows m c t D _) _ r cc) 6 _ (by omega) (by omega) i cc _ (by have := D.ha; omega)) (fun i cc => ld_rows D.ha (fun r cc => buf_rows D.ha I.hx (own_rows m c t D _) _ r cc) 7 _ (by omega) (by omega) i cc _ (by have := D.ha; omega)) (own_rows m c t D _) _ _ _ _ _ _ _ _ _ _ _ _ _, val_rows m c t D (by omega) rfl _ _ _, ld_state I.hc 0 _⟩ d e

theorem B1 (c : Dev nD) (t : Fin cfg0.N) (h0 : ¬t.val % 33 = 0) (h1 : (1 ≤ t.val % 33 ∧ t.val % 33 ≤ 31)) (h2 : ¬t.val % 33 = 32)
    {s : Seqs} {a : ℕ} (D : Blk s a (X0_7 m c t) (iblk m c 8 t) (iblk m c 11 t)) (hp : t.val - 1 < cfg0.N)
    (I : St s a (outsAt0 m c (t.val - 1) hp).2.2.1 (outsAt0 m c (t.val - 1) hp).2.2.2.1 (outsAt0 m c (t.val - 1) hp).2.2.2.2) :
    ∀ y, (outsAt0 m c t.val t.isLt).2.1 y = s.hm (a + (y 0).val) (y 1).val := by
  rw [outsAt0_B m c t h0 h1 h2]
  frame_open
  simp (disch := decide) only [↓ View.readCov_skip, ↓ View.readCov_cons_toLoadRect, ↓ View.readCov_fill]
  frame_out
  try simp only [read_unread_whole]
  intro y
  canon_tiles y hk
  · obtain ⟨d, e, rfl⟩ : ∃ d e : Fin 256, y = ix2 d e := ⟨y 0, y 1, eq_ix2 y⟩
    refine hm_of (h := 3) d e hk0 (by rw [hk1]; first | rfl | (show e.val = 256 * 0 + e.val; omega)) ?_ ?_ (hm3 ⟨⟨D.good, D.ha, by omega, D.h8, I.hm _⟩, conv_rows m c t D (fun i cc => ld_rows D.ha (fun r cc => buf_rows D.ha I.hx (own_rows m c t D _) _ r cc) 5 _ (by omega) (by omega) i cc _ (by have := D.ha; omega)) (fun i cc => ld_rows D.ha (fun r cc => buf_rows D.ha I.hx (own_rows m c t D _) _ r cc) 6 _ (by omega) (by omega) i cc _ (by have := D.ha; omega)) (fun i cc => ld_rows D.ha (fun r cc => buf_rows D.ha I.hx (own_rows m c t D _) _ r cc) 7 _ (by omega) (by omega) i cc _ (by have := D.ha; omega)) (own_rows m c t D _) _ _ _ _ _ _ _ _ _ _ _ _ _, val_rows m c t D (by omega) rfl _ _ _, ld_state I.hc 3 _⟩ _ _ d e)
    · exact gate_rows m c t D (by omega) _ _ _ d e
    · exact gain_row m c t D (by omega) _ _ _ e
  · obtain ⟨d, e, rfl⟩ : ∃ d e : Fin 256, y = ix2 d e := ⟨y 0, y 1, eq_ix2 y⟩
    refine hm_of (h := 2) d e hk0 (by rw [hk1]; first | rfl | (show e.val = 256 * 0 + e.val; omega)) ?_ ?_ (hm2 ⟨⟨D.good, D.ha, by omega, D.h8, I.hm _⟩, conv_rows m c t D (fun i cc => ld_rows D.ha (fun r cc => buf_rows D.ha I.hx (own_rows m c t D _) _ r cc) 5 _ (by omega) (by omega) i cc _ (by have := D.ha; omega)) (fun i cc => ld_rows D.ha (fun r cc => buf_rows D.ha I.hx (own_rows m c t D _) _ r cc) 6 _ (by omega) (by omega) i cc _ (by have := D.ha; omega)) (fun i cc => ld_rows D.ha (fun r cc => buf_rows D.ha I.hx (own_rows m c t D _) _ r cc) 7 _ (by omega) (by omega) i cc _ (by have := D.ha; omega)) (own_rows m c t D _) _ _ _ _ _ _ _ _ _ _ _ _ _, val_rows m c t D (by omega) rfl _ _ _, ld_state I.hc 2 _⟩ _ _ d e)
    · exact gate_rows m c t D (by omega) _ _ _ d e
    · exact gain_row m c t D (by omega) _ _ _ e
  · obtain ⟨d, e, rfl⟩ : ∃ d e : Fin 256, y = ix2 d e := ⟨y 0, y 1, eq_ix2 y⟩
    refine hm_of (h := 1) d e hk0 (by rw [hk1]; first | rfl | (show e.val = 256 * 0 + e.val; omega)) ?_ ?_ (hm1 ⟨⟨D.good, D.ha, by omega, D.h8, I.hm _⟩, conv_rows m c t D (fun i cc => ld_rows D.ha (fun r cc => buf_rows D.ha I.hx (own_rows m c t D _) _ r cc) 5 _ (by omega) (by omega) i cc _ (by have := D.ha; omega)) (fun i cc => ld_rows D.ha (fun r cc => buf_rows D.ha I.hx (own_rows m c t D _) _ r cc) 6 _ (by omega) (by omega) i cc _ (by have := D.ha; omega)) (fun i cc => ld_rows D.ha (fun r cc => buf_rows D.ha I.hx (own_rows m c t D _) _ r cc) 7 _ (by omega) (by omega) i cc _ (by have := D.ha; omega)) (own_rows m c t D _) _ _ _ _ _ _ _ _ _ _ _ _ _, val_rows m c t D (by omega) rfl _ _ _, ld_state I.hc 1 _⟩ _ _ d e)
    · exact gate_rows m c t D (by omega) _ _ _ d e
    · exact gain_row m c t D (by omega) _ _ _ e
  · obtain ⟨d, e, rfl⟩ : ∃ d e : Fin 256, y = ix2 d e := ⟨y 0, y 1, eq_ix2 y⟩
    refine hm_of (h := 0) d e hk0 (by rw [hk1]; first | rfl | (show e.val = 256 * 0 + e.val; omega)) ?_ ?_ (hm0 ⟨⟨D.good, D.ha, by omega, D.h8, I.hm _⟩, conv_rows m c t D (fun i cc => ld_rows D.ha (fun r cc => buf_rows D.ha I.hx (own_rows m c t D _) _ r cc) 5 _ (by omega) (by omega) i cc _ (by have := D.ha; omega)) (fun i cc => ld_rows D.ha (fun r cc => buf_rows D.ha I.hx (own_rows m c t D _) _ r cc) 6 _ (by omega) (by omega) i cc _ (by have := D.ha; omega)) (fun i cc => ld_rows D.ha (fun r cc => buf_rows D.ha I.hx (own_rows m c t D _) _ r cc) 7 _ (by omega) (by omega) i cc _ (by have := D.ha; omega)) (own_rows m c t D _) _ _ _ _ _ _ _ _ _ _ _ _ _, val_rows m c t D (by omega) rfl _ _ _, ld_state I.hc 0 _⟩ _ _ d e)
    · exact gate_rows m c t D (by omega) _ _ _ d e
    · exact gain_row m c t D (by omega) _ _ _ e

theorem B4 (c : Dev nD) (t : Fin cfg0.N) (h0 : ¬t.val % 33 = 0) (h1 : (1 ≤ t.val % 33 ∧ t.val % 33 ≤ 31)) (h2 : ¬t.val % 33 = 32)
    {s : Seqs} {a : ℕ} (D : Blk s a (X0_7 m c t) (iblk m c 8 t) (iblk m c 11 t)) (hp : t.val - 1 < cfg0.N)
    (I : St s a (outsAt0 m c (t.val - 1) hp).2.2.1 (outsAt0 m c (t.val - 1) hp).2.2.2.1 (outsAt0 m c (t.val - 1) hp).2.2.2.2) :
    ∀ (r : Fin 264) (cc : Fin 1024), r.val < 8 → (outsAt0 m c t.val t.isLt).2.2.2.2 (ix2 r cc) = (s.x (a + 256 - 8 + r) cc : EReal) := by
  rw [outsAt0_B m c t h0 h1 h2]
  frame_open
  simp (disch := decide) only [↓ View.readCov_skip, ↓ View.readCov_cons_toLoadRect, ↓ View.readCov_fill]
  frame_out
  try simp only [read_unread_whole]
  intro r cc hr
  have ha := D.ha
  refine (row_hit 0 8 _ r cc (by omega) (by omega)).trans ?_
  pointwise [k0_pay131]
  refine cov_rows (f := fun p q => (s.x (a - 8 + p) q : EReal)) 256 _ (by omega) (fun r' cc' h h' => (row_hit 8 256 _ r' cc' (by omega) (by omega)).trans ((own_rows m c t D _ _ _).trans ?_)) _ cc _ ?_
  · show (s.x (a + (r'.val - 8)) cc'.val : EReal) = (s.x (a - 8 + r'.val) cc'.val : EReal)
    rw [show a + (r'.val - 8) = a - 8 + r'.val by omega]
  · show (s.x (a - 8 + (256 + (r.val - 0))) cc.val : EReal) = _
    rw [show a - 8 + (256 + (r.val - 0)) = a + 256 - 8 + r.val by omega]

end Cert.Mix
end
-- ==== Proof.Mix.PointFirst.lean ====
/- What the first grid point leaves: the meta rows enter the state, then the first chunk. -/
module

public import proofs.«01_k».proof.Proof.Mix.Points

@[expose] public section
set_option maxRecDepth 16384
noncomputable section
namespace Cert.Mix
open Idealize.ShloMosaic Idealize.ShloMosaic.TcCoe Idealize.SL.Sem
open Cert.KernelIdeal Cert.KernelIdeal.Gen
open Idealize.ShloMosaic.Pipeline (Dat)
/-- What the meta rows' windows hold, and that there is nothing before them. -/
structure BlkM (s : Seqs) (x9 : FVec Ideal S16x3072 .bf16) (x10 : FVec Ideal S16x128 .f32) : Prop where
  hx : ∀ (i : Fin 16) (c : Fin 3072), c.val < 2048 → x9 (ix2 i c) = (s.x (48 + i) c : EReal)
  h8 : ∀ (i : Fin 16) (l : Fin 128), l.val < 8 → x10 (ix2 i l) = s.g (48 + i) l
  h0 : ∀ p c, p < 48 → s.x p c = 0

/-- Before the meta rows the recurrence is at rest. -/
theorem rest (s : Seqs) (h : ℕ) (d : Fin 128) (e : ℕ) : MX (s.lf h) (s.li h) 48 = 0 ∧ Cst (s.lf h) (s.li h) (s.k h d) (s.v h e) 48 = 0 :=
  pad_state (fun j hj => if_pos hj) (fun j hj => if_pos hj) _ _

theorem zero_state (h : ℕ) (inb) (d : Fin 128) (e : Fin 384) :
    View.ld (Val := Elt Ideal) (e' := .f32) (k0_pay5 (F := Ideal)) (Rect.unit (s := S4x128x384) ![h, 0, 0] ![1, 128, 384] inb) (ix3 0 d e) = 0 := by
  show k0_pay5 (F := Ideal) _ = 0
  generalize LoadRect.idx _ _ = j
  idx_vars j
  pointwise [k0_pay5]

theorem zero_stab (h : ℕ) (inb) (d : Fin 8) (e : Fin 128) :
    View.ld (Val := Elt Ideal) (e' := .f32) (k0_pay6 (F := Ideal)) (Rect.unit (s := S4x8x128) ![h, 0, 0] ![1, 8, 128] inb) (ix3 0 d e) = 0 := by
  show k0_pay6 (F := Ideal) _ = 0
  generalize LoadRect.idx _ _ = j
  idx_vars j
  pointwise [k0_pay6]

/-- A buffer of four heads whose last four pieces stored are one head each: earlier pieces do not show. -/
theorem canon_heads {n p : ℕ} {e : EltTy} {w0 w1 w2 w3 : (⟨3, ![1, n, p]⟩ : Shape).Idx → Elt Ideal e} {L : List (View.Piece (Elt Ideal) ⟨3, ![4, n, p]⟩ e)} {b3 b2 b1 b0}
    {G : (⟨3, ![4, n, p]⟩ : Shape).Idx → Elt Ideal e}
    (h3 : ∀ i j, w3 (ix3 0 i j) = G (ix3 3 i j)) (h2 : ∀ i j, w2 (ix3 0 i j) = G (ix3 2 i j))
    (h1 : ∀ i j, w1 (ix3 0 i j) = G (ix3 1 i j)) (h0 : ∀ i j, w0 (ix3 0 i j) = G (ix3 0 i j)) (y : (⟨3, ![4, n, p]⟩ : Shape).Idx) :
    View.canon (Val := Elt Ideal) (e := e) (s := ⟨3, ![4, n, p]⟩) (⟨Rect.unit ![3, 0, 0] ![1, n, p] b3, w3⟩ :: ⟨Rect.unit ![2, 0, 0] ![1, n, p] b2, w2⟩
      :: ⟨Rect.unit ![1, 0, 0] ![1, n, p] b1, w1⟩ :: ⟨Rect.unit ![0, 0, 0] ![1, n, p] b0, w0⟩ :: L) y = G y := by
  have hit : ∀ (k : ℕ) (hk : k < 4) (b : ∀ a, ![k, 0, 0] a + ![1, n, p] a ≤ (⟨3, ![4, n, p]⟩ : Shape).size a) (w : (⟨3, ![1, n, p]⟩ : Shape).Idx → Elt Ideal e) (L) (i : Fin n) (j : Fin p),
      View.canon (Val := Elt Ideal) (e := e) (s := ⟨3, ![4, n, p]⟩) (⟨Rect.unit ![k, 0, 0] ![1, n, p] b, w⟩ :: L) (ix3 (⟨k, hk⟩ : Fin 4) i j) = w (ix3 0 i j) := by
    intro k hk b w L i j
    refine (congrArg (View.canon _) (?_ : (ix3 (⟨k, hk⟩ : Fin 4) i j : (⟨3, ![4, n, p]⟩ : Shape).Idx) = (Rect.unit (s := ⟨3, ![4, n, p]⟩) ![k, 0, 0] ![1, n, p] b).emb (ix3 (0 : Fin 1) i j))).trans (View.canon_cons_emb _ _ _ _)
    funext a
    match a with
    | 0 => exact Fin.ext ((Rect.emb_apply _ _ 0).trans (by show k + 1 * 0 = k; omega)).symm
    | 1 => exact Fin.ext ((Rect.emb_apply _ _ 1).trans (by show 0 + 1 * i.val = i.val; omega)).symm
    | 2 => exact Fin.ext ((Rect.emb_apply _ _ 2).trans (by show 0 + 1 * j.val = j.val; omega)).symm
  have miss : ∀ (k : ℕ) (b : ∀ a, ![k, 0, 0] a + ![1, n, p] a ≤ (⟨3, ![4, n, p]⟩ : Shape).size a) (w : (⟨3, ![1, n, p]⟩ : Shape).Idx → Elt Ideal e) (L) (h : Fin 4) (i : Fin n) (j : Fin p), h.val ≠ k →
      View.canon (Val := Elt Ideal) (e := e) (s := ⟨3, ![4, n, p]⟩) (⟨Rect.unit ![k, 0, 0] ![1, n, p] b, w⟩ :: L) (ix3 h i j) = View.canon L (ix3 h i j) := by
    intro k b w L h i j hne
    refine View.canon_cons_of_not_mem _ L fun hm => ?_
    have h2 := (Rect.mem_set_unit (s := ⟨3, ![4, n, p]⟩) (inb := b)).mp hm 0
    have : k ≤ h.val ∧ h.val < k + 1 := h2
    omega
  obtain ⟨h, i, j, rfl⟩ : ∃ (h : Fin 4) (i : Fin n) (j : Fin p), y = ix3 h i j := ⟨y 0, y 1, y 2, eq_ix3 y⟩
  match h with
  | 3 => exact (hit 3 (by decide) _ _ _ i j).trans (h3 i j)
  | 2 => exact (miss 3 _ _ _ _ i j (by decide)).trans ((hit 2 (by decide) _ _ _ i j).trans (h2 i j))
  | 1 => exact (miss 3 _ _ _ _ i j (by decide)).trans ((miss 2 _ _ _ _ i j (by decide)).trans ((hit 1 (by decide) _ _ _ i j).trans (h1 i j)))
  | 0 => exact (miss 3 _ _ _ _ i j (by decide)).trans ((miss 2 _ _ _ _ i j (by decide)).trans ((miss 1 _ _ _ _ i j (by decide)).trans ((hit 0 (by decide) _ _ _ i j).trans (h0 i j))))

variable (m : (ℓ : Loc nD τ sig) → Buf (Elt Ideal) ℓ)

/-- The meta rows themselves. -/
theorem meta_rows (c : Dev nD) (t : Fin cfg0.N) {s : Seqs} (E : BlkM s (X0_9 m c t) (iblk m c 10 t)) (u0) (i : Fin 16) (cc : Fin 1024) :
    k0_pay8 (F := Ideal) (View.ld (X0_9 m c t) (Rect.unit (s := S16x3072) ![0, 0] ![16, 1024] u0)) (ix2 i cc) = (s.x (48 + i) cc : EReal) := by
  pointwise [k0_pay8]
  exact E.hx i ⟨cc, by omega⟩ (by show cc.val < 2048; omega)

theorem first_rows (c : Dev nD) (t : Fin cfg0.N) {s : Seqs} (D : Blk s 64 (X0_7 m c t) (iblk m c 8 t) (iblk m c 11 t)) (u0) (i : Fin 256) (cc : Fin 1024) :
    k0_pay49 (F := Ideal) (View.ld (X0_7 m c t) (Rect.unit (s := S256x3072) ![0, 0] ![256, 1024] u0)) (ix2 i cc) = (s.x (64 + i) cc : EReal) := by
  pointwise [k0_pay49]
  exact D.hx i ⟨cc, by omega⟩ (by show cc.val < 2048; omega)

/-- The row buffer holding the meta rows, after eight zero rows. -/
theorem buf_meta (c : Dev nD) (t : Fin cfg0.N) {s : Seqs} (E : BlkM s (X0_9 m c t) (iblk m c 10 t)) {u0 b8 b0} (r : Fin 264) (cc : Fin 1024) (hr : r.val < 24) :
    View.canon (Val := Elt Ideal) (e := .f32) [⟨Rect.unit (s := S264x1024) ![8, 0] ![16, 1024] b8, k0_pay8 (F := Ideal) (View.ld (X0_9 m c t) (Rect.unit (s := S16x3072) ![0, 0] ![16, 1024] u0))⟩,
      ⟨Rect.unit (s := S264x1024) ![0, 0] ![8, 1024] b0, k0_pay7 (F := Ideal)⟩] (ix2 r cc) = (s.x (40 + r) cc : EReal) := by
  by_cases h : r.val < 8
  · refine (row_miss 8 16 _ r cc (Or.inl h)).trans ((row_hit 0 8 _ r cc (by omega) (by omega)).trans ?_)
    pointwise [k0_pay7]
    rw [E.h0 _ _ (by omega)]
    simp
  · refine (row_hit 8 16 _ r cc (by omega) (by omega)).trans ((meta_rows m c t E _ _ _).trans ?_)
    show (s.x (48 + (r.val - 8)) cc.val : EReal) = _
    rw [show 48 + (r.val - 8) = 40 + r.val by omega]

/-- The row buffer holding the first chunk, after the last eight meta rows. -/
theorem buf_first (c : Dev nD) (t : Fin cfg0.N) {s : Seqs} (D : Blk s 64 (X0_7 m c t) (iblk m c 8 t) (iblk m c 11 t)) (E : BlkM s (X0_9 m c t) (iblk m c 10 t)) {u0 u1 b8 b0 b8' b0' b16 L} (r : Fin 264) (cc : Fin 1024) :
    View.canon (Val := Elt Ideal) (e := .f32) (⟨Rect.unit (s := S264x1024) ![8, 0] ![256, 1024] b8, k0_pay49 (F := Ideal) (View.ld (X0_7 m c t) (Rect.unit (s := S256x3072) ![0, 0] ![256, 1024] u0))⟩ ::
      ⟨Rect.unit (s := S264x1024) ![0, 0] ![8, 1024] b0, k0_pay11 (F := Ideal) ((View.whole cc0_scratch4).readCov
        [⟨Rect.unit (s := S264x1024) ![8, 0] ![16, 1024] b8', k0_pay8 (F := Ideal) (View.ld (X0_9 m c t) (Rect.unit (s := S16x3072) ![0, 0] ![16, 1024] u1))⟩,
          ⟨Rect.unit (s := S264x1024) ![0, 0] ![8, 1024] b0', k0_pay7 (F := Ideal)⟩] (Rect.unit (s := S264x1024) ![16, 0] ![8, 1024] b16).toLoadRect)⟩ :: L) (ix2 r cc) = (s.x (56 + r) cc : EReal) := by
  by_cases h : r.val < 8
  · refine (row_miss 8 256 _ r cc (Or.inl h)).trans ((row_hit 0 8 _ r cc (by omega) (by omega)).trans ?_)
    pointwise [k0_pay11]
    refine cov_rows (f := fun p q => (s.x (40 + p) q : EReal)) 16 _ (by omega) (fun r' cc' h h' => buf_meta m c t E r' cc' (by omega)) _ cc _ ?_
    show (s.x (40 + (16 + (r.val - 0))) cc.val : EReal) = _
    rw [show 40 + (16 + (r.val - 0)) = 56 + r.val by omega]
  · refine (row_hit 8 256 _ r cc (by omega) (by omega)).trans ((first_rows m c t D _ _ _).trans ?_)
    show (s.x (64 + (r.val - 8)) cc.val : EReal) = _
    rw [show 64 + (r.val - 8) = 56 + r.val by omega]

/-- A head's values in the meta rows. -/
theorem val_meta (c : Dev nD) (t : Fin cfg0.N) {s : Seqs} (E : BlkM s (X0_9 m c t) (iblk m c 10 t)) {h p : ℕ} (hh : h < 4) (hp : p = 256 * h)
    (r0 i0 h0) (i : Fin 16) (e : Fin 256) :
    (View.readAt (Elt Ideal) (ms0_9 t).view ((Rect.unit (s := S16x3072) ![0, 1024] ![16, 1024] r0).withinL (Rect.unit (s := S16x1024) ![0, p] ![16, 256] i0).toLoadRect h0) ((hs0_9 t).unread (X0_9 m c t)) :
      S16x256.Idx → Elt Ideal .bf16) (ix2 i e)
      = (s.x (48 + i) (1024 + 256 * h + e) : EReal) := by
  subst hp
  refine (readAt_within (ms0_9 t) (hs0_9 t) (X0_9 m c t) _ _ _ i e (by omega) (by omega)).trans ?_
  refine Eq.trans (congrArg (X0_9 m c t) (?_ : _ = ix2 i (⟨1024 + 256 * h + e, by omega⟩ : Fin 3072))) (E.hx i _ (by show 1024 + 256 * h + e.val < 2048; omega))
  funext b
  match b with
  | 0 => exact Fin.ext (by show 0 + 0 + i.val = i.val; omega)
  | 1 => rfl

theorem A3 (c : Dev nD) (t : Fin cfg0.N) (h0 : t.val % 33 = 0) (h1 : ¬(1 ≤ t.val % 33 ∧ t.val % 33 ≤ 31)) (h2 : ¬t.val % 33 = 32)
    {s : Seqs} (D : Blk s 64 (X0_7 m c t) (iblk m c 8 t) (iblk m c 11 t)) (E : BlkM s (X0_9 m c t) (iblk m c 10 t)) :
    ∀ y, (outsAt0 m c t.val t.isLt).2.2.2.1 y = (MX (s.lf (y 0).val) (s.li (y 0).val) (64 + 256) : EReal) := by
  rw [outsAt0_A m c t h0 h1 h2]
  frame_open
  simp (disch := decide) only [↓ View.readCov_skip, ↓ View.readCov_cons_toLoadRect, ↓ View.readCov_fill]
  frame_out
  try simp only [read_unread_whole]
  refine canon_heads (n := 8) (p := 128) (e := .f32) (G := fun y => (MX (s.lf (y 0).val) (s.li (y 0).val) (64 + 256) : EReal)) ?_ ?_ ?_ ?_
  · exact fun r l => (congrFun (first_ms3 _ _) _).trans (ms3 ⟨D.good, D.ha, by omega, D.h8, mms3 ⟨D.good, by omega, by omega, E.h8, (zero_stab 3 _ _ _).trans (by rw [(rest s 3 0 0).1]; rfl)⟩ 0 0⟩ r l)
  · exact fun r l => (congrFun (first_ms2 _ _) _).trans (ms2 ⟨D.good, D.ha, by omega, D.h8, mms2 ⟨D.good, by omega, by omega, E.h8, (zero_stab 2 _ _ _).trans (by rw [(rest s 2 0 0).1]; rfl)⟩ 0 0⟩ r l)
  · exact fun r l => (congrFun (first_ms1 _ _) _).trans (ms1 ⟨D.good, D.ha, by omega, D.h8, mms1 ⟨D.good, by omega, by omega, E.h8, (zero_stab 1 _ _ _).trans (by rw [(rest s 1 0 0).1]; rfl)⟩ 0 0⟩ r l)
  · exact fun r l => (congrFun (first_ms0 _ _) _).trans (ms0 ⟨D.good, D.ha, by omega, D.h8, mms0 ⟨D.good, by omega, by omega, E.h8, (zero_stab 0 _ _ _).trans (by rw [(rest s 0 0 0).1]; rfl)⟩ 0 0⟩ r l)

theorem A2 (c : Dev nD) (t : Fin cfg0.N) (h0 : t.val % 33 = 0) (h1 : ¬(1 ≤ t.val % 33 ∧ t.val % 33 ≤ 31)) (h2 : ¬t.val % 33 = 32)
    {s : Seqs} (D : Blk s 64 (X0_7 m c t) (iblk m c 8 t) (iblk m c 11 t)) (E : BlkM s (X0_9 m c t) (iblk m c 10 t)) :
    ∀ y, (outsAt0 m c t.val t.isLt).2.2.1 y = (Cst (s.lf (y 0).val) (s.li (y 0).val) (s.k (y 0).val (y 1)) (s.v (y 0).val (y 2).val) (64 + 256) : EReal) := by
  rw [outsAt0_A m c t h0 h1 h2]
  frame_open
  simp (disch := decide) only [↓ View.readCov_skip, ↓ View.readCov_cons_toLoadRect, ↓ View.readCov_fill]
  frame_out
  try simp only [read_unread_whole]
  refine canon_heads (n := 128) (p := 384) (e := .f32) (G := fun y => (Cst (s.lf (y 0).val) (s.li (y 0).val) (s.k (y 0).val (y 1)) (s.v (y 0).val (y 2).val) (64 + 256) : EReal)) ?_ ?_ ?_ ?_
  · intro d e
    refine (congrFun (first_cs3 _ _ _ _ _) _).trans (cs3 ?_ d e)
    exact ⟨⟨D.good, D.ha, by omega, D.h8, mms3 ⟨D.good, by omega, by omega, E.h8, (zero_stab 3 _ _ _).trans (by rw [(rest s 3 0 0).1]; rfl)⟩ 0 0⟩, fun i cc => (congrFun (first_conv _ _ _ _ _ _ _ _ _) _).trans (conv_rows m c t D (fun i cc => cov_rows (f := fun p q => (s.x (56 + p) q : EReal)) 5 _ (by omega) (fun r cc h h' => buf_first m c t D E r cc) i cc _ (by show (s.x (56 + (5 + i.val)) cc.val : EReal) = _; congr 2; omega)) (fun i cc => cov_rows (f := fun p q => (s.x (56 + p) q : EReal)) 6 _ (by omega) (fun r cc h h' => buf_first m c t D E r cc) i cc _ (by show (s.x (56 + (6 + i.val)) cc.val : EReal) = _; congr 2; omega)) (fun i cc => cov_rows (f := fun p q => (s.x (56 + p) q : EReal)) 7 _ (by omega) (fun r cc h h' => buf_first m c t D E r cc) i cc _ (by show (s.x (56 + (7 + i.val)) cc.val : EReal) = _; congr 2; omega)) (first_rows m c t D _) _ _ _ _ _ _ _ _ _ _ _ _ _ i cc), fun i e => val_rows m c t D (h := 3) (p := 768) (by omega) rfl _ _ _ i e, mcs3 ⟨⟨D.good, by omega, by omega, E.h8, (zero_stab 3 _ _ _).trans (by rw [(rest s 3 0 0).1]; rfl)⟩, conv_rows_meta m c t D (fun i cc => cov_rows (f := fun p q => (s.x (40 + p) q : EReal)) 5 _ (by omega) (fun r cc h h' => buf_meta m c t E r cc (by omega)) i cc _ (by show (s.x (40 + (5 + i.val)) cc.val : EReal) = _; congr 2; omega)) (fun i cc => cov_rows (f := fun p q => (s.x (40 + p) q : EReal)) 6 _ (by omega) (fun r cc h h' => buf_meta m c t E r cc (by omega)) i cc _ (by show (s.x (40 + (6 + i.val)) cc.val : EReal) = _; congr 2; omega)) (fun i cc => cov_rows (f := fun p q => (s.x (40 + p) q : EReal)) 7 _ (by omega) (fun r cc h h' => buf_meta m c t E r cc (by omega)) i cc _ (by show (s.x (40 + (7 + i.val)) cc.val : EReal) = _; congr 2; omega)) (meta_rows m c t E _) _ _ _ _ _ _ _ _ _ _ _ _ _, fun i e => val_meta m c t E (h := 3) (p := 768) (by omega) rfl _ _ _ i e, fun d e => (zero_state 3 _ d e).trans (by rw [(rest s 3 d e).2]; rfl)⟩⟩
  · intro d e
    refine (congrFun (first_cs2 _ _ _ _ _) _).trans (cs2 ?_ d e)
    exact ⟨⟨D.good, D.ha, by omega, D.h8, mms2 ⟨D.good, by omega, by omega, E.h8, (zero_stab 2 _ _ _).trans (by rw [(rest s 2 0 0).1]; rfl)⟩ 0 0⟩, fun i cc => (congrFun (first_conv _ _ _ _ _ _ _ _ _) _).trans (conv_rows m c t D (fun i cc => cov_rows (f := fun p q => (s.x (56 + p) q : EReal)) 5 _ (by omega) (fun r cc h h' => buf_first m c t D E r cc) i cc _ (by show (s.x (56 + (5 + i.val)) cc.val : EReal) = _; congr 2; omega)) (fun i cc => cov_rows (f := fun p q => (s.x (56 + p) q : EReal)) 6 _ (by omega) (fun r cc h h' => buf_first m c t D E r cc) i cc _ (by show (s.x (56 + (6 + i.val)) cc.val : EReal) = _; congr 2; omega)) (fun i cc => cov_rows (f := fun p q => (s.x (56 + p) q : EReal)) 7 _ (by omega) (fun r cc h h' => buf_first m c t D E r cc) i cc _ (by show (s.x (56 + (7 + i.val)) cc.val : EReal) = _; congr 2; omega)) (first_rows m c t D _) _ _ _ _ _ _ _ _ _ _ _ _ _ i cc), fun i e => val_rows m c t D (h := 2) (p := 512) (by omega) rfl _ _ _ i e, mcs2 ⟨⟨D.good, by omega, by omega, E.h8, (zero_stab 2 _ _ _).trans (by rw [(rest s 2 0 0).1]; rfl)⟩, conv_rows_meta m c t D (fun i cc => cov_rows (f := fun p q => (s.x (40 + p) q : EReal)) 5 _ (by omega) (fun r cc h h' => buf_meta m c t E r cc (by omega)) i cc _ (by show (s.x (40 + (5 + i.val)) cc.val : EReal) = _; congr 2; omega)) (fun i cc => cov_rows (f := fun p q => (s.x (40 + p) q : EReal)) 6 _ (by omega) (fun r cc h h' => buf_meta m c t E r cc (by omega)) i cc _ (by show (s.x (40 + (6 + i.val)) cc.val : EReal) = _; congr 2; omega)) (fun i cc => cov_rows (f := fun p q => (s.x (40 + p) q : EReal)) 7 _ (by omega) (fun r cc h h' => buf_meta m c t E r cc (by omega)) i cc _ (by show (s.x (40 + (7 + i.val)) cc.val : EReal) = _; congr 2; omega)) (meta_rows m c t E _) _ _ _ _ _ _ _ _ _ _ _ _ _, fun i e => val_meta m c t E (h := 2) (p := 512) (by omega) rfl _ _ _ i e, fun d e => (zero_state 2 _ d e).trans (by rw [(rest s 2 d e).2]; rfl)⟩⟩
  · intro d e
    refine (congrFun (first_cs1 _ _ _ _ _) _).trans (cs1 ?_ d e)
    exact ⟨⟨D.good, D.ha, by omega, D.h8, mms1 ⟨D.good, by omega, by omega, E.h8, (zero_stab 1 _ _ _).trans (by rw [(rest s 1 0 0).1]; rfl)⟩ 0 0⟩, fun i cc => (congrFun (first_conv _ _ _ _ _ _ _ _ _) _).trans (conv_rows m c t D (fun i cc => cov_rows (f := fun p q => (s.x (56 + p) q : EReal)) 5 _ (by omega) (fun r cc h h' => buf_first m c t D E r cc) i cc _ (by show (s.x (56 + (5 + i.val)) cc.val : EReal) = _; congr 2; omega)) (fun i cc => cov_rows (f := fun p q => (s.x (56 + p) q : EReal)) 6 _ (by omega) (fun r cc h h' => buf_first m c t D E r cc) i cc _ (by show (s.x (56 + (6 + i.val)) cc.val : EReal) = _; congr 2; omega)) (fun i cc => cov_rows (f := fun p q => (s.x (56 + p) q : EReal)) 7 _ (by omega) (fun r cc h h' => buf_first m c t D E r cc) i cc _ (by show (s.x (56 + (7 + i.val)) cc.val : EReal) = _; congr 2; omega)) (first_rows m c t D _) _ _ _ _ _ _ _ _ _ _ _ _ _ i cc), fun i e => val_rows m c t D (h := 1) (p := 256) (by omega) rfl _ _ _ i e, mcs1 ⟨⟨D.good, by omega, by omega, E.h8, (zero_stab 1 _ _ _).trans (by rw [(rest s 1 0 0).1]; rfl)⟩, conv_rows_meta m c t D (fun i cc => cov_rows (f := fun p q => (s.x (40 + p) q : EReal)) 5 _ (by omega) (fun r cc h h' => buf_meta m c t E r cc (by omega)) i cc _ (by show (s.x (40 + (5 + i.val)) cc.val : EReal) = _; congr 2; omega)) (fun i cc => cov_rows (f := fun p q => (s.x (40 + p) q : EReal)) 6 _ (by omega) (fun r cc h h' => buf_meta m c t E r cc (by omega)) i cc _ (by show (s.x (40 + (6 + i.val)) cc.val : EReal) = _; congr 2; omega)) (fun i cc => cov_rows (f := fun p q => (s.x (40 + p) q : EReal)) 7 _ (by omega) (fun r cc h h' => buf_meta m c t E r cc (by omega)) i cc _ (by show (s.x (40 + (7 + i.val)) cc.val : EReal) = _; congr 2; omega)) (meta_rows m c t E _) _ _ _ _ _ _ _ _ _ _ _ _ _, fun i e => val_meta m c t E (h := 1) (p := 256) (by omega) rfl _ _ _ i e, fun d e => (zero_state 1 _ d e).trans (by rw [(rest s 1 d e).2]; rfl)⟩⟩
  · intro d e
    refine (congrFun (first_cs0 _ _ _ _ _) _).trans (cs0 ?_ d e)
    exact ⟨⟨D.good, D.ha, by omega, D.h8, mms0 ⟨D.good, by omega, by omega, E.h8, (zero_stab 0 _ _ _).trans (by rw [(rest s 0 0 0).1]; rfl)⟩ 0 0⟩, fun i cc => (congrFun (first_conv _ _ _ _ _ _ _ _ _) _).trans (conv_rows m c t D (fun i cc => cov_rows (f := fun p q => (s.x (56 + p) q : EReal)) 5 _ (by omega) (fun r cc h h' => buf_first m c t D E r cc) i cc _ (by show (s.x (56 + (5 + i.val)) cc.val : EReal) = _; congr 2; omega)) (fun i cc => cov_rows (f := fun p q => (s.x (56 + p) q : EReal)) 6 _ (by omega) (fun r cc h h' => buf_first m c t D E r cc) i cc _ (by show (s.x (56 + (6 + i.val)) cc.val : EReal) = _; congr 2; omega)) (fun i cc => cov_rows (f := fun p q => (s.x (56 + p) q : EReal)) 7 _ (by omega) (fun r cc h h' => buf_first m c t D E r cc) i cc _ (by show (s.x (56 + (7 + i.val)) cc.val : EReal) = _; congr 2; omega)) (first_rows m c t D _) _ _ _ _ _ _ _ _ _ _ _ _ _ i cc), fun i e => val_rows m c t D (h := 0) (p := 0) (by omega) rfl _ _ _ i e, mcs0 ⟨⟨D.good, by omega, by omega, E.h8, (zero_stab 0 _ _ _).trans (by rw [(rest s 0 0 0).1]; rfl)⟩, conv_rows_meta m c t D (fun i cc => cov_rows (f := fun p q => (s.x (40 + p) q : EReal)) 5 _ (by omega) (fun r cc h h' => buf_meta m c t E r cc (by omega)) i cc _ (by show (s.x (40 + (5 + i.val)) cc.val : EReal) = _; congr 2; omega)) (fun i cc => cov_rows (f := fun p q => (s.x (40 + p) q : EReal)) 6 _ (by omega) (fun r cc h h' => buf_meta m c t E r cc (by omega)) i cc _ (by show (s.x (40 + (6 + i.val)) cc.val : EReal) = _; congr 2; omega)) (fun i cc => cov_rows (f := fun p q => (s.x (40 + p) q : EReal)) 7 _ (by omega) (fun r cc h h' => buf_meta m c t E r cc (by omega)) i cc _ (by show (s.x (40 + (7 + i.val)) cc.val : EReal) = _; congr 2; omega)) (meta_rows m c t E _) _ _ _ _ _ _ _ _ _ _ _ _ _, fun i e => val_meta m c t E (h := 0) (p := 0) (by omega) rfl _ _ _ i e, fun d e => (zero_state 0 _ d e).trans (by rw [(rest s 0 d e).2]; rfl)⟩⟩

theorem A1 (c : Dev nD) (t : Fin cfg0.N) (h0 : t.val % 33 = 0) (h1 : ¬(1 ≤ t.val % 33 ∧ t.val % 33 ≤ 31)) (h2 : ¬t.val % 33 = 32)
    {s : Seqs} (D : Blk s 64 (X0_7 m c t) (iblk m c 8 t) (iblk m c 11 t)) (E : BlkM s (X0_9 m c t) (iblk m c 10 t)) :
    ∀ y, (outsAt0 m c t.val t.isLt).2.1 y = s.hm (64 + (y 0).val) (y 1).val := by
  rw [outsAt0_A m c t h0 h1 h2]
  frame_open
  simp (disch := decide) only [↓ View.readCov_skip, ↓ View.readCov_cons_toLoadRect, ↓ View.readCov_fill]
  frame_out
  try simp only [read_unread_whole]
  intro y
  canon_tiles y hk
  · obtain ⟨d, e, rfl⟩ : ∃ d e : Fin 256, y = ix2 d e := ⟨y 0, y 1, eq_ix2 y⟩
    refine hm_of (h := 3) d e hk0 (by rw [hk1]; first | rfl | (show e.val = 256 * 0 + e.val; omega)) ?_ ?_ ((congrFun (first_hm3 _ _ _ _ _ _ _) _).trans (hm3 ?_ _ _ d e))
    · exact gate_rows m c t D (by omega) _ _ _ d e
    · exact gain_row m c t D (by omega) _ _ _ e
    · exact ⟨⟨D.good, D.ha, by omega, D.h8, mms3 ⟨D.good, by omega, by omega, E.h8, (zero_stab 3 _ _ _).trans (by rw [(rest s 3 0 0).1]; rfl)⟩ 0 0⟩, fun i cc => (congrFun (first_conv _ _ _ _ _ _ _ _ _) _).trans (conv_rows m c t D (fun i cc => cov_rows (f := fun p q => (s.x (56 + p) q : EReal)) 5 _ (by omega) (fun r cc h h' => buf_first m c t D E r cc) i cc _ (by show (s.x (56 + (5 + i.val)) cc.val : EReal) = _; congr 2; omega)) (fun i cc => cov_rows (f := fun p q => (s.x (56 + p) q : EReal)) 6 _ (by omega) (fun r cc h h' => buf_first m c t D E r cc) i cc _ (by show (s.x (56 + (6 + i.val)) cc.val : EReal) = _; congr 2; omega)) (fun i cc => cov_rows (f := fun p q => (s.x (56 + p) q : EReal)) 7 _ (by omega) (fun r cc h h' => buf_first m c t D E r cc) i cc _ (by show (s.x (56 + (7 + i.val)) cc.val : EReal) = _; congr 2; omega)) (first_rows m c t D _) _ _ _ _ _ _ _ _ _ _ _ _ _ i cc), fun i e => val_rows m c t D (h := 3) (p := 768) (by omega) rfl _ _ _ i e, mcs3 ⟨⟨D.good, by omega, by omega, E.h8, (zero_stab 3 _ _ _).trans (by rw [(rest s 3 0 0).1]; rfl)⟩, conv_rows_meta m c t D (fun i cc => cov_rows (f := fun p q => (s.x (40 + p) q : EReal)) 5 _ (by omega) (fun r cc h h' => buf_meta m c t E r cc (by omega)) i cc _ (by show (s.x (40 + (5 + i.val)) cc.val : EReal) = _; congr 2; omega)) (fun i cc => cov_rows (f := fun p q => (s.x (40 + p) q : EReal)) 6 _ (by omega) (fun r cc h h' => buf_meta m c t E r cc (by omega)) i cc _ (by show (s.x (40 + (6 + i.val)) cc.val : EReal) = _; congr 2; omega)) (fun i cc => cov_rows (f := fun p q => (s.x (40 + p) q : EReal)) 7 _ (by omega) (fun r cc h h' => buf_meta m c t E r cc (by omega)) i cc _ (by show (s.x (40 + (7 + i.val)) cc.val : EReal) = _; congr 2; omega)) (meta_rows m c t E _) _ _ _ _ _ _ _ _ _ _ _ _ _, fun i e => val_meta m c t E (h := 3) (p := 768) (by omega) rfl _ _ _ i e, fun d e => (zero_state 3 _ d e).trans (by rw [(rest s 3 d e).2]; rfl)⟩⟩
  · obtain ⟨d, e, rfl⟩ : ∃ d e : Fin 256, y = ix2 d e := ⟨y 0, y 1, eq_ix2 y⟩
    refine hm_of (h := 2) d e hk0 (by rw [hk1]; first | rfl | (show e.val = 256 * 0 + e.val; omega)) ?_ ?_ ((congrFun (first_hm2 _ _ _ _ _ _ _) _).trans (hm2 ?_ _ _ d e))
    · exact gate_rows m c t D (by omega) _ _ _ d e
    · exact gain_row m c t D (by omega) _ _ _ e
    · exact ⟨⟨D.good, D.ha, by omega, D.h8, mms2 ⟨D.good, by omega, by omega, E.h8, (zero_stab 2 _ _ _).trans (by rw [(rest s 2 0 0).1]; rfl)⟩ 0 0⟩, fun i cc => (congrFun (first_conv _ _ _ _ _ _ _ _ _) _).trans (conv_rows m c t D (fun i cc => cov_rows (f := fun p q => (s.x (56 + p) q : EReal)) 5 _ (by omega) (fun r cc h h' => buf_first m c t D E r cc) i cc _ (by show (s.x (56 + (5 + i.val)) cc.val : EReal) = _; congr 2; omega)) (fun i cc => cov_rows (f := fun p q => (s.x (56 + p) q : EReal)) 6 _ (by omega) (fun r cc h h' => buf_first m c t D E r cc) i cc _ (by show (s.x (56 + (6 + i.val)) cc.val : EReal) = _; congr 2; omega)) (fun i cc => cov_rows (f := fun p q => (s.x (56 + p) q : EReal)) 7 _ (by omega) (fun r cc h h' => buf_first m c t D E r cc) i cc _ (by show (s.x (56 + (7 + i.val)) cc.val : EReal) = _; congr 2; omega)) (first_rows m c t D _) _ _ _ _ _ _ _ _ _ _ _ _ _ i cc), fun i e => val_rows m c t D (h := 2) (p := 512) (by omega) rfl _ _ _ i e, mcs2 ⟨⟨D.good, by omega, by omega, E.h8, (zero_stab 2 _ _ _).trans (by rw [(rest s 2 0 0).1]; rfl)⟩, conv_rows_meta m c t D (fun i cc => cov_rows (f := fun p q => (s.x (40 + p) q : EReal)) 5 _ (by omega) (fun r cc h h' => buf_meta m c t E r cc (by omega)) i cc _ (by show (s.x (40 + (5 + i.val)) cc.val : EReal) = _; congr 2; omega)) (fun i cc => cov_rows (f := fun p q => (s.x (40 + p) q : EReal)) 6 _ (by omega) (fun r cc h h' => buf_meta m c t E r cc (by omega)) i cc _ (by show (s.x (40 + (6 + i.val)) cc.val : EReal) = _; congr 2; omega)) (fun i cc => cov_rows (f := fun p q => (s.x (40 + p) q : EReal)) 7 _ (by omega) (fun r cc h h' => buf_meta m c t E r cc (by omega)) i cc _ (by show (s.x (40 + (7 + i.val)) cc.val : EReal) = _; congr 2; omega)) (meta_rows m c t E _) _ _ _ _ _ _ _ _ _ _ _ _ _, fun i e => val_meta m c t E (h := 2) (p := 512) (by omega) rfl _ _ _ i e, fun d e => (zero_state 2 _ d e).trans (by rw [(rest s 2 d e).2]; rfl)⟩⟩
  · obtain ⟨d, e, rfl⟩ : ∃ d e : Fin 256, y = ix2 d e := ⟨y 0, y 1, eq_ix2 y⟩
    refine hm_of (h := 1) d e hk0 (by rw [hk1]; first | rfl | (show e.val = 256 * 0 + e.val; omega)) ?_ ?_ ((congrFun (first_hm1 _ _ _ _ _ _ _) _).trans (hm1 ?_ _ _ d e))
    · exact gate_rows m c t D (by omega) _ _ _ d e
    · exact gain_row m c t D (by omega) _ _ _ e
    · exact ⟨⟨D.good, D.ha, by omega, D.h8, mms1 ⟨D.good, by omega, by omega, E.h8, (zero_stab 1 _ _ _).trans (by rw [(rest s 1 0 0).1]; rfl)⟩ 0 0⟩, fun i cc => (congrFun (first_conv _ _ _ _ _ _ _ _ _) _).trans (conv_rows m c t D (fun i cc => cov_rows (f := fun p q => (s.x (56 + p) q : EReal)) 5 _ (by omega) (fun r cc h h' => buf_first m c t D E r cc) i cc _ (by show (s.x (56 + (5 + i.val)) cc.val : EReal) = _; congr 2; omega)) (fun i cc => cov_rows (f := fun p q => (s.x (56 + p) q : EReal)) 6 _ (by omega) (fun r cc h h' => buf_first m c t D E r cc) i cc _ (by show (s.x (56 + (6 + i.val)) cc.val : EReal) = _; congr 2; omega)) (fun i cc => cov_rows (f := fun p q => (s.x (56 + p) q : EReal)) 7 _ (by omega) (fun r cc h h' => buf_first m c t D E r cc) i cc _ (by show (s.x (56 + (7 + i.val)) cc.val : EReal) = _; congr 2; omega)) (first_rows m c t D _) _ _ _ _ _ _ _ _ _ _ _ _ _ i cc), fun i e => val_rows m c t D (h := 1) (p := 256) (by omega) rfl _ _ _ i e, mcs1 ⟨⟨D.good, by omega, by omega, E.h8, (zero_stab 1 _ _ _).trans (by rw [(rest s 1 0 0).1]; rfl)⟩, conv_rows_meta m c t D (fun i cc => cov_rows (f := fun p q => (s.x (40 + p) q : EReal)) 5 _ (by omega) (fun r cc h h' => buf_meta m c t E r cc (by omega)) i cc _ (by show (s.x (40 + (5 + i.val)) cc.val : EReal) = _; congr 2; omega)) (fun i cc => cov_rows (f := fun p q => (s.x (40 + p) q : EReal)) 6 _ (by omega) (fun r cc h h' => buf_meta m c t E r cc (by omega)) i cc _ (by show (s.x (40 + (6 + i.val)) cc.val : EReal) = _; congr 2; omega)) (fun i cc => cov_rows (f := fun p q => (s.x (40 + p) q : EReal)) 7 _ (by omega) (fun r cc h h' => buf_meta m c t E r cc (by omega)) i cc _ (by show (s.x (40 + (7 + i.val)) cc.val : EReal) = _; congr 2; omega)) (meta_rows m c t E _) _ _ _ _ _ _ _ _ _ _ _ _ _, fun i e => val_meta m c t E (h := 1) (p := 256) (by omega) rfl _ _ _ i e, fun d e => (zero_state 1 _ d e).trans (by rw [(rest s 1 d e).2]; rfl)⟩⟩
  · obtain ⟨d, e, rfl⟩ : ∃ d e : Fin 256, y = ix2 d e := ⟨y 0, y 1, eq_ix2 y⟩
    refine hm_of (h := 0) d e hk0 (by rw [hk1]; first | rfl | (show e.val = 256 * 0 + e.val; omega)) ?_ ?_ ((congrFun (first_hm0 _ _ _ _ _ _ _) _).trans (hm0 ?_ _ _ d e))
    · exact gate_rows m c t D (by omega) _ _ _ d e
    · exact gain_row m c t D (by omega) _ _ _ e
    · exact ⟨⟨D.good, D.ha, by omega, D.h8, mms0 ⟨D.good, by omega, by omega, E.h8, (zero_stab 0 _ _ _).trans (by rw [(rest s 0 0 0).1]; rfl)⟩ 0 0⟩, fun i cc => (congrFun (first_conv _ _ _ _ _ _ _ _ _) _).trans (conv_rows m c t D (fun i cc => cov_rows (f := fun p q => (s.x (56 + p) q : EReal)) 5 _ (by omega) (fun r cc h h' => buf_first m c t D E r cc) i cc _ (by show (s.x (56 + (5 + i.val)) cc.val : EReal) = _; congr 2; omega)) (fun i cc => cov_rows (f := fun p q => (s.x (56 + p) q : EReal)) 6 _ (by omega) (fun r cc h h' => buf_first m c t D E r cc) i cc _ (by show (s.x (56 + (6 + i.val)) cc.val : EReal) = _; congr 2; omega)) (fun i cc => cov_rows (f := fun p q => (s.x (56 + p) q : EReal)) 7 _ (by omega) (fun r cc h h' => buf_first m c t D E r cc) i cc _ (by show (s.x (56 + (7 + i.val)) cc.val : EReal) = _; congr 2; omega)) (first_rows m c t D _) _ _ _ _ _ _ _ _ _ _ _ _ _ i cc), fun i e => val_rows m c t D (h := 0) (p := 0) (by omega) rfl _ _ _ i e, mcs0 ⟨⟨D.good, by omega, by omega, E.h8, (zero_stab 0 _ _ _).trans (by rw [(rest s 0 0 0).1]; rfl)⟩, conv_rows_meta m c t D (fun i cc => cov_rows (f := fun p q => (s.x (40 + p) q : EReal)) 5 _ (by omega) (fun r cc h h' => buf_meta m c t E r cc (by omega)) i cc _ (by show (s.x (40 + (5 + i.val)) cc.val : EReal) = _; congr 2; omega)) (fun i cc => cov_rows (f := fun p q => (s.x (40 + p) q : EReal)) 6 _ (by omega) (fun r cc h h' => buf_meta m c t E r cc (by omega)) i cc _ (by show (s.x (40 + (6 + i.val)) cc.val : EReal) = _; congr 2; omega)) (fun i cc => cov_rows (f := fun p q => (s.x (40 + p) q : EReal)) 7 _ (by omega) (fun r cc h h' => buf_meta m c t E r cc (by omega)) i cc _ (by show (s.x (40 + (7 + i.val)) cc.val : EReal) = _; congr 2; omega)) (meta_rows m c t E _) _ _ _ _ _ _ _ _ _ _ _ _ _, fun i e => val_meta m c t E (h := 0) (p := 0) (by omega) rfl _ _ _ i e, fun d e => (zero_state 0 _ d e).trans (by rw [(rest s 0 d e).2]; rfl)⟩⟩

theorem A4 (c : Dev nD) (t : Fin cfg0.N) (h0 : t.val % 33 = 0) (h1 : ¬(1 ≤ t.val % 33 ∧ t.val % 33 ≤ 31)) (h2 : ¬t.val % 33 = 32)
    {s : Seqs} (D : Blk s 64 (X0_7 m c t) (iblk m c 8 t) (iblk m c 11 t)) (E : BlkM s (X0_9 m c t) (iblk m c 10 t)) :
    ∀ (r : Fin 264) (cc : Fin 1024), r.val < 8 → (outsAt0 m c t.val t.isLt).2.2.2.2 (ix2 r cc) = (s.x (64 + 256 - 8 + r) cc : EReal) := by
  rw [outsAt0_A m c t h0 h1 h2]
  frame_open
  simp (disch := decide) only [↓ View.readCov_skip, ↓ View.readCov_cons_toLoadRect, ↓ View.readCov_fill]
  frame_out
  try simp only [read_unread_whole]
  intro r cc hr
  refine (row_hit 0 8 _ r cc (by omega) (by omega)).trans ?_
  pointwise [k0_pay52]
  refine cov_rows (f := fun p q => (s.x (56 + p) q : EReal)) 256 _ (by omega) (fun r' cc' h h' => buf_first m c t D E r' cc') _ cc _ ?_
  show (s.x (56 + (256 + (r.val - 0))) cc.val : EReal) = _
  rw [show 56 + (256 + (r.val - 0)) = 64 + 256 - 8 + r.val by omega]

end Cert.Mix
end
-- ==== Proof.Mix.Merge.lean ====
/- The merge of the two branches, one row at a time. -/
module

public import proofs.«01_k».proof.Proof.Mix.PointFirst
public import proofs.«01_k».proof.Proof.Mix.Args

@[expose] public section
set_option maxRecDepth 16384
noncomputable section
namespace Cert.Mix
open Idealize.ShloMosaic Idealize.ShloMosaic.TcCoe Idealize.SL.Sem
open Cert.KernelIdeal Cert.KernelIdeal.Gen
open Idealize.ShloMosaic.Pipeline (Dat)

theorem merge_last (hm ha : FVec Ideal S256x1024 .bf16) (MW AW : FVec Ideal S1024x2048 .bf16) (g1 g2 : FVec Ideal S256x2048 .bf16) (WO : FVec Ideal S2048x2048 .bf16)
    (h : FVec Ideal S256x2048 .f32) (gp : FVec Ideal S1x2048 .f32) (i : Fin 256) (c : Fin 2048) :
    k0_pay4 (F := Ideal) h (k0_pay211 (F := Ideal) (k0_pay210 (F := Ideal) hm) MW ha AW g1 g2 WO) gp (ix2 i c)
      = mrow (fun q => hm (ix2 i q)) (fun q => ha (ix2 i q)) (fun k => g1 (ix2 i k)) (fun k => g2 (ix2 i k)) (fun k => h (ix2 i k)) (fun k => gp (ix2 0 k))
          (fun q k => MW (ix2 q k)) (fun q k => AW (ix2 q k)) (fun q k => WO (ix2 q k)) c := by
  pointwise [k0_pay4, k0_pay211, k0_pay210]
  rfl

theorem merge_mid (hm ha : FVec Ideal S256x1024 .bf16) (MW AW : FVec Ideal S1024x2048 .bf16) (g1 g2 : FVec Ideal S256x2048 .bf16) (WO : FVec Ideal S2048x2048 .bf16)
    (h : FVec Ideal S256x2048 .f32) (gp : FVec Ideal S1x2048 .f32) (i : Fin 256) (c : Fin 2048) :
    k0_pay192 (F := Ideal) (k0_pay174 (F := Ideal) (k0_pay155 (F := Ideal) (k0_pay127 (F := Ideal) (k0_pay126 (F := Ideal) hm) MW) (k0_pay137 (F := Ideal) ha AW) g1 g2) WO) h gp (ix2 i c)
      = mrow (fun q => hm (ix2 i q)) (fun q => ha (ix2 i q)) (fun k => g1 (ix2 i k)) (fun k => g2 (ix2 i k)) (fun k => h (ix2 i k)) (fun k => gp (ix2 0 k))
          (fun q k => MW (ix2 q k)) (fun q k => AW (ix2 q k)) (fun q k => WO (ix2 q k)) c := by
  pointwise [k0_pay192, k0_pay174, k0_pay155, k0_pay127, k0_pay126, k0_pay137]
  rfl

variable (m : (ℓ : Loc nD τ sig) → Buf (Elt Ideal) ℓ)

/-- A point's output rows from its windows and the head outputs of the point before. -/
def outRow (c : Dev nD) (t : Fin cfg0.N) (hm : FVec Ideal S256x1024 .bf16) (y : S256x2048.Idx) : EReal :=
  mrow (fun q => hm (ix2 (y 0) q)) (fun q => iblk m c 0 t (ix2 (y 0 : Fin 256) q)) (fun k => iblk m c 1 t (ix2 (y 0 : Fin 256) (⟨k, by omega⟩ : Fin 4096)))
    (fun k => iblk m c 1 t (ix2 (y 0 : Fin 256) (⟨2048 + k, by omega⟩ : Fin 4096))) (fun k => iblk m c 2 t (ix2 (y 0 : Fin 256) k)) (fun k => iblk m c 6 t (ix2 (0 : Fin 1) k))
    (fun q k => iblk m c 3 t (ix2 q k)) (fun q k => iblk m c 4 t (ix2 q k)) (fun q k => iblk m c 5 t (ix2 q k)) (y 1)

theorem B0 (c : Dev nD) (t : Fin cfg0.N) (h0 : ¬t.val % 33 = 0) (h1 : (1 ≤ t.val % 33 ∧ t.val % 33 ≤ 31)) (h2 : ¬t.val % 33 = 32) (hp : t.val - 1 < cfg0.N) :
    ∀ y, (outsAt0 m c t.val t.isLt).1 y = outRow m c t (outsAt0 m c (t.val - 1) hp).2.1 y := by
  rw [outsAt0_B m c t h0 h1 h2]
  frame_open
  simp (disch := decide) only [↓ View.readCov_skip, ↓ View.readCov_cons_toLoadRect, ↓ View.readCov_fill]
  frame_out
  try simp only [read_unread_whole]
  intro y
  idx_vars y
  refine (merge_mid _ _ _ _ _ _ _ _ _ _ _).trans ?_
  have e1 : ∀ k : Fin 2048, View.ld (Val := Elt Ideal) (e' := .bf16) (iblk m c 1 t) (Rect.unit (s := S256x4096) ![0, 0] ![256, 2048] inb_S256x4096_S256x2048_0_0) (ix2 y0 k) = iblk m c 1 t (ix2 y0 (⟨k, by omega⟩ : Fin 4096)) := by
    intro k
    pointwise []
  have e2 : ∀ k : Fin 2048, View.ld (Val := Elt Ideal) (e' := .bf16) (iblk m c 1 t) (Rect.unit (s := S256x4096) ![0, 2048] ![256, 2048] inb_S256x4096_S256x2048_0_2048) (ix2 y0 k) = iblk m c 1 t (ix2 y0 (⟨2048 + k, by omega⟩ : Fin 4096)) := by
    intro k
    pointwise []
  rw [funext e1, funext e2]
  rfl

theorem C0 (c : Dev nD) (t : Fin cfg0.N) (h0 : ¬t.val % 33 = 0) (h1 : ¬(1 ≤ t.val % 33 ∧ t.val % 33 ≤ 31)) (h2 : t.val % 33 = 32) (hp : t.val - 1 < cfg0.N) :
    ∀ y, (outsAt0 m c t.val t.isLt).1 y = outRow m c t (outsAt0 m c (t.val - 1) hp).2.1 y := by
  rw [outsAt0_C m c t h0 h1 h2]
  frame_open
  simp (disch := decide) only [↓ View.readCov_skip, ↓ View.readCov_cons_toLoadRect, ↓ View.readCov_fill]
  frame_out
  try simp only [read_unread_whole]
  intro y
  idx_vars y
  refine (merge_last _ _ _ _ _ _ _ _ _ _ _).trans ?_
  have e1 : ∀ k : Fin 2048, View.ld (Val := Elt Ideal) (e' := .bf16) (iblk m c 1 t) (Rect.unit (s := S256x4096) ![0, 0] ![256, 2048] inb_S256x4096_S256x2048_0_0) (ix2 y0 k) = iblk m c 1 t (ix2 y0 (⟨k, by omega⟩ : Fin 4096)) := by
    intro k
    pointwise []
  have e2 : ∀ k : Fin 2048, View.ld (Val := Elt Ideal) (e' := .bf16) (iblk m c 1 t) (Rect.unit (s := S256x4096) ![0, 2048] ![256, 2048] inb_S256x4096_S256x2048_0_2048) (ix2 y0 k) = iblk m c 1 t (ix2 y0 (⟨2048 + k, by omega⟩ : Fin 4096)) := by
    intro k
    pointwise []
  rw [funext e1, funext e2]
  rfl

end Cert.Mix
end
-- ==== Proof.Mix.Blocks.lean ====
/- What the windows' blocks hold: entries of the argument arrays. -/
module

public import proofs.«01_k».proof.Proof.Mix.PointFirst
public import proofs.«01_k».proof.Proof.Mix.Merge
public import proofs.«01_k».proof.Proof.Mix.Args

@[expose] public section
set_option maxRecDepth 16384
noncomputable section
namespace Cert.Mix
open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The block each window takes at each point. -/
theorem idx : ∀ t : Fin cfg0.N, win0_0.index t = ![t.val - 1, 0] ∧ win0_2.index t = ![t.val - 1, 0] ∧ win0_3.index t = ![0, 0] ∧ win0_4.index t = ![0, 0] ∧ win0_5.index t = ![0, 0]
    ∧ win0_6.index t = ![0, 0] ∧ win0_7.index t = ![min t.val 31, 0] ∧ win0_8.index t = ![min t.val 31, 0] ∧ win0_9.index t = ![0, 0] ∧ win0_10.index t = ![0, 0] ∧ win0_11.index t = ![0, 0] ∧ win0_12.index t = ![t.val - 1, 0] :=
  (by decide +kernel : ∀ t : Fin grid0.N, _)

/-- Where the gates' window starts at each point. -/
theorem idx1 : ∀ t : Fin cfg0.N, cc0_transform_1 (grid0.coords t) = ![256 * (t.val - 1), 6144] :=
  (by decide +kernel : ∀ t : Fin grid0.N, _)

theorem lt33 (t : Fin cfg0.N) : t.val < 33 := t.isLt

theorem b0 (c : Dev nD) (t : Fin cfg0.N) (i : Fin 256) (q : Fin 1024) :
    iblk m c 0 t (ix2 i q) = m ((c : Thread nD τ).loc main_arg4) (ix2 (⟨256 * (t.val - 1) + i.val, by have := lt33 t; omega⟩ : Fin 8192) (⟨q.val, by omega⟩ : Fin 1024)) := by
  obtain ⟨i0, i2, i3, i4, i5, i6, i7, i8, i9, i10, i11, i12⟩ := idx t
  show V m c main_arg4 ((win0_0.blk t).view.emb _) = _
  rw [V_main_arg4]
  refine congrArg (m ((c : Thread nD τ).loc main_arg4)) ?_
  funext a
  match a with
  | 0 => exact Fin.ext (by show win0_0.index t 0 * 256 + 1 * i.val = 256 * (t.val - 1) + i.val; rw [i0]; show (t.val - 1) * 256 + 1 * i.val = _; omega)
  | 1 => exact Fin.ext (by show win0_0.index t 1 * 1024 + 1 * q.val = q.val; rw [i0]; show 0 * 1024 + 1 * q.val = _; omega)

theorem b2 (c : Dev nD) (t : Fin cfg0.N) (i : Fin 256) (q : Fin 2048) :
    iblk m c 2 t (ix2 i q) = m ((c : Thread nD τ).loc main_arg5) (ix2 (⟨256 * (t.val - 1) + i.val, by have := lt33 t; omega⟩ : Fin 8192) (⟨q.val, by omega⟩ : Fin 2048)) := by
  obtain ⟨i0, i2, i3, i4, i5, i6, i7, i8, i9, i10, i11, i12⟩ := idx t
  show V m c main_arg5 ((win0_2.blk t).view.emb _) = _
  rw [V_main_arg5]
  refine congrArg (m ((c : Thread nD τ).loc main_arg5)) ?_
  funext a
  match a with
  | 0 => exact Fin.ext (by show win0_2.index t 0 * 256 + 1 * i.val = 256 * (t.val - 1) + i.val; rw [i2]; show (t.val - 1) * 256 + 1 * i.val = _; omega)
  | 1 => exact Fin.ext (by show win0_2.index t 1 * 2048 + 1 * q.val = q.val; rw [i2]; show 0 * 2048 + 1 * q.val = _; omega)

theorem b3 (c : Dev nD) (t : Fin cfg0.N) (i : Fin 1024) (q : Fin 2048) :
    iblk m c 3 t (ix2 i q) = m ((c : Thread nD τ).loc main_arg9) (ix2 (⟨i.val, by have := lt33 t; omega⟩ : Fin 1024) (⟨q.val, by omega⟩ : Fin 2048)) := by
  obtain ⟨i0, i2, i3, i4, i5, i6, i7, i8, i9, i10, i11, i12⟩ := idx t
  show V m c main_arg9 ((win0_3.blk t).view.emb _) = _
  rw [V_main_arg9]
  refine congrArg (m ((c : Thread nD τ).loc main_arg9)) ?_
  funext a
  match a with
  | 0 => exact Fin.ext (by show win0_3.index t 0 * 1024 + 1 * i.val = i.val; rw [i3]; show 0 * 1024 + 1 * i.val = _; omega)
  | 1 => exact Fin.ext (by show win0_3.index t 1 * 2048 + 1 * q.val = q.val; rw [i3]; show 0 * 2048 + 1 * q.val = _; omega)

theorem b4 (c : Dev nD) (t : Fin cfg0.N) (i : Fin 1024) (q : Fin 2048) :
    iblk m c 4 t (ix2 i q) = m ((c : Thread nD τ).loc main_arg10) (ix2 (⟨i.val, by have := lt33 t; omega⟩ : Fin 1024) (⟨q.val, by omega⟩ : Fin 2048)) := by
  obtain ⟨i0, i2, i3, i4, i5, i6, i7, i8, i9, i10, i11, i12⟩ := idx t
  show V m c main_arg10 ((win0_4.blk t).view.emb _) = _
  rw [V_main_arg10]
  refine congrArg (m ((c : Thread nD τ).loc main_arg10)) ?_
  funext a
  match a with
  | 0 => exact Fin.ext (by show win0_4.index t 0 * 1024 + 1 * i.val = i.val; rw [i4]; show 0 * 1024 + 1 * i.val = _; omega)
  | 1 => exact Fin.ext (by show win0_4.index t 1 * 2048 + 1 * q.val = q.val; rw [i4]; show 0 * 2048 + 1 * q.val = _; omega)

theorem b5 (c : Dev nD) (t : Fin cfg0.N) (i : Fin 2048) (q : Fin 2048) :
    iblk m c 5 t (ix2 i q) = m ((c : Thread nD τ).loc main_arg11) (ix2 (⟨i.val, by have := lt33 t; omega⟩ : Fin 2048) (⟨q.val, by omega⟩ : Fin 2048)) := by
  obtain ⟨i0, i2, i3, i4, i5, i6, i7, i8, i9, i10, i11, i12⟩ := idx t
  show V m c main_arg11 ((win0_5.blk t).view.emb _) = _
  rw [V_main_arg11]
  refine congrArg (m ((c : Thread nD τ).loc main_arg11)) ?_
  funext a
  match a with
  | 0 => exact Fin.ext (by show win0_5.index t 0 * 2048 + 1 * i.val = i.val; rw [i5]; show 0 * 2048 + 1 * i.val = _; omega)
  | 1 => exact Fin.ext (by show win0_5.index t 1 * 2048 + 1 * q.val = q.val; rw [i5]; show 0 * 2048 + 1 * q.val = _; omega)

theorem b6 (c : Dev nD) (t : Fin cfg0.N) (i : Fin 1) (q : Fin 2048) :
    iblk m c 6 t (ix2 i q) = V m c main_v6 (ix2 i q) := by
  obtain ⟨i0, i2, i3, i4, i5, i6, i7, i8, i9, i10, i11, i12⟩ := idx t
  show V m c main_v6 ((win0_6.blk t).view.emb _) = _

  refine congrArg (V m c main_v6) ?_
  funext a
  match a with
  | 0 => exact Fin.ext (by show win0_6.index t 0 * 1 + 1 * i.val = i.val; rw [i6]; show 0 * 1 + 1 * i.val = _; omega)
  | 1 => exact Fin.ext (by show win0_6.index t 1 * 2048 + 1 * q.val = q.val; rw [i6]; show 0 * 2048 + 1 * q.val = _; omega)

theorem b7 (c : Dev nD) (t : Fin cfg0.N) (i : Fin 256) (q : Fin 3072) (ht : t.val < 32) :
    X0_7 m c t (ix2 i q) = m ((c : Thread nD τ).loc main_arg0) (ix2 (⟨256 * t.val + i.val, by have := lt33 t; omega⟩ : Fin 8192) (⟨q.val, by omega⟩ : Fin 10240)) := by
  obtain ⟨i0, i2, i3, i4, i5, i6, i7, i8, i9, i10, i11, i12⟩ := idx t
  unfold X0_7 Pipeline.Window.fill
  rw [dif_pos (moved0_7 t _)]
  show V m c main_arg0 ((win0_7.blk t).view.emb _) = _
  rw [V_main_arg0]
  refine congrArg (m ((c : Thread nD τ).loc main_arg0)) ?_
  funext a
  match a with
  | 0 => exact Fin.ext (by show win0_7.index t 0 * 256 + 1 * i.val = 256 * t.val + i.val; rw [i7]; show (min t.val 31) * 256 + 1 * i.val = _; omega)
  | 1 => exact Fin.ext (by show win0_7.index t 1 * 3072 + 1 * q.val = q.val; rw [i7]; show 0 * 3072 + 1 * q.val = _; omega)

theorem b8 (c : Dev nD) (t : Fin cfg0.N) (i : Fin 256) (q : Fin 128) (ht : t.val < 32) :
    iblk m c 8 t (ix2 i q) = m ((c : Thread nD τ).loc main_arg1) (ix2 (⟨256 * t.val + i.val, by have := lt33 t; omega⟩ : Fin 8192) (⟨q.val, by omega⟩ : Fin 128)) := by
  obtain ⟨i0, i2, i3, i4, i5, i6, i7, i8, i9, i10, i11, i12⟩ := idx t
  show V m c main_arg1 ((win0_8.blk t).view.emb _) = _
  rw [V_main_arg1]
  refine congrArg (m ((c : Thread nD τ).loc main_arg1)) ?_
  funext a
  match a with
  | 0 => exact Fin.ext (by show win0_8.index t 0 * 256 + 1 * i.val = 256 * t.val + i.val; rw [i8]; show (min t.val 31) * 256 + 1 * i.val = _; omega)
  | 1 => exact Fin.ext (by show win0_8.index t 1 * 128 + 1 * q.val = q.val; rw [i8]; show 0 * 128 + 1 * q.val = _; omega)

theorem b9 (c : Dev nD) (t : Fin cfg0.N) (i : Fin 16) (q : Fin 3072) :
    X0_9 m c t (ix2 i q) = m ((c : Thread nD τ).loc main_arg2) (ix2 (⟨i.val, by have := lt33 t; omega⟩ : Fin 16) (⟨q.val, by omega⟩ : Fin 10240)) := by
  obtain ⟨i0, i2, i3, i4, i5, i6, i7, i8, i9, i10, i11, i12⟩ := idx t
  unfold X0_9 Pipeline.Window.fill
  rw [dif_pos (moved0_9 t _)]
  show V m c main_arg2 ((win0_9.blk t).view.emb _) = _
  rw [V_main_arg2]
  refine congrArg (m ((c : Thread nD τ).loc main_arg2)) ?_
  funext a
  match a with
  | 0 => exact Fin.ext (by show win0_9.index t 0 * 16 + 1 * i.val = i.val; rw [i9]; show 0 * 16 + 1 * i.val = _; omega)
  | 1 => exact Fin.ext (by show win0_9.index t 1 * 3072 + 1 * q.val = q.val; rw [i9]; show 0 * 3072 + 1 * q.val = _; omega)

theorem b10 (c : Dev nD) (t : Fin cfg0.N) (i : Fin 16) (q : Fin 128) :
    iblk m c 10 t (ix2 i q) = m ((c : Thread nD τ).loc main_arg3) (ix2 (⟨i.val, by have := lt33 t; omega⟩ : Fin 16) (⟨q.val, by omega⟩ : Fin 128)) := by
  obtain ⟨i0, i2, i3, i4, i5, i6, i7, i8, i9, i10, i11, i12⟩ := idx t
  show V m c main_arg3 ((win0_10.blk t).view.emb _) = _
  rw [V_main_arg3]
  refine congrArg (m ((c : Thread nD τ).loc main_arg3)) ?_
  funext a
  match a with
  | 0 => exact Fin.ext (by show win0_10.index t 0 * 16 + 1 * i.val = i.val; rw [i10]; show 0 * 16 + 1 * i.val = _; omega)
  | 1 => exact Fin.ext (by show win0_10.index t 1 * 128 + 1 * q.val = q.val; rw [i10]; show 0 * 128 + 1 * q.val = _; omega)

theorem b11 (c : Dev nD) (t : Fin cfg0.N) (i : Fin 8) (q : Fin 1024) :
    iblk m c 11 t (ix2 i q) = V m c main_v8 (ix2 i q) := by
  obtain ⟨i0, i2, i3, i4, i5, i6, i7, i8, i9, i10, i11, i12⟩ := idx t
  show V m c main_v8 ((win0_11.blk t).view.emb _) = _

  refine congrArg (V m c main_v8) ?_
  funext a
  match a with
  | 0 => exact Fin.ext (by show win0_11.index t 0 * 8 + 1 * i.val = i.val; rw [i11]; show 0 * 8 + 1 * i.val = _; omega)
  | 1 => exact Fin.ext (by show win0_11.index t 1 * 1024 + 1 * q.val = q.val; rw [i11]; show 0 * 1024 + 1 * q.val = _; omega)

theorem b1 (c : Dev nD) (t : Fin cfg0.N) (i : Fin 256) (q : Fin 4096) :
    iblk m c 1 t (ix2 i q) = m ((c : Thread nD τ).loc main_arg0) (ix2 (⟨256 * (t.val - 1) + i, by have := lt33 t; omega⟩ : Fin 8192) (⟨6144 + q, by omega⟩ : Fin 10240)) := by
  blk_simp [iblk, V_main_arg0]
  refine congrArg (m ((c : Thread nD τ).loc main_arg0)) ?_
  funext a
  have := idx1 t
  match a with
  | 0 => exact Fin.ext (by show cc0_transform_1 (grid0.coords t) 0 + 1 * i.val = 256 * (t.val - 1) + i.val; rw [this]; show 256 * (t.val - 1) + 1 * i.val = _; omega)
  | 1 => exact Fin.ext (by show cc0_transform_1 (grid0.coords t) 1 + 1 * q.val = 6144 + q.val; rw [this]; show 6144 + 1 * q.val = _; omega)

theorem v6_at (c : Dev nD) (i : Fin 1) (q : Fin 2048) :
    (V m c main_v6 : S1x2048.Idx → EReal) (ix2 i q) = m ((c : Thread nD τ).loc main_arg12) (ix2 i q) := by
  have e : (V m c main_v6 : S1x2048.Idx → EReal) = shapeCast S1x2048 (shapeCast S2048 (m ((c : Thread nD τ).loc main_arg12) : S1x2048.Idx → EReal) shapeCasts_S1x2048_S2048) shapeCasts_S2048_S1x2048 := by
    entry_read
    rfl
  rw [e]
  pointwise [hlo_ix]
  rw [Subsingleton.elim i 0]

/-- The host operations that make the arrays which the last one stacks. -/
abbrev ops9 : List (HloOp τ sig (Elt Ideal)) :=
  [ StableHlo.reshape main_arg6 main_v0 (rfl : (.f32 : EltTy) = .f32) shapeCasts_S1x4x1024_S4x1024,
    StableHlo.reshape main_arg7 main_v1 (rfl : (.f32 : EltTy) = .f32) shapeCasts_S1x1024_S1024,
    StableHlo.reshape main_v1 main_v2 (rfl : (.f32 : EltTy) = .f32) shapeCasts_S1024_S1x1024,
    StableHlo.reshape main_arg8 main_v3 (rfl : (.f32 : EltTy) = .f32) shapeCasts_S1x1024_S1024,
    StableHlo.reshape main_v3 main_v4 (rfl : (.f32 : EltTy) = .f32) shapeCasts_S1024_S1x1024,
    StableHlo.reshape main_arg12 main_v5 (rfl : (.f32 : EltTy) = .f32) shapeCasts_S1x2048_S2048,
    StableHlo.reshape main_v5 main_v6 (rfl : (.f32 : EltTy) = .f32) shapeCasts_S2048_S1x2048,
    StableHlo.nullary main_cst (constant (F := Ideal) S_ .f32 0x00000000#32),
    StableHlo.unary main_cst main_v7 (broadcastInDim S2x1024 ![] bcast_S_S2x1024 : (⟨S_, .f32⟩ : BufTy).Contents (Elt Ideal) → (⟨S2x1024, .f32⟩ : BufTy).Contents (Elt Ideal)) ]

/-- Four arrays stacked into the 8 × 1024 parameter array. -/
abbrev stack (X0 : S4x1024.Idx → EReal) (X2 X4 : S1x1024.Idx → EReal) (X7 : S2x1024.Idx → EReal) : S8x1024.Idx → EReal :=
  concatenate S8x1024 0 [⟨S4x1024, X0⟩, ⟨S1x1024, X2⟩, ⟨S1x1024, X4⟩, ⟨S2x1024, X7⟩] concatenates_S4x1024_S1x1024_S1x1024_S2x1024_S8x1024_d0

abbrev V9 (c : Dev nD) (b : Ref sig .tc) : Buf (Elt Ideal) ((c : Thread nD τ).loc b) := StableHlo.after ops9 (fun b => m (c, b)) b

theorem v8_eq (c : Dev nD) : (V m c main_v8 : S8x1024.Idx → EReal) = stack (V9 m c main_v0) (V9 m c main_v2) (V9 m c main_v4) (V9 m c main_v7) := by
  show StableHlo.after hostOps0 _ _ = _
  simp only [hostOps0, StableHlo.after_cons, StableHlo.after_nil]
  rw [StableHlo.nary4_result]
  rfl

theorem v0_eq (c : Dev nD) : (V9 m c main_v0 : S4x1024.Idx → EReal) = shapeCast S4x1024 (m ((c : Thread nD τ).loc main_arg6) : S1x4x1024.Idx → EReal) shapeCasts_S1x4x1024_S4x1024 := by
  unfold V9 ops9
  after_results
  rfl
theorem v2_eq (c : Dev nD) : (V9 m c main_v2 : S1x1024.Idx → EReal) = shapeCast S1x1024 (shapeCast S1024 (m ((c : Thread nD τ).loc main_arg7) : S1x1024.Idx → EReal) shapeCasts_S1x1024_S1024) shapeCasts_S1024_S1x1024 := by
  unfold V9 ops9
  after_results
  rfl
theorem v4_eq (c : Dev nD) : (V9 m c main_v4 : S1x1024.Idx → EReal) = shapeCast S1x1024 (shapeCast S1024 (m ((c : Thread nD τ).loc main_arg8) : S1x1024.Idx → EReal) shapeCasts_S1x1024_S1024) shapeCasts_S1024_S1x1024 := by
  unfold V9 ops9
  after_results
  rfl

theorem stack_w (X0 : S4x1024.Idx → EReal) (X2 X4 : S1x1024.Idx → EReal) (X7 : S2x1024.Idx → EReal) (k : Fin 4) (q : Fin 1024) :
    stack X0 X2 X4 X7 (ix2 (⟨k.val, by omega⟩ : Fin 8) q) = X0 (ix2 k q) := by
  unfold stack
  pointwise [hlo_ix]
theorem stack_4 (X0 : S4x1024.Idx → EReal) (X2 X4 : S1x1024.Idx → EReal) (X7 : S2x1024.Idx → EReal) (q : Fin 1024) :
    stack X0 X2 X4 X7 (ix2 4 q) = X2 (ix2 0 q) := by
  unfold stack
  pointwise [hlo_ix]
theorem stack_5 (X0 : S4x1024.Idx → EReal) (X2 X4 : S1x1024.Idx → EReal) (X7 : S2x1024.Idx → EReal) (q : Fin 1024) :
    stack X0 X2 X4 X7 (ix2 5 q) = X4 (ix2 0 q) := by
  unfold stack
  pointwise [hlo_ix]
theorem cast_w (X : S1x4x1024.Idx → EReal) (k : Fin 4) (q : Fin 1024) : shapeCast S4x1024 X shapeCasts_S1x4x1024_S4x1024 (ix2 k q) = X (ix3 0 k q) := by
  pointwise [hlo_ix]
theorem cast_r (X : S1x1024.Idx → EReal) (q : Fin 1024) : shapeCast S1x1024 (shapeCast S1024 X shapeCasts_S1x1024_S1024) shapeCasts_S1024_S1x1024 (ix2 0 q) = X (ix2 0 q) := by
  pointwise [hlo_ix]

theorem v8_w (c : Dev nD) (k : Fin 4) (q : Fin 1024) :
    (V m c main_v8 : S8x1024.Idx → EReal) (ix2 (⟨k.val, by omega⟩ : Fin 8) q) = m ((c : Thread nD τ).loc main_arg6) (ix3 (0 : Fin 1) k q) := by
  rw [v8_eq, stack_w, v0_eq, cast_w]
theorem v8_4 (c : Dev nD) (q : Fin 1024) :
    (V m c main_v8 : S8x1024.Idx → EReal) (ix2 4 q) = m ((c : Thread nD τ).loc main_arg7) (ix2 (0 : Fin 1) q) := by
  rw [v8_eq, stack_4, v2_eq, cast_r]
theorem v8_5 (c : Dev nD) (q : Fin 1024) :
    (V m c main_v8 : S8x1024.Idx → EReal) (ix2 5 q) = m ((c : Thread nD τ).loc main_arg8) (ix2 (0 : Fin 1) q) := by
  rw [v8_eq, stack_5, v4_eq, cast_r]

/-- The sequences of core `c`'s arguments. -/
abbrev sq (c : Dev nD) : Seqs :=
  seqs (m ((c : Thread nD τ).loc main_arg0)) (m ((c : Thread nD τ).loc main_arg1)) (m ((c : Thread nD τ).loc main_arg2)) (m ((c : Thread nD τ).loc main_arg3))
    (m ((c : Thread nD τ).loc main_arg6)) (m ((c : Thread nD τ).loc main_arg7)) (m ((c : Thread nD τ).loc main_arg8))

/-- What is asked of core `c`'s arguments. -/
abbrev TameAt (c : Dev nD) : Prop :=
  Tame (m ((c : Thread nD τ).loc main_arg0)) (m ((c : Thread nD τ).loc main_arg1)) (m ((c : Thread nD τ).loc main_arg2)) (m ((c : Thread nD τ).loc main_arg3))
    (m ((c : Thread nD τ).loc main_arg6)) (m ((c : Thread nD τ).loc main_arg7))

/-- The windows of point `t` hold the chunk at `64 + 256 t`. -/
theorem blk_at (c : Dev nD) (H : TameAt m c) (t : Fin cfg0.N) (ht : t.val < 32) {a : ℕ} (ha : a = 64 + 256 * t.val) :
    Blk (sq m c) a (X0_7 m c t) (iblk m c 8 t) (iblk m c 11 t) where
  good := seqs_good H
  ha := by omega
  hx i q hq := (b7 m c t i q ht).trans (seqs_x H _ _ hq (by rw [ha]; exact (Nat.add_assoc _ _ _)) rfl).symm
  hmo i q := (b7 m c t i _ ht).trans (seqs_mo _ _ (by rw [ha]; exact (Nat.add_assoc _ _ _)) rfl).symm
  h8 i l hl := (b8 m c t i l ht).trans (seqs_gx _ _ (by rw [ha]; exact (Nat.add_assoc _ _ _)) rfl).symm
  hw k q hk := (b11 m c t k q).trans ((v8_w m c ⟨k.val, hk⟩ q).trans (seqs_w H ⟨k.val, hk⟩ q).symm)
  hb q := (b11 m c t 4 q).trans ((v8_4 m c q).trans (seqs_b H q).symm)
  hng q := (b11 m c t 5 q).trans ((v8_5 m c q).trans (seqs_ng q).symm)

/-- The windows of the meta rows. -/
theorem blkm_at (c : Dev nD) (H : TameAt m c) (t : Fin cfg0.N) : BlkM (sq m c) (X0_9 m c t) (iblk m c 10 t) where
  hx i q hq := (b9 m c t i q).trans (seqs_m H _ _ hq rfl rfl).symm
  h8 i l hl := (b10 m c t i l).trans (seqs_gm _ _ rfl rfl).symm
  h0 p c hp := seqs_0 c hp

end Cert.Mix
end
-- ==== Proof.Mix.Chain.lean ====
/- From point to point: the scratch buffers follow the recurrence, and the result array holds the layer's rows. -/
module

public import proofs.«01_k».proof.Proof.Mix.Blocks

@[expose] public section
set_option maxRecDepth 16384
noncomputable section
namespace Cert.Mix
open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- What point `n` leaves: the state after its chunk, and the chunk's gated rows. -/
structure AtPt (c : Dev nD) (n : ℕ) (hn : n < cfg0.N) : Prop where
  st : St (sq m c) (64 + 256 * (n + 1)) (outsAt0 m c n hn).2.2.1 (outsAt0 m c n hn).2.2.2.1 (outsAt0 m c n hn).2.2.2.2
  hm : ∀ y, (outsAt0 m c n hn).2.1 y = (sq m c).hm (64 + 256 * n + (y 0).val) (y 1).val

theorem at_pt (c : Dev nD) (H : TameAt m c) (n : ℕ) (hn : n < cfg0.N) (h : n < 32) : AtPt m c n hn := by
  induction n with
  | zero =>
    have D := blk_at m c H ⟨0, hn⟩ (show 0 < 32 by omega) (a := 64) rfl
    have E := blkm_at m c H ⟨0, hn⟩
    have k0 : (⟨0, hn⟩ : Fin cfg0.N).val % 33 = 0 := rfl
    have k1 : ¬(1 ≤ (⟨0, hn⟩ : Fin cfg0.N).val % 33 ∧ (⟨0, hn⟩ : Fin cfg0.N).val % 33 ≤ 31) := fun h => absurd h.1 (show ¬(1 ≤ 0 % 33) by decide)
    have k2 : ¬(⟨0, hn⟩ : Fin cfg0.N).val % 33 = 32 := show ¬(0 % 33 = 32) by decide
    exact ⟨⟨A2 m c ⟨0, hn⟩ k0 k1 k2 D E, A3 m c ⟨0, hn⟩ k0 k1 k2 D E, A4 m c ⟨0, hn⟩ k0 k1 k2 D E⟩, A1 m c ⟨0, hn⟩ k0 k1 k2 D E⟩
  | succ n ih =>
    have I := ih (by omega) (by omega)
    have D := blk_at m c H ⟨n + 1, hn⟩ h (a := 64 + 256 * (n + 1)) rfl
    have e : (n + 1) % 33 = n + 1 := Nat.mod_eq_of_lt (by omega)
    have k0 : ¬(⟨n + 1, hn⟩ : Fin cfg0.N).val % 33 = 0 := by show ¬(n + 1) % 33 = 0; omega
    have k1 : (1 ≤ (⟨n + 1, hn⟩ : Fin cfg0.N).val % 33 ∧ (⟨n + 1, hn⟩ : Fin cfg0.N).val % 33 ≤ 31) := by show 1 ≤ (n + 1) % 33 ∧ (n + 1) % 33 ≤ 31; omega
    have k2 : ¬(⟨n + 1, hn⟩ : Fin cfg0.N).val % 33 = 32 := by show ¬(n + 1) % 33 = 32; omega
    exact ⟨⟨B2 m c ⟨n + 1, hn⟩ k0 k1 k2 D (by show n < cfg0.N; omega) I.st, B3 m c ⟨n + 1, hn⟩ k0 k1 k2 D (by show n < cfg0.N; omega) I.st,
      B4 m c ⟨n + 1, hn⟩ k0 k1 k2 D (by show n < cfg0.N; omega) I.st⟩, B1 m c ⟨n + 1, hn⟩ k0 k1 k2 D (by show n < cfg0.N; omega) I.st⟩

/-- The result as the argument arrays of core `c` give it. -/
abbrev res (c : Dev nD) : Mat 8192 2048 :=
  result (sq m c).hm (m ((c : Thread nD τ).loc main_arg0)) (m ((c : Thread nD τ).loc main_arg4)) (m ((c : Thread nD τ).loc main_arg5))
    (m ((c : Thread nD τ).loc main_arg9)) (m ((c : Thread nD τ).loc main_arg10)) (m ((c : Thread nD τ).loc main_arg11)) (m ((c : Thread nD τ).loc main_arg12))

/-- Point `t ≥ 1` writes rows `256 (t - 1) …` of the result. -/
theorem row_at (c : Dev nD) (H : TameAt m c) (t : Fin cfg0.N) (ht : 1 ≤ t.val) (i : Fin 256) (j : Fin 2048) :
    (outsAt0 m c t.val t.isLt).1 (ix2 i j) = res m c (ix2 (⟨256 * (t.val - 1) + i, by have := lt33 t; omega⟩ : Fin 8192) j) := by
  have h33 := lt33 t
  have hp : t.val - 1 < cfg0.N := by show t.val - 1 < 33; omega
  have I := at_pt m c H (t.val - 1) hp (by omega)
  have k0 : ¬t.val % 33 = 0 := by omega
  have e : (outsAt0 m c t.val t.isLt).1 (ix2 i j) = outRow m c t (outsAt0 m c (t.val - 1) hp).2.1 (ix2 i j) := by
    by_cases h : t.val % 33 = 32
    · exact C0 m c t k0 (by omega) h hp (ix2 i j)
    · exact B0 m c t k0 (by omega) h hp (ix2 i j)
  rw [e]
  show mrow _ _ _ _ _ _ _ _ _ _ = mrow _ _ _ _ _ _ _ _ _ _
  congr 1
  · funext q
    exact (I.hm (ix2 i q)).trans (congrArg (fun p => (sq m c).hm p q.val) (by show 64 + 256 * (t.val - 1) + i.val = 64 + (256 * (t.val - 1) + i.val); omega))
  · funext q
    exact b0 m c t i q
  · funext k
    exact b1 m c t i _
  · funext k
    exact (b1 m c t i _).trans (congrArg (fun k => m ((c : Thread nD τ).loc main_arg0) (ix2 _ k)) (Fin.ext (by show 6144 + (2048 + k.val) = 8192 + k.val; omega)))
  · funext k
    exact b2 m c t i k
  · funext k
    exact (b6 m c t 0 k).trans (v6_at m c 0 k)
  · funext q k
    exact b3 m c t q k
  · funext q k
    exact b4 m c t q k
  · funext q k
    exact b5 m c t q k

theorem flush_pos : ∀ t : Fin cfg0.N, win0_12.flush t = true → 1 ≤ t.val :=
  (by decide +kernel : ∀ t : Fin grid0.N, _)

/-- The kernel's result array. -/
theorem final (c : Dev nD) (H : TameAt m c) : (dats m 0 c).arrAt 12 cfg0.N = res m c := by
  refine (dats m 0 c).arrAt_eq_of_covers 12 (res m c) (by decide +kernel) fun t hf y => ?_
  blk_simp [idx t]
  rw [after0_12]
  have hy : y = ix2 (y 0 : Fin 256) (y 1 : Fin 2048) := eq_ix2 y
  refine (congrArg (outsAt0 m c t.val t.isLt).1 hy).trans ((row_at m c H t (flush_pos t hf) (y 0) (y 1)).trans (congrArg (res m c) ?_))
  obtain ⟨i0, i2, i3, i4, i5, i6, i7, i8, i9, i10, i11, i12⟩ := idx t
  funext a
  match a with
  | 0 => exact Fin.ext (by show 256 * (t.val - 1) + (y 0).val = win0_12.index t 0 * 256 + 1 * (y 0).val; rw [i12]; show _ = (t.val - 1) * 256 + 1 * (y 0).val; omega)
  | 1 => exact Fin.ext (by show (y 1).val = win0_12.index t 1 * 2048 + 1 * (y 1).val; rw [i12]; show _ = 0 * 2048 + 1 * (y 1).val; omega)

end Cert.Mix
end
-- ==== Proof.Mix.RefStep.lean ====
/- One trip of the reference's loop carries the closed forms from one chunk to the next. -/
module

public import proofs.«01_k».proof.Proof.Mix.RefSetup

@[expose] public section
set_option maxRecDepth 16384
noncomputable section
namespace Cert.Mix.Ref
open Idealize.ShloMosaic
open Cert.ReferenceIdeal Cert.ReferenceIdeal.Step

/-- What chunk `n` of the loop reads and has: the inputs, the state before the chunk, the heads' rows of the chunks before. -/
structure Inv (s : Seqs) (n : ℕ) (st : State Ideal) : Prop where
  q : ∀ (n : Fin 129) (h : Fin 4) (i : Fin 64) (d : Fin 128), st.main_v77_0 (ix4 n h i d) = (s.q h d (64 * n.val + i.val) : EReal)
  k : ∀ (n : Fin 129) (h : Fin 4) (i : Fin 64) (d : Fin 128), st.main_v77_1 (ix4 n h i d) = (s.k h d (64 * n.val + i.val) : EReal)
  v : ∀ (n : Fin 129) (h : Fin 4) (i : Fin 64) (e : Fin 256), st.main_v77_2 (ix4 n h i e) = (s.v h e (64 * n.val + i.val) : EReal)
  li : ∀ (n : Fin 129) (h : Fin 4) (i : Fin 64), st.main_v77_3 (ix3 n h i) = s.li h (64 * n.val + i.val)
  b : ∀ (n : Fin 129) (h : Fin 4) (i : Fin 64), st.main_v77_4 (ix3 n h i) = ((S (s.lf h) (64 * n.val + i.val + 1) - S (s.lf h) (64 * n.val) : ℝ) : EReal)
  C : ∀ (h : Fin 4) (d : Fin 128) (e : Fin 256), st.main_v77_7 (ix3 h d e) = (Cst (s.lf h) (s.li h) (s.k h d) (s.v h e) (64 * n) : EReal)
  N : ∀ (h : Fin 4) (d : Fin 128), st.main_v77_8 (ix2 h d) = (Cst (s.lf h) (s.li h) (s.k h d) (s.v h 256) (64 * n) : EReal)
  m : ∀ (h : Fin 4), st.main_v77_9 (ix1 h) = (MX (s.lf h) (s.li h) (64 * n) : EReal)
  hs : ∀ (n' : Fin 129) (h : Fin 4) (i : Fin 64) (e : Fin 256), n'.val < n → st.main_v77_10 (ix4 n' h i e) = s.hv h e (64 * n'.val + i.val)

theorem word_int (j : Fin 129) : (BitVec.ofNat 32 j.val).toInt = (j.val : ℤ) := by
  have := j.2
  rw [BitVec.toInt_ofNat']
  simp [Int.bmod]
  omega

/-- One chunk cut out of 129. -/
theorem slice4 {A B D : ℕ} (X : (⟨4, ![129, A, B, D]⟩ : Shape).Idx → EReal) (w : Fin 4 → ℤ)
    (hh : (⟨4, ![129, A, B, D]⟩ : Shape).Slices (fun _ => 0) ⟨4, ![1, A, B, D]⟩) (j : Fin 129) (h0 : w 0 = j.val) (h1 : w 1 = 0) (h2 : w 2 = 0) (h3 : w 3 = 0)
    (a : Fin A) (b : Fin B) (d : Fin D) : Host.dynamicSlice ⟨4, ![1, A, B, D]⟩ X w hh (ix4 0 a b d) = X (ix4 j a b d) := by
  have c0 := Host.clampedStart_of_le (s := ⟨4, ![129, A, B, D]⟩) (t := ⟨4, ![1, A, B, D]⟩) rfl w 0 j.val h0 (by show j.val + 1 ≤ 129; omega)
  have c1 := Host.clampedStart_of_le (s := ⟨4, ![129, A, B, D]⟩) (t := ⟨4, ![1, A, B, D]⟩) rfl w 1 0 h1 (by show 0 + A ≤ A; omega)
  have c2 := Host.clampedStart_of_le (s := ⟨4, ![129, A, B, D]⟩) (t := ⟨4, ![1, A, B, D]⟩) rfl w 2 0 h2 (by show 0 + B ≤ B; omega)
  have c3 := Host.clampedStart_of_le (s := ⟨4, ![129, A, B, D]⟩) (t := ⟨4, ![1, A, B, D]⟩) rfl w 3 0 h3 (by show 0 + D ≤ D; omega)
  rw [Host.dynamicSlice_apply]
  refine congrArg X ?_
  rw [Shape.Idx.norm_def]
  funext i
  match i with
  | 0 => exact Fin.ext (by show Host.clampedStart (⟨4, ![129, A, B, D]⟩ : Shape) (⟨4, ![1, A, B, D]⟩ : Shape) rfl w 0 + 0 = j.val; rw [c0]; rfl)
  | 1 => exact Fin.ext (by show Host.clampedStart (⟨4, ![129, A, B, D]⟩ : Shape) (⟨4, ![1, A, B, D]⟩ : Shape) rfl w 1 + a.val = a.val; rw [c1]; exact Nat.zero_add _)
  | 2 => exact Fin.ext (by show Host.clampedStart (⟨4, ![129, A, B, D]⟩ : Shape) (⟨4, ![1, A, B, D]⟩ : Shape) rfl w 2 + b.val = b.val; rw [c2]; exact Nat.zero_add _)
  | 3 => exact Fin.ext (by show Host.clampedStart (⟨4, ![129, A, B, D]⟩ : Shape) (⟨4, ![1, A, B, D]⟩ : Shape) rfl w 3 + d.val = d.val; rw [c3]; exact Nat.zero_add _)

/-- One chunk of a row cut out of 129. -/
theorem slice3 {A B : ℕ} (X : (⟨3, ![129, A, B]⟩ : Shape).Idx → EReal) (w : Fin 3 → ℤ)
    (hh : (⟨3, ![129, A, B]⟩ : Shape).Slices (fun _ => 0) ⟨3, ![1, A, B]⟩) (j : Fin 129) (h0 : w 0 = j.val) (h1 : w 1 = 0) (h2 : w 2 = 0)
    (a : Fin A) (b : Fin B) : Host.dynamicSlice ⟨3, ![1, A, B]⟩ X w hh (ix3 0 a b) = X (ix3 j a b) := by
  have c0 := Host.clampedStart_of_le (s := ⟨3, ![129, A, B]⟩) (t := ⟨3, ![1, A, B]⟩) rfl w 0 j.val h0 (by show j.val + 1 ≤ 129; omega)
  have c1 := Host.clampedStart_of_le (s := ⟨3, ![129, A, B]⟩) (t := ⟨3, ![1, A, B]⟩) rfl w 1 0 h1 (by show 0 + A ≤ A; omega)
  have c2 := Host.clampedStart_of_le (s := ⟨3, ![129, A, B]⟩) (t := ⟨3, ![1, A, B]⟩) rfl w 2 0 h2 (by show 0 + B ≤ B; omega)
  rw [Host.dynamicSlice_apply]
  refine congrArg X ?_
  rw [Shape.Idx.norm_def]
  funext i
  match i with
  | 0 => exact Fin.ext (by show Host.clampedStart (⟨3, ![129, A, B]⟩ : Shape) (⟨3, ![1, A, B]⟩ : Shape) rfl w 0 + 0 = j.val; rw [c0]; rfl)
  | 1 => exact Fin.ext (by show Host.clampedStart (⟨3, ![129, A, B]⟩ : Shape) (⟨3, ![1, A, B]⟩ : Shape) rfl w 1 + a.val = a.val; rw [c1]; exact Nat.zero_add _)
  | 2 => exact Fin.ext (by show Host.clampedStart (⟨3, ![129, A, B]⟩ : Shape) (⟨3, ![1, A, B]⟩ : Shape) rfl w 2 + b.val = b.val; rw [c2]; exact Nat.zero_add _)

/-- One chunk written among 129. -/
theorem update4 {A B D : ℕ} (X : (⟨4, ![129, A, B, D]⟩ : Shape).Idx → EReal) (U : (⟨4, ![1, A, B, D]⟩ : Shape).Idx → EReal) (w : Fin 4 → ℤ)
    (hh : (⟨4, ![129, A, B, D]⟩ : Shape).Slices (fun _ => 0) ⟨4, ![1, A, B, D]⟩) (j n : Fin 129) (h0 : w 0 = j.val) (h1 : w 1 = 0) (h2 : w 2 = 0) (h3 : w 3 = 0)
    (a : Fin A) (b : Fin B) (d : Fin D) : Host.dynamicUpdateSlice X U w hh (ix4 n a b d) = if n = j then U (ix4 0 a b d) else X (ix4 n a b d) := by
  have c0 := Host.clampedStart_of_le (s := ⟨4, ![129, A, B, D]⟩) (t := ⟨4, ![1, A, B, D]⟩) rfl w 0 j.val h0 (by show j.val + 1 ≤ 129; omega)
  have c1 := Host.clampedStart_of_le (s := ⟨4, ![129, A, B, D]⟩) (t := ⟨4, ![1, A, B, D]⟩) rfl w 1 0 h1 (by show 0 + A ≤ A; omega)
  have c2 := Host.clampedStart_of_le (s := ⟨4, ![129, A, B, D]⟩) (t := ⟨4, ![1, A, B, D]⟩) rfl w 2 0 h2 (by show 0 + B ≤ B; omega)
  have c3 := Host.clampedStart_of_le (s := ⟨4, ![129, A, B, D]⟩) (t := ⟨4, ![1, A, B, D]⟩) rfl w 3 0 h3 (by show 0 + D ≤ D; omega)
  rw [Host.dynamicUpdateSlice_apply]
  by_cases hn : n = j
  · subst hn
    rw [if_pos rfl]
    refine (dif_pos (fun i => ?_)).trans (congrArg U ?_)
    · match i with
      | 0 => exact (by show Host.clampedStart (⟨4, ![129, A, B, D]⟩ : Shape) (⟨4, ![1, A, B, D]⟩ : Shape) rfl w 0 ≤ n.val ∧ n.val < Host.clampedStart (⟨4, ![129, A, B, D]⟩ : Shape) (⟨4, ![1, A, B, D]⟩ : Shape) rfl w 0 + 1; rw [c0]; omega)
      | 1 => exact (by show Host.clampedStart (⟨4, ![129, A, B, D]⟩ : Shape) (⟨4, ![1, A, B, D]⟩ : Shape) rfl w 1 ≤ a.val ∧ a.val < Host.clampedStart (⟨4, ![129, A, B, D]⟩ : Shape) (⟨4, ![1, A, B, D]⟩ : Shape) rfl w 1 + A; rw [c1]; omega)
      | 2 => exact (by show Host.clampedStart (⟨4, ![129, A, B, D]⟩ : Shape) (⟨4, ![1, A, B, D]⟩ : Shape) rfl w 2 ≤ b.val ∧ b.val < Host.clampedStart (⟨4, ![129, A, B, D]⟩ : Shape) (⟨4, ![1, A, B, D]⟩ : Shape) rfl w 2 + B; rw [c2]; omega)
      | 3 => exact (by show Host.clampedStart (⟨4, ![129, A, B, D]⟩ : Shape) (⟨4, ![1, A, B, D]⟩ : Shape) rfl w 3 ≤ d.val ∧ d.val < Host.clampedStart (⟨4, ![129, A, B, D]⟩ : Shape) (⟨4, ![1, A, B, D]⟩ : Shape) rfl w 3 + D; rw [c3]; omega)
    · rw [Shape.Idx.norm_def]
      funext i
      match i with
      | 0 => exact Fin.ext (by show n.val - Host.clampedStart (⟨4, ![129, A, B, D]⟩ : Shape) (⟨4, ![1, A, B, D]⟩ : Shape) rfl w 0 = 0; rw [c0]; omega)
      | 1 => exact Fin.ext (by show a.val - Host.clampedStart (⟨4, ![129, A, B, D]⟩ : Shape) (⟨4, ![1, A, B, D]⟩ : Shape) rfl w 1 = a.val; rw [c1]; omega)
      | 2 => exact Fin.ext (by show b.val - Host.clampedStart (⟨4, ![129, A, B, D]⟩ : Shape) (⟨4, ![1, A, B, D]⟩ : Shape) rfl w 2 = b.val; rw [c2]; omega)
      | 3 => exact Fin.ext (by show d.val - Host.clampedStart (⟨4, ![129, A, B, D]⟩ : Shape) (⟨4, ![1, A, B, D]⟩ : Shape) rfl w 3 = d.val; rw [c3]; omega)
  · rw [if_neg hn]
    refine dif_neg fun hin => hn (Fin.ext ?_)
    have := hin 0
    have h' : Host.clampedStart (⟨4, ![129, A, B, D]⟩ : Shape) (⟨4, ![1, A, B, D]⟩ : Shape) rfl w 0 ≤ n.val ∧ n.val < Host.clampedStart (⟨4, ![129, A, B, D]⟩ : Shape) (⟨4, ![1, A, B, D]⟩ : Shape) rfl w 0 + 1 := this
    rw [c0] at h'
    omega

section
variable (j : Fin 129) (st : State Ideal)

theorem b4_at (h : Fin 4) (i : Fin 64) (d : Fin 128) : b4 j.val st (ix3 h i d) = st.main_v77_0 (ix4 j h i d) := by
  have eq : b4 j.val st (ix3 h i d) = b3 j.val st (ix4 0 h i d) := by pointwise [b4, hlo_ix]
  rw [eq]
  exact slice4 st.main_v77_0 _ _ j (word_int j) rfl rfl rfl h i d

theorem b9_at (h : Fin 4) (i : Fin 64) (d : Fin 128) : b9 j.val st (ix3 h i d) = st.main_v77_1 (ix4 j h i d) := by
  have eq : b9 j.val st (ix3 h i d) = b8 j.val st (ix4 0 h i d) := by pointwise [b9, hlo_ix]
  rw [eq]
  exact slice4 st.main_v77_1 _ _ j (word_int j) rfl rfl rfl h i d

theorem b14_at (h : Fin 4) (i : Fin 64) (e : Fin 256) : b14 j.val st (ix3 h i e) = st.main_v77_2 (ix4 j h i e) := by
  have eq : b14 j.val st (ix3 h i e) = b13 j.val st (ix4 0 h i e) := by pointwise [b14, hlo_ix]
  rw [eq]
  exact slice4 st.main_v77_2 _ _ j (word_int j) rfl rfl rfl h i e

theorem b18_at (h : Fin 4) (i : Fin 64) : b18 j.val st (ix2 h i) = st.main_v77_3 (ix3 j h i) := by
  have eq : b18 j.val st (ix2 h i) = b17 j.val st (ix3 0 h i) := by pointwise [b18, hlo_ix]
  rw [eq]
  exact slice3 st.main_v77_3 _ _ j (word_int j) rfl rfl h i

theorem b22_at (h : Fin 4) (i : Fin 64) : b22 j.val st (ix2 h i) = st.main_v77_4 (ix3 j h i) := by
  have eq : b22 j.val st (ix2 h i) = b21 j.val st (ix3 0 h i) := by pointwise [b22, hlo_ix]
  rw [eq]
  exact slice3 st.main_v77_4 _ _ j (word_int j) rfl rfl h i

theorem b24_at (h : Fin 4) : b24 j.val st (ix1 h) = b22 j.val st (ix2 h 63) := by
  pointwise [b24, b23, hlo_ix]

theorem select_sge (i j : Fin 64) (x y : EReal) :
    Scalar.select (IntOp.cmpi CmpIPredicate.sge (BitVec.ofNat 32 (i : ℕ)) (BitVec.ofNat 32 (j : ℕ))) x y
      = if (j : ℕ) ≤ i then x else y := by
  simp (disch := word_cmp_side) only [hlo_ix]

theorem b37_at (n : ℕ) (h : Fin 4) (i l : Fin 64) : b37 n st (ix3 h i l) = if l.val ≤ i.val then (b22 n st (ix2 h i) - b22 n st (ix2 h l)) + b18 n st (ix2 h l) else ⊥ := by
  have hz (x : BitVec 32) : IntOp.addi x 0#32 = x := BitVec.add_zero x
  have hs (x : BitVec 1) : Scalar.select x (1#1) (0#1) = x := by revert x; decide
  rw [← bot_f32, ← select_sge]
  pointwise [b37, b36, b35, b34, b33, b32, b31, b30, b29, b28, b27, b26, b25, K_main_v72, K_main_call9_v5, K_main_call9_c_0, K_main_call9_v4, K_main_call9_v3, K_main_call9_v2, K_main_call9_v1, K_main_call9_c, K_main_call9_v0, K_main_v71, K_main_c_5, hlo_ix]
  rw [hz, hs]

theorem b40_at (n : ℕ) (h : Fin 4) (i : Fin 64) : b40 n st (ix2 h i) = b22 n st (ix2 h i) + st.main_v77_9 (ix1 h) := by
  pointwise [b40, b39, b38, hlo_ix]

theorem b43_at (n : ℕ) (h : Fin 4) (i : Fin 64) : b43 n st (ix2 h i) = max (b40 n st (ix2 h i)) ((Finset.univ : Finset (Fin 64)).fold max ⊥ fun l => b37 n st (ix3 h i l)) := by
  rw [← bot_f32]
  pointwise [b43, b42, b41, hlo_ix]

theorem b51_at (n : ℕ) (h : Fin 4) (i l : Fin 64) : b51 n st (ix3 h i l) = (∑ d : Fin 128, b4 n st (ix3 h i d) * b9 n st (ix3 h l d)) * Ideal.exp (b37 n st (ix3 h i l) - b43 n st (ix2 h i)) := by
  pointwise [b51, b50, b49, b48, b47, b46, hlo_ix]

theorem b45_at (n : ℕ) (h : Fin 4) (i : Fin 64) : b45 n st (ix2 h i) = Ideal.exp (b40 n st (ix2 h i) - b43 n st (ix2 h i)) := by
  pointwise [b45, b44, hlo_ix]

theorem b57_at (n : ℕ) (h : Fin 4) (i : Fin 64) (e : Fin 256) : b57 n st (ix3 h i e) = b45 n st (ix2 h i) * (∑ d : Fin 128, b4 n st (ix3 h i d) * st.main_v77_7 (ix3 h d e))
    + ∑ l : Fin 64, b51 n st (ix3 h i l) * b14 n st (ix3 h l e) := by
  pointwise [b57, b56, b55, b54, b53, b52, hlo_ix]

theorem b62_at (n : ℕ) (h : Fin 4) (i : Fin 64) : b62 n st (ix2 h i) = b45 n st (ix2 h i) * (∑ d : Fin 128, b4 n st (ix3 h i d) * st.main_v77_8 (ix2 h d))
    + ∑ l : Fin 64, b51 n st (ix3 h i l) := by
  pointwise [b62, b61, b60, b59, b58, hlo_ix]

theorem b69_at (n : ℕ) (h : Fin 4) (i : Fin 64) (e : Fin 256) : b69 n st (ix3 h i e) = Ideal.div (b57 n st (ix3 h i e))
    (max (max (b62 n st (ix2 h i)) (-b62 n st (ix2 h i))) (Ideal.exp (-b43 n st (ix2 h i)))) := by
  show _ = Ideal.div (b57 n st (ix3 h i e)) (max (FloatOps.absf (F := Ideal) (φ := .f32) (b62 n st (ix2 h i))) (Ideal.exp (-b43 n st (ix2 h i))))
  pointwise [b69, b68, b67, b66, b65, b64, b63, hlo_ix]

theorem b73_at (n : ℕ) (h : Fin 4) (l : Fin 64) : b73 n st (ix2 h l) = (b24 n st (ix1 h) - b22 n st (ix2 h l)) + b18 n st (ix2 h l) := by
  pointwise [b73, b72, b71, b70, hlo_ix]

theorem b77_at (n : ℕ) (h : Fin 4) : b77 n st (ix1 h) = max (b24 n st (ix1 h) + st.main_v77_9 (ix1 h)) ((Finset.univ : Finset (Fin 64)).fold max ⊥ fun l => b73 n st (ix2 h l)) := by
  rw [← bot_f32]
  pointwise [b77, b76, b75, b74, hlo_ix]

theorem b81_at (n : ℕ) (h : Fin 4) (l : Fin 64) : b81 n st (ix2 h l) = Ideal.exp (b73 n st (ix2 h l) - b77 n st (ix1 h)) := by
  pointwise [b81, b80, b79, b78, hlo_ix]

theorem b84_at (n : ℕ) (h : Fin 4) : b84 n st (ix1 h) = Ideal.exp ((b24 n st (ix1 h) + st.main_v77_9 (ix1 h)) - b77 n st (ix1 h)) := by
  pointwise [b84, b83, b82, hlo_ix]

theorem b92_at (n : ℕ) (h : Fin 4) (d : Fin 128) (e : Fin 256) : b92 n st (ix3 h d e) = b84 n st (ix1 h) * st.main_v77_7 (ix3 h d e)
    + ∑ l : Fin 64, (b81 n st (ix2 h l) * b9 n st (ix3 h l d)) * b14 n st (ix3 h l e) := by
  pointwise [b92, b91, b90, b89, b88, b87, b86, b85, hlo_ix]

theorem b97_at (n : ℕ) (h : Fin 4) (d : Fin 128) : b97 n st (ix2 h d) = b84 n st (ix1 h) * st.main_v77_8 (ix2 h d)
    + ∑ l : Fin 64, b81 n st (ix2 h l) * b9 n st (ix3 h l d) := by
  pointwise [b97, b96, b95, b94, b93, hlo_ix]

theorem b102_at (n' : Fin 129) (h : Fin 4) (i : Fin 64) (e : Fin 256) : b102 j.val st (ix4 n' h i e) = if n' = j then b69 j.val st (ix3 h i e) else st.main_v77_10 (ix4 n' h i e) := by
  have eq : b98 j.val st (ix4 0 h i e) = b69 j.val st (ix3 h i e) := by pointwise [b98, hlo_ix]
  rw [← eq]
  exact update4 st.main_v77_10 (b98 j.val st) _ _ j n' (word_int j) rfl rfl rfl h i e
end
end Cert.Mix.Ref
end
-- ==== Proof.Mix.RefInv.lean ====
/- The reference's loop: after `n` chunks it holds the closed forms at row `64 n` of the padded sequence. -/
module

public import proofs.«01_k».proof.Proof.Mix.RefStep

@[expose] public section
set_option maxRecDepth 16384
noncomputable section
namespace Cert.Mix.Ref
open Idealize.ShloMosaic
open Cert.ReferenceIdeal Cert.ReferenceIdeal.Step

section
variable {s : Seqs} (G : s.Good) {n : Fin 129} {st : State Ideal} (I : Inv s n.val st) (h : Fin 4)
include G I

/-- The row stabiliser of row `i`. -/
theorem row_at (i : Fin 64) : b43 n.val st (ix2 h i) = (MX (s.lf h) (s.li h) (64 * n.val + i + 1) : EReal) := by
  rw [b43_at, b40_at]
  simp only [b37_at, b22_at, b18_at, I.b, I.li, I.m]
  exact row_max (T := 64) (a := 64 * n.val) (G.li_top h h.2) (b := fun i : Fin 64 => S (s.lf h) (64 * n.val + i + 1) - S (s.lf h) (64 * n.val)) (fun _ => rfl) i

/-- What row `i` reads from the state in column `e`. -/
theorem num_at (i : Fin 64) (e : Fin 256) : b57 n.val st (ix3 h i e) = (s.num h e (64 * n.val + i) : EReal) := by
  rw [b57_at, b45_at]
  simp only [b51_at, row_at G I, b40_at, b37_at, b22_at, b18_at, b4_at, b9_at, b14_at, I.q, I.k, I.v, I.b, I.li, I.m, I.C]
  exact row_read (T := 64) (a := 64 * n.val) (G.li_top h h.2) (b := fun i : Fin 64 => S (s.lf h) (64 * n.val + i + 1) - S (s.lf h) (64 * n.val)) (fun _ => rfl)
    (fun d : Fin 128 => s.q h d (64 * n.val + i)) (fun d => s.k h d) (s.v h e) i

theorem v_one (p : ℕ) : ((s.v h 256 p : ℝ) : EReal) = 1 := by rw [Seqs.v, if_neg (by omega)]; rfl

/-- What row `i` reads from the normaliser. -/
theorem den_at (i : Fin 64) : b62 n.val st (ix2 h i) = (s.num h 256 (64 * n.val + i) : EReal) := by
  rw [b62_at, b45_at]
  simp only [b51_at, row_at G I, b40_at, b37_at, b22_at, b18_at, b4_at, b9_at, I.q, I.k, I.b, I.li, I.m, I.N]
  have e := row_read (T := 64) (a := 64 * n.val) (G.li_top h h.2) (b := fun i : Fin 64 => S (s.lf h) (64 * n.val + i + 1) - S (s.lf h) (64 * n.val)) (fun _ => rfl)
    (fun d : Fin 128 => s.q h d (64 * n.val + i)) (fun d => s.k h d) (s.v h 256) i
  simp only [v_one G I, mul_one] at e
  exact e

/-- Row `i` normalised. -/
theorem hv_at (i : Fin 64) (e : Fin 256) : b69 n.val st (ix3 h i e) = s.hv h e (64 * n.val + i) := by
  rw [b69_at, num_at G I, den_at G I, row_at G I, Seqs.hv, zero_sub]

theorem g24_at : b24 n.val st (ix1 h) = ((S (s.lf h) (64 * n.val + 64) - S (s.lf h) (64 * n.val) : ℝ) : EReal) := by
  rw [b24_at, b22_at, I.b]; rfl

/-- The stabiliser after the chunk. -/
theorem end_at : b77 n.val st (ix1 h) = (MX (s.lf h) (s.li h) (64 * n.val + 64) : EReal) := by
  rw [b77_at]
  simp only [b73_at, g24_at G I, b22_at, b18_at, I.b, I.li, I.m]
  exact end_max (T := 64) (a := 64 * n.val) (G.li_top h h.2) (b := fun i : Fin 64 => S (s.lf h) (64 * n.val + i + 1) - S (s.lf h) (64 * n.val)) (fun _ => rfl) rfl

/-- The state after the chunk. -/
theorem C_at (d : Fin 128) (e : Fin 256) : b92 n.val st (ix3 h d e) = (Cst (s.lf h) (s.li h) (s.k h d) (s.v h e) (64 * n.val + 64) : EReal) := by
  rw [b92_at, b84_at]
  simp only [mul_comm (b81 _ _ _)]
  simp only [b81_at, b73_at, end_at G I, g24_at G I, b22_at, b18_at, b9_at, b14_at, I.b, I.li, I.m, I.k, I.v, I.C]
  exact end_state (T := 64) (a := 64 * n.val) (G.li_top h h.2) (b := fun i : Fin 64 => S (s.lf h) (64 * n.val + i + 1) - S (s.lf h) (64 * n.val)) (fun _ => rfl) rfl (s.k h d) (s.v h e)

/-- The normaliser after the chunk. -/
theorem N_at (d : Fin 128) : b97 n.val st (ix2 h d) = (Cst (s.lf h) (s.li h) (s.k h d) (s.v h 256) (64 * n.val + 64) : EReal) := by
  rw [b97_at, b84_at]
  simp only [mul_comm (b81 _ _ _)]
  simp only [b81_at, b73_at, end_at G I, g24_at G I, b22_at, b18_at, b9_at, I.b, I.li, I.m, I.k, I.N]
  have e := end_state (T := 64) (a := 64 * n.val) (G.li_top h h.2) (b := fun i : Fin 64 => S (s.lf h) (64 * n.val + i + 1) - S (s.lf h) (64 * n.val)) (fun _ => rfl) rfl (s.k h d) (s.v h 256)
  simp only [v_one G I, mul_one] at e
  exact e
end

/-- One trip carries the closed forms on by one chunk. -/
theorem inv_step {s : Seqs} (G : s.Good) {n : Fin 129} {st : State Ideal} (I : Inv s n.val st) : Inv s (n.val + 1) (step n.val st) where
  q := I.q
  k := I.k
  v := I.v
  li := I.li
  b := I.b
  C h d e := by rw [step_main_v77_7]; exact C_at G I h d e
  N h d := by rw [step_main_v77_8]; exact N_at G I h d
  m h := by rw [step_main_v77_9]; exact end_at G I h
  hs n' h i e hn := by
    rw [step_main_v77_10, b102_at]
    split
    · next e' => subst e'; exact hv_at G I h i e
    · next e' => exact I.hs n' h i e (by have : n'.val ≠ n.val := fun e => e' (Fin.ext e); omega)

/-- Before the first chunk. -/
theorem inv_init {a0 : Mat 8192 10240} {a1 : Mat 8192 128} {a2 : Mat 16 10240} {a3 : Mat 16 128}
    {a6 : (⟨3, ![1, 4, 1024]⟩ : Shape).Idx → EReal} {a7 a8 : Mat 1 1024} (H : Tame a0 a1 a2 a3 a6 a7) :
    Inv (seqs a0 a1 a2 a3 a6 a7 a8) 0 (init (F := Ideal) a0 a1 a2 a3 a6 a7) where
  q n h i d := q_at H n h i d
  k n h i d := k_at H n h i d
  v n h i d := vv_at H n h i d
  li n h i := li_at n h i
  b n h i := b_at H n h i
  C h d e := (zero_f32 : _)
  N h d := (zero_f32 : _)
  m h := (zero_f32 : _)
  hs n' h i e hn := absurd hn (Nat.not_lt_zero _)

/-- After `n` chunks. -/
theorem inv_iter {s : Seqs} (G : s.Good) {it : ℕ → State Ideal} (h0 : Inv s 0 (it 0)) (hs : ∀ n, it (n + 1) = step n (it n)) :
    ∀ n, n ≤ 129 → Inv s n (it n)
  | 0, _ => h0
  | n + 1, hn => by
    rw [hs]
    exact inv_step G (n := ⟨n, hn⟩) (inv_iter G h0 hs n (Nat.le_of_succ_le hn))

end Cert.Mix.Ref
end
-- ==== Proof.Mix.RefTail.lean ====
/- What the reference computes after its loop, entry by entry. -/
module

public import proofs.«01_k».proof.Proof.Mix.RefInv

@[expose] public section
set_option maxRecDepth 16384
noncomputable section
namespace Cert.Mix.Ref
open Idealize.ShloMosaic
open Cert.ReferenceIdeal Cert.ReferenceIdeal.Gen Cert.ReferenceIdeal.Step

/-- The heads' rows of the text, out of the chunks. -/
def rows (hs : FVec Ideal S129x4x64x256 .f32) : FVec Ideal S8192x4x256 .f32 :=
  extractStridedSlice S8192x4x256 ![16, 0, 0] (transpose S8208x4x256 [1, 0, 2] (extractStridedSlice S4x8208x256 ![0, 48, 0] (shapeCast _ (transpose S4x129x64x256 [1, 0, 2, 3] hs transposes_S129x4x64x256_S4x129x64x256_1_0_2_3) shapeCasts_S4x129x64x256_S4x8256x256) slices_S4x8256x256_S4x8208x256_0_48_0) transposes_S4x8208x256_S8208x4x256_1_0_2) slices_S8208x4x256_S8192x4x256_16_0_0

/-- The heads' rows normalised and gated, four heads side by side. -/
def gated (hs : FVec Ideal S129x4x64x256 .f32) (a0 : FVec Ideal S8192x10240 .bf16) (a8 : FVec Ideal S1x1024 .f32) : FVec Ideal S8192x1024 .f32 :=
  mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 2048] (extf .f32 a0 bitsLt_bf16_f32) slices_S8192x10240_S8192x1024_0_2048))))) (shapeCast _ (mulf (mulf (rows hs) (broadcastInDim S8192x4x256 ![0, 1, 2] bcast_S8192x4x1_S8192x4x256_0_1_2 (Host.rsqrt (addf (Host.divf (broadcastInDim S8192x4x1 ![0, 1] bcast_S8192x4_S8192x4x1_0_1 (Host.reduceAdd (mulf (rows hs) (rows hs)) (constant S_ .f32 0x00000000#32) reducesTo_S8192x4x256_S8192x4_d2 h_S_)) (broadcastInDim S8192x4x1 ![] bcast_S_S8192x4x1 (constant S_ .f32 0x43800000#32))) (broadcastInDim S8192x4x1 ![] bcast_S_S8192x4x1 (constant S_ .f32 0x358637BD#32)))))) (broadcastInDim S8192x4x256 ![0, 1, 2] bcast_S1x4x256_S8192x4x256_0_1_2 (broadcastInDim S1x4x256 ![1, 2] bcast_S4x256_S1x4x256_1_2 (shapeCast _ (shapeCast _ a8 shapeCasts_S1x1024_S1024) shapeCasts_S1024_S4x256)))) shapeCasts_S8192x4x256_S8192x1024)

/-- The two branches, each through its gate. -/
def merged (G : FVec Ideal S8192x1024 .f32) (a0 : FVec Ideal S8192x10240 .bf16) (a4 : FVec Ideal S8192x1024 .bf16) (a9 a10 : FVec Ideal S1024x2048 .bf16) : FVec Ideal S8192x2048 .f32 :=
  addf (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 6144] (extf .f32 a0 bitsLt_bf16_f32) slices_S8192x10240_S8192x2048_0_6144))))) (Host.dotGeneral dot_S8192x1024_S1024x2048_S8192x2048_1_0_0_1_n_n none G (extf .f32 a9 bitsLt_bf16_f32))) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 8192] (extf .f32 a0 bitsLt_bf16_f32) slices_S8192x10240_S8192x2048_0_8192))))) (Host.dotGeneral dot_S8192x1024_S1024x2048_S8192x2048_1_0_0_1_n_n none (extf .f32 a4 bitsLt_bf16_f32) (extf .f32 a10 bitsLt_bf16_f32)))

/-- The merged branches through the output weights. -/
def proj (G : FVec Ideal S8192x1024 .f32) (a0 : FVec Ideal S8192x10240 .bf16) (a4 : FVec Ideal S8192x1024 .bf16) (a9 a10 : FVec Ideal S1024x2048 .bf16) (a11 : FVec Ideal S2048x2048 .bf16) : FVec Ideal S8192x2048 .f32 :=
  Host.dotGeneral dot_S8192x2048_S2048x2048_S8192x2048_1_0_0_1_n_n none (merged G a0 a4 a9 a10) (extf .f32 a11 bitsLt_bf16_f32)

/-- The residual and the normalised projection. -/
def added (O : FVec Ideal S8192x2048 .f32) (a5 : FVec Ideal S8192x2048 .f32) (a12 : FVec Ideal S1x2048 .f32) : FVec Ideal S8192x2048 .f32 :=
  addf a5 (mulf (mulf O (broadcastInDim S8192x2048 ![0, 1] bcast_S8192x1_S8192x2048_0_1 (Host.rsqrt (addf (Host.divf (broadcastInDim S8192x1 ![0] bcast_S8192_S8192x1_0 (Host.reduceAdd (mulf O O) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ a12 shapeCasts_S1x2048_S2048))))

theorem tail_eq (st : State Ideal) (a0 : FVec Ideal S8192x10240 .bf16) (a4 : FVec Ideal S8192x1024 .bf16) (a5 : FVec Ideal S8192x2048 .f32) (a8 : FVec Ideal S1x1024 .f32)
    (a9 a10 : FVec Ideal S1024x2048 .bf16) (a11 : FVec Ideal S2048x2048 .bf16) (a12 : FVec Ideal S1x2048 .f32) :
    R_main_v146 st a0 a4 a5 a8 a9 a10 a11 a12 = added (proj (gated st.main_v77_10 a0 a8) a0 a4 a9 a10 a11) a5 a12 := by
  unfold R_main_v146 added proj merged gated rows
  rfl

variable (hs : FVec Ideal S129x4x64x256 .f32) (a0 : FVec Ideal S8192x10240 .bf16) (a4 : FVec Ideal S8192x1024 .bf16) (a5 : FVec Ideal S8192x2048 .f32) (a8 : FVec Ideal S1x1024 .f32)
  (a9 a10 : FVec Ideal S1024x2048 .bf16) (a11 : FVec Ideal S2048x2048 .bf16) (a12 : FVec Ideal S1x2048 .f32)
  (G : FVec Ideal S8192x1024 .f32) (O : FVec Ideal S8192x2048 .f32)

theorem rows_at (r : Fin 8192) (h : Fin 4) (e : Fin 256) : rows hs (ix3 r h e)
    = hs (ix4 (⟨(64 + r.val) / 64, by omega⟩ : Fin 129) h (⟨(64 + r.val) % 64, by omega⟩ : Fin 64) e) := by
  have e1 : (64 + r.val) / 64 = (48 + (16 + r.val)) / 64 := by congr 1; omega
  have e2 : (64 + r.val) % 64 = (48 + (16 + r.val)) % 64 := by congr 1; omega
  simp only [e1, e2]
  pointwise [rows, hlo_ix]

theorem gated_at (r : Fin 8192) (c : Fin 1024) : gated hs a0 a8 (ix2 r c)
    = Ideal.logistic (a0 (ix2 r (⟨2048 + c.val, by omega⟩ : Fin 10240)))
      * ((rows hs (ix3 r (⟨c.val / 256, by omega⟩ : Fin 4) (⟨c.val % 256, by omega⟩ : Fin 256))
        * Ideal.rsqrt (Ideal.div (∑ e : Fin 256, rows hs (ix3 r (⟨c.val / 256, by omega⟩ : Fin 4) e) * rows hs (ix3 r (⟨c.val / 256, by omega⟩ : Fin 4) e)) (Ideal.ofBits FTy.f32 0x43800000#32)
          + Ideal.ofBits FTy.f32 0x358637BD#32)) * a8 (ix2 0 c)) := by
  show _ = Ideal.div 1 (1 + Ideal.exp (-a0 (ix2 r (⟨2048 + c.val, by omega⟩ : Fin 10240)))) * _
  pointwise [gated, hlo_ix]

theorem merged_at (r : Fin 8192) (k : Fin 2048) : merged G a0 a4 a9 a10 (ix2 r k)
    = Ideal.logistic (a0 (ix2 r (⟨6144 + k.val, by omega⟩ : Fin 10240))) * (∑ q : Fin 1024, G (ix2 r q) * a9 (ix2 q k))
      + Ideal.logistic (a0 (ix2 r (⟨8192 + k.val, by omega⟩ : Fin 10240))) * (∑ q : Fin 1024, a4 (ix2 r q) * a10 (ix2 q k)) := by
  show _ = Ideal.div 1 (1 + Ideal.exp (-a0 (ix2 r (⟨6144 + k.val, by omega⟩ : Fin 10240)))) * _ + Ideal.div 1 (1 + Ideal.exp (-a0 (ix2 r (⟨8192 + k.val, by omega⟩ : Fin 10240)))) * _
  pointwise [merged, hlo_ix]

theorem proj_at (r : Fin 8192) (c : Fin 2048) : proj G a0 a4 a9 a10 a11 (ix2 r c) = ∑ k : Fin 2048, merged G a0 a4 a9 a10 (ix2 r k) * a11 (ix2 k c) := by
  pointwise [proj, hlo_ix]

theorem added_at (r : Fin 8192) (c : Fin 2048) : added O a5 a12 (ix2 r c)
    = a5 (ix2 r c) + (O (ix2 r c) * Ideal.rsqrt (Ideal.div (∑ j : Fin 2048, O (ix2 r j) * O (ix2 r j)) (Ideal.ofBits FTy.f32 0x45000000#32) + Ideal.ofBits FTy.f32 0x358637BD#32)) * a12 (ix2 0 c) := by
  pointwise [added, hlo_ix]

/-- After 129 chunks the reference's result is the layer's. -/
theorem tail_val {a1 : Mat 8192 128} {a2 : Mat 16 10240} {a3 : Mat 16 128} {a6 : (⟨3, ![1, 4, 1024]⟩ : Shape).Idx → EReal} {a7 : Mat 1 1024} {st : State Ideal}
    (I : Inv (seqs a0 a1 a2 a3 a6 a7 a8) 129 st) :
    R_main_v146 st a0 a4 a5 a8 a9 a10 a11 a12 = result (seqs a0 a1 a2 a3 a6 a7 a8).hm a0 a4 a5 a9 a10 a11 a12 := by
  have hr (r : Fin 8192) (h : Fin 4) (e : Fin 256) : rows st.main_v77_10 (ix3 r h e) = (seqs a0 a1 a2 a3 a6 a7 a8).hv h e (64 + r.val) := by
    rw [rows_at, I.hs _ _ _ _ (by show (64 + r.val) / 64 < 129; omega)]
    congr 1
    show 64 * ((64 + r.val) / 64) + (64 + r.val) % 64 = _
    omega
  have hg (r : Fin 8192) (c : Fin 1024) : gated st.main_v77_10 a0 a8 (ix2 r c) = (seqs a0 a1 a2 a3 a6 a7 a8).hm (64 + r.val) c.val := by
    rw [gated_at, Seqs.hm, Seqs.hn, seqs_mo r (⟨2048 + c.val, by omega⟩ : Fin 10240) rfl rfl, seqs_ng]
    simp only [hr]
  have ha (r : Fin 8192) (c : Fin 2048) : added (proj (gated st.main_v77_10 a0 a8) a0 a4 a9 a10 a11) a5 a12 (ix2 r c)
      = result (seqs a0 a1 a2 a3 a6 a7 a8).hm a0 a4 a5 a9 a10 a11 a12 (ix2 r c) := by
    rw [added_at]
    simp only [proj_at, merged_at, hg]
    rfl
  rw [tail_eq]
  funext y
  have hy : y = ix2 (y 0 : Fin 8192) (y 1 : Fin 2048) := by
    funext a
    match a with
    | 0 => rfl
    | 1 => rfl
  rw [hy]
  exact ha _ _

end Cert.Mix.Ref
end
-- ==== Proof.Mix.RefLoop.lean ====
/- The reference's run told by its single steps: while the buffers hold a state (the values its loop carries, the values
   set up before the loop and the trip's number), one trip of the loop leaves the next state, and the result is computed
   from the state after the last trip. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v77_7) = s.main_v77_7
  f_8 : V0 (Proc.devRef .tc main_v77_8) = s.main_v77_8
  f_9 : V0 (Proc.devRef .tc main_v77_9) = s.main_v77_9
  f_10 : V0 (Proc.devRef .tc main_v77_10) = s.main_v77_10
  f_0 : V0 (Proc.devRef .tc main_v77_0) = s.main_v77_0
  f_1 : V0 (Proc.devRef .tc main_v77_1) = s.main_v77_1
  f_2 : V0 (Proc.devRef .tc main_v77_2) = s.main_v77_2
  f_3 : V0 (Proc.devRef .tc main_v77_3) = s.main_v77_3
  f_4 : V0 (Proc.devRef .tc main_v77_4) = s.main_v77_4
  n_6 : V0 (Proc.devRef .tc main_v77_6) = constantI S_ 32 (BitVec.ofNat 32 j)
  k_5 : V0 (Proc.devRef .tc main_v77_5) = Cert.ReferenceIdeal.Step.K_main_v72 (F := F)

variable {V0 s j}

set_option maxRecDepth 8192 in
theorem al_0 (h : Holds V0 s j) : (constantI S_ 32 0#32 : (Proc.devRef .tc main_while0b_call10_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call10_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call10_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x4x64x128 (V0 (Proc.devRef .tc main_v77_0)) (fun k => (((![V0 (Proc.devRef .tc main_v77_6), constantI S_ 32 0#32, constantI S_ 32 0#32, constantI S_ 32 0#32] : Fin 4 → (⟨S_, .i32⟩ : BufTy).Contents (Elt F))) k (Shape.Idx.first h_S_)).toInt) sliceFits_S129x4x64x128_S1x4x64x128 : (Proc.devRef .tc main_while0b_call10_v0 : DevRef τ sig).ty.Contents (Elt F)) = Cert.ReferenceIdeal.Step.b3 j s := by
  unfold Cert.ReferenceIdeal.Step.b3
  rw [← al_0 h, ← al_1 h, ← al_2 h, h.f_0, h.n_6]
  try rfl
set_option maxRecDepth 8192 in
theorem al_4 (h : Holds V0 s j) : (res_main_while0b_v147 V0 : (Proc.devRef .tc main_while0b_v147 : DevRef τ sig).ty.Contents (Elt F)) = Cert.ReferenceIdeal.Step.b4 j s := by
  unfold res_main_while0b_v147 Cert.ReferenceIdeal.Step.b4
  rw [← al_3 h]
  try rfl
set_option maxRecDepth 8192 in
theorem al_5 (h : Holds V0 s j) : (constantI S_ 32 0#32 : (Proc.devRef .tc main_while0b_call11_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call11_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call11_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x4x64x128 (V0 (Proc.devRef .tc main_v77_1)) (fun k => (((![V0 (Proc.devRef .tc main_v77_6), constantI S_ 32 0#32, constantI S_ 32 0#32, constantI S_ 32 0#32] : Fin 4 → (⟨S_, .i32⟩ : BufTy).Contents (Elt F))) k (Shape.Idx.first h_S_)).toInt) sliceFits_S129x4x64x128_S1x4x64x128 : (Proc.devRef .tc main_while0b_call11_v0 : DevRef τ sig).ty.Contents (Elt F)) = Cert.ReferenceIdeal.Step.b8 j s := by
  unfold Cert.ReferenceIdeal.Step.b8
  rw [← al_5 h, ← al_6 h, ← al_7 h, h.f_1, h.n_6]
  try rfl
set_option maxRecDepth 8192 in
theorem al_9 (h : Holds V0 s j) : (res_main_while0b_v148 V0 : (Proc.devRef .tc main_while0b_v148 : DevRef τ sig).ty.Contents (Elt F)) = Cert.ReferenceIdeal.Step.b9 j s := by
  unfold res_main_while0b_v148 Cert.ReferenceIdeal.Step.b9
  rw [← al_8 h]
  try rfl
set_option maxRecDepth 8192 in
theorem al_10 (h : Holds V0 s j) : (constantI S_ 32 0#32 : (Proc.devRef .tc main_while0b_call12_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call12_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call12_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x4x64x256 (V0 (Proc.devRef .tc main_v77_2)) (fun k => (((![V0 (Proc.devRef .tc main_v77_6), constantI S_ 32 0#32, constantI S_ 32 0#32, constantI S_ 32 0#32] : Fin 4 → (⟨S_, .i32⟩ : BufTy).Contents (Elt F))) k (Shape.Idx.first h_S_)).toInt) sliceFits_S129x4x64x256_S1x4x64x256 : (Proc.devRef .tc main_while0b_call12_v0 : DevRef τ sig).ty.Contents (Elt F)) = Cert.ReferenceIdeal.Step.b13 j s := by
  unfold Cert.ReferenceIdeal.Step.b13
  rw [← al_10 h, ← al_11 h, ← al_12 h, h.f_2, h.n_6]
  try rfl
set_option maxRecDepth 8192 in
theorem al_14 (h : Holds V0 s j) : (res_main_while0b_v149 V0 : (Proc.devRef .tc main_while0b_v149 : DevRef τ sig).ty.Contents (Elt F)) = Cert.ReferenceIdeal.Step.b14 j s := by
  unfold res_main_while0b_v149 Cert.ReferenceIdeal.Step.b14
  rw [← al_13 h]
  try rfl
set_option maxRecDepth 8192 in
theorem al_15 (h : Holds V0 s j) : (constantI S_ 32 0#32 : (Proc.devRef .tc main_while0b_call13_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call13_c_0 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x4x64 (V0 (Proc.devRef .tc main_v77_3)) (fun k => (((![V0 (Proc.devRef .tc main_v77_6), constantI S_ 32 0#32, constantI S_ 32 0#32] : Fin 3 → (⟨S_, .i32⟩ : BufTy).Contents (Elt F))) k (Shape.Idx.first h_S_)).toInt) sliceFits_S129x4x64_S1x4x64 : (Proc.devRef .tc main_while0b_call13_v0 : DevRef τ sig).ty.Contents (Elt F)) = Cert.ReferenceIdeal.Step.b17 j s := by
  unfold Cert.ReferenceIdeal.Step.b17
  rw [← al_15 h, ← al_16 h, h.f_3, h.n_6]
  try rfl
set_option maxRecDepth 8192 in
theorem al_18 (h : Holds V0 s j) : (res_main_while0b_v150 V0 : (Proc.devRef .tc main_while0b_v150 : DevRef τ sig).ty.Contents (Elt F)) = Cert.ReferenceIdeal.Step.b18 j s := by
  unfold res_main_while0b_v150 Cert.ReferenceIdeal.Step.b18
  rw [← al_17 h]
  try rfl
set_option maxRecDepth 8192 in
theorem al_19 (h : Holds V0 s j) : (constantI S_ 32 0#32 : (Proc.devRef .tc main_while0b_call14_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call14_c_0 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x4x64 (V0 (Proc.devRef .tc main_v77_4)) (fun k => (((![V0 (Proc.devRef .tc main_v77_6), constantI S_ 32 0#32, constantI S_ 32 0#32] : Fin 3 → (⟨S_, .i32⟩ : BufTy).Contents (Elt F))) k (Shape.Idx.first h_S_)).toInt) sliceFits_S129x4x64_S1x4x64 : (Proc.devRef .tc main_while0b_call14_v0 : DevRef τ sig).ty.Contents (Elt F)) = Cert.ReferenceIdeal.Step.b21 j s := by
  unfold Cert.ReferenceIdeal.Step.b21
  rw [← al_19 h, ← al_20 h, h.f_4, h.n_6]
  try rfl
set_option maxRecDepth 8192 in
theorem al_22 (h : Holds V0 s j) : (res_main_while0b_v151 V0 : (Proc.devRef .tc main_while0b_v151 : DevRef τ sig).ty.Contents (Elt F)) = Cert.ReferenceIdeal.Step.b22 j s := by
  unfold res_main_while0b_v151 Cert.ReferenceIdeal.Step.b22
  rw [← al_21 h]
  try rfl
set_option maxRecDepth 8192 in
theorem al_23 (h : Holds V0 s j) : (extractStridedSlice S4x1 ![0, 63] (res_main_while0b_v151 V0) slices_S4x64_S4x1_0_63 : (Proc.devRef .tc main_while0b_v152 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (res_main_while0b_v153 V0 : (Proc.devRef .tc main_while0b_v153 : DevRef τ sig).ty.Contents (Elt F)) = Cert.ReferenceIdeal.Step.b24 j s := by
  unfold res_main_while0b_v153 Cert.ReferenceIdeal.Step.b24
  rw [← al_23 h]
  try rfl
set_option maxRecDepth 8192 in
theorem al_25 (h : Holds V0 s j) : (broadcastInDim S4x64x1 ![0, 1] bcast_S4x64_S4x64x1_0_1 (res_main_while0b_v151 V0) : (Proc.devRef .tc main_while0b_v154 : DevRef τ sig).ty.Contents (Elt F)) = Cert.ReferenceIdeal.Step.b25 j s := by
  unfold Cert.ReferenceIdeal.Step.b25
  rw [← al_22 h]
  try rfl
set_option maxRecDepth 8192 in
theorem al_26 (h : Holds V0 s j) : (broadcastInDim S4x1x64 ![0, 2] bcast_S4x64_S4x1x64_0_2 (res_main_while0b_v151 V0) : (Proc.devRef .tc main_while0b_v155 : DevRef τ sig).ty.Contents (Elt F)) = Cert.ReferenceIdeal.Step.b26 j s := by
  unfold Cert.ReferenceIdeal.Step.b26
  rw [← al_22 h]
  try rfl
set_option maxRecDepth 8192 in
theorem al_27 (h : Holds V0 s j) : (broadcastInDim S4x64x64 ![0, 1, 2] bcast_S4x64x1_S4x64x64_0_1_2 (broadcastInDim S4x64x1 ![0, 1] bcast_S4x64_S4x64x1_0_1 (res_main_while0b_v151 V0)) : (Proc.devRef .tc main_while0b_v156 : DevRef τ sig).ty.Contents (Elt F)) = Cert.ReferenceIdeal.Step.b27 j s := by
  unfold Cert.ReferenceIdeal.Step.b27
  rw [← al_25 h]
  try rfl
set_option maxRecDepth 8192 in
theorem al_28 (h : Holds V0 s j) : (broadcastInDim S4x64x64 ![0, 1, 2] bcast_S4x1x64_S4x64x64_0_1_2 (broadcastInDim S4x1x64 ![0, 2] bcast_S4x64_S4x1x64_0_2 (res_main_while0b_v151 V0)) : (Proc.devRef .tc main_while0b_v157 : DevRef τ sig).ty.Contents (Elt F)) = Cert.ReferenceIdeal.Step.b28 j s := by
  unfold Cert.ReferenceIdeal.Step.b28
  rw [← al_26 h]
  try rfl
set_option maxRecDepth 8192 in
theorem al_29 (h : Holds V0 s j) : (subf (broadcastInDim S4x64x64 ![0, 1, 2] bcast_S4x64x1_S4x64x64_0_1_2 (broadcastInDim S4x64x1 ![0, 1] bcast_S4x64_S4x64x1_0_1 (res_main_while0b_v151 V0))) (broadcastInDim S4x64x64 ![0, 1, 2] bcast_S4x1x64_S4x64x64_0_1_2 (broadcastInDim S4x1x64 ![0, 2] bcast_S4x64_S4x1x64_0_2 (res_main_while0b_v151 V0))) : (Proc.devRef .tc main_while0b_v158 : DevRef τ sig).ty.Contents (Elt F)) = Cert.ReferenceIdeal.Step.b29 j s := by
  unfold Cert.ReferenceIdeal.Step.b29
  rw [← al_27 h, ← al_28 h]
  try rfl
set_option maxRecDepth 8192 in
theorem al_30 (h : Holds V0 s j) : (broadcastInDim S4x1x64 ![0, 2] bcast_S4x64_S4x1x64_0_2 (res_main_while0b_v150 V0) : (Proc.devRef .tc main_while0b_v159 : DevRef τ sig).ty.Contents (Elt F)) = Cert.ReferenceIdeal.Step.b30 j s := by
  unfold Cert.ReferenceIdeal.Step.b30
  rw [← al_18 h]
  try rfl
set_option maxRecDepth 8192 in
theorem al_31 (h : Holds V0 s j) : (broadcastInDim S4x64x64 ![0, 1, 2] bcast_S4x1x64_S4x64x64_0_1_2 (broadcastInDim S4x1x64 ![0, 2] bcast_S4x64_S4x1x64_0_2 (res_main_while0b_v150 V0)) : (Proc.devRef .tc main_while0b_v160 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (addf (subf (broadcastInDim S4x64x64 ![0, 1, 2] bcast_S4x64x1_S4x64x64_0_1_2 (broadcastInDim S4x64x1 ![0, 1] bcast_S4x64_S4x64x1_0_1 (res_main_while0b_v151 V0))) (broadcastInDim S4x64x64 ![0, 1, 2] bcast_S4x1x64_S4x64x64_0_1_2 (broadcastInDim S4x1x64 ![0, 2] bcast_S4x64_S4x1x64_0_2 (res_main_while0b_v151 V0)))) (broadcastInDim S4x64x64 ![0, 1, 2] bcast_S4x1x64_S4x64x64_0_1_2 (broadcastInDim S4x1x64 ![0, 2] bcast_S4x64_S4x1x64_0_2 (res_main_while0b_v150 V0))) : (Proc.devRef .tc main_while0b_v161 : DevRef τ sig).ty.Contents (Elt F)) = Cert.ReferenceIdeal.Step.b32 j s := by
  unfold Cert.ReferenceIdeal.Step.b32
  rw [← al_29 h, ← al_31 h]
  try rfl
set_option maxRecDepth 8192 in
theorem al_33 (h : Holds V0 s j) : (constant S_ .f32 0xFF800000#32 : (Proc.devRef .tc main_while0b_cst_33 : DevRef τ sig).ty.Contents (Elt F)) = Cert.ReferenceIdeal.Step.b33 j s := by
  unfold Cert.ReferenceIdeal.Step.b33
  rfl
set_option maxRecDepth 8192 in
theorem al_34 (h : Holds V0 s j) : (id (constant S_ .f32 0xFF800000#32) : (Proc.devRef .tc main_while0b_call15_v0 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (broadcastInDim S4x64x64 ![1, 2] bcast_S64x64_S4x64x64_1_2 (V0 (Proc.devRef .tc main_v77_5)) : (Proc.devRef .tc main_while0b_call15_v1 : DevRef τ sig).ty.Contents (Elt F)) = Cert.ReferenceIdeal.Step.b35 j s := by
  unfold Cert.ReferenceIdeal.Step.b35
  rw [h.k_5]
  try rfl
set_option maxRecDepth 8192 in
theorem al_36 (h : Holds V0 s j) : (broadcastInDim S4x64x64 ![] bcast_S_S4x64x64 (id (constant S_ .f32 0xFF800000#32)) : (Proc.devRef .tc main_while0b_call15_v2 : DevRef τ sig).ty.Contents (Elt F)) = Cert.ReferenceIdeal.Step.b36 j s := by
  unfold Cert.ReferenceIdeal.Step.b36
  rw [← al_34 h]
  try rfl
set_option maxRecDepth 8192 in
theorem al_37 (h : Holds V0 s j) : (res_main_while0b_v162 V0 : (Proc.devRef .tc main_while0b_v162 : DevRef τ sig).ty.Contents (Elt F)) = Cert.ReferenceIdeal.Step.b37 j s := by
  unfold res_main_while0b_v162 Cert.ReferenceIdeal.Step.b37
  rw [← al_35 h, ← al_32 h, ← al_36 h]
  try rfl
set_option maxRecDepth 8192 in
theorem al_38 (h : Holds V0 s j) : (broadcastInDim S4x1 ![0] bcast_S4_S4x1_0 (V0 (Proc.devRef .tc main_v77_9)) : (Proc.devRef .tc main_while0b_v163 : DevRef τ sig).ty.Contents (Elt F)) = Cert.ReferenceIdeal.Step.b38 j s := by
  unfold Cert.ReferenceIdeal.Step.b38
  rw [h.f_9]
  try rfl
set_option maxRecDepth 8192 in
theorem al_39 (h : Holds V0 s j) : (broadcastInDim S4x64 ![0, 1] bcast_S4x1_S4x64_0_1 (broadcastInDim S4x1 ![0] bcast_S4_S4x1_0 (V0 (Proc.devRef .tc main_v77_9))) : (Proc.devRef .tc main_while0b_v164 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (res_main_while0b_v165 V0 : (Proc.devRef .tc main_while0b_v165 : DevRef τ sig).ty.Contents (Elt F)) = Cert.ReferenceIdeal.Step.b40 j s := by
  unfold res_main_while0b_v165 Cert.ReferenceIdeal.Step.b40
  rw [← al_22 h, ← al_39 h]
  try rfl
set_option maxRecDepth 8192 in
theorem al_41 (h : Holds V0 s j) : (constant S_ .f32 0xFF800000#32 : (Proc.devRef .tc main_while0b_cst_34 : DevRef τ sig).ty.Contents (Elt F)) = Cert.ReferenceIdeal.Step.b41 j s := by
  unfold Cert.ReferenceIdeal.Step.b41
  rfl
set_option maxRecDepth 8192 in
theorem al_42 (h : Holds V0 s j) : (Host.reduce FloatOps.maximumf (res_main_while0b_v162 V0) (constant S_ .f32 0xFF800000#32) reducesTo_S4x64x64_S4x64_d2 h_S_ : (Proc.devRef .tc main_while0b_v166 : DevRef τ sig).ty.Contents (Elt F)) = Cert.ReferenceIdeal.Step.b42 j s := by
  unfold Cert.ReferenceIdeal.Step.b42
  rw [← al_37 h, ← al_41 h]
  try rfl
set_option maxRecDepth 8192 in
theorem al_43 (h : Holds V0 s j) : (res_main_while0b_v167 V0 : (Proc.devRef .tc main_while0b_v167 : DevRef τ sig).ty.Contents (Elt F)) = Cert.ReferenceIdeal.Step.b43 j s := by
  unfold res_main_while0b_v167 Cert.ReferenceIdeal.Step.b43
  rw [← al_40 h, ← al_42 h]
  try rfl
set_option maxRecDepth 8192 in
theorem al_44 (h : Holds V0 s j) : (subf (res_main_while0b_v165 V0) (res_main_while0b_v167 V0) : (Proc.devRef .tc main_while0b_v168 : DevRef τ sig).ty.Contents (Elt F)) = Cert.ReferenceIdeal.Step.b44 j s := by
  unfold Cert.ReferenceIdeal.Step.b44
  rw [← al_40 h, ← al_43 h]
  try rfl
set_option maxRecDepth 8192 in
theorem al_45 (h : Holds V0 s j) : (res_main_while0b_v169 V0 : (Proc.devRef .tc main_while0b_v169 : DevRef τ sig).ty.Contents (Elt F)) = Cert.ReferenceIdeal.Step.b45 j s := by
  unfold res_main_while0b_v169 Cert.ReferenceIdeal.Step.b45
  rw [← al_44 h]
  try rfl
set_option maxRecDepth 8192 in
theorem al_46 (h : Holds V0 s j) : (Host.dotGeneral dot_S4x64x128_S4x64x128_S4x64x64_2_2_1_1_0_0 none (res_main_while0b_v147 V0) (res_main_while0b_v148 V0) : (Proc.devRef .tc main_while0b_v170 : DevRef τ sig).ty.Contents (Elt F)) = Cert.ReferenceIdeal.Step.b46 j s := by
  unfold Cert.ReferenceIdeal.Step.b46
  rw [← al_4 h, ← al_9 h]
  try rfl
set_option maxRecDepth 8192 in
theorem al_47 (h : Holds V0 s j) : (broadcastInDim S4x64x1 ![0, 1] bcast_S4x64_S4x64x1_0_1 (res_main_while0b_v167 V0) : (Proc.devRef .tc main_while0b_v171 : DevRef τ sig).ty.Contents (Elt F)) = Cert.ReferenceIdeal.Step.b47 j s := by
  unfold Cert.ReferenceIdeal.Step.b47
  rw [← al_43 h]
  try rfl
set_option maxRecDepth 8192 in
theorem al_48 (h : Holds V0 s j) : (broadcastInDim S4x64x64 ![0, 1, 2] bcast_S4x64x1_S4x64x64_0_1_2 (broadcastInDim S4x64x1 ![0, 1] bcast_S4x64_S4x64x1_0_1 (res_main_while0b_v167 V0)) : (Proc.devRef .tc main_while0b_v172 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (subf (res_main_while0b_v162 V0) (broadcastInDim S4x64x64 ![0, 1, 2] bcast_S4x64x1_S4x64x64_0_1_2 (broadcastInDim S4x64x1 ![0, 1] bcast_S4x64_S4x64x1_0_1 (res_main_while0b_v167 V0))) : (Proc.devRef .tc main_while0b_v173 : DevRef τ sig).ty.Contents (Elt F)) = Cert.ReferenceIdeal.Step.b49 j s := by
  unfold Cert.ReferenceIdeal.Step.b49
  rw [← al_37 h, ← al_48 h]
  try rfl
set_option maxRecDepth 8192 in
theorem al_50 (h : Holds V0 s j) : (Host.exp (subf (res_main_while0b_v162 V0) (broadcastInDim S4x64x64 ![0, 1, 2] bcast_S4x64x1_S4x64x64_0_1_2 (broadcastInDim S4x64x1 ![0, 1] bcast_S4x64_S4x64x1_0_1 (res_main_while0b_v167 V0)))) : (Proc.devRef .tc main_while0b_v174 : DevRef τ sig).ty.Contents (Elt F)) = Cert.ReferenceIdeal.Step.b50 j s := by
  unfold Cert.ReferenceIdeal.Step.b50
  rw [← al_49 h]
  try rfl
set_option maxRecDepth 8192 in
theorem al_51 (h : Holds V0 s j) : (res_main_while0b_v175 V0 : (Proc.devRef .tc main_while0b_v175 : DevRef τ sig).ty.Contents (Elt F)) = Cert.ReferenceIdeal.Step.b51 j s := by
  unfold res_main_while0b_v175 Cert.ReferenceIdeal.Step.b51
  rw [← al_46 h, ← al_50 h]
  try rfl
set_option maxRecDepth 8192 in
theorem al_52 (h : Holds V0 s j) : (broadcastInDim S4x64x1 ![0, 1] bcast_S4x64_S4x64x1_0_1 (res_main_while0b_v169 V0) : (Proc.devRef .tc main_while0b_v176 : DevRef τ sig).ty.Contents (Elt F)) = Cert.ReferenceIdeal.Step.b52 j s := by
  unfold Cert.ReferenceIdeal.Step.b52
  rw [← al_45 h]
  try rfl
set_option maxRecDepth 8192 in
theorem al_53 (h : Holds V0 s j) : (Host.dotGeneral dot_S4x64x128_S4x128x256_S4x64x256_2_1_1_2_0_0 none (res_main_while0b_v147 V0) (V0 (Proc.devRef .tc main_v77_7)) : (Proc.devRef .tc main_while0b_v177 : DevRef τ sig).ty.Contents (Elt F)) = Cert.ReferenceIdeal.Step.b53 j s := by
  unfold Cert.ReferenceIdeal.Step.b53
  rw [← al_4 h, h.f_7]
  try rfl
set_option maxRecDepth 8192 in
theorem al_54 (h : Holds V0 s j) : (broadcastInDim S4x64x256 ![0, 1, 2] bcast_S4x64x1_S4x64x256_0_1_2 (broadcastInDim S4x64x1 ![0, 1] bcast_S4x64_S4x64x1_0_1 (res_main_while0b_v169 V0)) : (Proc.devRef .tc main_while0b_v178 : DevRef τ sig).ty.Contents (Elt F)) = Cert.ReferenceIdeal.Step.b54 j s := by
  unfold Cert.ReferenceIdeal.Step.b54
  rw [← al_52 h]
  try rfl
set_option maxRecDepth 8192 in
theorem al_55 (h : Holds V0 s j) : (mulf (broadcastInDim S4x64x256 ![0, 1, 2] bcast_S4x64x1_S4x64x256_0_1_2 (broadcastInDim S4x64x1 ![0, 1] bcast_S4x64_S4x64x1_0_1 (res_main_while0b_v169 V0))) (Host.dotGeneral dot_S4x64x128_S4x128x256_S4x64x256_2_1_1_2_0_0 none (res_main_while0b_v147 V0) (V0 (Proc.devRef .tc main_v77_7))) : (Proc.devRef .tc main_while0b_v179 : DevRef τ sig).ty.Contents (Elt F)) = Cert.ReferenceIdeal.Step.b55 j s := by
  unfold Cert.ReferenceIdeal.Step.b55
  rw [← al_54 h, ← al_53 h]
  try rfl
set_option maxRecDepth 8192 in
theorem al_56 (h : Holds V0 s j) : (Host.dotGeneral dot_S4x64x64_S4x64x256_S4x64x256_2_1_1_2_0_0 none (res_main_while0b_v175 V0) (res_main_while0b_v149 V0) : (Proc.devRef .tc main_while0b_v180 : DevRef τ sig).ty.Contents (Elt F)) = Cert.ReferenceIdeal.Step.b56 j s := by
  unfold Cert.ReferenceIdeal.Step.b56
  rw [← al_51 h, ← al_14 h]
  try rfl
set_option maxRecDepth 8192 in
theorem al_57 (h : Holds V0 s j) : (addf (mulf (broadcastInDim S4x64x256 ![0, 1, 2] bcast_S4x64x1_S4x64x256_0_1_2 (broadcastInDim S4x64x1 ![0, 1] bcast_S4x64_S4x64x1_0_1 (res_main_while0b_v169 V0))) (Host.dotGeneral dot_S4x64x128_S4x128x256_S4x64x256_2_1_1_2_0_0 none (res_main_while0b_v147 V0) (V0 (Proc.devRef .tc main_v77_7)))) (Host.dotGeneral dot_S4x64x64_S4x64x256_S4x64x256_2_1_1_2_0_0 none (res_main_while0b_v175 V0) (res_main_while0b_v149 V0)) : (Proc.devRef .tc main_while0b_v181 : DevRef τ sig).ty.Contents (Elt F)) = Cert.ReferenceIdeal.Step.b57 j s := by
  unfold Cert.ReferenceIdeal.Step.b57
  rw [← al_55 h, ← al_56 h]
  try rfl
set_option maxRecDepth 8192 in
theorem al_58 (h : Holds V0 s j) : (Host.dotGeneral dot_S4x64x128_S4x128_S4x64_2_1_1_n_0_0 none (res_main_while0b_v147 V0) (V0 (Proc.devRef .tc main_v77_8)) : (Proc.devRef .tc main_while0b_v182 : DevRef τ sig).ty.Contents (Elt F)) = Cert.ReferenceIdeal.Step.b58 j s := by
  unfold Cert.ReferenceIdeal.Step.b58
  rw [← al_4 h, h.f_8]
  try rfl
set_option maxRecDepth 8192 in
theorem al_59 (h : Holds V0 s j) : (mulf (res_main_while0b_v169 V0) (Host.dotGeneral dot_S4x64x128_S4x128_S4x64_2_1_1_n_0_0 none (res_main_while0b_v147 V0) (V0 (Proc.devRef .tc main_v77_8))) : (Proc.devRef .tc main_while0b_v183 : DevRef τ sig).ty.Contents (Elt F)) = Cert.ReferenceIdeal.Step.b59 j s := by
  unfold Cert.ReferenceIdeal.Step.b59
  rw [← al_45 h, ← al_58 h]
  try rfl
set_option maxRecDepth 8192 in
theorem al_60 (h : Holds V0 s j) : (constant S_ .f32 0x00000000#32 : (Proc.devRef .tc main_while0b_cst_35 : DevRef τ sig).ty.Contents (Elt F)) = Cert.ReferenceIdeal.Step.b60 j s := by
  unfold Cert.ReferenceIdeal.Step.b60
  rfl
set_option maxRecDepth 8192 in
theorem al_61 (h : Holds V0 s j) : (Host.reduceAdd (res_main_while0b_v175 V0) (constant S_ .f32 0x00000000#32) reducesTo_S4x64x64_S4x64_d2 h_S_ : (Proc.devRef .tc main_while0b_v184 : DevRef τ sig).ty.Contents (Elt F)) = Cert.ReferenceIdeal.Step.b61 j s := by
  unfold Cert.ReferenceIdeal.Step.b61
  rw [← al_51 h, ← al_60 h]
  try rfl
set_option maxRecDepth 8192 in
theorem al_62 (h : Holds V0 s j) : (addf (mulf (res_main_while0b_v169 V0) (Host.dotGeneral dot_S4x64x128_S4x128_S4x64_2_1_1_n_0_0 none (res_main_while0b_v147 V0) (V0 (Proc.devRef .tc main_v77_8)))) (Host.reduceAdd (res_main_while0b_v175 V0) (constant S_ .f32 0x00000000#32) reducesTo_S4x64x64_S4x64_d2 h_S_) : (Proc.devRef .tc main_while0b_v185 : DevRef τ sig).ty.Contents (Elt F)) = Cert.ReferenceIdeal.Step.b62 j s := by
  unfold Cert.ReferenceIdeal.Step.b62
  rw [← al_59 h, ← al_61 h]
  try rfl
set_option maxRecDepth 8192 in
theorem al_63 (h : Holds V0 s j) : (Host.absf (addf (mulf (res_main_while0b_v169 V0) (Host.dotGeneral dot_S4x64x128_S4x128_S4x64_2_1_1_n_0_0 none (res_main_while0b_v147 V0) (V0 (Proc.devRef .tc main_v77_8)))) (Host.reduceAdd (res_main_while0b_v175 V0) (constant S_ .f32 0x00000000#32) reducesTo_S4x64x64_S4x64_d2 h_S_)) : (Proc.devRef .tc main_while0b_v186 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (Host.negf (res_main_while0b_v167 V0) : (Proc.devRef .tc main_while0b_v187 : DevRef τ sig).ty.Contents (Elt F)) = Cert.ReferenceIdeal.Step.b64 j s := by
  unfold Cert.ReferenceIdeal.Step.b64
  rw [← al_43 h]
  try rfl
set_option maxRecDepth 8192 in
theorem al_65 (h : Holds V0 s j) : (Host.exp (Host.negf (res_main_while0b_v167 V0)) : (Proc.devRef .tc main_while0b_v188 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (maximumf (Host.absf (addf (mulf (res_main_while0b_v169 V0) (Host.dotGeneral dot_S4x64x128_S4x128_S4x64_2_1_1_n_0_0 none (res_main_while0b_v147 V0) (V0 (Proc.devRef .tc main_v77_8)))) (Host.reduceAdd (res_main_while0b_v175 V0) (constant S_ .f32 0x00000000#32) reducesTo_S4x64x64_S4x64_d2 h_S_))) (Host.exp (Host.negf (res_main_while0b_v167 V0))) : (Proc.devRef .tc main_while0b_v189 : DevRef τ sig).ty.Contents (Elt F)) = Cert.ReferenceIdeal.Step.b66 j s := by
  unfold Cert.ReferenceIdeal.Step.b66
  rw [← al_63 h, ← al_65 h]
  try rfl
set_option maxRecDepth 8192 in
theorem al_67 (h : Holds V0 s j) : (broadcastInDim S4x64x1 ![0, 1] bcast_S4x64_S4x64x1_0_1 (maximumf (Host.absf (addf (mulf (res_main_while0b_v169 V0) (Host.dotGeneral dot_S4x64x128_S4x128_S4x64_2_1_1_n_0_0 none (res_main_while0b_v147 V0) (V0 (Proc.devRef .tc main_v77_8)))) (Host.reduceAdd (res_main_while0b_v175 V0) (constant S_ .f32 0x00000000#32) reducesTo_S4x64x64_S4x64_d2 h_S_))) (Host.exp (Host.negf (res_main_while0b_v167 V0)))) : (Proc.devRef .tc main_while0b_v190 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (broadcastInDim S4x64x256 ![0, 1, 2] bcast_S4x64x1_S4x64x256_0_1_2 (broadcastInDim S4x64x1 ![0, 1] bcast_S4x64_S4x64x1_0_1 (maximumf (Host.absf (addf (mulf (res_main_while0b_v169 V0) (Host.dotGeneral dot_S4x64x128_S4x128_S4x64_2_1_1_n_0_0 none (res_main_while0b_v147 V0) (V0 (Proc.devRef .tc main_v77_8)))) (Host.reduceAdd (res_main_while0b_v175 V0) (constant S_ .f32 0x00000000#32) reducesTo_S4x64x64_S4x64_d2 h_S_))) (Host.exp (Host.negf (res_main_while0b_v167 V0))))) : (Proc.devRef .tc main_while0b_v191 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (Host.divf (addf (mulf (broadcastInDim S4x64x256 ![0, 1, 2] bcast_S4x64x1_S4x64x256_0_1_2 (broadcastInDim S4x64x1 ![0, 1] bcast_S4x64_S4x64x1_0_1 (res_main_while0b_v169 V0))) (Host.dotGeneral dot_S4x64x128_S4x128x256_S4x64x256_2_1_1_2_0_0 none (res_main_while0b_v147 V0) (V0 (Proc.devRef .tc main_v77_7)))) (Host.dotGeneral dot_S4x64x64_S4x64x256_S4x64x256_2_1_1_2_0_0 none (res_main_while0b_v175 V0) (res_main_while0b_v149 V0))) (broadcastInDim S4x64x256 ![0, 1, 2] bcast_S4x64x1_S4x64x256_0_1_2 (broadcastInDim S4x64x1 ![0, 1] bcast_S4x64_S4x64x1_0_1 (maximumf (Host.absf (addf (mulf (res_main_while0b_v169 V0) (Host.dotGeneral dot_S4x64x128_S4x128_S4x64_2_1_1_n_0_0 none (res_main_while0b_v147 V0) (V0 (Proc.devRef .tc main_v77_8)))) (Host.reduceAdd (res_main_while0b_v175 V0) (constant S_ .f32 0x00000000#32) reducesTo_S4x64x64_S4x64_d2 h_S_))) (Host.exp (Host.negf (res_main_while0b_v167 V0)))))) : (Proc.devRef .tc main_while0b_v192 : DevRef τ sig).ty.Contents (Elt F)) = Cert.ReferenceIdeal.Step.b69 j s := by
  unfold Cert.ReferenceIdeal.Step.b69
  rw [← al_57 h, ← al_68 h]
  try rfl
set_option maxRecDepth 8192 in
theorem al_70 (h : Holds V0 s j) : (broadcastInDim S4x1 ![0] bcast_S4_S4x1_0 (res_main_while0b_v153 V0) : (Proc.devRef .tc main_while0b_v193 : DevRef τ sig).ty.Contents (Elt F)) = Cert.ReferenceIdeal.Step.b70 j s := by
  unfold Cert.ReferenceIdeal.Step.b70
  rw [← al_24 h]
  try rfl
set_option maxRecDepth 8192 in
theorem al_71 (h : Holds V0 s j) : (broadcastInDim S4x64 ![0, 1] bcast_S4x1_S4x64_0_1 (broadcastInDim S4x1 ![0] bcast_S4_S4x1_0 (res_main_while0b_v153 V0)) : (Proc.devRef .tc main_while0b_v194 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (subf (broadcastInDim S4x64 ![0, 1] bcast_S4x1_S4x64_0_1 (broadcastInDim S4x1 ![0] bcast_S4_S4x1_0 (res_main_while0b_v153 V0))) (res_main_while0b_v151 V0) : (Proc.devRef .tc main_while0b_v195 : DevRef τ sig).ty.Contents (Elt F)) = Cert.ReferenceIdeal.Step.b72 j s := by
  unfold Cert.ReferenceIdeal.Step.b72
  rw [← al_71 h, ← al_22 h]
  try rfl
set_option maxRecDepth 8192 in
theorem al_73 (h : Holds V0 s j) : (res_main_while0b_v196 V0 : (Proc.devRef .tc main_while0b_v196 : DevRef τ sig).ty.Contents (Elt F)) = Cert.ReferenceIdeal.Step.b73 j s := by
  unfold res_main_while0b_v196 Cert.ReferenceIdeal.Step.b73
  rw [← al_72 h, ← al_18 h]
  try rfl
set_option maxRecDepth 8192 in
theorem al_74 (h : Holds V0 s j) : (addf (res_main_while0b_v153 V0) (V0 (Proc.devRef .tc main_v77_9)) : (Proc.devRef .tc main_while0b_v197 : DevRef τ sig).ty.Contents (Elt F)) = Cert.ReferenceIdeal.Step.b74 j s := by
  unfold Cert.ReferenceIdeal.Step.b74
  rw [← al_24 h, h.f_9]
  try rfl
set_option maxRecDepth 8192 in
theorem al_75 (h : Holds V0 s j) : (constant S_ .f32 0xFF800000#32 : (Proc.devRef .tc main_while0b_cst_36 : DevRef τ sig).ty.Contents (Elt F)) = Cert.ReferenceIdeal.Step.b75 j s := by
  unfold Cert.ReferenceIdeal.Step.b75
  rfl
set_option maxRecDepth 8192 in
theorem al_76 (h : Holds V0 s j) : (Host.reduce FloatOps.maximumf (res_main_while0b_v196 V0) (constant S_ .f32 0xFF800000#32) reducesTo_S4x64_S4_d1 h_S_ : (Proc.devRef .tc main_while0b_v198 : DevRef τ sig).ty.Contents (Elt F)) = Cert.ReferenceIdeal.Step.b76 j s := by
  unfold Cert.ReferenceIdeal.Step.b76
  rw [← al_73 h, ← al_75 h]
  try rfl
set_option maxRecDepth 8192 in
theorem al_77 (h : Holds V0 s j) : (res_main_while0b_v199 V0 : (Proc.devRef .tc main_while0b_v199 : DevRef τ sig).ty.Contents (Elt F)) = Cert.ReferenceIdeal.Step.b77 j s := by
  unfold res_main_while0b_v199 Cert.ReferenceIdeal.Step.b77
  rw [← al_74 h, ← al_76 h]
  try rfl
set_option maxRecDepth 8192 in
theorem al_78 (h : Holds V0 s j) : (broadcastInDim S4x1 ![0] bcast_S4_S4x1_0 (res_main_while0b_v199 V0) : (Proc.devRef .tc main_while0b_v200 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (broadcastInDim S4x64 ![0, 1] bcast_S4x1_S4x64_0_1 (broadcastInDim S4x1 ![0] bcast_S4_S4x1_0 (res_main_while0b_v199 V0)) : (Proc.devRef .tc main_while0b_v201 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (subf (res_main_while0b_v196 V0) (broadcastInDim S4x64 ![0, 1] bcast_S4x1_S4x64_0_1 (broadcastInDim S4x1 ![0] bcast_S4_S4x1_0 (res_main_while0b_v199 V0))) : (Proc.devRef .tc main_while0b_v202 : DevRef τ sig).ty.Contents (Elt F)) = Cert.ReferenceIdeal.Step.b80 j s := by
  unfold Cert.ReferenceIdeal.Step.b80
  rw [← al_73 h, ← al_79 h]
  try rfl
set_option maxRecDepth 8192 in
theorem al_81 (h : Holds V0 s j) : (res_main_while0b_v203 V0 : (Proc.devRef .tc main_while0b_v203 : DevRef τ sig).ty.Contents (Elt F)) = Cert.ReferenceIdeal.Step.b81 j s := by
  unfold res_main_while0b_v203 Cert.ReferenceIdeal.Step.b81
  rw [← al_80 h]
  try rfl
set_option maxRecDepth 8192 in
theorem al_82 (h : Holds V0 s j) : (addf (res_main_while0b_v153 V0) (V0 (Proc.devRef .tc main_v77_9)) : (Proc.devRef .tc main_while0b_v204 : DevRef τ sig).ty.Contents (Elt F)) = Cert.ReferenceIdeal.Step.b82 j s := by
  unfold Cert.ReferenceIdeal.Step.b82
  rw [← al_24 h, h.f_9]
  try rfl
set_option maxRecDepth 8192 in
theorem al_83 (h : Holds V0 s j) : (subf (addf (res_main_while0b_v153 V0) (V0 (Proc.devRef .tc main_v77_9))) (res_main_while0b_v199 V0) : (Proc.devRef .tc main_while0b_v205 : DevRef τ sig).ty.Contents (Elt F)) = Cert.ReferenceIdeal.Step.b83 j s := by
  unfold Cert.ReferenceIdeal.Step.b83
  rw [← al_82 h, ← al_77 h]
  try rfl
set_option maxRecDepth 8192 in
theorem al_84 (h : Holds V0 s j) : (res_main_while0b_v206 V0 : (Proc.devRef .tc main_while0b_v206 : DevRef τ sig).ty.Contents (Elt F)) = Cert.ReferenceIdeal.Step.b84 j s := by
  unfold res_main_while0b_v206 Cert.ReferenceIdeal.Step.b84
  rw [← al_83 h]
  try rfl
set_option maxRecDepth 8192 in
theorem al_85 (h : Holds V0 s j) : (broadcastInDim S4x1x1 ![0] bcast_S4_S4x1x1_0 (res_main_while0b_v206 V0) : (Proc.devRef .tc main_while0b_v207 : DevRef τ sig).ty.Contents (Elt F)) = Cert.ReferenceIdeal.Step.b85 j s := by
  unfold Cert.ReferenceIdeal.Step.b85
  rw [← al_84 h]
  try rfl
set_option maxRecDepth 8192 in
theorem al_86 (h : Holds V0 s j) : (broadcastInDim S4x128x256 ![0, 1, 2] bcast_S4x1x1_S4x128x256_0_1_2 (broadcastInDim S4x1x1 ![0] bcast_S4_S4x1x1_0 (res_main_while0b_v206 V0)) : (Proc.devRef .tc main_while0b_v208 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (mulf (broadcastInDim S4x128x256 ![0, 1, 2] bcast_S4x1x1_S4x128x256_0_1_2 (broadcastInDim S4x1x1 ![0] bcast_S4_S4x1x1_0 (res_main_while0b_v206 V0))) (V0 (Proc.devRef .tc main_v77_7)) : (Proc.devRef .tc main_while0b_v209 : DevRef τ sig).ty.Contents (Elt F)) = Cert.ReferenceIdeal.Step.b87 j s := by
  unfold Cert.ReferenceIdeal.Step.b87
  rw [← al_86 h, h.f_7]
  try rfl
set_option maxRecDepth 8192 in
theorem al_88 (h : Holds V0 s j) : (broadcastInDim S4x64x1 ![0, 1] bcast_S4x64_S4x64x1_0_1 (res_main_while0b_v203 V0) : (Proc.devRef .tc main_while0b_v210 : DevRef τ sig).ty.Contents (Elt F)) = Cert.ReferenceIdeal.Step.b88 j s := by
  unfold Cert.ReferenceIdeal.Step.b88
  rw [← al_81 h]
  try rfl
set_option maxRecDepth 8192 in
theorem al_89 (h : Holds V0 s j) : (broadcastInDim S4x64x128 ![0, 1, 2] bcast_S4x64x1_S4x64x128_0_1_2 (broadcastInDim S4x64x1 ![0, 1] bcast_S4x64_S4x64x1_0_1 (res_main_while0b_v203 V0)) : (Proc.devRef .tc main_while0b_v211 : DevRef τ sig).ty.Contents (Elt F)) = Cert.ReferenceIdeal.Step.b89 j s := by
  unfold Cert.ReferenceIdeal.Step.b89
  rw [← al_88 h]
  try rfl
set_option maxRecDepth 8192 in
theorem al_90 (h : Holds V0 s j) : (mulf (broadcastInDim S4x64x128 ![0, 1, 2] bcast_S4x64x1_S4x64x128_0_1_2 (broadcastInDim S4x64x1 ![0, 1] bcast_S4x64_S4x64x1_0_1 (res_main_while0b_v203 V0))) (res_main_while0b_v148 V0) : (Proc.devRef .tc main_while0b_v212 : DevRef τ sig).ty.Contents (Elt F)) = Cert.ReferenceIdeal.Step.b90 j s := by
  unfold Cert.ReferenceIdeal.Step.b90
  rw [← al_89 h, ← al_9 h]
  try rfl
set_option maxRecDepth 8192 in
theorem al_91 (h : Holds V0 s j) : (Host.dotGeneral dot_S4x64x128_S4x64x256_S4x128x256_1_1_2_2_0_0 none (mulf (broadcastInDim S4x64x128 ![0, 1, 2] bcast_S4x64x1_S4x64x128_0_1_2 (broadcastInDim S4x64x1 ![0, 1] bcast_S4x64_S4x64x1_0_1 (res_main_while0b_v203 V0))) (res_main_while0b_v148 V0)) (res_main_while0b_v149 V0) : (Proc.devRef .tc main_while0b_v213 : DevRef τ sig).ty.Contents (Elt F)) = Cert.ReferenceIdeal.Step.b91 j s := by
  unfold Cert.ReferenceIdeal.Step.b91
  rw [← al_90 h, ← al_14 h]
  try rfl
set_option maxRecDepth 8192 in
theorem al_92 (h : Holds V0 s j) : (addf (mulf (broadcastInDim S4x128x256 ![0, 1, 2] bcast_S4x1x1_S4x128x256_0_1_2 (broadcastInDim S4x1x1 ![0] bcast_S4_S4x1x1_0 (res_main_while0b_v206 V0))) (V0 (Proc.devRef .tc main_v77_7))) (Host.dotGeneral dot_S4x64x128_S4x64x256_S4x128x256_1_1_2_2_0_0 none (mulf (broadcastInDim S4x64x128 ![0, 1, 2] bcast_S4x64x1_S4x64x128_0_1_2 (broadcastInDim S4x64x1 ![0, 1] bcast_S4x64_S4x64x1_0_1 (res_main_while0b_v203 V0))) (res_main_while0b_v148 V0)) (res_main_while0b_v149 V0)) : (Proc.devRef .tc main_while0b_v214 : DevRef τ sig).ty.Contents (Elt F)) = Cert.ReferenceIdeal.Step.b92 j s := by
  unfold Cert.ReferenceIdeal.Step.b92
  rw [← al_87 h, ← al_91 h]
  try rfl
set_option maxRecDepth 8192 in
theorem al_93 (h : Holds V0 s j) : (broadcastInDim S4x1 ![0] bcast_S4_S4x1_0 (res_main_while0b_v206 V0) : (Proc.devRef .tc main_while0b_v215 : DevRef τ sig).ty.Contents (Elt F)) = Cert.ReferenceIdeal.Step.b93 j s := by
  unfold Cert.ReferenceIdeal.Step.b93
  rw [← al_84 h]
  try rfl
set_option maxRecDepth 8192 in
theorem al_94 (h : Holds V0 s j) : (broadcastInDim S4x128 ![0, 1] bcast_S4x1_S4x128_0_1 (broadcastInDim S4x1 ![0] bcast_S4_S4x1_0 (res_main_while0b_v206 V0)) : (Proc.devRef .tc main_while0b_v216 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (mulf (broadcastInDim S4x128 ![0, 1] bcast_S4x1_S4x128_0_1 (broadcastInDim S4x1 ![0] bcast_S4_S4x1_0 (res_main_while0b_v206 V0))) (V0 (Proc.devRef .tc main_v77_8)) : (Proc.devRef .tc main_while0b_v217 : DevRef τ sig).ty.Contents (Elt F)) = Cert.ReferenceIdeal.Step.b95 j s := by
  unfold Cert.ReferenceIdeal.Step.b95
  rw [← al_94 h, h.f_8]
  try rfl
set_option maxRecDepth 8192 in
theorem al_96 (h : Holds V0 s j) : (Host.dotGeneral dot_S4x64_S4x64x128_S4x128_1_1_n_2_0_0 none (res_main_while0b_v203 V0) (res_main_while0b_v148 V0) : (Proc.devRef .tc main_while0b_v218 : DevRef τ sig).ty.Contents (Elt F)) = Cert.ReferenceIdeal.Step.b96 j s := by
  unfold Cert.ReferenceIdeal.Step.b96
  rw [← al_81 h, ← al_9 h]
  try rfl
set_option maxRecDepth 8192 in
theorem al_97 (h : Holds V0 s j) : (addf (mulf (broadcastInDim S4x128 ![0, 1] bcast_S4x1_S4x128_0_1 (broadcastInDim S4x1 ![0] bcast_S4_S4x1_0 (res_main_while0b_v206 V0))) (V0 (Proc.devRef .tc main_v77_8))) (Host.dotGeneral dot_S4x64_S4x64x128_S4x128_1_1_n_2_0_0 none (res_main_while0b_v203 V0) (res_main_while0b_v148 V0)) : (Proc.devRef .tc main_while0b_v219 : DevRef τ sig).ty.Contents (Elt F)) = Cert.ReferenceIdeal.Step.b97 j s := by
  unfold Cert.ReferenceIdeal.Step.b97
  rw [← al_95 h, ← al_96 h]
  try rfl
set_option maxRecDepth 8192 in
theorem al_98 (h : Holds V0 s j) : (broadcastInDim S1x4x64x256 ![1, 2, 3] bcast_S4x64x256_S1x4x64x256_1_2_3 (Host.divf (addf (mulf (broadcastInDim S4x64x256 ![0, 1, 2] bcast_S4x64x1_S4x64x256_0_1_2 (broadcastInDim S4x64x1 ![0, 1] bcast_S4x64_S4x64x1_0_1 (res_main_while0b_v169 V0))) (Host.dotGeneral dot_S4x64x128_S4x128x256_S4x64x256_2_1_1_2_0_0 none (res_main_while0b_v147 V0) (V0 (Proc.devRef .tc main_v77_7)))) (Host.dotGeneral dot_S4x64x64_S4x64x256_S4x64x256_2_1_1_2_0_0 none (res_main_while0b_v175 V0) (res_main_while0b_v149 V0))) (broadcastInDim S4x64x256 ![0, 1, 2] bcast_S4x64x1_S4x64x256_0_1_2 (broadcastInDim S4x64x1 ![0, 1] bcast_S4x64_S4x64x1_0_1 (maximumf (Host.absf (addf (mulf (res_main_while0b_v169 V0) (Host.dotGeneral dot_S4x64x128_S4x128_S4x64_2_1_1_n_0_0 none (res_main_while0b_v147 V0) (V0 (Proc.devRef .tc main_v77_8)))) (Host.reduceAdd (res_main_while0b_v175 V0) (constant S_ .f32 0x00000000#32) reducesTo_S4x64x64_S4x64_d2 h_S_))) (Host.exp (Host.negf (res_main_while0b_v167 V0))))))) : (Proc.devRef .tc main_while0b_call16_v0 : DevRef τ sig).ty.Contents (Elt F)) = Cert.ReferenceIdeal.Step.b98 j s := by
  unfold Cert.ReferenceIdeal.Step.b98
  rw [← al_69 h]
  try rfl
set_option maxRecDepth 8192 in
theorem al_99 (h : Holds V0 s j) : (constantI S_ 32 0#32 : (Proc.devRef .tc main_while0b_call16_c : DevRef τ sig).ty.Contents (Elt F)) = Cert.ReferenceIdeal.Step.b99 j s := by
  unfold Cert.ReferenceIdeal.Step.b99
  rfl
set_option maxRecDepth 8192 in
theorem al_100 (h : Holds V0 s j) : (constantI S_ 32 0#32 : (Proc.devRef .tc main_while0b_call16_c_0 : DevRef τ sig).ty.Contents (Elt F)) = Cert.ReferenceIdeal.Step.b100 j s := by
  unfold Cert.ReferenceIdeal.Step.b100
  rfl
set_option maxRecDepth 8192 in
theorem al_101 (h : Holds V0 s j) : (constantI S_ 32 0#32 : (Proc.devRef .tc main_while0b_call16_c_1 : DevRef τ sig).ty.Contents (Elt F)) = Cert.ReferenceIdeal.Step.b101 j s := by
  unfold Cert.ReferenceIdeal.Step.b101
  rfl
set_option maxRecDepth 8192 in
theorem al_102 (h : Holds V0 s j) : (Host.dynamicUpdateSlice (V0 (Proc.devRef .tc main_v77_10)) (broadcastInDim S1x4x64x256 ![1, 2, 3] bcast_S4x64x256_S1x4x64x256_1_2_3 (Host.divf (addf (mulf (broadcastInDim S4x64x256 ![0, 1, 2] bcast_S4x64x1_S4x64x256_0_1_2 (broadcastInDim S4x64x1 ![0, 1] bcast_S4x64_S4x64x1_0_1 (res_main_while0b_v169 V0))) (Host.dotGeneral dot_S4x64x128_S4x128x256_S4x64x256_2_1_1_2_0_0 none (res_main_while0b_v147 V0) (V0 (Proc.devRef .tc main_v77_7)))) (Host.dotGeneral dot_S4x64x64_S4x64x256_S4x64x256_2_1_1_2_0_0 none (res_main_while0b_v175 V0) (res_main_while0b_v149 V0))) (broadcastInDim S4x64x256 ![0, 1, 2] bcast_S4x64x1_S4x64x256_0_1_2 (broadcastInDim S4x64x1 ![0, 1] bcast_S4x64_S4x64x1_0_1 (maximumf (Host.absf (addf (mulf (res_main_while0b_v169 V0) (Host.dotGeneral dot_S4x64x128_S4x128_S4x64_2_1_1_n_0_0 none (res_main_while0b_v147 V0) (V0 (Proc.devRef .tc main_v77_8)))) (Host.reduceAdd (res_main_while0b_v175 V0) (constant S_ .f32 0x00000000#32) reducesTo_S4x64x64_S4x64_d2 h_S_))) (Host.exp (Host.negf (res_main_while0b_v167 V0)))))))) (fun k => (((![V0 (Proc.devRef .tc main_v77_6), constantI S_ 32 0#32, constantI S_ 32 0#32, constantI S_ 32 0#32] : Fin 4 → (⟨S_, .i32⟩ : BufTy).Contents (Elt F))) k (Shape.Idx.first h_S_)).toInt) updateFits_S129x4x64x256_S1x4x64x256 : (Proc.devRef .tc main_while0b_v220 : DevRef τ sig).ty.Contents (Elt F)) = Cert.ReferenceIdeal.Step.b102 j s := by
  unfold Cert.ReferenceIdeal.Step.b102
  rw [← al_98 h, ← al_99 h, ← al_100 h, ← al_101 h, h.f_10, h.n_6]
  try rfl

/-! One trip's step of the carried values is `step`, field by field; a counter steps to the next number. -/

theorem step_7 (h : Holds V0 s j) : step_main_v77_7 V0 = (step j s).main_v77_7 := by
  unfold step_main_v77_7 Cert.ReferenceIdeal.Step.step
  show id (addf (mulf (broadcastInDim S4x128x256 ![0, 1, 2] bcast_S4x1x1_S4x128x256_0_1_2 (broadcastInDim S4x1x1 ![0] bcast_S4_S4x1x1_0 (res_main_while0b_v206 V0))) (V0 (Proc.devRef .tc main_v77_7))) (Host.dotGeneral dot_S4x64x128_S4x64x256_S4x128x256_1_1_2_2_0_0 none (mulf (broadcastInDim S4x64x128 ![0, 1, 2] bcast_S4x64x1_S4x64x128_0_1_2 (broadcastInDim S4x64x1 ![0, 1] bcast_S4x64_S4x64x1_0_1 (res_main_while0b_v203 V0))) (res_main_while0b_v148 V0)) (res_main_while0b_v149 V0))) = _
  rw [al_92 h]
  try rfl
theorem step_8 (h : Holds V0 s j) : step_main_v77_8 V0 = (step j s).main_v77_8 := by
  unfold step_main_v77_8 Cert.ReferenceIdeal.Step.step
  show id (addf (mulf (broadcastInDim S4x128 ![0, 1] bcast_S4x1_S4x128_0_1 (broadcastInDim S4x1 ![0] bcast_S4_S4x1_0 (res_main_while0b_v206 V0))) (V0 (Proc.devRef .tc main_v77_8))) (Host.dotGeneral dot_S4x64_S4x64x128_S4x128_1_1_n_2_0_0 none (res_main_while0b_v203 V0) (res_main_while0b_v148 V0))) = _
  rw [al_97 h]
  try rfl
theorem step_9 (h : Holds V0 s j) : step_main_v77_9 V0 = (step j s).main_v77_9 := by
  unfold step_main_v77_9 Cert.ReferenceIdeal.Step.step
  show id (res_main_while0b_v199 V0) = _
  rw [al_77 h]
  try rfl
theorem step_10 (h : Holds V0 s j) : step_main_v77_10 V0 = (step j s).main_v77_10 := by
  unfold step_main_v77_10 Cert.ReferenceIdeal.Step.step
  show id (Host.dynamicUpdateSlice (V0 (Proc.devRef .tc main_v77_10)) (broadcastInDim S1x4x64x256 ![1, 2, 3] bcast_S4x64x256_S1x4x64x256_1_2_3 (Host.divf (addf (mulf (broadcastInDim S4x64x256 ![0, 1, 2] bcast_S4x64x1_S4x64x256_0_1_2 (broadcastInDim S4x64x1 ![0, 1] bcast_S4x64_S4x64x1_0_1 (res_main_while0b_v169 V0))) (Host.dotGeneral dot_S4x64x128_S4x128x256_S4x64x256_2_1_1_2_0_0 none (res_main_while0b_v147 V0) (V0 (Proc.devRef .tc main_v77_7)))) (Host.dotGeneral dot_S4x64x64_S4x64x256_S4x64x256_2_1_1_2_0_0 none (res_main_while0b_v175 V0) (res_main_while0b_v149 V0))) (broadcastInDim S4x64x256 ![0, 1, 2] bcast_S4x64x1_S4x64x256_0_1_2 (broadcastInDim S4x64x1 ![0, 1] bcast_S4x64_S4x64x1_0_1 (maximumf (Host.absf (addf (mulf (res_main_while0b_v169 V0) (Host.dotGeneral dot_S4x64x128_S4x128_S4x64_2_1_1_n_0_0 none (res_main_while0b_v147 V0) (V0 (Proc.devRef .tc main_v77_8)))) (Host.reduceAdd (res_main_while0b_v175 V0) (constant S_ .f32 0x00000000#32) reducesTo_S4x64x64_S4x64_d2 h_S_))) (Host.exp (Host.negf (res_main_while0b_v167 V0)))))))) (fun k => (((![V0 (Proc.devRef .tc main_v77_6), constantI S_ 32 0#32, constantI S_ 32 0#32, constantI S_ 32 0#32] : Fin 4 → (⟨S_, .i32⟩ : BufTy).Contents (Elt F))) k (Shape.Idx.first h_S_)).toInt) updateFits_S129x4x64x256_S1x4x64x256) = _
  exact al_102 h
theorem step_6 (h : Holds V0 s j) : step_main_v77_6 V0 = constantI S_ 32 (BitVec.ofNat 32 (j + 1)) := by
  unfold step_main_v77_6
  rw [h.n_6]
  funext i
  show BitVec.ofNat 32 j + 1#32 = BitVec.ofNat 32 (j + 1)
  simp only [BitVec.ofNat_add]

set_option maxRecDepth 8192 in
theorem out_main_v146_holds (h : Holds V0 s j) {x_main_arg0 : (⟨S8192x10240, .bf16⟩ : BufTy).Contents (Elt F)} (h_main_arg0 : V0 (Proc.devRef .tc main_arg0) = x_main_arg0) {x_main_arg4 : (⟨S8192x1024, .bf16⟩ : BufTy).Contents (Elt F)} (h_main_arg4 : V0 (Proc.devRef .tc main_arg4) = x_main_arg4) {x_main_arg5 : (⟨S8192x2048, .f32⟩ : BufTy).Contents (Elt F)} (h_main_arg5 : V0 (Proc.devRef .tc main_arg5) = x_main_arg5) {x_main_arg8 : (⟨S1x1024, .f32⟩ : BufTy).Contents (Elt F)} (h_main_arg8 : V0 (Proc.devRef .tc main_arg8) = x_main_arg8) {x_main_arg9 : (⟨S1024x2048, .bf16⟩ : BufTy).Contents (Elt F)} (h_main_arg9 : V0 (Proc.devRef .tc main_arg9) = x_main_arg9) {x_main_arg10 : (⟨S1024x2048, .bf16⟩ : BufTy).Contents (Elt F)} (h_main_arg10 : V0 (Proc.devRef .tc main_arg10) = x_main_arg10) {x_main_arg11 : (⟨S2048x2048, .bf16⟩ : BufTy).Contents (Elt F)} (h_main_arg11 : V0 (Proc.devRef .tc main_arg11) = x_main_arg11) {x_main_arg12 : (⟨S1x2048, .f32⟩ : BufTy).Contents (Elt F)} (h_main_arg12 : V0 (Proc.devRef .tc main_arg12) = x_main_arg12) : out_main_v146 V0 = Cert.ReferenceIdeal.Step.R_main_v146 s x_main_arg0 x_main_arg4 x_main_arg5 x_main_arg8 x_main_arg9 x_main_arg10 x_main_arg11 x_main_arg12 := by
  unfold out_main_v146 Cert.ReferenceIdeal.Step.R_main_v146
  rw [h.f_10, h_main_arg0, h_main_arg4, h_main_arg5, h_main_arg8, h_main_arg9, h_main_arg10, h_main_arg11, h_main_arg12]
  try rfl

/-- One trip keeps the valuation holding: `step` of the state, the same set-up values, the next number. -/
theorem holds_step (h : Holds V0 s j) : Holds (STEP V0) (step j s) (j + 1) where
  f_7 := (STEP_main_v77_7 V0).trans (step_7 h)
  f_8 := (STEP_main_v77_8 V0).trans (step_8 h)
  f_9 := (STEP_main_v77_9 V0).trans (step_9 h)
  f_10 := (STEP_main_v77_10 V0).trans (step_10 h)
  n_6 := (STEP_main_v77_6 V0).trans (step_6 h)
  k_5 := (STEP_main_v77_5 V0).trans h.k_5
  f_0 := (STEP_main_v77_0 V0).trans h.f_0
  f_1 := (STEP_main_v77_1 V0).trans h.f_1
  f_2 := (STEP_main_v77_2 V0).trans h.f_2
  f_3 := (STEP_main_v77_3 V0).trans h.f_3
  f_4 := (STEP_main_v77_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 800000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The reference terminates, keeps its arguments, and leaves as its result what its last lines compute from state 129 of
    any sequence that begins with the state before the loop and goes on by `step`. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v146) = Cert.ReferenceIdeal.Step.R_main_v146 (it c 129) (m ((c.tc : Thread nD τ).loc main_arg0)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    have hk := holds_iter m c (it c) (h0 c) (hs c) 129
    ⟨(h c).1.trans (out_main_v146_holds hk (iter_main_arg0 m c 129) (iter_main_arg4 m c 129) (iter_main_arg5 m c 129) (iter_main_arg8 m c 129) (iter_main_arg9 m c 129) (iter_main_arg10 m c 129) (iter_main_arg11 m c 129) (iter_main_arg12 m c 129)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Value.run m ρ)

end Cert.ReferenceIdeal.StepRun

end
-- ==== Proof.Mix.Equal.lean ====
/- The two programs leave the same result. -/
module

public import proofs.«01_k».proof.Defs
public import proofs.«01_k».proof.Proof.Mix.Pre
public import proofs.«01_k».proof.Proof.Mix.Chain
public import proofs.«01_k».proof.Proof.Mix.Same
public import proofs.«01_k».proof.Proof.Mix.RefTail
public import proofs.«01_k».proof.Proof.Mix.RefLoop

@[expose] public section
set_option maxRecDepth 16384
noncomputable section
namespace Cert.Mix
open Idealize.ShloMosaic Idealize.ShloMosaic.TcCoe Idealize.SL.Sem

/-- The precondition read at the arguments' entries. -/
theorem tame_at {m : (ℓ : Loc Cert.KernelIdeal.nD Cert.KernelIdeal.τ Cert.KernelIdeal.sig) → Buf (Elt Ideal) ℓ}
    (H : Cert.Pre_KernelIdeal_tame m) (c : Dev Cert.KernelIdeal.nD) : TameAt m c := by
  obtain ⟨h1, h2, h3, h4, h5, h6, h7, h8⟩ := H c
  exact tame_of h1 h2 h3 h4 h5 h6 h7 h8

/-- The kernel's run, its result as the sequences' recurrence. -/
theorem run_kernel (m : (ℓ : Loc Cert.KernelIdeal.nD Cert.KernelIdeal.τ Cert.KernelIdeal.sig) → Buf (Elt Ideal) ℓ) (ρ : Dev Cert.KernelIdeal.nD → PrngReg)
    (H : Cert.Pre_KernelIdeal_tame m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v9) = res m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run Cert.KernelIdeal.defs _ _).mono (fun r h c => ⟨(h c).1.trans (final m c (tame_at H c)), (h c).2⟩) (Cert.KernelIdeal.Value.run_blocks m ρ)

/-- The reference's loop of single steps, from what the arguments give it. -/
def iter (m : (ℓ : Loc Cert.ReferenceIdeal.nD Cert.ReferenceIdeal.τ Cert.ReferenceIdeal.sig) → Buf (Elt Ideal) ℓ) (c : Dev Cert.ReferenceIdeal.nD) :
    ℕ → Cert.ReferenceIdeal.Step.State Ideal
  | 0 => Cert.ReferenceIdeal.StepRun.initState m c
  | n + 1 => Cert.ReferenceIdeal.Step.step n (iter m c n)

/-- The reference's result, its arguments being tame. -/
theorem ref_result {m : (ℓ : Loc Cert.ReferenceIdeal.nD Cert.ReferenceIdeal.τ Cert.ReferenceIdeal.sig) → Buf (Elt Ideal) ℓ} {c : Dev Cert.ReferenceIdeal.nD}
    {a0 : Mat 8192 10240}
    {a1 : Mat 8192 128}
    {a2 : Mat 16 10240}
    {a3 : Mat 16 128}
    {a4 : Mat 8192 1024}
    {a5 : Mat 8192 2048}
    {a6 : (⟨3, ![1, 4, 1024]⟩ : Shape).Idx → EReal}
    {a7 : Mat 1 1024}
    {a8 : Mat 1 1024}
    {a9 : Mat 1024 2048}
    {a10 : Mat 1024 2048}
    {a11 : Mat 2048 2048}
    {a12 : Mat 1 2048}
    (H : Tame a0 a1 a2 a3 a6 a7)
    (e : m ((c.tc : Thread Cert.ReferenceIdeal.nD Cert.ReferenceIdeal.τ).loc Cert.ReferenceIdeal.main_arg0) = a0
      ∧ m ((c.tc : Thread Cert.ReferenceIdeal.nD Cert.ReferenceIdeal.τ).loc Cert.ReferenceIdeal.main_arg1) = a1
      ∧ m ((c.tc : Thread Cert.ReferenceIdeal.nD Cert.ReferenceIdeal.τ).loc Cert.ReferenceIdeal.main_arg2) = a2
      ∧ m ((c.tc : Thread Cert.ReferenceIdeal.nD Cert.ReferenceIdeal.τ).loc Cert.ReferenceIdeal.main_arg3) = a3
      ∧ m ((c.tc : Thread Cert.ReferenceIdeal.nD Cert.ReferenceIdeal.τ).loc Cert.ReferenceIdeal.main_arg4) = a4
      ∧ m ((c.tc : Thread Cert.ReferenceIdeal.nD Cert.ReferenceIdeal.τ).loc Cert.ReferenceIdeal.main_arg5) = a5
      ∧ m ((c.tc : Thread Cert.ReferenceIdeal.nD Cert.ReferenceIdeal.τ).loc Cert.ReferenceIdeal.main_arg6) = a6
      ∧ m ((c.tc : Thread Cert.ReferenceIdeal.nD Cert.ReferenceIdeal.τ).loc Cert.ReferenceIdeal.main_arg7) = a7
      ∧ m ((c.tc : Thread Cert.ReferenceIdeal.nD Cert.ReferenceIdeal.τ).loc Cert.ReferenceIdeal.main_arg8) = a8
      ∧ m ((c.tc : Thread Cert.ReferenceIdeal.nD Cert.ReferenceIdeal.τ).loc Cert.ReferenceIdeal.main_arg9) = a9
      ∧ m ((c.tc : Thread Cert.ReferenceIdeal.nD Cert.ReferenceIdeal.τ).loc Cert.ReferenceIdeal.main_arg10) = a10
      ∧ m ((c.tc : Thread Cert.ReferenceIdeal.nD Cert.ReferenceIdeal.τ).loc Cert.ReferenceIdeal.main_arg11) = a11
      ∧ m ((c.tc : Thread Cert.ReferenceIdeal.nD Cert.ReferenceIdeal.τ).loc Cert.ReferenceIdeal.main_arg12) = a12) :
    Cert.ReferenceIdeal.Step.R_main_v146 (iter m c 129) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))
      = result (seqs a0 a1 a2 a3 a6 a7 a8).hm a0 a4 a5 a9 a10 a11 a12 := by
  obtain ⟨e0, e1, e2, e3, e4, e5, e6, e7, e8, e9, e10, e11, e12⟩ := e
  have I : Ref.Inv (seqs a0 a1 a2 a3 a6 a7 a8) 0 (iter m c 0) := by
    have hi : iter m c 0 = Cert.ReferenceIdeal.Step.init (F := Ideal) a0 a1 a2 a3 a6 a7 := by
      rw [← e0, ← e1, ← e2, ← e3, ← e6, ← e7]
      rfl
    rw [hi]
    exact Ref.inv_init H
  rw [e0, e4, e5, e8, e9, e10, e11, e12]
  exact Ref.tail_val a0 a4 a5 a8 a9 a10 a11 a12 (Ref.inv_iter (seqs_good H) I (fun _ => rfl) 129 le_rfl)

/-- Kernel and reference end with equal results at the extended reals. -/
theorem equal : Cert.algebraic_KernelIdeal_ReferenceIdeal_pre_tame := fun m g m' g' H e =>
  ⟨fun c => res m c, run_kernel m g H,
    (θ_run Cert.ReferenceIdeal.defs _ _).mono (fun r h c => ⟨(h c).1.trans (ref_result (tame_at H c) (e c)), (h c).2⟩)
      (Cert.ReferenceIdeal.StepRun.run_iter m' g' (iter m') (fun _ => rfl) (fun _ _ => rfl))⟩

/-- The reference terminates, keeps its arguments and, having no semaphores, leaves none raised. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.StepRun.run_iter m ρ (iter m) (fun _ => rfl) (fun _ _ => rfl))

end Cert.Mix
end
-- ==== Proof.Ffn.Entries.lean ====
/- A feed-forward layer entry by entry: what one strip, one block step and the reference compute. -/
module

public import proofs.«01_k».proof.Proof.Gen.Kernel2Ideal.Value
public import Idealize.ShloMosaic.PureOps.Ideal
public import Idealize.ShloMosaic.Lib.Pipeline.ValueKit
public import Idealize.ShloMosaic.Lib.Pointwise

@[expose] public section
set_option maxRecDepth 16384
noncomputable section
namespace Cert.Ffn
open Idealize.ShloMosaic Idealize.ShloMosaic.TcCoe Idealize.SL.Sem
open Cert.Kernel2Ideal Cert.Kernel2Ideal.Gen

/-- An `a × b` array of extended reals. -/
abbrev Arr (a b : ℕ) := (⟨2, ![a, b]⟩ : Shape).Idx → EReal

/-- One over the root mean square of a row of 2048. -/
def scale (x : Fin 2048 → EReal) : EReal :=
  Ideal.rsqrt (Ideal.div (∑ j, x j * x j) (Ideal.ofBits FTy.f32 1157627904#32) + Ideal.ofBits FTy.f32 897988541#32)

/-- A row normalised and multiplied by a gain. -/
def normed (x g : Fin 2048 → EReal) (k : Fin 2048) : EReal := x k * scale x * g k

/-- One hidden unit: the gate's column through `silu`, times the up column. -/
def hidden (u wg wu : Fin 2048 → EReal) : EReal :=
  ((∑ j, u j * wg j) * Ideal.logistic (∑ j, u j * wg j)) * ∑ j, u j * wu j

/-- The residual row plus half the normalised row. -/
def closed (h y g : Fin 2048 → EReal) (k : Fin 2048) : EReal := h k + Ideal.ofBits FTy.f32 1056964608#32 * normed y g k

theorem pre_at (x : Vec Ideal S16x2048 .f32) (g : Vec Ideal S1x2048 .f32) (r : Fin 16) (k : Fin 2048) :
    k0_pay3 x g (ix2 r k) = normed (fun k => x (ix2 r k)) (fun k => g (ix2 0 k)) k := by
  unfold normed scale
  pointwise [k0_pay3]

theorem post_at (h x : Vec Ideal S16x2048 .f32) (g : Vec Ideal S1x2048 .f32) (r : Fin 16) (k : Fin 2048) :
    k0_pay120 h x g (ix2 r k) = closed (fun k => h (ix2 r k)) (fun k => x (ix2 r k)) (fun k => g (ix2 0 k)) k := by
  unfold closed normed scale
  pointwise [k0_pay120]

theorem step_at (a : Vec Ideal S1024x2048 .f32) (u : Vec Ideal S1024x2048 .bf16) (wg wu : Vec Ideal S1x2048x512 .bf16) (wd : Vec Ideal S1x512x2048 .bf16) (r : Fin 1024) (k : Fin 2048) :
    k0_pay1 a u wg wu wd (ix2 r k) = a (ix2 r k)
      + ∑ x : Fin 512, hidden (fun j => u (ix2 r j)) (fun j => wg (ix3 0 j x)) (fun j => wu (ix3 0 j x)) * wd (ix3 0 x k) := by
  unfold hidden
  pointwise [k0_pay1]

/-- Unit `q`'s share of entry `(r, k)` of the layer's sum. -/
def unit (H : Arr 8192 2048) (G : Arr 1 2048) (Wg Wu : Arr 2048 5632) (Wd : Arr 5632 2048) (r : Fin 8192) (k : Fin 2048) (q : Fin 5632) : EReal :=
  hidden (normed (fun k => H (ix2 r k)) (fun k => G (ix2 0 k))) (fun j => Wg (ix2 j q)) (fun j => Wu (ix2 j q)) * Wd (ix2 q k)

/-- The layer's result. -/
def layer (H : Arr 8192 2048) (G G' : Arr 1 2048) (Wg Wu : Arr 2048 5632) (Wd : Arr 5632 2048) : Arr 8192 2048 := fun i =>
  closed (fun k => H (ix2 (i 0) k)) (fun k => ∑ q : Fin 5632, unit H G Wg Wu Wd (i 0) k q) (fun k => G' (ix2 0 k)) (i 1)

end Cert.Ffn
end
-- ==== Proof.Ffn.Blocks.lean ====
/- What each window of the feed-forward call reads of the arguments. -/
module

public import proofs.«01_k».proof.Proof.Ffn.Entries

@[expose] public section
set_option maxRecDepth 16384
noncomputable section
namespace Cert.Ffn
open Idealize.ShloMosaic Idealize.ShloMosaic.TcCoe Idealize.SL.Sem
open Cert.Kernel2Ideal Cert.Kernel2Ideal.Gen

variable (m : (ℓ : Loc nD τ sig) → Buf (Elt Ideal) ℓ)

/-- The block each window takes at each point. -/
theorem idx : ∀ t : Fin cfg0.N, win0_0.index t = ![t.val / 11, 0] ∧ win0_1.index t = ![0, 0] ∧ win0_2.index t = ![0, 0]
    ∧ win0_3.index t = ![0, 0, t.val % 11] ∧ win0_4.index t = ![0, 0, t.val % 11] ∧ win0_5.index t = ![0, t.val % 11, 0] :=
  (by decide +kernel : ∀ t : Fin grid0.N, _)

theorem lt88 (t : Fin cfg0.N) : t.val < 88 := t.isLt

/-- The row of the whole array behind a row of the point's block. -/
abbrev row (t : Fin cfg0.N) (r : Fin 1024) : Fin 8192 := ⟨1024 * (t.val / 11) + r.val, by have := lt88 t; omega⟩

/-- The hidden unit behind a column of the point's block. -/
abbrev col (t : Fin cfg0.N) (x : Fin 512) : Fin 5632 := ⟨512 * (t.val % 11) + x.val, by omega⟩

theorem gain_cast (X : S1x2048.Idx → EReal) (k : Fin 2048) :
    shapeCast S1x2048 (shapeCast S2048 X shapeCasts_S1x2048_S2048) shapeCasts_S2048_S1x2048 (ix2 0 k) = X (ix2 0 k) := by
  pointwise [hlo_ix]

theorem b0 (c : Dev nD) (t : Fin cfg0.N) (r : Fin 1024) (k : Fin 2048) :
    iblk m c 0 t (ix2 r k) = m ((c : Thread nD τ).loc main_arg0) (ix2 (row t r) k) := by
  show V m c main_arg0 ((win0_0.blk t).view.emb _) = _
  rw [V_main_arg0]
  refine congrArg (m ((c : Thread nD τ).loc main_arg0)) ?_
  funext a
  match a with
  | 0 => exact Fin.ext (by show win0_0.index t 0 * 1024 + 1 * r.val = 1024 * (t.val / 11) + r.val; rw [(idx t).1]; show t.val / 11 * 1024 + 1 * r.val = _; omega)
  | 1 => exact Fin.ext (by show win0_0.index t 1 * 2048 + 1 * k.val = k.val; rw [(idx t).1]; show 0 * 2048 + 1 * k.val = _; omega)

theorem b1 (c : Dev nD) (t : Fin cfg0.N) (k : Fin 2048) :
    iblk m c 1 t (ix2 0 k) = m ((c : Thread nD τ).loc main_arg1) (ix2 0 k) := by
  have e : (V m c main_v1 : S1x2048.Idx → EReal) = shapeCast S1x2048 (shapeCast S2048 (m ((c : Thread nD τ).loc main_arg1) : S1x2048.Idx → EReal) shapeCasts_S1x2048_S2048) shapeCasts_S2048_S1x2048 := by
    entry_read
    rfl
  refine Eq.trans (?_ : _ = (V m c main_v1 : S1x2048.Idx → EReal) (ix2 0 k)) ((congrFun e _).trans (gain_cast _ k))
  refine congrArg (V m c main_v1) ?_
  funext a
  match a with
  | 0 => exact Fin.ext (by show win0_1.index t 0 * 1 + 1 * 0 = 0; rw [(idx t).2.1]; rfl)
  | 1 => exact Fin.ext (by show win0_1.index t 1 * 2048 + 1 * k.val = k.val; rw [(idx t).2.1]; show 0 * 2048 + 1 * k.val = _; omega)

theorem b2 (c : Dev nD) (t : Fin cfg0.N) (k : Fin 2048) :
    iblk m c 2 t (ix2 0 k) = m ((c : Thread nD τ).loc main_arg2) (ix2 0 k) := by
  have e : (V m c main_v3 : S1x2048.Idx → EReal) = shapeCast S1x2048 (shapeCast S2048 (m ((c : Thread nD τ).loc main_arg2) : S1x2048.Idx → EReal) shapeCasts_S1x2048_S2048) shapeCasts_S2048_S1x2048 := by
    entry_read
    rfl
  refine Eq.trans (?_ : _ = (V m c main_v3 : S1x2048.Idx → EReal) (ix2 0 k)) ((congrFun e _).trans (gain_cast _ k))
  refine congrArg (V m c main_v3) ?_
  funext a
  match a with
  | 0 => exact Fin.ext (by show win0_2.index t 0 * 1 + 1 * 0 = 0; rw [(idx t).2.2.1]; rfl)
  | 1 => exact Fin.ext (by show win0_2.index t 1 * 2048 + 1 * k.val = k.val; rw [(idx t).2.2.1]; show 0 * 2048 + 1 * k.val = _; omega)

theorem weight_at (X : S2048x5632.Idx → EReal) (j : Fin 2048) (q : Fin 5632) :
    broadcastInDim S1x2048x5632 ![1, 2] bcast_S2048x5632_S1x2048x5632_1_2 X (ix3 0 j q) = X (ix2 j q) := by
  pointwise [hlo_ix]

theorem down_at (X : S5632x2048.Idx → EReal) (q : Fin 5632) (k : Fin 2048) :
    broadcastInDim S1x5632x2048 ![1, 2] bcast_S5632x2048_S1x5632x2048_1_2 X (ix3 0 q k) = X (ix2 q k) := by
  pointwise [hlo_ix]

theorem b3 (c : Dev nD) (t : Fin cfg0.N) (j : Fin 2048) (x : Fin 512) :
    iblk m c 3 t (ix3 0 j x) = m ((c : Thread nD τ).loc main_arg3) (ix2 j (col t x)) := by
  have e : (V m c main_v4 : S1x2048x5632.Idx → EReal) = broadcastInDim S1x2048x5632 ![1, 2] bcast_S2048x5632_S1x2048x5632_1_2 (m ((c : Thread nD τ).loc main_arg3) : S2048x5632.Idx → EReal) := by
    entry_read
    try rfl
  refine Eq.trans (?_ : _ = (V m c main_v4 : S1x2048x5632.Idx → EReal) (ix3 0 j (col t x))) ((congrFun e _).trans (weight_at _ j (col t x)))
  refine congrArg (V m c main_v4) ?_
  have h := (idx t).2.2.2.1
  funext a
  match a with
  | 0 => exact Fin.ext (by show win0_3.index t 0 * 1 + 1 * 0 = 0; rw [h]; rfl)
  | 1 => exact Fin.ext (by show win0_3.index t 1 * 2048 + 1 * j.val = j.val; rw [h]; show 0 * 2048 + 1 * j.val = _; omega)
  | 2 => exact Fin.ext (by show win0_3.index t 2 * 512 + 1 * x.val = 512 * (t.val % 11) + x.val; rw [h]; show t.val % 11 * 512 + 1 * x.val = _; omega)

theorem b4 (c : Dev nD) (t : Fin cfg0.N) (j : Fin 2048) (x : Fin 512) :
    iblk m c 4 t (ix3 0 j x) = m ((c : Thread nD τ).loc main_arg4) (ix2 j (col t x)) := by
  have e : (V m c main_v5 : S1x2048x5632.Idx → EReal) = broadcastInDim S1x2048x5632 ![1, 2] bcast_S2048x5632_S1x2048x5632_1_2 (m ((c : Thread nD τ).loc main_arg4) : S2048x5632.Idx → EReal) := by
    entry_read
    try rfl
  refine Eq.trans (?_ : _ = (V m c main_v5 : S1x2048x5632.Idx → EReal) (ix3 0 j (col t x))) ((congrFun e _).trans (weight_at _ j (col t x)))
  refine congrArg (V m c main_v5) ?_
  have h := (idx t).2.2.2.2.1
  funext a
  match a with
  | 0 => exact Fin.ext (by show win0_4.index t 0 * 1 + 1 * 0 = 0; rw [h]; rfl)
  | 1 => exact Fin.ext (by show win0_4.index t 1 * 2048 + 1 * j.val = j.val; rw [h]; show 0 * 2048 + 1 * j.val = _; omega)
  | 2 => exact Fin.ext (by show win0_4.index t 2 * 512 + 1 * x.val = 512 * (t.val % 11) + x.val; rw [h]; show t.val % 11 * 512 + 1 * x.val = _; omega)

theorem b5 (c : Dev nD) (t : Fin cfg0.N) (x : Fin 512) (k : Fin 2048) :
    iblk m c 5 t (ix3 0 x k) = m ((c : Thread nD τ).loc main_arg5) (ix2 (col t x) k) := by
  have e : (V m c main_v6 : S1x5632x2048.Idx → EReal) = broadcastInDim S1x5632x2048 ![1, 2] bcast_S5632x2048_S1x5632x2048_1_2 (m ((c : Thread nD τ).loc main_arg5) : S5632x2048.Idx → EReal) := by
    entry_read
    try rfl
  refine Eq.trans (?_ : _ = (V m c main_v6 : S1x5632x2048.Idx → EReal) (ix3 0 (col t x) k)) ((congrFun e _).trans (down_at _ (col t x) k))
  refine congrArg (V m c main_v6) ?_
  have h := (idx t).2.2.2.2.2
  funext a
  match a with
  | 0 => exact Fin.ext (by show win0_5.index t 0 * 1 + 1 * 0 = 0; rw [h]; rfl)
  | 1 => exact Fin.ext (by show win0_5.index t 1 * 512 + 1 * x.val = 512 * (t.val % 11) + x.val; rw [h]; show t.val % 11 * 512 + 1 * x.val = _; omega)
  | 2 => exact Fin.ext (by show win0_5.index t 2 * 2048 + 1 * k.val = k.val; rw [h]; show 0 * 2048 + 1 * k.val = _; omega)

end Cert.Ffn
end
-- ==== Proof.Ffn.Points.lean ====
/- What each point of the feed-forward call leaves in the normalised rows and in the sums. -/
module

public import proofs.«01_k».proof.Proof.Ffn.Blocks
public import Idealize.ShloMosaic.Lib.Pipeline.ReadBack

@[expose] public section
set_option maxRecDepth 16384
noncomputable section
namespace Cert.Ffn
open Idealize.ShloMosaic Idealize.ShloMosaic.TcCoe Idealize.SL.Sem
open Cert.Kernel2Ideal Cert.Kernel2Ideal.Gen
open Idealize.ShloMosaic.Pipeline (Dat)

variable (m : (ℓ : Loc nD τ sig) → Buf (Elt Ideal) ℓ)

/-- The normalised rows of a block. -/
def rows (X : Vec Ideal S1024x2048 .f32) (g : Vec Ideal S1x2048 .f32) : Vec Ideal S1024x2048 .bf16 := fun y =>
  normed (fun k => X (ix2 (y 0) k)) (fun k => g (ix2 0 k)) (y 1)

/-- A strip of sixteen rows, normalised, is the block's normalised rows there. -/
theorem strip (X : Vec Ideal S1024x2048 .f32) (g : Vec Ideal S1x2048 .f32) {o : ℕ} (inb : ∀ a, ![o, 0] a + ![16, 2048] a ≤ S1024x2048.size a)
    (x : S16x2048.Idx) (y : S1024x2048.Idx) (h0 : (y 0).val = o + (x 0).val) (h1 : (y 1).val = (x 1).val) :
    k0_pay3 (View.ld X (Rect.unit ![o, 0] ![16, 2048] inb)) g x = rows X g y := by
  obtain ⟨r, k, rfl⟩ : ∃ (r : Fin 16) (k : Fin 2048), x = ix2 r k := ⟨x 0, x 1, eq_ix2 x⟩
  obtain ⟨r', k', rfl⟩ : ∃ (r : Fin 1024) (k : Fin 2048), y = ix2 r k := ⟨y 0, y 1, eq_ix2 y⟩
  obtain rfl : k' = k := Fin.ext h1
  refine (pre_at _ g r k').trans ?_
  show normed _ _ k' = normed _ _ k'
  refine congrArg (fun f => normed f _ k') (funext fun j => congrArg X ?_)
  funext a
  match a with
  | 0 => exact Fin.ext (by show o + 1 * r.val = r'.val; rw [show r'.val = o + r.val from h0]; omega)
  | 1 => exact Fin.ext (by show 0 + 1 * j.val = j.val; omega)

theorem scratchA (c : Dev nD) (t : Fin cfg0.N) (h0 : t.val % 11 = 0) (h1 : ¬t.val % 11 = 10) :
    (outsAt0 m c t.val t.isLt).2 = rows (iblk m c 0 t) (iblk m c 1 t) := by
  rw [outsAt0_A m c t h0 h1]
  frame_out
  funext y
  canon_tiles y hk
  all_goals first
    | exact strip _ _ _ _ _ hk0 hk1
    | exact strip _ _ _ _ _ (hk0.trans (Nat.zero_add _).symm) hk1

theorem outA (c : Dev nD) (t : Fin cfg0.N) (h0 : t.val % 11 = 0) (h1 : ¬t.val % 11 = 10) :
    (outsAt0 m c t.val t.isLt).1
      = k0_pay1 (fun _ => (0 : EReal)) (rows (iblk m c 0 t) (iblk m c 1 t)) (iblk m c 3 t) (iblk m c 4 t) (iblk m c 5 t) := by
  rw [outsAt0_A m c t h0 h1]
  frame_out
  refine (congrArg (fun u => k0_pay1 _ u _ _ _) (?_ : _ = rows (iblk m c 0 t) (iblk m c 1 t))).trans ?_
  · refine (View.readCov_eq_canon' _ _ _).trans ?_
    funext y
    refine Eq.trans (congrArg (View.canon _) (?_ : _ = y)) ?_
    · funext a
      match a with
      | 0 => exact Fin.ext (by show 0 + 1 * (y 0).val = (y 0).val; omega)
      | 1 => exact Fin.ext (by show 0 + 1 * (y 1).val = (y 1).val; omega)
    · canon_tiles y hk
      all_goals first
        | exact strip _ _ _ _ _ hk0 hk1
        | exact strip _ _ _ _ _ (hk0.trans (Nat.zero_add _).symm) hk1
  · refine congrArg (fun a => k0_pay1 a _ _ _ _) (funext fun y => ?_)
    idx_vars y
    pointwise [k0_pay95]

theorem scratchB (c : Dev nD) (t : Fin cfg0.N) (h0 : ¬t.val % 11 = 0) (h1 : ¬t.val % 11 = 10) :
    (outsAt0 m c t.val t.isLt).2 = (outsAt0 m c (t.val - 1) (by have := t.isLt; omega)).2 := by
  rw [outsAt0_B m c t h0 h1]
  rfl

theorem scratchC (c : Dev nD) (t : Fin cfg0.N) (h0 : ¬t.val % 11 = 0) (h1 : t.val % 11 = 10) :
    (outsAt0 m c t.val t.isLt).2 = (outsAt0 m c (t.val - 1) (by have := t.isLt; omega)).2 := by
  rw [outsAt0_C m c t h0 h1]
  rfl

theorem outB (c : Dev nD) (t : Fin cfg0.N) (h0 : ¬t.val % 11 = 0) (h1 : ¬t.val % 11 = 10) :
    (outsAt0 m c t.val t.isLt).1
      = k0_pay1 (outsAt0 m c (t.val - 1) (by have := t.isLt; omega)).1 (outsAt0 m c (t.val - 1) (by have := t.isLt; omega)).2
          (iblk m c 3 t) (iblk m c 4 t) (iblk m c 5 t) := by
  rw [outsAt0_B m c t h0 h1]
  frame_out
  refine congrArg (fun u => k0_pay1 _ u _ _ _) ?_
  exact Memref.IsWhole.read_unread _ _

end Cert.Ffn
end
-- ==== Proof.Ffn.Last.lean ====
/- The sums after each point, and what the last point of each row block leaves. -/
module

public import proofs.«01_k».proof.Proof.Ffn.Points

@[expose] public section
set_option maxRecDepth 16384
noncomputable section
namespace Cert.Ffn
open Idealize.ShloMosaic Idealize.ShloMosaic.TcCoe Idealize.SL.Sem
open Cert.Kernel2Ideal Cert.Kernel2Ideal.Gen
open Idealize.ShloMosaic.Pipeline (Dat)

variable (m : (ℓ : Loc nD τ sig) → Buf (Elt Ideal) ℓ)

/-- The closing step of a block: the residual rows plus half the normalised sums. -/
def ends (X S : Vec Ideal S1024x2048 .f32) (g : Vec Ideal S1x2048 .f32) : Vec Ideal S1024x2048 .f32 := fun y =>
  closed (fun k => X (ix2 (y 0) k)) (fun k => S (ix2 (y 0) k)) (fun k => g (ix2 0 k)) (y 1)

theorem closed_congr {h h' y y' g g' : Fin 2048 → EReal} (a : h = h') (b : y = y') (d : g = g') (k : Fin 2048) : closed h y g k = closed h' y' g' k := by
  rw [a, b, d]

/-- A strip of sixteen rows, closed, is the closed block there. -/
theorem strip_end (X S : Vec Ideal S1024x2048 .f32) (g : Vec Ideal S1x2048 .f32) {o : ℕ} (inb : ∀ a, ![o, 0] a + ![16, 2048] a ≤ S1024x2048.size a)
    (x : S16x2048.Idx) (y : S1024x2048.Idx) (h0 : (y 0).val = o + (x 0).val) (h1 : (y 1).val = (x 1).val) :
    k0_pay120 (View.ld X (Rect.unit ![o, 0] ![16, 2048] inb)) (View.ld S (Rect.unit ![o, 0] ![16, 2048] inb)) g x = ends X S g y := by
  obtain ⟨r, k, rfl⟩ : ∃ (r : Fin 16) (k : Fin 2048), x = ix2 r k := ⟨x 0, x 1, eq_ix2 x⟩
  obtain ⟨r', k', rfl⟩ : ∃ (r : Fin 1024) (k : Fin 2048), y = ix2 r k := ⟨y 0, y 1, eq_ix2 y⟩
  obtain rfl : k' = k := Fin.ext h1
  have e : ∀ (Z : Vec Ideal S1024x2048 .f32), (fun j => View.ld (Val := Elt Ideal) (e' := .f32) Z (Rect.unit ![o, 0] ![16, 2048] inb) (ix2 r j)) = fun j : Fin 2048 => Z (ix2 r' j) :=
    fun Z => funext fun j => congrArg Z (by
      funext a
      match a with
      | 0 => exact Fin.ext (by show o + 1 * r.val = r'.val; rw [show r'.val = o + r.val from h0]; omega)
      | 1 => exact Fin.ext (by show 0 + 1 * j.val = j.val; omega))
  refine (post_at _ _ g r k').trans ?_
  show closed _ _ _ k' = closed _ _ _ k'
  rw [e X, e S]
  rfl

/-- The last piece of a list, the first stored, does not show where a later one covers it. -/
theorem canon_dropLast : ∀ (L : List (View.Piece (Elt Ideal) S1024x2048 .f32)) (y : S1024x2048.Idx) (_ : ∃ p ∈ L.dropLast, y ∈ p.1.set),
    View.canon L y = View.canon L.dropLast y
  | [], _, _ => rfl
  | [_], _, hc => by obtain ⟨p, hp, _⟩ := hc; exact absurd hp List.not_mem_nil
  | p :: q :: L, y, hc => by
    show View.canon (p :: q :: L) y = View.canon (p :: (q :: L).dropLast) y
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_dropLast (q :: L) y ?_
      obtain ⟨r, hr, hy⟩ := hc
      rcases List.mem_cons.mp hr with rfl | hr
      · exact absurd hy hm
      · exact ⟨r, hr, hy⟩

theorem outC (c : Dev nD) (t : Fin cfg0.N) (h0 : ¬t.val % 11 = 0) (h1 : t.val % 11 = 10) :
    (outsAt0 m c t.val t.isLt).1
      = ends (iblk m c 0 t) (k0_pay1 (outsAt0 m c (t.val - 1) (by have := t.isLt; omega)).1 (outsAt0 m c (t.val - 1) (by have := t.isLt; omega)).2
          (iblk m c 3 t) (iblk m c 4 t) (iblk m c 5 t)) (iblk m c 2 t) := by
  rw [outsAt0_C m c t h0 h1]
  frame_open
  simp (disch := decide) only [↓ View.readCov_skip, ↓ View.readCov_cons_toLoadRect, ↓ View.readCov_fill]
  frame_out
  simp only [read_unread_whole]
  funext y
  refine (canon_dropLast _ y (View.cover_of_tiled _ ![16, 2048] (by rfl) y)).trans ?_
  simp only [List.dropLast_cons₂, List.dropLast_singleton]
  canon_tiles y hk
  all_goals first
    | exact strip_end _ _ _ _ _ _ hk0 hk1
    | exact strip_end _ _ _ _ y _ (hk0.trans (Nat.zero_add _).symm) hk1

section
variable (H : Arr 8192 2048) (G : Arr 1 2048) (Wg Wu : Arr 2048 5632) (Wd : Arr 5632 2048)

/-- What the `s`th 512 hidden units add to entry `(r, k)`. -/
def part (r : Fin 8192) (k : Fin 2048) (s : ℕ) : EReal :=
  ∑ x : Fin 512, if h : s * 512 + x.val < 5632 then unit H G Wg Wu Wd r k ⟨s * 512 + x.val, h⟩ else 0

/-- All eleven parts together are the sum over the hidden units. -/
theorem parts_sum (r : Fin 8192) (k : Fin 2048) :
    ∑ s ∈ Finset.range 11, part H G Wg Wu Wd r k s = ∑ q : Fin 5632, unit H G Wg Wu Wd r k q := by
  rw [Finset.sum_range]
  exact Fin.sum_mul_add_congr (fun s x h => dif_pos h)

end

/-- One step's sums, its normalised rows being those of the arguments. -/
theorem step_part (c : Dev nD) (t : Fin cfg0.N) (a : Vec Ideal S1024x2048 .f32) (u : Vec Ideal S1024x2048 .bf16) (r : Fin 1024) (k : Fin 2048)
    (hu : u = rows (iblk m c 0 t) (iblk m c 1 t)) :
    k0_pay1 a u (iblk m c 3 t) (iblk m c 4 t) (iblk m c 5 t) (ix2 r k)
      = a (ix2 r k) + part (m ((c : Thread nD τ).loc main_arg0)) (m ((c : Thread nD τ).loc main_arg1)) (m ((c : Thread nD τ).loc main_arg3))
          (m ((c : Thread nD τ).loc main_arg4)) (m ((c : Thread nD τ).loc main_arg5)) (row t r) k (t.val % 11) := by
  subst hu
  refine (step_at _ _ _ _ _ r k).trans (congrArg (a (ix2 r k) + ·) (Finset.sum_congr rfl fun x _ => ?_))
  have hx : t.val % 11 * 512 + x.val < 5632 := by omega
  have hq : (⟨t.val % 11 * 512 + x.val, hx⟩ : Fin 5632) = col t x := Fin.ext (by show t.val % 11 * 512 + x.val = 512 * (t.val % 11) + x.val; omega)
  rw [dif_pos hx, hq, b5]
  unfold unit
  refine congrArg (· * _) ?_
  rw [show (fun j => iblk m c 3 t (ix3 0 j x)) = _ from funext fun j => b3 m c t j x, show (fun j => iblk m c 4 t (ix3 0 j x)) = _ from funext fun j => b4 m c t j x]
  refine congrArg (fun f => hidden f _ _) ?_
  funext j
  show normed (fun k => iblk m c 0 t (ix2 r k)) (fun k => iblk m c 1 t (ix2 0 k)) j = _
  rw [show (fun k => iblk m c 0 t (ix2 r k)) = _ from funext fun j => b0 m c t r j, show (fun k => iblk m c 1 t (ix2 0 k)) = _ from funext fun j => b1 m c t j]

/-- The residual block and the gains do not move while the hidden units are summed. -/
theorem rows_same (c : Dev nD) (t t' : Fin cfg0.N) (h : t'.val / 11 = t.val / 11) :
    rows (iblk m c 0 t') (iblk m c 1 t') = rows (iblk m c 0 t) (iblk m c 1 t) := by
  funext y
  unfold rows
  have e0 : ∀ k, iblk m c 0 t' (ix2 (y 0) k) = iblk m c 0 t (ix2 (y 0) k) := fun k => by
    refine (b0 m c t' (y 0) k).trans (Eq.trans ?_ (b0 m c t (y 0) k).symm)
    rw [show row t' (y 0) = row t (y 0) from Fin.ext (by show 1024 * (t'.val / 11) + _ = 1024 * (t.val / 11) + _; rw [h])]
  have e1 : ∀ k, iblk m c 1 t' (ix2 0 k) = iblk m c 1 t (ix2 0 k) := fun k => (b1 m c t' k).trans (b1 m c t k).symm
  rw [show (fun k => iblk m c 0 t' (ix2 (y 0) k)) = _ from funext e0, show (fun k => iblk m c 1 t' (ix2 0 k)) = _ from funext e1]

/-- The scratch holds the block's normalised rows after every point. -/
theorem scratch (c : Dev nD) : ∀ (n : ℕ) (hn : n < cfg0.N), (outsAt0 m c n hn).2 = rows (iblk m c 0 ⟨n, hn⟩) (iblk m c 1 ⟨n, hn⟩)
  | 0, hn => scratchA m c ⟨0, hn⟩ (Nat.zero_mod 11) (by show ¬0 % 11 = 10; omega)
  | n + 1, hn => by
    by_cases h0 : (n + 1) % 11 = 0
    · exact scratchA m c ⟨n + 1, hn⟩ h0 (by show ¬(n + 1) % 11 = 10; omega)
    · have ih := scratch c n (by omega)
      have hs := rows_same m c ⟨n + 1, hn⟩ ⟨n, by omega⟩ (by show n / 11 = (n + 1) / 11; omega)
      by_cases h1 : (n + 1) % 11 = 10
      · exact (scratchC m c ⟨n + 1, hn⟩ h0 h1).trans (ih.trans hs)
      · exact (scratchB m c ⟨n + 1, hn⟩ h0 h1).trans (ih.trans hs)

/-- The sums before the last point of a row block. -/
theorem sums (c : Dev nD) : ∀ (n : ℕ) (hn : n < cfg0.N) (_ : ¬n % 11 = 10) (r : Fin 1024) (k : Fin 2048),
    (outsAt0 m c n hn).1 (ix2 r k)
      = ∑ s ∈ Finset.range (n % 11 + 1), part (m ((c : Thread nD τ).loc main_arg0)) (m ((c : Thread nD τ).loc main_arg1)) (m ((c : Thread nD τ).loc main_arg3))
          (m ((c : Thread nD τ).loc main_arg4)) (m ((c : Thread nD τ).loc main_arg5)) (row ⟨n, hn⟩ r) k s
  | n, hn, h1, r, k => by
    by_cases h0 : n % 11 = 0
    · refine (congrFun (outA m c ⟨n, hn⟩ h0 h1) _).trans ((step_part m c ⟨n, hn⟩ _ _ r k rfl).trans ?_)
      rw [h0, zero_add, zero_add, Finset.sum_range_one]
    · have hs := (scratch m c (n - 1) (by omega)).trans (rows_same m c ⟨n, hn⟩ ⟨n - 1, by omega⟩ (by show (n - 1) / 11 = n / 11; omega))
      have ih := sums c (n - 1) (by omega) (by omega) r k
      refine (congrFun (outB m c ⟨n, hn⟩ h0 h1) _).trans ((step_part m c ⟨n, hn⟩ _ _ r k hs).trans ?_)
      refine (congrArg (· + _) ih).trans ?_
      rw [show (n - 1) % 11 + 1 = n % 11 by omega, Finset.sum_range_succ, show row ⟨n - 1, by omega⟩ r = row ⟨n, hn⟩ r from Fin.ext (by show 1024 * ((n - 1) / 11) + r.val = 1024 * (n / 11) + r.val; rw [show (n - 1) / 11 = n / 11 by omega])]
  termination_by n => n
  decreasing_by omega

/-- The last point of a row block leaves the layer's rows. -/
theorem last (c : Dev nD) (t : Fin cfg0.N) (h1 : t.val % 11 = 10) (r : Fin 1024) (k : Fin 2048) :
    (outsAt0 m c t.val t.isLt).1 (ix2 r k)
      = layer (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (ix2 (row t r) k) := by
  have hN := t.isLt
  have h0 : ¬t.val % 11 = 0 := by omega
  have hs := (scratch m c (t.val - 1) (by omega)).trans (rows_same m c t ⟨t.val - 1, by omega⟩ (by show (t.val - 1) / 11 = t.val / 11; omega))
  refine (congrFun (outC m c t h0 h1) _).trans ?_
  have e : ∀ k : Fin 2048, k0_pay1 (outsAt0 m c (t.val - 1) (by omega)).1 (outsAt0 m c (t.val - 1) (by omega)).2 (iblk m c 3 t) (iblk m c 4 t) (iblk m c 5 t) (ix2 r k)
      = ∑ q : Fin 5632, unit (m ((c : Thread nD τ).loc main_arg0)) (m ((c : Thread nD τ).loc main_arg1)) (m ((c : Thread nD τ).loc main_arg3))
          (m ((c : Thread nD τ).loc main_arg4)) (m ((c : Thread nD τ).loc main_arg5)) (row t r) k q := fun k => by
    refine (step_part m c t _ _ r k hs).trans ?_
    rw [← parts_sum, sums m c (t.val - 1) (by omega) (by omega) r k, show (t.val - 1) % 11 + 1 = 10 by omega, h1, Finset.sum_range_succ _ 10,
      show row ⟨t.val - 1, by omega⟩ r = row t r from Fin.ext (by show 1024 * ((t.val - 1) / 11) + r.val = 1024 * (t.val / 11) + r.val; rw [show (t.val - 1) / 11 = t.val / 11 by omega])]
  exact closed_congr (funext fun j => b0 m c t r j) (funext e) (funext fun j => b2 m c t j) k

end Cert.Ffn
end
-- ==== Proof.Ffn.Ref.lean ====
/- The reference's result entry by entry. -/
module

public import proofs.«01_k».proof.Proof.Gen.Reference2Ideal.Run
public import proofs.«01_k».proof.Proof.Ffn.Entries

@[expose] public section
set_option maxRecDepth 16384
noncomputable section
namespace Cert.Ffn.Ref
open Idealize.ShloMosaic Idealize.ShloMosaic.TcCoe Idealize.SL.Sem
open Cert.Reference2Ideal Cert.Reference2Ideal.Gen

/-- Every row normalised and multiplied by the gain. -/
def norm (x : FVec Ideal S8192x2048 .f32) (g : FVec Ideal S1x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 (shapeCast _ g shapeCasts_S1x2048_S2048)))

/-- The rows times a weight array. -/
def dot (u : FVec Ideal S8192x2048 .f32) (w : FVec Ideal S2048x5632 .bf16) : FVec Ideal S8192x5632 .f32 :=
  Host.dotGeneral dot_S8192x2048_S2048x5632_S8192x5632_1_0_0_1_n_n none u (extf .f32 w bitsLt_bf16_f32)

/-- `silu` of the first array times the second. -/
def gated (a b : FVec Ideal S8192x5632 .f32) : FVec Ideal S8192x5632 .f32 :=
  mulf (mulf a (Host.divf (broadcastInDim S8192x5632 ![] bcast_S_S8192x5632 (constant S_ .f32 0x3F800000#32)) (addf (broadcastInDim S8192x5632 ![] bcast_S_S8192x5632 (constant S_ .f32 0x3F800000#32)) (Host.exp (Host.negf a))))) b

/-- The hidden units times the last weight array. -/
def down (a : FVec Ideal S8192x5632 .f32) (w : FVec Ideal S5632x2048 .bf16) : FVec Ideal S8192x2048 .f32 :=
  Host.dotGeneral dot_S8192x5632_S5632x2048_S8192x2048_1_0_0_1_n_n none a (extf .f32 w bitsLt_bf16_f32)

/-- The rows plus half of the other rows. -/
def plus (h y : FVec Ideal S8192x2048 .f32) : FVec Ideal S8192x2048 .f32 :=
  addf h (mulf (broadcastInDim S8192x2048 ![] bcast_S_S8192x2048 (constant S_ .f32 0x3F000000#32)) y)

theorem parts (m : (ℓ : Loc nD τ sig) → Buf (Elt Ideal) ℓ) (c : Dev nD) :
    Cert.Reference2Ideal.Value.res_main_v38 m c
      = plus (m ((c.tc : Thread nD τ).loc main_arg0))
          (norm (down (gated (dot (norm (m ((c.tc : Thread nD τ).loc main_arg0)) (m ((c.tc : Thread nD τ).loc main_arg1))) (m ((c.tc : Thread nD τ).loc main_arg3)))
              (dot (norm (m ((c.tc : Thread nD τ).loc main_arg0)) (m ((c.tc : Thread nD τ).loc main_arg1))) (m ((c.tc : Thread nD τ).loc main_arg4))))
            (m ((c.tc : Thread nD τ).loc main_arg5))) (m ((c.tc : Thread nD τ).loc main_arg2))) := by
  rfl

theorem norm_at (x : FVec Ideal S8192x2048 .f32) (g : FVec Ideal S1x2048 .f32) (r : Fin 8192) (k : Fin 2048) :
    norm x g (ix2 r k) = normed (fun k => x (ix2 r k)) (fun k => g (ix2 0 k)) k := by
  unfold normed scale
  pointwise [norm, hlo_ix]

theorem dot_at (u : FVec Ideal S8192x2048 .f32) (w : FVec Ideal S2048x5632 .bf16) (r : Fin 8192) (q : Fin 5632) :
    dot u w (ix2 r q) = ∑ j : Fin 2048, u (ix2 r j) * w (ix2 j q) := by
  pointwise [dot, hlo_ix]

theorem gated_at (a b : FVec Ideal S8192x5632 .f32) (r : Fin 8192) (q : Fin 5632) :
    gated a b (ix2 r q) = (a (ix2 r q) * Ideal.logistic (a (ix2 r q))) * b (ix2 r q) := by
  unfold Ideal.logistic
  pointwise [gated, hlo_ix]

theorem down_at (a : FVec Ideal S8192x5632 .f32) (w : FVec Ideal S5632x2048 .bf16) (r : Fin 8192) (k : Fin 2048) :
    down a w (ix2 r k) = ∑ q : Fin 5632, a (ix2 r q) * w (ix2 q k) := by
  pointwise [down, hlo_ix]

theorem plus_at (h y : FVec Ideal S8192x2048 .f32) (r : Fin 8192) (k : Fin 2048) :
    plus h y (ix2 r k) = h (ix2 r k) + Ideal.ofBits FTy.f32 1056964608#32 * y (ix2 r k) := by
  pointwise [plus, hlo_ix]

/-- The reference's result is the layer of its arguments. -/
theorem result (m : (ℓ : Loc nD τ sig) → Buf (Elt Ideal) ℓ) (c : Dev nD) :
    Cert.Reference2Ideal.Value.res_main_v38 m c
      = layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [parts]
  funext i
  obtain ⟨r, k, rfl⟩ : ∃ (r : Fin 8192) (k : Fin 2048), i = ix2 r k := ⟨i 0, i 1, eq_ix2 i⟩
  refine (plus_at _ _ r k).trans ?_
  rw [norm_at]
  simp only [down_at, gated_at, dot_at, norm_at]
  rfl

end Cert.Ffn.Ref
end
-- ==== Proof.Ffn.Equal.lean ====
/- The feed-forward call and its reference leave the same result. -/
module

public import proofs.«01_k».proof.Defs
public import proofs.«01_k».proof.Proof.Ffn.Last
public import proofs.«01_k».proof.Proof.Ffn.Ref

@[expose] public section
set_option maxRecDepth 16384
noncomputable section
namespace Cert.Ffn
open Idealize.ShloMosaic Idealize.ShloMosaic.TcCoe Idealize.SL.Sem
open Cert.Kernel2Ideal Cert.Kernel2Ideal.Gen

/-- The layer of the kernel's arguments on one device. -/
def res (m : (ℓ : Loc nD τ sig) → Buf (Elt Ideal) ℓ) (c : Dev nD) : Arr 8192 2048 :=
  layer (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The result array, its blocks written back, is the layer. -/
theorem final (m : (ℓ : Loc nD τ sig) → Buf (Elt Ideal) ℓ) (c : Dev nD) : Value.G6 m c = res m c := by
  funext i
  have hi : (i 0).val < 8192 := (i 0).isLt
  have hk : (i 1).val < 2048 := (i 1).isLt
  have hp : Value.pt6Of i = 11 * ((i 0).val / 1024) + 10 := by
    show 11 * (1 * ((i 0).val / 1024 - 0) + 1 * ((i 1).val / 2048 - 0)) + 10 = _
    omega
  have ht : Value.pt6Of i < cfg0.N := by rw [hp, show cfg0.N = 88 from N_0]; omega
  have hl : Value.loc6Of i = ix2 (⟨(i 0).val % 1024, by omega⟩ : Fin 1024) (⟨(i 1).val, hk⟩ : Fin 2048) := by
    funext a
    match a with
    | 0 => rfl
    | 1 => exact Fin.ext (Nat.mod_eq_of_lt hk)
  unfold Value.G6
  rw [dif_pos ht, ← Value.outsAt0_sweep m c _ ht, hl]
  refine (last m c ⟨Value.pt6Of i, ht⟩ (by show Value.pt6Of i % 11 = 10; omega) _ _).trans (congrArg (res m c) ?_)
  funext a
  match a with
  | 0 => exact Fin.ext (by show 1024 * (Value.pt6Of i / 11) + (i 0).val % 1024 = (i 0).val; omega)
  | 1 => rfl

/-- The reference's result, read at arguments equal to the kernel's. -/
theorem ref_result {m : (ℓ : Loc Cert.Reference2Ideal.nD Cert.Reference2Ideal.τ Cert.Reference2Ideal.sig) → Buf (Elt Ideal) ℓ} {c : Dev Cert.Reference2Ideal.nD}
    {a0 : Arr 8192 2048} {a1 a2 : Arr 1 2048} {a3 a4 : Arr 2048 5632} {a5 : Arr 5632 2048}
    (e : m ((c.tc : Thread Cert.Reference2Ideal.nD Cert.Reference2Ideal.τ).loc Cert.Reference2Ideal.main_arg0) = a0
      ∧ m ((c.tc : Thread Cert.Reference2Ideal.nD Cert.Reference2Ideal.τ).loc Cert.Reference2Ideal.main_arg1) = a1
      ∧ m ((c.tc : Thread Cert.Reference2Ideal.nD Cert.Reference2Ideal.τ).loc Cert.Reference2Ideal.main_arg2) = a2
      ∧ m ((c.tc : Thread Cert.Reference2Ideal.nD Cert.Reference2Ideal.τ).loc Cert.Reference2Ideal.main_arg3) = a3
      ∧ m ((c.tc : Thread Cert.Reference2Ideal.nD Cert.Reference2Ideal.τ).loc Cert.Reference2Ideal.main_arg4) = a4
      ∧ m ((c.tc : Thread Cert.Reference2Ideal.nD Cert.Reference2Ideal.τ).loc Cert.Reference2Ideal.main_arg5) = a5) :
    Cert.Reference2Ideal.Value.res_main_v38 m c = layer a0 a1 a2 a3 a4 a5 := by
  obtain ⟨e0, e1, e2, e3, e4, e5⟩ := e
  rw [Ref.result m c, e0, e1, e2, e3, e4, e5]

/-- Kernel and reference end with equal results at the extended reals. -/
theorem equal : Cert.algebraic_Kernel2Ideal_Reference2Ideal := fun m g m' g' _ e =>
  ⟨fun c => res m c,
    (θ_run Cert.Kernel2Ideal.defs _ _).mono (fun r h c => ⟨(h c).1.trans (final m c), (h c).2⟩) (Cert.Kernel2Ideal.Value.run m g),
    (θ_run Cert.Reference2Ideal.defs _ _).mono (fun r h c => ⟨(h c).1.trans (ref_result (e c)), (h c).2⟩) (Cert.Reference2Ideal.Value.run m' g')⟩

/-- The reference terminates, keeps its arguments and, having no semaphores, leaves none raised. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

end Cert.Ffn
end
-- ==== Proof.Ffn3.Kit.lean ====
/- The call with the sixteen extra rows: what its windows and its conditions are at each point. -/
module

public import Idealize.ShloMosaic.Lib.VecWindow
public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp

@[expose] public section
set_option maxRecDepth 16384
noncomputable section
namespace Cert.Ffn3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- A device's buffers when the pipeline starts. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh main_chain

/-- The reshapes before the pipeline leave the arguments alone. -/
theorem V_args (c : Dev nD) : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) ∧ V m c main_arg5 = m ((c : Thread nD τ).loc main_arg5)
    ∧ V m c main_arg6 = m ((c : Thread nD τ).loc main_arg6) := by
  refine ⟨?_, ?_, ?_, ?_, ?_, ?_, ?_⟩ <;> exact StableHlo.after_of_forall_not_mem (b := Proc.devRef .tc _) _ _ (List.forall_iff_forall_mem.mp (by
    simp only [hostOps0, List.Forall, StableHlo.reshape_writes, Finset.mem_singleton]
    repeat' apply And.intro
    all_goals exact StableHlo.devRef_ne_of_ne (by decide)))

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's second condition. -/
abbrev cond2 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32))) 0#32

theorem lt176 (t : Fin cfg0.N) : t.val < 176 := t.isLt

/-- When each of the body's conditions holds. -/
theorem conds : ∀ t : Fin cfg0.N, (k0_cond1 (grid0.coords t) = 1#1 ↔ t.val % 22 = 0) ∧ (cond2 (grid0.coords t) = 1#1 ↔ t.val = 0)
    ∧ (k0_cond3 (grid0.coords t) = 1#1 ↔ t.val < 22) ∧ (k0_cond4 (grid0.coords t) = 1#1 ↔ ¬t.val < 22)
    ∧ (k0_cond5 (grid0.coords t) = 1#1 ↔ t.val = 21) ∧ (k0_cond6 (grid0.coords t) = 1#1 ↔ t.val % 22 = 21) :=
  (by decide +kernel : ∀ t : Fin grid0.N, _)

/-- The extra rows' result is stored at one point only, the sums at every point. -/
theorem idle7 (t : Fin cfg0.N) : cfg0.idle 7 (cfg0.grid.coords t) = false := (by decide +kernel : ∀ t : Fin grid0.N, idle0 7 (grid0.coords t) = false) t
theorem idle8 (t : Fin cfg0.N) (h : t.val ≠ 21) : cfg0.idle 8 (cfg0.grid.coords t) = true :=
  (by decide +kernel : ∀ t : Fin grid0.N, t.val ≠ 21 → idle0 8 (grid0.coords t) = true) t h
theorem live8 (t : Fin cfg0.N) (h : t.val = 21) : cfg0.idle 8 (cfg0.grid.coords t) = false :=
  (by decide +kernel : ∀ t : Fin grid0.N, t.val = 21 → idle0 8 (grid0.coords t) = false) t h

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S1x2048 .f32 := win0_2.stage (cfg0.slots t 2)
abbrev ms3 (t : Fin cfg0.N) : Memref sig .tc .vmem S1x2048x256 .f32 := win0_3.stage (cfg0.slots t 3)
abbrev ms4 (t : Fin cfg0.N) : Memref sig .tc .vmem S1x2048x256 .f32 := win0_4.stage (cfg0.slots t 4)
abbrev ms5 (t : Fin cfg0.N) : Memref sig .tc .vmem S1x256x2048 .f32 := win0_5.stage (cfg0.slots t 5)
abbrev ms6 (t : Fin cfg0.N) : Memref sig .tc .vmem S16x2048 .f32 := win0_6.stage (cfg0.slots t 6)
abbrev ms7 (t : Fin cfg0.N) : Memref sig .tc .vmem S1024x2048 .f32 := win0_7.stage (cfg0.slots t 7)
abbrev ms8 (t : Fin cfg0.N) : Memref sig .tc .vmem S16x2048 .f32 := win0_8.stage (cfg0.slots t 8)
/-- The normalised rows and the extra rows' sums, kept from point to point. -/
abbrev scU : Memref sig .tc .vmem S1040x2048 .bf16 := Memref.whole cc0_scratch0
abbrev scA : Memref sig .tc .vmem S16x2048 .f32 := Memref.whole cc0_scratch1

theorem PhiA0_eq (c : Dev nD) :
    (Pipeline.ΦA spec0 c : sProp 𝕄)
      = iprop(iprop((∃ d, owns (c : Thread nD τ) scU fullShare d) ∗ (∃ d, owns (c : Thread nD τ) scA fullShare d)) ∗ (∃ r, prngReg c r)) := by
  unfold Pipeline.ΦA; rw [scopedRest0_eq]; simp only [scU, scA, owns_whole]; try rfl

/-- A strip of sixteen rows of a block, the one row `i` lies in. -/
theorem inb16 (i : Fin 1024) : ∀ a, ![16 * (i.val / 16), 0] a + ![16, 2048] a ≤ S1024x2048.size a := fun a => by
  match a with
  | 0 => show 16 * (i.val / 16) + 16 ≤ 1024; omega
  | 1 => exact Nat.le_refl 2048

/-- The block's rows normalised, strip by strip. -/
def pre (X : Vec F S1024x2048 .f32) (g : Vec F S1x2048 .f32) : Vec F S1024x2048 .bf16 := fun y =>
  k0_pay10 (View.ld X (Rect.unit ![16 * ((y 0).val / 16), 0] ![16, 2048] (inb16 (y 0)))) g (ix2 (⟨(y 0).val % 16, Nat.mod_lt _ (by decide)⟩ : Fin 16) (y 1))

/-- The block's closing step, strip by strip. -/
def post (X S : Vec F S1024x2048 .f32) (g : Vec F S1x2048 .f32) : Vec F S1024x2048 .f32 := fun y =>
  k0_pay74 (View.ld X (Rect.unit ![16 * ((y 0).val / 16), 0] ![16, 2048] (inb16 (y 0)))) (View.ld S (Rect.unit ![16 * ((y 0).val / 16), 0] ![16, 2048] (inb16 (y 0)))) g
    (ix2 (⟨(y 0).val % 16, Nat.mod_lt _ (by decide)⟩ : Fin 16) (y 1))

theorem at_strip {o : ℕ} {x : S16x2048.Idx} {y : S1024x2048.Idx} (ho : o % 16 = 0) (h0 : (y 0).val = o + (x 0).val) (h1 : (y 1).val = (x 1).val) :
    o = 16 * ((y 0).val / 16) ∧ ix2 (⟨(y 0).val % 16, Nat.mod_lt _ (by decide)⟩ : Fin 16) (y 1) = x := by
  have hx : (x 0).val < 16 := (x 0).isLt
  refine ⟨by omega, ?_⟩
  funext a
  match a with
  | 0 => exact Fin.ext (by show (y 0).val % 16 = (x 0).val; omega)
  | 1 => exact Fin.ext h1

theorem pre_strip (X : Vec F S1024x2048 .f32) (g : Vec F S1x2048 .f32) {o : ℕ} (inb : ∀ a, ![o, 0] a + ![16, 2048] a ≤ S1024x2048.size a)
    (x : S16x2048.Idx) (y : S1024x2048.Idx) (ho : o % 16 = 0) (h0 : (y 0).val = o + (x 0).val) (h1 : (y 1).val = (x 1).val) :
    k0_pay10 (View.ld X (Rect.unit ![o, 0] ![16, 2048] inb)) g x = pre X g y := by
  obtain ⟨rfl, e⟩ := at_strip ho h0 h1
  exact congrArg (k0_pay10 _ g) e.symm

theorem post_strip (X S : Vec F S1024x2048 .f32) (g : Vec F S1x2048 .f32) {o : ℕ} (inb : ∀ a, ![o, 0] a + ![16, 2048] a ≤ S1024x2048.size a)
    (x : S16x2048.Idx) (y : S1024x2048.Idx) (ho : o % 16 = 0) (h0 : (y 0).val = o + (x 0).val) (h1 : (y 1).val = (x 1).val) :
    k0_pay74 (View.ld X (Rect.unit ![o, 0] ![16, 2048] inb)) (View.ld S (Rect.unit ![o, 0] ![16, 2048] inb)) g x = post X S g y := by
  obtain ⟨rfl, e⟩ := at_strip ho h0 h1
  exact congrArg (k0_pay74 _ _ g) e.symm

/-- The normalised rows the scratch holds: the block's, and below them the given sixteen. -/
def both (p : Vec F S1024x2048 .bf16) (q : Vec F S16x2048 .bf16) : Vec F S1040x2048 .bf16 := fun y =>
  if h : (y 0).val < 1024 then p (ix2 (⟨(y 0).val, h⟩ : Fin 1024) (y 1))
  else q (ix2 (⟨(y 0).val - 1024, by have : (y 0).val < 1040 := (y 0).isLt; omega⟩ : Fin 16) (y 1))

theorem both_lo (X : Vec F S1024x2048 .f32) (g : Vec F S1x2048 .f32) (q : Vec F S16x2048 .bf16) {o : ℕ} (inb : ∀ a, ![o, 0] a + ![16, 2048] a ≤ S1024x2048.size a)
    (x : S16x2048.Idx) (y : S1040x2048.Idx) (ho : o % 16 = 0) (hl : o + 16 ≤ 1024) (h0 : (y 0).val = o + (x 0).val) (h1 : (y 1).val = (x 1).val) :
    k0_pay10 (View.ld X (Rect.unit ![o, 0] ![16, 2048] inb)) g x = both (pre X g) q y := by
  have hx : (x 0).val < 16 := (x 0).isLt
  have hy : (y 0).val < 1024 := by omega
  unfold both
  rw [dif_pos hy]
  exact pre_strip X g inb x _ ho h0 h1

theorem both_hi (p : Vec F S1024x2048 .bf16) (q : Vec F S16x2048 .bf16) (x : S16x2048.Idx) (y : S1040x2048.Idx)
    (h0 : (y 0).val = 1024 + (x 0).val) (h1 : (y 1).val = (x 1).val) : q x = both p q y := by
  have hy : ¬(y 0).val < 1024 := by omega
  unfold both
  rw [dif_neg hy]
  refine congrArg q (funext fun a => ?_)
  match a with
  | 0 => exact Fin.ext (by show (x 0).val = (y 0).val - 1024; omega)
  | 1 => exact Fin.ext h1.symm

/-- Pieces stored before the rest do not show where the rest covers. -/
theorem canon_append {S : Shape} {e : EltTy} (M : List (View.Piece (Elt F) S e)) (y : S.Idx) :
    ∀ (L : List (View.Piece (Elt F) S e)) (_ : ∃ p ∈ L, y ∈ p.1.set), View.canon (L ++ M) y = View.canon L y
  | [], hc => by obtain ⟨p, hp, _⟩ := hc; exact absurd hp List.not_mem_nil
  | p :: L, hc => by
    show View.canon (p :: (L ++ M)) y = View.canon (p :: L) y
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_append M y L ?_
      obtain ⟨r, hr, hy⟩ := hc
      rcases List.mem_cons.mp hr with rfl | hr
      · exact absurd hy hm
      · exact ⟨r, hr, hy⟩

theorem canon_dropLast {S : Shape} {e : EltTy} (L : List (View.Piece (Elt F) S e)) (y : S.Idx) (h : ∃ p ∈ L.dropLast, y ∈ p.1.set) :
    View.canon L y = View.canon L.dropLast y := by
  rcases List.eq_nil_or_concat L with rfl | ⟨M, p, rfl⟩
  · rfl
  · rw [List.concat_eq_append, List.dropLast_concat] at *
    exact canon_append [p] y M h

theorem cover_dropLast {S : Shape} {e : EltTy} (L : List (View.Piece (Elt F) S e)) (y : S.Idx) (h : ∃ p ∈ L.dropLast, y ∈ p.1.set) : ∃ p ∈ L, y ∈ p.1.set := by
  obtain ⟨p, hp, hy⟩ := h
  exact ⟨p, (List.dropLast_sublist L).subset hp, hy⟩

/-- Contents that already hold a piece's values read, after further writes, as if the piece had been stored first. -/
theorem read_writes_held {S : Shape} {e : EltTy} {κ : Kind} {sp : Space} (v : View sig κ sp S e) (f : v.ty.Contents (Elt F)) (p : View.Piece (Elt F) S e)
    (hp : ∀ x, v.read (Elt F) f (p.1.emb x) = p.2 x) (y : S.Idx) :
    ∀ (L : List (View.Piece (Elt F) S e)) (_ : ∃ q ∈ L ++ [p], y ∈ q.1.set), v.read (Elt F) (v.writes (Elt F) f L) y = View.canon (L ++ [p]) y
  | [], hc => by
    obtain ⟨q, hq, hm⟩ := hc
    obtain rfl := List.mem_singleton.mp hq
    obtain ⟨x, rfl⟩ := q.1.exists_idx_of_mem hm
    exact (hp x).trans (View.canon_cons_emb q.1 q.2 [] x).symm
  | q :: L, hc => by
    show v.read (Elt F) (v.writes (Elt F) f (q :: L)) y = View.canon (q :: (L ++ [p])) y
    by_cases hm : y ∈ q.1.set
    · obtain ⟨r, w⟩ := q
      obtain ⟨x, rfl⟩ : ∃ x, r.emb x = y := r.exists_idx_of_mem hm
      rw [View.read_writes_cons_emb, View.canon_cons_emb]
    · have hm' : y ∉ Finset.univ.map q.1.emb := by rwa [Rect.map_emb_univ]
      rw [View.writes_cons, View.read_slice_write_of_not_mem q.1 _ _ _ hm', View.canon_cons_of_not_mem _ _ hm]
      refine read_writes_held v f p hp y L ?_
      obtain ⟨r, hr, hy⟩ := hc
      rcases List.mem_cons.mp hr with rfl | hr
      · exact absurd hy hm
      · exact ⟨r, hr, hy⟩

/-- The sixteen lowest rows of the normalised rows. -/
theorem inb_low : ∀ a, ![1024, 0] a + ![16, 2048] a ≤ S1040x2048.size a := fun a => by
  match a with
  | 0 => exact Nat.le_refl 1040
  | 1 => exact Nat.le_refl 2048
def low (u : Vec F S1040x2048 .bf16) : Vec F S16x2048 .bf16 := fun y =>
  u (ix2 (⟨1024 + (y 0).val, by have : (y 0).val < 16 := (y 0).isLt; omega⟩ : Fin 1040) (y 1))
/-- The low rows as stored whole. -/
abbrev lowPiece (u : Vec F S1040x2048 .bf16) : View.Piece (Elt F) S1040x2048 .bf16 := ⟨Rect.unit ![1024, 0] ![16, 2048] inb_low, low u⟩
theorem low_held (u : Vec F S1040x2048 .bf16) (x : (Rect.unit (s := S1040x2048) ![1024, 0] ![16, 2048] inb_low).shape.Idx) :
    u ((Rect.unit (s := S1040x2048) ![1024, 0] ![16, 2048] inb_low).emb x) = low u x :=
  congrArg u (funext fun a => by
    match a with
    | 0 => exact Fin.ext (by show 1024 + 1 * (x 0).val = 1024 + (x 0).val; omega)
    | 1 => exact Fin.ext (by show 0 + 1 * (x 1).val = (x 1).val; omega))
theorem low_above (y : S1040x2048.Idx) (hy : (y 0).val < 1024) : y ∉ (Rect.unit (s := S1040x2048) ![1024, 0] ![16, 2048] inb_low).set := fun h => by
  obtain ⟨x, rfl⟩ := (Rect.unit (s := S1040x2048) ![1024, 0] ![16, 2048] inb_low).exists_idx_of_mem h
  have : 1024 + 1 * (x 0).val < 1024 := hy
  omega
theorem top_row (j : S1024x2048.Idx) : (((Rect.unit (s := S1040x2048) ![0, 0] S1024x2048.size inb_S1040x2048_S1024x2048_0_0).emb j) 0).val < 1024 := by
  have : (j 0).val < 1024 := (j 0).isLt
  show 0 + 1 * (j 0).val < 1024
  omega

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S16x2048 .f32) (harg8 : arg8.IsWhole) (arg9 : Memref sig .tc .vmem S1024x2048 .f32) (harg9 : arg9.IsWhole) (arg10 : Memref sig .tc .vmem S16x2048 .f32) (harg10 : arg10.IsWhole) (arg11 : Memref sig .tc .vmem S1040x2048 .bf16) (harg11 : arg11.IsWhole) (arg12 : Memref sig .tc .vmem S16x2048 .f32) (harg12 : arg12.IsWhole)
variable (x0 : Vec F S1024x2048 .f32) (x1 : Vec F S1x2048 .f32) (x2 : Vec F S1x2048 .f32) (x3 : Vec F S1x2048x256 .f32) (x4 : Vec F S1x2048x256 .f32) (x5 : Vec F S1x256x2048 .f32) (x6 : Vec F S16x2048 .f32) (o : Vec F S1024x2048 .f32) (u : Vec F S1040x2048 .bf16) (a : Vec F S16x2048 .f32)

/-- The seven operands the body reads, each at its contents. -/
def ins : sProp 𝕄 := iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6)

/-- The body takes the sums, the normalised rows and the extra rows' sums from `o`, `u`, `a` to `o'`, `u'`, `a'`, and one more
    assertion from `R` to `R'`. -/
def Steps (o' : Vec F S1024x2048 .f32) (u' : Vec F S1040x2048 .bf16) (a' : Vec F S16x2048 .f32) (R R' : sProp 𝕄) : Prop :=
  ∀ K : PUnit → sProp 𝕄,
    iprop(ins c arg2 arg3 arg4 arg5 arg6 arg7 arg8 x0 x1 x2 x3 x4 x5 x6
        ∗ owns (c : Thread nD τ) arg9 fullShare o ∗ owns (c : Thread nD τ) arg11 fullShare u ∗ owns (c : Thread nD τ) arg12 fullShare a ∗ R
        ∗ (iprop(ins c arg2 arg3 arg4 arg5 arg6 arg7 arg8 x0 x1 x2 x3 x4 x5 x6
          ∗ owns (c : Thread nD τ) arg9 fullShare o' ∗ owns (c : Thread nD τ) arg11 fullShare u' ∗ owns (c : Thread nD τ) arg12 fullShare a' ∗ R') -∗ K ⟨⟩))
      ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12) K
end

end Cert.Ffn3
end
-- ==== Proof.Ffn3.RunFirst.lean ====
/- The body at the points that normalise rows and at those that only add to the sums. -/
module

public import proofs.«01_k».proof.Proof.Ffn3.Kit

@[expose] public section
set_option maxRecDepth 16384
noncomputable section
namespace Cert.Ffn3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]
local notation "𝕄" => MT nD τ sig Unit (Elt F) ℕ (UR sig nD τ) ℕ
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S16x2048 .f32) (harg8 : arg8.IsWhole) (arg9 : Memref sig .tc .vmem S1024x2048 .f32) (harg9 : arg9.IsWhole) (arg10 : Memref sig .tc .vmem S16x2048 .f32) (harg10 : arg10.IsWhole) (arg11 : Memref sig .tc .vmem S1040x2048 .bf16) (harg11 : arg11.IsWhole) (arg12 : Memref sig .tc .vmem S16x2048 .f32) (harg12 : arg12.IsWhole)
variable (x0 : Vec F S1024x2048 .f32) (x1 : Vec F S1x2048 .f32) (x2 : Vec F S1x2048 .f32) (x3 : Vec F S1x2048x256 .f32) (x4 : Vec F S1x2048x256 .f32) (x5 : Vec F S1x256x2048 .f32) (x6 : Vec F S16x2048 .f32) (o : Vec F S1024x2048 .f32) (u : Vec F S1040x2048 .bf16) (a : Vec F S16x2048 .f32)

set_option maxHeartbeats 4000000 in
/-- The first point of the first row block. -/
theorem runA (hc1 : k0_cond1 i = 1#1) (hc2 : cond2 i = 1#1) (hc3 : k0_cond3 i = 1#1) (hc4 : ¬k0_cond4 i = 1#1) (hc5 : ¬k0_cond5 i = 1#1) (hc6 : ¬k0_cond6 i = 1#1) (R : sProp 𝕄) :
    Steps c i arg2 harg2 arg3 harg3 arg4 harg4 arg5 harg5 arg6 harg6 arg7 harg7 arg8 harg8 arg9 harg9 arg10 harg10 arg11 harg11 arg12 harg12 x0 x1 x2 x3 x4 x5 x6 o u a
      (k0_pay5 (both (pre x0 x1) (k0_pay2 x6 x1)) x3 x4 x5 k0_pay1) (both (pre x0 x1) (k0_pay2 x6 x1)) (k0_pay6 (both (pre x0 x1) (k0_pay2 x6 x1)) x3 x4 x5 k0_pay3)
      R R := by
  intro K
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold ins owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩, ⟨%fo, %eo, Ho⟩, ⟨%fu, %eu, Hu⟩, ⟨%fa, %ea, Ha⟩, HR, Hk⟩
  obtain rfl := harg2.eq_unread e0; obtain rfl := harg3.eq_unread e1; obtain rfl := harg4.eq_unread e2; obtain rfl := harg5.eq_unread e3; obtain rfl := harg6.eq_unread e4; obtain rfl := harg7.eq_unread e5; obtain rfl := harg8.eq_unread e6; obtain rfl := harg9.eq_unread eo; obtain rfl := harg11.eq_unread eu; obtain rfl := harg12.eq_unread ea
  sl_exec (disch := first | sl_exact hc1 | sl_exact hc2 | sl_exact hc3 | sl_exact hc4 | sl_exact hc5 | sl_exact hc6)
  sl_step
  have hc : ∀ y, ∃ p ∈ runA.sl.Hu_65 c arg2 harg2 arg3 harg3 arg8 harg8 x0 x1 x6, y ∈ p.1.set := View.cover_of_tiled _ ![16, 2048] (by rfl)
  have hu : ∀ y, View.canon (runA.sl.Hu_65 c arg2 harg2 arg3 harg3 arg8 harg8 x0 x1 x6) y = both (pre x0 x1) (k0_pay2 x6 x1) y := by
    intro y
    frame_open
    simp (disch := decide) only [View.ld_unit_lit', View.readAt_eq_ld, Memref.IsWhole.read_unread]
    canon_tiles y hk
    all_goals first
      | exact both_lo _ _ _ _ _ _ (by decide) (by decide) hk0 hk1
      | exact both_lo _ _ _ _ _ _ (by decide) (by decide) (hk0.trans (Nat.zero_add _).symm) hk1
      | exact both_hi _ _ _ _ hk0 hk1
  have hv : runA.sl.v22 c arg2 harg2 arg3 harg3 arg8 harg8 arg11 x0 x1 x6 = both (pre x0 x1) (k0_pay2 x6 x1) :=
    (View.readAt_full _ _ _).trans (funext fun y => (View.read_writes_apply_eq_canon _ _ y _ (hc y)).trans (hu y))
  iapply Hk
  isplitl [H0 H1 H2 H3 H4 H5 H6]
  · isplitl [H0]; · iexists _; isplitr; swap; (· iexact H0); ipureintro; exact harg2.read_unread _
    isplitl [H1]; · iexists _; isplitr; swap; (· iexact H1); ipureintro; exact harg3.read_unread _
    isplitl [H2]; · iexists _; isplitr; swap; (· iexact H2); ipureintro; exact harg4.read_unread _
    isplitl [H3]; · iexists _; isplitr; swap; (· iexact H3); ipureintro; exact harg5.read_unread _
    isplitl [H4]; · iexists _; isplitr; swap; (· iexact H4); ipureintro; exact harg6.read_unread _
    isplitl [H5]; · iexists _; isplitr; swap; (· iexact H5); ipureintro; exact harg7.read_unread _
    iexists _; isplitr; swap; (· iexact H6); ipureintro; exact harg8.read_unread _
  isplitl [Ho]
  · iexists _; isplitr; swap; · iexact Ho
    ipureintro; refine (View.read_writes_full _ _ _ _ _).trans ?_; rw [hv]; frame_open; simp (disch := decide) only [View.ld_unit_lit', View.readCov_unit_lit', View.readAt_eq_ld, Memref.IsWhole.read_unread]
  isplitl [Hu]
  · iexists _; isplitr; swap; · iexact Hu
    ipureintro; exact funext fun y => (View.read_writes_apply_eq_canon _ _ y _ (hc y)).trans (hu y)
  isplitl [Ha]
  · iexists _; isplitr; swap; · iexact Ha
    ipureintro; refine (View.read_writes_full _ _ _ _ _).trans ?_; rw [hv]; frame_open; simp (disch := decide) only [View.ld_unit_lit', View.readCov_unit_lit', View.readAt_eq_ld, Memref.IsWhole.read_unread]
  iexact HR

set_option maxHeartbeats 4000000 in
/-- A middle point of the first row block. -/
theorem runB (hc1 : ¬k0_cond1 i = 1#1) (hc2 : ¬cond2 i = 1#1) (hc3 : k0_cond3 i = 1#1) (hc4 : ¬k0_cond4 i = 1#1) (hc5 : ¬k0_cond5 i = 1#1) (hc6 : ¬k0_cond6 i = 1#1) (R : sProp 𝕄) :
    Steps c i arg2 harg2 arg3 harg3 arg4 harg4 arg5 harg5 arg6 harg6 arg7 harg7 arg8 harg8 arg9 harg9 arg10 harg10 arg11 harg11 arg12 harg12 x0 x1 x2 x3 x4 x5 x6 o u a
      (k0_pay5 u x3 x4 x5 o) u (k0_pay6 u x3 x4 x5 a)
      R R := by
  intro K
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold ins owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩, ⟨%fo, %eo, Ho⟩, ⟨%fu, %eu, Hu⟩, ⟨%fa, %ea, Ha⟩, HR, Hk⟩
  obtain rfl := harg2.eq_unread e0; obtain rfl := harg3.eq_unread e1; obtain rfl := harg4.eq_unread e2; obtain rfl := harg5.eq_unread e3; obtain rfl := harg6.eq_unread e4; obtain rfl := harg7.eq_unread e5; obtain rfl := harg8.eq_unread e6; obtain rfl := harg9.eq_unread eo; obtain rfl := harg11.eq_unread eu; obtain rfl := harg12.eq_unread ea
  sl_exec (disch := first | sl_exact hc1 | sl_exact hc2 | sl_exact hc3 | sl_exact hc4 | sl_exact hc5 | sl_exact hc6)
  sl_step
  iapply Hk
  isplitl [H0 H1 H2 H3 H4 H5 H6]
  · isplitl [H0]; · iexists _; isplitr; swap; (· iexact H0); ipureintro; exact harg2.read_unread _
    isplitl [H1]; · iexists _; isplitr; swap; (· iexact H1); ipureintro; exact harg3.read_unread _
    isplitl [H2]; · iexists _; isplitr; swap; (· iexact H2); ipureintro; exact harg4.read_unread _
    isplitl [H3]; · iexists _; isplitr; swap; (· iexact H3); ipureintro; exact harg5.read_unread _
    isplitl [H4]; · iexists _; isplitr; swap; (· iexact H4); ipureintro; exact harg6.read_unread _
    isplitl [H5]; · iexists _; isplitr; swap; (· iexact H5); ipureintro; exact harg7.read_unread _
    iexists _; isplitr; swap; (· iexact H6); ipureintro; exact harg8.read_unread _
  isplitl [Ho]
  · iexists _; isplitr; swap; · iexact Ho
    ipureintro; refine (View.read_writes_full _ _ _ _ _).trans ?_; simp (disch := decide) only [View.ld_unit_lit', View.readCov_unit_lit', View.readAt_eq_ld, Memref.IsWhole.read_unread]
  isplitl [Hu]
  · iexists _; isplitr; swap; · iexact Hu
    ipureintro; exact harg11.read_unread _
  isplitl [Ha]
  · iexists _; isplitr; swap; · iexact Ha
    ipureintro; refine (View.read_writes_full _ _ _ _ _).trans ?_; simp (disch := decide) only [View.ld_unit_lit', View.readCov_unit_lit', View.readAt_eq_ld, Memref.IsWhole.read_unread]
  iexact HR

set_option maxHeartbeats 4000000 in
/-- The first point of a later row block. -/
theorem runD (hc1 : k0_cond1 i = 1#1) (hc2 : ¬cond2 i = 1#1) (hc3 : ¬k0_cond3 i = 1#1) (hc4 : k0_cond4 i = 1#1) (hc5 : ¬k0_cond5 i = 1#1) (hc6 : ¬k0_cond6 i = 1#1) (R : sProp 𝕄) :
    Steps c i arg2 harg2 arg3 harg3 arg4 harg4 arg5 harg5 arg6 harg6 arg7 harg7 arg8 harg8 arg9 harg9 arg10 harg10 arg11 harg11 arg12 harg12 x0 x1 x2 x3 x4 x5 x6 o u a
      (k0_pay7 k0_pay1 (View.ld (both (pre x0 x1) (low u)) (Rect.unit ![0, 0] S1024x2048.size inb_S1040x2048_S1024x2048_0_0)) x3 x4 x5) (both (pre x0 x1) (low u)) a
      R R := by
  intro K
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold ins owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩, ⟨%fo, %eo, Ho⟩, ⟨%fu, %eu, Hu⟩, ⟨%fa, %ea, Ha⟩, HR, Hk⟩
  obtain rfl := harg2.eq_unread e0; obtain rfl := harg3.eq_unread e1; obtain rfl := harg4.eq_unread e2; obtain rfl := harg5.eq_unread e3; obtain rfl := harg6.eq_unread e4; obtain rfl := harg7.eq_unread e5; obtain rfl := harg8.eq_unread e6; obtain rfl := harg9.eq_unread eo; obtain rfl := harg11.eq_unread eu; obtain rfl := harg12.eq_unread ea
  sl_exec (disch := first | sl_exact hc1 | sl_exact hc2 | sl_exact hc3 | sl_exact hc4 | sl_exact hc5 | sl_exact hc6)
  sl_step
  have hc : ∀ y, ∃ p ∈ runD.sl.Hu_64 c arg2 harg2 arg3 harg3 x0 x1 ++ [lowPiece u], y ∈ p.1.set := View.cover_of_tiled _ ![16, 2048] (by rfl)
  have hu : ∀ y, View.canon (runD.sl.Hu_64 c arg2 harg2 arg3 harg3 x0 x1 ++ [lowPiece u]) y = both (pre x0 x1) (low u) y := by
    intro y
    frame_open
    simp (disch := decide) only [View.ld_unit_lit', View.readAt_eq_ld, Memref.IsWhole.read_unread, List.cons_append, List.nil_append]
    canon_tiles y hk
    all_goals first
      | exact both_lo _ _ _ _ _ _ (by decide) (by decide) hk0 hk1
      | exact both_lo _ _ _ _ _ _ (by decide) (by decide) (hk0.trans (Nat.zero_add _).symm) hk1
      | exact both_hi _ _ _ _ hk0 hk1
  have hl : ∀ y : S1040x2048.Idx, (y 0).val < 1024 → ∃ p ∈ runD.sl.Hu_64 c arg2 harg2 arg3 harg3 x0 x1, y ∈ p.1.set := fun y hy => by
    obtain ⟨p, hp, hm⟩ := hc y
    rcases List.mem_append.mp hp with hp | hp
    · exact ⟨p, hp, hm⟩
    · obtain rfl := List.mem_singleton.mp hp
      exact absurd hm (low_above y hy)
  have hv : runD.sl.v24 c arg2 harg2 arg3 harg3 arg11 x0 x1 = View.ld (both (pre x0 x1) (low u)) (Rect.unit ![0, 0] S1024x2048.size inb_S1040x2048_S1024x2048_0_0) :=
    funext fun j => (View.read_writes_apply_eq_canon _ _ _ _ (hl _ (top_row j))).trans ((canon_append _ _ _ (hl _ (top_row j))).symm.trans (hu _))
  iapply Hk
  isplitl [H0 H1 H2 H3 H4 H5 H6]
  · isplitl [H0]; · iexists _; isplitr; swap; (· iexact H0); ipureintro; exact harg2.read_unread _
    isplitl [H1]; · iexists _; isplitr; swap; (· iexact H1); ipureintro; exact harg3.read_unread _
    isplitl [H2]; · iexists _; isplitr; swap; (· iexact H2); ipureintro; exact harg4.read_unread _
    isplitl [H3]; · iexists _; isplitr; swap; (· iexact H3); ipureintro; exact harg5.read_unread _
    isplitl [H4]; · iexists _; isplitr; swap; (· iexact H4); ipureintro; exact harg6.read_unread _
    isplitl [H5]; · iexists _; isplitr; swap; (· iexact H5); ipureintro; exact harg7.read_unread _
    iexists _; isplitr; swap; (· iexact H6); ipureintro; exact harg8.read_unread _
  isplitl [Ho]
  · iexists _; isplitr; swap; · iexact Ho
    ipureintro; refine (View.read_writes_full _ _ _ _ _).trans ?_; rw [hv]; frame_open; simp (disch := decide) only [View.ld_unit_lit', View.readCov_unit_lit', View.readAt_eq_ld, Memref.IsWhole.read_unread]
  isplitl [Hu]
  · iexists _; isplitr; swap; · iexact Hu
    ipureintro; exact funext fun y => (read_writes_held _ _ (lowPiece u) (fun x => (congrFun (harg11.read_unread u) _).trans (low_held u x)) y _ (hc y)).trans (hu y)
  isplitl [Ha]
  · iexists _; isplitr; swap; · iexact Ha
    ipureintro; exact harg12.read_unread _
  iexact HR

set_option maxHeartbeats 4000000 in
/-- A middle point of a later row block. -/
theorem runE (hc1 : ¬k0_cond1 i = 1#1) (hc2 : ¬cond2 i = 1#1) (hc3 : ¬k0_cond3 i = 1#1) (hc4 : k0_cond4 i = 1#1) (hc5 : ¬k0_cond5 i = 1#1) (hc6 : ¬k0_cond6 i = 1#1) (R : sProp 𝕄) :
    Steps c i arg2 harg2 arg3 harg3 arg4 harg4 arg5 harg5 arg6 harg6 arg7 harg7 arg8 harg8 arg9 harg9 arg10 harg10 arg11 harg11 arg12 harg12 x0 x1 x2 x3 x4 x5 x6 o u a
      (k0_pay7 o (View.ld u (Rect.unit ![0, 0] S1024x2048.size inb_S1040x2048_S1024x2048_0_0)) x3 x4 x5) u a
      R R := by
  intro K
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold ins owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩, ⟨%fo, %eo, Ho⟩, ⟨%fu, %eu, Hu⟩, ⟨%fa, %ea, Ha⟩, HR, Hk⟩
  obtain rfl := harg2.eq_unread e0; obtain rfl := harg3.eq_unread e1; obtain rfl := harg4.eq_unread e2; obtain rfl := harg5.eq_unread e3; obtain rfl := harg6.eq_unread e4; obtain rfl := harg7.eq_unread e5; obtain rfl := harg8.eq_unread e6; obtain rfl := harg9.eq_unread eo; obtain rfl := harg11.eq_unread eu; obtain rfl := harg12.eq_unread ea
  sl_exec (disch := first | sl_exact hc1 | sl_exact hc2 | sl_exact hc3 | sl_exact hc4 | sl_exact hc5 | sl_exact hc6)
  sl_step
  iapply Hk
  isplitl [H0 H1 H2 H3 H4 H5 H6]
  · isplitl [H0]; · iexists _; isplitr; swap; (· iexact H0); ipureintro; exact harg2.read_unread _
    isplitl [H1]; · iexists _; isplitr; swap; (· iexact H1); ipureintro; exact harg3.read_unread _
    isplitl [H2]; · iexists _; isplitr; swap; (· iexact H2); ipureintro; exact harg4.read_unread _
    isplitl [H3]; · iexists _; isplitr; swap; (· iexact H3); ipureintro; exact harg5.read_unread _
    isplitl [H4]; · iexists _; isplitr; swap; (· iexact H4); ipureintro; exact harg6.read_unread _
    isplitl [H5]; · iexists _; isplitr; swap; (· iexact H5); ipureintro; exact harg7.read_unread _
    iexists _; isplitr; swap; (· iexact H6); ipureintro; exact harg8.read_unread _
  isplitl [Ho]
  · iexists _; isplitr; swap; · iexact Ho
    ipureintro; refine (View.read_writes_full _ _ _ _ _).trans ?_; simp (disch := decide) only [View.ld_unit_lit', View.readCov_unit_lit', View.readAt_eq_ld, Memref.IsWhole.read_unread]
  isplitl [Hu]
  · iexists _; isplitr; swap; · iexact Hu
    ipureintro; exact harg11.read_unread _
  isplitl [Ha]
  · iexists _; isplitr; swap; · iexact Ha
    ipureintro; exact harg12.read_unread _
  iexact HR

end Cert.Ffn3
end
-- ==== Proof.Ffn3.RunLast.lean ====
/- The body at the last point of each row block. -/
module

public import proofs.«01_k».proof.Proof.Ffn3.Kit

@[expose] public section
set_option maxRecDepth 16384
noncomputable section
namespace Cert.Ffn3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]
local notation "𝕄" => MT nD τ sig Unit (Elt F) ℕ (UR sig nD τ) ℕ
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S16x2048 .f32) (harg8 : arg8.IsWhole) (arg9 : Memref sig .tc .vmem S1024x2048 .f32) (harg9 : arg9.IsWhole) (arg10 : Memref sig .tc .vmem S16x2048 .f32) (harg10 : arg10.IsWhole) (arg11 : Memref sig .tc .vmem S1040x2048 .bf16) (harg11 : arg11.IsWhole) (arg12 : Memref sig .tc .vmem S16x2048 .f32) (harg12 : arg12.IsWhole)
variable (x0 : Vec F S1024x2048 .f32) (x1 : Vec F S1x2048 .f32) (x2 : Vec F S1x2048 .f32) (x3 : Vec F S1x2048x256 .f32) (x4 : Vec F S1x2048x256 .f32) (x5 : Vec F S1x256x2048 .f32) (x6 : Vec F S16x2048 .f32) (o : Vec F S1024x2048 .f32) (u : Vec F S1040x2048 .bf16) (a : Vec F S16x2048 .f32)

set_option maxHeartbeats 4000000 in
/-- The last point of the first row block, which also closes the extra rows. -/
theorem runC (hc1 : ¬k0_cond1 i = 1#1) (hc2 : ¬cond2 i = 1#1) (hc3 : k0_cond3 i = 1#1) (hc4 : ¬k0_cond4 i = 1#1) (hc5 : k0_cond5 i = 1#1) (hc6 : k0_cond6 i = 1#1) (q : Vec F S16x2048 .f32) :
    Steps c i arg2 harg2 arg3 harg3 arg4 harg4 arg5 harg5 arg6 harg6 arg7 harg7 arg8 harg8 arg9 harg9 arg10 harg10 arg11 harg11 arg12 harg12 x0 x1 x2 x3 x4 x5 x6 o u a
      (post x0 (k0_pay5 u x3 x4 x5 o) x2) u (k0_pay6 u x3 x4 x5 a)
      (owns (c : Thread nD τ) arg10 fullShare q) (owns (c : Thread nD τ) arg10 fullShare (k0_pay8 x6 (k0_pay6 u x3 x4 x5 a) x2)) := by
  intro K
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold ins owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩, ⟨%fo, %eo, Ho⟩, ⟨%fu, %eu, Hu⟩, ⟨%fa, %ea, Ha⟩, ⟨%fq, %eq, Hq⟩, Hk⟩
  obtain rfl := harg2.eq_unread e0; obtain rfl := harg3.eq_unread e1; obtain rfl := harg4.eq_unread e2; obtain rfl := harg5.eq_unread e3; obtain rfl := harg6.eq_unread e4; obtain rfl := harg7.eq_unread e5; obtain rfl := harg8.eq_unread e6; obtain rfl := harg9.eq_unread eo; obtain rfl := harg11.eq_unread eu; obtain rfl := harg12.eq_unread ea; obtain rfl := harg10.eq_unread eq
  sl_exec (disch := first | sl_exact hc1 | sl_exact hc2 | sl_exact hc3 | sl_exact hc4 | sl_exact hc5 | sl_exact hc6)
  sl_step
  iapply Hk
  isplitl [H0 H1 H2 H3 H4 H5 H6]
  · isplitl [H0]; · iexists _; isplitr; swap; (· iexact H0); ipureintro; exact harg2.read_unread _
    isplitl [H1]; · iexists _; isplitr; swap; (· iexact H1); ipureintro; exact harg3.read_unread _
    isplitl [H2]; · iexists _; isplitr; swap; (· iexact H2); ipureintro; exact harg4.read_unread _
    isplitl [H3]; · iexists _; isplitr; swap; (· iexact H3); ipureintro; exact harg5.read_unread _
    isplitl [H4]; · iexists _; isplitr; swap; (· iexact H4); ipureintro; exact harg6.read_unread _
    isplitl [H5]; · iexists _; isplitr; swap; (· iexact H5); ipureintro; exact harg7.read_unread _
    iexists _; isplitr; swap; (· iexact H6); ipureintro; exact harg8.read_unread _
  isplitl [Ho]
  · iexists _; isplitr; swap; · iexact Ho
    ipureintro
    frame_open
    simp (disch := decide) only [↓ View.readCov_skip, ↓ View.readCov_cons_toLoadRect, ↓ View.readCov_fill]
    simp (disch := decide) only [View.ld_unit_lit', View.readCov_unit_lit', View.readAt_eq_ld, Memref.IsWhole.read_unread]
    funext y
    refine (View.read_writes_apply_eq_canon _ _ y _ (cover_dropLast _ y (View.cover_of_tiled _ ![16, 2048] (by rfl) y))).trans ?_
    refine (canon_dropLast _ y (View.cover_of_tiled _ ![16, 2048] (by rfl) y)).trans ?_
    simp only [List.dropLast_cons₂, List.dropLast_singleton]
    canon_tiles y hk
    all_goals first
      | exact post_strip _ _ _ _ _ _ (by decide) hk0 hk1
      | exact post_strip _ _ _ _ _ _ (by decide) (hk0.trans (Nat.zero_add _).symm) hk1
  isplitl [Hu]
  · iexists _; isplitr; swap; · iexact Hu
    ipureintro; exact harg11.read_unread _
  isplitl [Ha]
  · iexists _; isplitr; swap; · iexact Ha
    ipureintro; frame_open; refine (View.read_writes_full _ _ _ _ _).trans ?_; simp (disch := decide) only [View.ld_unit_lit', View.readCov_unit_lit', View.readAt_eq_ld, Memref.IsWhole.read_unread]
  iexists _; isplitr; swap; · iexact Hq
  ipureintro; frame_open; refine (View.read_writes_full _ _ _ _ _).trans ?_; simp (disch := decide) only [View.ld_unit_lit', View.readCov_unit_lit', View.readAt_eq_ld, Memref.IsWhole.read_unread]

set_option maxHeartbeats 4000000 in
/-- The last point of a later row block. -/
theorem runG (hc1 : ¬k0_cond1 i = 1#1) (hc2 : ¬cond2 i = 1#1) (hc3 : ¬k0_cond3 i = 1#1) (hc4 : k0_cond4 i = 1#1) (hc5 : ¬k0_cond5 i = 1#1) (hc6 : k0_cond6 i = 1#1) (R : sProp 𝕄) :
    Steps c i arg2 harg2 arg3 harg3 arg4 harg4 arg5 harg5 arg6 harg6 arg7 harg7 arg8 harg8 arg9 harg9 arg10 harg10 arg11 harg11 arg12 harg12 x0 x1 x2 x3 x4 x5 x6 o u a
      (post x0 (k0_pay7 o (View.ld u (Rect.unit ![0, 0] S1024x2048.size inb_S1040x2048_S1024x2048_0_0)) x3 x4 x5) x2) u a
      R R := by
  intro K
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold ins owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩, ⟨%fo, %eo, Ho⟩, ⟨%fu, %eu, Hu⟩, ⟨%fa, %ea, Ha⟩, HR, Hk⟩
  obtain rfl := harg2.eq_unread e0; obtain rfl := harg3.eq_unread e1; obtain rfl := harg4.eq_unread e2; obtain rfl := harg5.eq_unread e3; obtain rfl := harg6.eq_unread e4; obtain rfl := harg7.eq_unread e5; obtain rfl := harg8.eq_unread e6; obtain rfl := harg9.eq_unread eo; obtain rfl := harg11.eq_unread eu; obtain rfl := harg12.eq_unread ea
  sl_exec (disch := first | sl_exact hc1 | sl_exact hc2 | sl_exact hc3 | sl_exact hc4 | sl_exact hc5 | sl_exact hc6)
  sl_step
  iapply Hk
  isplitl [H0 H1 H2 H3 H4 H5 H6]
  · isplitl [H0]; · iexists _; isplitr; swap; (· iexact H0); ipureintro; exact harg2.read_unread _
    isplitl [H1]; · iexists _; isplitr; swap; (· iexact H1); ipureintro; exact harg3.read_unread _
    isplitl [H2]; · iexists _; isplitr; swap; (· iexact H2); ipureintro; exact harg4.read_unread _
    isplitl [H3]; · iexists _; isplitr; swap; (· iexact H3); ipureintro; exact harg5.read_unread _
    isplitl [H4]; · iexists _; isplitr; swap; (· iexact H4); ipureintro; exact harg6.read_unread _
    isplitl [H5]; · iexists _; isplitr; swap; (· iexact H5); ipureintro; exact harg7.read_unread _
    iexists _; isplitr; swap; (· iexact H6); ipureintro; exact harg8.read_unread _
  isplitl [Ho]
  · iexists _; isplitr; swap; · iexact Ho
    ipureintro
    frame_open
    simp (disch := decide) only [↓ View.readCov_skip, ↓ View.readCov_cons_toLoadRect, ↓ View.readCov_fill]
    simp (disch := decide) only [View.ld_unit_lit', View.readCov_unit_lit', View.readAt_eq_ld, Memref.IsWhole.read_unread]
    funext y
    refine (View.read_writes_apply_eq_canon _ _ y _ (cover_dropLast _ y (View.cover_of_tiled _ ![16, 2048] (by rfl) y))).trans ?_
    refine (canon_dropLast _ y (View.cover_of_tiled _ ![16, 2048] (by rfl) y)).trans ?_
    simp only [List.dropLast_cons₂, List.dropLast_singleton]
    canon_tiles y hk
    all_goals first
      | exact post_strip _ _ _ _ _ _ (by decide) hk0 hk1
      | exact post_strip _ _ _ _ _ _ (by decide) (hk0.trans (Nat.zero_add _).symm) hk1
  isplitl [Hu]
  · iexists _; isplitr; swap; · iexact Hu
    ipureintro; exact harg11.read_unread _
  isplitl [Ha]
  · iexists _; isplitr; swap; · iexact Ha
    ipureintro; exact harg12.read_unread _
  iexact HR

end Cert.Ffn3
end
-- ==== Proof.Ffn3.Frame.lean ====
/- What the call's buffers hold after each point, and its frame: it runs to the end, and its arguments end unchanged. -/
module

public import proofs.«01_k».proof.Proof.Ffn3.RunFirst
public import proofs.«01_k».proof.Proof.Ffn3.RunLast

@[expose] public section
set_option maxRecDepth 16384
noncomputable section
namespace Cert.Ffn3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

theorem hs0 (t : Fin cfg0.N) : (ms0 t).IsWhole := hstage0_0 ((cfg0.slots t 0).cast nbuf0_0)
theorem hs1 (t : Fin cfg0.N) : (ms1 t).IsWhole := hstage0_1 ((cfg0.slots t 1).cast nbuf0_1)
theorem hs2 (t : Fin cfg0.N) : (ms2 t).IsWhole := hstage0_2 ((cfg0.slots t 2).cast nbuf0_2)
theorem hs3 (t : Fin cfg0.N) : (ms3 t).IsWhole := hstage0_3 ((cfg0.slots t 3).cast nbuf0_3)
theorem hs4 (t : Fin cfg0.N) : (ms4 t).IsWhole := hstage0_4 ((cfg0.slots t 4).cast nbuf0_4)
theorem hs5 (t : Fin cfg0.N) : (ms5 t).IsWhole := hstage0_5 ((cfg0.slots t 5).cast nbuf0_5)
theorem hs6 (t : Fin cfg0.N) : (ms6 t).IsWhole := hstage0_6 ((cfg0.slots t 6).cast nbuf0_6)
theorem hs7 (t : Fin cfg0.N) : (ms7 t).IsWhole := hstage0_7 ((cfg0.slots t 7).cast nbuf0_7)
theorem hs8 (t : Fin cfg0.N) : (ms8 t).IsWhole := hstage0_8 ((cfg0.slots t 8).cast nbuf0_8)
abbrev X0 (c : Dev nD) (t : Fin cfg0.N) : Vec F S1024x2048 .f32 := iblk m c 0 t
abbrev X1 (c : Dev nD) (t : Fin cfg0.N) : Vec F S1x2048 .f32 := iblk m c 1 t
abbrev X2 (c : Dev nD) (t : Fin cfg0.N) : Vec F S1x2048 .f32 := iblk m c 2 t
abbrev X3 (c : Dev nD) (t : Fin cfg0.N) : Vec F S1x2048x256 .f32 := iblk m c 3 t
abbrev X4 (c : Dev nD) (t : Fin cfg0.N) : Vec F S1x2048x256 .f32 := iblk m c 4 t
abbrev X5 (c : Dev nD) (t : Fin cfg0.N) : Vec F S1x256x2048 .f32 := iblk m c 5 t
abbrev X6 (c : Dev nD) (t : Fin cfg0.N) : Vec F S16x2048 .f32 := iblk m c 6 t

/-- The block's rows of the normalised rows. -/
abbrev top (u : Vec F S1040x2048 .bf16) : Vec F S1024x2048 .bf16 := View.ld u (Rect.unit ![0, 0] S1024x2048.size inb_S1040x2048_S1024x2048_0_0)

/-- What point `p` leaves in the sums, the normalised rows and the extra rows' sums, where the point before left `s`. -/
def step (c : Dev nD) (t : Fin cfg0.N) (s : Vec F S1024x2048 .f32 × Vec F S1040x2048 .bf16 × Vec F S16x2048 .f32) : Vec F S1024x2048 .f32 × Vec F S1040x2048 .bf16 × Vec F S16x2048 .f32 :=
  if t.val = 0 then (k0_pay5 (both (pre (X0 m c t) (X1 m c t)) (k0_pay2 (X6 m c t) (X1 m c t))) (X3 m c t) (X4 m c t) (X5 m c t) k0_pay1, both (pre (X0 m c t) (X1 m c t)) (k0_pay2 (X6 m c t) (X1 m c t)), k0_pay6 (both (pre (X0 m c t) (X1 m c t)) (k0_pay2 (X6 m c t) (X1 m c t))) (X3 m c t) (X4 m c t) (X5 m c t) k0_pay3)
  else if t.val < 21 then (k0_pay5 s.2.1 (X3 m c t) (X4 m c t) (X5 m c t) s.1, s.2.1, k0_pay6 s.2.1 (X3 m c t) (X4 m c t) (X5 m c t) s.2.2)
  else if t.val = 21 then (post (X0 m c t) (k0_pay5 s.2.1 (X3 m c t) (X4 m c t) (X5 m c t) s.1) (X2 m c t), s.2.1, k0_pay6 s.2.1 (X3 m c t) (X4 m c t) (X5 m c t) s.2.2)
  else if t.val % 22 = 0 then (k0_pay7 k0_pay1 (top (both (pre (X0 m c t) (X1 m c t)) (low s.2.1))) (X3 m c t) (X4 m c t) (X5 m c t), both (pre (X0 m c t) (X1 m c t)) (low s.2.1), s.2.2)
  else if t.val % 22 = 21 then (post (X0 m c t) (k0_pay7 s.1 (top s.2.1) (X3 m c t) (X4 m c t) (X5 m c t)) (X2 m c t), s.2.1, s.2.2)
  else (k0_pay7 s.1 (top s.2.1) (X3 m c t) (X4 m c t) (X5 m c t), s.2.1, s.2.2)

/-- What the buffers hold after point `n`. -/
def st (c : Dev nD) : (n : ℕ) → n < cfg0.N → Vec F S1024x2048 .f32 × Vec F S1040x2048 .bf16 × Vec F S16x2048 .f32
  | 0, hn => step m c ⟨0, hn⟩ (k0_pay1, fun _ => FloatOps.ofBits .bf16 0, k0_pay3)
  | n + 1, hn => step m c ⟨n + 1, hn⟩ (st c n (Nat.lt_of_succ_lt hn))

/-- What the point before `t` left. -/
abbrev prev (c : Dev nD) (t : Fin cfg0.N) : Vec F S1024x2048 .f32 × Vec F S1040x2048 .bf16 × Vec F S16x2048 .f32 := st m c (t.val - 1) (Nat.lt_of_le_of_lt (Nat.sub_le _ _) t.isLt)

theorem st_pos (c : Dev nD) (t : Fin cfg0.N) (h : t.val ≠ 0) : st m c t.val t.isLt = step m c t (prev m c t) := by
  obtain ⟨n, hn⟩ := t
  cases n with
  | zero => exact absurd rfl h
  | succ n => rfl
theorem st_zero (c : Dev nD) (t : Fin cfg0.N) (h : t.val = 0) : ∃ s, st m c t.val t.isLt = step m c t s := by
  obtain ⟨n, hn⟩ := t
  obtain rfl : n = 0 := h
  exact ⟨_, rfl⟩

/-- The last point of the first row block. -/
def t21 : Fin cfg0.N := ⟨21, by decide⟩
/-- The extra rows' result, stored there. -/
def extra (c : Dev nD) : Vec F S16x2048 .f32 := k0_pay8 (X6 m c t21) (st m c 21 t21.isLt).2.2 (X2 m c t21)

/-- What is held between points: the two buffers at what the point before left, and the generator's register. -/
def PhiS (c : Dev nD) : (n : ℕ) → n ≤ cfg0.N → sProp 𝕄
  | 0, _ => Pipeline.ΦA spec0 c
  | n + 1, hn => iprop(owns (c : Thread nD τ) scU fullShare (st m c n hn).2.1 ∗ owns (c : Thread nD τ) scA fullShare (st m c n hn).2.2 ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (st m c t.val t.isLt).1
    | ⟨8, _⟩ => extra m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = X0 m c t := by dsimp only [dats]
theorem after1 (c : Dev nD) (t : Fin cfg0.N) : (dats m 0 c).after 1 t = X1 m c t := by dsimp only [dats]
theorem after2 (c : Dev nD) (t : Fin cfg0.N) : (dats m 0 c).after 2 t = X2 m c t := by dsimp only [dats]
theorem after3 (c : Dev nD) (t : Fin cfg0.N) : (dats m 0 c).after 3 t = X3 m c t := by dsimp only [dats]
theorem after4 (c : Dev nD) (t : Fin cfg0.N) : (dats m 0 c).after 4 t = X4 m c t := by dsimp only [dats]
theorem after5 (c : Dev nD) (t : Fin cfg0.N) : (dats m 0 c).after 5 t = X5 m c t := by dsimp only [dats]
theorem after6 (c : Dev nD) (t : Fin cfg0.N) : (dats m 0 c).after 6 t = X6 m c t := by dsimp only [dats]
theorem after7 (c : Dev nD) (t : Fin cfg0.N) : (dats m 0 c).after 7 t = (st m c t.val t.isLt).1 := by dsimp only [dats]
theorem after8 (c : Dev nD) (t : Fin cfg0.N) : (dats m 0 c).after 8 t = extra m c := by dsimp only [dats]

theorem before0 (c : Dev nD) (t : Fin cfg0.N) (d) : (dats m 0 c).before 0 t d = X0 m c t :=
  ((dats m 0 c).before_in_eq_fetched 0 rfl (fun _ => rfl) (fun _ _ _ => rfl) (fun t => by rw [after0]; unfold Dat.blockOf X0 iblk; rw [A_eq]; try rfl) t d).trans
    (by unfold Dat.fetched Dat.blockOf X0 iblk; rw [A_eq]; try rfl)
theorem before1 (c : Dev nD) (t : Fin cfg0.N) (d) : (dats m 0 c).before 1 t d = X1 m c t :=
  ((dats m 0 c).before_in_eq_fetched 1 rfl (fun _ => rfl) (fun _ _ _ => rfl) (fun t => by rw [after1]; unfold Dat.blockOf X1 iblk; rw [A_eq]; try rfl) t d).trans
    (by unfold Dat.fetched Dat.blockOf X1 iblk; rw [A_eq]; try rfl)
theorem before2 (c : Dev nD) (t : Fin cfg0.N) (d) : (dats m 0 c).before 2 t d = X2 m c t :=
  ((dats m 0 c).before_in_eq_fetched 2 rfl (fun _ => rfl) (fun _ _ _ => rfl) (fun t => by rw [after2]; unfold Dat.blockOf X2 iblk; rw [A_eq]; try rfl) t d).trans
    (by unfold Dat.fetched Dat.blockOf X2 iblk; rw [A_eq]; try rfl)
theorem before3 (c : Dev nD) (t : Fin cfg0.N) (d) : (dats m 0 c).before 3 t d = X3 m c t :=
  ((dats m 0 c).before_in_eq_fetched 3 rfl (fun _ => rfl) (fun _ _ _ => rfl) (fun t => by rw [after3]; unfold Dat.blockOf X3 iblk; rw [A_eq]; try rfl) t d).trans
    (by unfold Dat.fetched Dat.blockOf X3 iblk; rw [A_eq]; try rfl)
theorem before4 (c : Dev nD) (t : Fin cfg0.N) (d) : (dats m 0 c).before 4 t d = X4 m c t :=
  ((dats m 0 c).before_in_eq_fetched 4 rfl (fun _ => rfl) (fun _ _ _ => rfl) (fun t => by rw [after4]; unfold Dat.blockOf X4 iblk; rw [A_eq]; try rfl) t d).trans
    (by unfold Dat.fetched Dat.blockOf X4 iblk; rw [A_eq]; try rfl)
theorem before5 (c : Dev nD) (t : Fin cfg0.N) (d) : (dats m 0 c).before 5 t d = X5 m c t :=
  ((dats m 0 c).before_in_eq_fetched 5 rfl (fun _ => rfl) (fun _ _ _ => rfl) (fun t => by rw [after5]; unfold Dat.blockOf X5 iblk; rw [A_eq]; try rfl) t d).trans
    (by unfold Dat.fetched Dat.blockOf X5 iblk; rw [A_eq]; try rfl)
theorem before6 (c : Dev nD) (t : Fin cfg0.N) (d) : (dats m 0 c).before 6 t d = X6 m c t :=
  ((dats m 0 c).before_in_eq_fetched 6 rfl (fun _ => rfl) (fun _ _ _ => rfl) (fun t => by rw [after6]; unfold Dat.blockOf X6 iblk; rw [A_eq]; try rfl) t d).trans
    (by unfold Dat.fetched Dat.blockOf X6 iblk; rw [A_eq]; try rfl)

/-- What a point that stores a window leaves the next one. -/
theorem left_live (c : Dev nD) (w : Fin cfg0.W) (t : Fin cfg0.N) (hi : cfg0.idle w (cfg0.grid.coords t) = false)
    (hclip : ∀ a, (cfg0.win w).clip (cfg0.grid.coords t) a = none) (d) : (dats m 0 c).left w t d = (dats m 0 c).after w t := by
  unfold Dat.left
  rw [hi]
  show (dats m 0 c).kept w t d = _
  unfold Dat.kept
  rw [Pipeline.fill_of_clip_none w _ hclip d ((dats m 0 c).after w t), Window.fill_cut]

theorem before7 (c : Dev nD) (t : Fin cfg0.N) (h : ¬t.val % 22 = 0) (d) : (dats m 0 c).before 7 t d = (prev m c t).1 := by
  have hN := lt176 t
  rw [(dats m 0 c).before_of_pos 7 t (by omega) (Window.fetch_out _ rfl t) d,
    if_neg (fun e => by have := (flush0_7 _).mp e; dsimp only at this; omega), left_live m c 7 _ (idle7 _) (fun _ => rfl) d, after7]

/-- After the point that stores it, the extra rows' buffer holds the extra rows' result. -/
theorem before8 (c : Dev nD) : ∀ (n : ℕ) (hn : n < cfg0.N) (_ : 21 < n) (d), (dats m 0 c).before 8 ⟨n, hn⟩ d = extra m c
  | 0, hn, h, d => absurd h (by omega)
  | n + 1, hn, h, d => by
    have hN : n + 1 < 176 := hn
    rw [(dats m 0 c).before_of_pos 8 ⟨n + 1, hn⟩ (Nat.succ_ne_zero n) (Window.fetch_out _ rfl _) d,
      if_neg (fun e => by have := (flush0_8 _).mp e; dsimp only at this; omega)]
    by_cases h1 : n = 21
    · rw [left_live m c 8 _ (live8 _ h1) (fun _ => rfl) d, after8]
    · have hi := idle8 (⟨n, Nat.lt_of_succ_lt hn⟩ : Fin cfg0.N) h1
      have : (dats m 0 c).left 8 ⟨n, Nat.lt_of_succ_lt hn⟩ d = (dats m 0 c).before 8 ⟨n, Nat.lt_of_succ_lt hn⟩ d := by
        unfold Dat.left
        rw [hi]
      exact this.trans (before8 c n _ (by omega) d)

/-- At the other points the extra rows' buffer is as it was. -/
theorem keep8 (c : Dev nD) (t : Fin cfg0.N) (h : t.val ≠ 21) (d) :
    owns (c : Thread nD τ) (ms8 t) fullShare ((dats m 0 c).before 8 t d) ⊢ (dats m 0 c).leavesExact 8 t := by
  have hN := lt176 t
  cases hf : (cfg0.win 8).flush t with
  | false =>
    rw [Dat.leavesExact_idle (dats m 0 c) 8 t (idle8 t h) hf]
    iintro H
    iexists d
    iexact H
  | true =>
    have h1 := (flush0_8 t).mp hf
    rw [before8 m c t.val t.isLt (by omega) d]
    unfold Dat.leavesExact
    rw [idle8 t h, hf, after8]
theorem live_post (c : Dev nD) (w : Fin cfg0.W) (t : Fin cfg0.N) (h : cfg0.idle w (cfg0.grid.coords t) = false) (hl : cfg0.loose w = false) :
    (dats m 0 c).leavesExact w t = owns (c : Thread nD τ) ((cfg0.win w).stage (cfg0.slots t w)) fullShare ((dats m 0 c).after w t) := by
  unfold Dat.leavesExact
  rw [h]

theorem extra_at (c : Dev nD) (t : Fin cfg0.N) (h : t.val = 21) : extra m c = k0_pay8 (X6 m c t) (st m c t.val t.isLt).2.2 (X2 m c t) := by
  obtain rfl : t = t21 := Fin.ext h
  rfl

/-- Every point takes what the point before left to what it leaves itself, and the extra rows' buffer to what the pipeline expects. -/
theorem point (c : Dev nD) (t : Fin cfg0.N) (d7) (d8) (u : Vec F S1040x2048 .bf16) (a : Vec F S16x2048 .f32)
    (hp : t.val ≠ 0 → u = (prev m c t).2.1 ∧ a = (prev m c t).2.2) :
    ∃ q : Vec F S16x2048 .f32, (owns (c : Thread nD τ) (ms8 t) fullShare q ⊢ (dats m 0 c).leavesExact 8 t)
      ∧ Steps c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scU (Memref.isWhole_whole _) scA (Memref.isWhole_whole _) (X0 m c t) (X1 m c t) (X2 m c t) (X3 m c t) (X4 m c t) (X5 m c t) (X6 m c t) ((dats m 0 c).before 7 t d7) u a
          (st m c t.val t.isLt).1 (st m c t.val t.isLt).2.1 (st m c t.val t.isLt).2.2
          (owns (c : Thread nD τ) (ms8 t) fullShare ((dats m 0 c).before 8 t d8)) (owns (c : Thread nD τ) (ms8 t) fullShare q) := by
  have hN := lt176 t
  obtain ⟨h1, h2, h3, h4, h5, h6⟩ := conds t
  by_cases hz : t.val = 0
  · obtain ⟨s, hs⟩ := st_zero m c t hz
    refine ⟨_, keep8 m c t (by omega) d8, ?_⟩
    rw [hs, step, if_pos hz]
    exact runA c _ _ _ _ _ _ _ _ _ _ _ _ _ _ _ _ _ _ _ _ _ _ _ (X0 m c t) (X1 m c t) (X2 m c t) (X3 m c t) (X4 m c t) (X5 m c t) (X6 m c t) _ u a (h1.mpr (by omega)) (h2.mpr hz) (h3.mpr (by omega)) (fun e => absurd (h4.mp e) (by omega)) (fun e => absurd (h5.mp e) (by omega)) (fun e => absurd (h6.mp e) (by omega)) _
  obtain ⟨rfl, rfl⟩ := hp hz
  rw [st_pos m c t hz, step, if_neg hz]
  by_cases hb : t.val < 21
  · refine ⟨_, keep8 m c t (by omega) d8, ?_⟩
    rw [if_pos hb, before7 m c t (by omega)]
    exact runB c _ _ _ _ _ _ _ _ _ _ _ _ _ _ _ _ _ _ _ _ _ _ _ (X0 m c t) (X1 m c t) (X2 m c t) (X3 m c t) (X4 m c t) (X5 m c t) (X6 m c t) _ _ _ (fun e => absurd (h1.mp e) (by omega)) (fun e => absurd (h2.mp e) (by omega)) (h3.mpr (by omega)) (fun e => absurd (h4.mp e) (by omega)) (fun e => absurd (h5.mp e) (by omega)) (fun e => absurd (h6.mp e) (by omega)) _
  rw [if_neg hb]
  by_cases hc : t.val = 21
  · have e : (st m c t.val t.isLt).2.2 = k0_pay6 (prev m c t).2.1 (X3 m c t) (X4 m c t) (X5 m c t) (prev m c t).2.2 := by
      rw [st_pos m c t hz, step, if_neg hz, if_neg hb, if_pos hc]
    refine ⟨extra m c, by rw [live_post m c 8 t (live8 t hc) rfl, after8], ?_⟩
    rw [if_pos hc, before7 m c t (by omega), extra_at m c t hc, e]
    exact runC c _ _ _ _ _ _ _ _ _ _ _ _ _ _ _ _ _ _ _ _ _ _ _ (X0 m c t) (X1 m c t) (X2 m c t) (X3 m c t) (X4 m c t) (X5 m c t) (X6 m c t) _ _ _ (fun e => absurd (h1.mp e) (by omega)) (fun e => absurd (h2.mp e) (by omega)) (h3.mpr (by omega)) (fun e => absurd (h4.mp e) (by omega)) (h5.mpr (by omega)) (h6.mpr (by omega)) _
  rw [if_neg hc]
  by_cases hd : t.val % 22 = 0
  · refine ⟨_, keep8 m c t hc d8, ?_⟩
    rw [if_pos hd]
    exact runD c _ _ _ _ _ _ _ _ _ _ _ _ _ _ _ _ _ _ _ _ _ _ _ (X0 m c t) (X1 m c t) (X2 m c t) (X3 m c t) (X4 m c t) (X5 m c t) (X6 m c t) _ _ _ (h1.mpr (by omega)) (fun e => absurd (h2.mp e) (by omega)) (fun e => absurd (h3.mp e) (by omega)) (h4.mpr (by omega)) (fun e => absurd (h5.mp e) (by omega)) (fun e => absurd (h6.mp e) (by omega)) _
  rw [if_neg hd, before7 m c t hd]
  refine ⟨_, keep8 m c t hc d8, ?_⟩
  by_cases hg : t.val % 22 = 21
  · rw [if_pos hg]
    exact runG c _ _ _ _ _ _ _ _ _ _ _ _ _ _ _ _ _ _ _ _ _ _ _ (X0 m c t) (X1 m c t) (X2 m c t) (X3 m c t) (X4 m c t) (X5 m c t) (X6 m c t) _ _ _ (fun e => absurd (h1.mp e) (by omega)) (fun e => absurd (h2.mp e) (by omega)) (fun e => absurd (h3.mp e) (by omega)) (h4.mpr (by omega)) (fun e => absurd (h5.mp e) (by omega)) (h6.mpr (by omega)) _
  rw [if_neg hg]
  exact runE c _ _ _ _ _ _ _ _ _ _ _ _ _ _ _ _ _ _ _ _ _ _ _ (X0 m c t) (X1 m c t) (X2 m c t) (X3 m c t) (X4 m c t) (X5 m c t) (X6 m c t) _ _ _ (fun e => absurd (h1.mp e) (by omega)) (fun e => absurd (h2.mp e) (by omega)) (fun e => absurd (h3.mp e) (by omega)) (h4.mpr (by omega)) (fun e => absurd (h5.mp e) (by omega)) (fun e => absurd (h6.mp e) (by omega)) _

/-- What is held before a point. -/
theorem PhiS_open (c : Dev nD) (t : Fin cfg0.N) : PhiS m c t.val (Nat.le_of_lt t.isLt)
    ⊢ iprop(∃ u, ∃ a, ⌜t.val ≠ 0 → u = (prev m c t).2.1 ∧ a = (prev m c t).2.2⌝
      ∗ owns (c : Thread nD τ) scU fullShare u ∗ owns (c : Thread nD τ) scA fullShare a ∗ (∃ r, prngReg c r)) := by
  obtain ⟨n, hn⟩ := t
  cases n with
  | zero =>
    rw [show PhiS m c (⟨0, hn⟩ : Fin cfg0.N).val (Nat.le_of_lt hn) = Pipeline.ΦA spec0 c from rfl, PhiA0_eq]
    iintro ⟨⟨⟨%u, Hu⟩, ⟨%a, Ha⟩⟩, Hg⟩
    iexists u; iexists a
    isplitr; · ipureintro; exact fun h => absurd rfl h
    isplitl [Hu]; · iexact Hu
    isplitl [Ha]; · iexact Ha
    iexact Hg
  | succ n =>
    rw [show PhiS m c (⟨n + 1, hn⟩ : Fin cfg0.N).val (Nat.le_of_lt hn) = iprop(owns (c : Thread nD τ) scU fullShare (st m c n (Nat.lt_of_succ_lt hn)).2.1
      ∗ owns (c : Thread nD τ) scA fullShare (st m c n (Nat.lt_of_succ_lt hn)).2.2 ∗ (∃ r, prngReg c r)) from rfl]
    iintro ⟨Hu, Ha, Hg⟩
    iexists _; iexists _
    isplitr; swap
    · isplitl [Hu]; · iexact Hu
      isplitl [Ha]; · iexact Ha
      iexact Hg
    ipureintro; exact fun _ => ⟨rfl, rfl⟩

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    show (dats m 0 c).Φ t.succ = iprop(owns (c : Thread nD τ) scU fullShare (st m c t.val t.isLt).2.1
      ∗ owns (c : Thread nD τ) scA fullShare (st m c t.val t.isLt).2.2 ∗ (∃ r, prngReg c r)) from rfl, PhiS_castSucc,
    live_post m c 0 t rfl rfl, after0, live_post m c 1 t rfl rfl, after1, live_post m c 2 t rfl rfl, after2, live_post m c 3 t rfl rfl, after3, live_post m c 4 t rfl rfl, after4, live_post m c 5 t rfl rfl, after5, live_post m c 6 t rfl rfl, after6, live_post m c 7 t (idle7 t) rfl, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HΦ' := (PhiS_open m c t) $$ HΦ
  icases HΦ' with ⟨%u, %a, %hp, Hu, Ha, Hg⟩
  obtain ⟨q, hq, hs⟩ := point m c t d7 d8 u a hp
  iapply (hs _)
  unfold ins
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [Hu]; · iexact Hu
  isplitl [Ha]; · iexact Ha
  isplitl [H8]; · iexact H8
  iintro ⟨⟨H0, H1, H2, H3, H4, H5, H6⟩, H7, Hu, Ha, H8⟩
  isplitl [Hu Ha Hg]
  · isplitl [Hu]; · iexact Hu
    isplitl [Ha]; · iexact Ha
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply hq; iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Entails.refl _

theorem hout (c : Dev nD) : (dats m 0 c).Φ (Fin.last cfg0.N) ⊢ Pipeline.ΦA spec0 c := by
  rw [show (dats m 0 c).Φ (Fin.last cfg0.N) = iprop(owns (c : Thread nD τ) scU fullShare (st m c 175 (by decide)).2.1
    ∗ owns (c : Thread nD τ) scA fullShare (st m c 175 (by decide)).2.2 ∗ (∃ r, prngReg c r)) from rfl, PhiA0_eq]
  iintro ⟨Hu, Ha, Hg⟩
  isplitl [Hu Ha]
  · isplitl [Hu]
    · iexists _; iexact Hu
    iexists _; iexact Ha
  iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments' contents at the end. -/
def Kept (c : Dev nD) (r : PUnit × MemSt nD τ sig (Elt F)) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem kept (r : PUnit × MemSt nD τ sig (Elt F)) (h : Pipeline.FramePost cfgs (dats m) 0 (V m) r) (c : Dev nD) : Kept m c r := by
  obtain ⟨a0, a1, a2, a3, a4, a5, a6⟩ := V_args m c
  exact ⟨((h c).2 main_arg0 (Pipeline.mem_restRefs_of main_arg0 (by decide) (by decide))).trans a0,
    ((h c).1 6).trans (((dats m 0 c).arrAt_in 6 rfl _).trans ((A_eq m c 6).trans a1)),
    ((h c).2 main_arg2 (Pipeline.mem_restRefs_of main_arg2 (by decide) (by decide))).trans a2,
    ((h c).2 main_arg3 (Pipeline.mem_restRefs_of main_arg3 (by decide) (by decide))).trans a3,
    ((h c).1 3).trans (((dats m 0 c).arrAt_in 3 rfl _).trans ((A_eq m c 3).trans a4)),
    ((h c).1 4).trans (((dats m 0 c).arrAt_in 4 rfl _).trans ((A_eq m c 4).trans a5)),
    ((h c).1 5).trans (((dats m 0 c).arrAt_in 5 rfl _).trans ((A_eq m c 5).trans a6))⟩

/-- The frame. -/
theorem frame : θ_run defs (onTc (τ := τ) (main (F := F))) ⟨m, fun _ => 0, ρ⟩ (fun r => (∀ c : Dev nD, Kept m c r) ∧ r.2.sem = fun _ => 0) :=
  (θ_run defs _ _).mono (fun r h => ⟨fun c => kept m r h.1 c, h.2⟩) (run_quiescent m ρ)

end Cert.Ffn3
end
-- ==== Proof.Ffn3.Same.lean ====
/- The call and its idealized form have the same text, so one run serves both frames. -/
module

public import proofs.«01_k».proof.Defs
public import proofs.«01_k».proof.Proof.Gen.Kernel3
public import proofs.«01_k».proof.Proof.Ffn3.Frame

@[expose] public section
set_option maxRecDepth 65536
namespace Cert.Ffn3
open Idealize.ShloMosaic Idealize.SL.Sem

section
variable {F : FTy → Type} [FloatOps F] [Cert.Kernel3.Facts] [Cert.Kernel3Ideal.Facts]

theorem body_same : @Cert.Kernel3.cc0_ffn F _ _ = @Cert.Kernel3Ideal.cc0_ffn F _ _ := rfl

theorem bodies_same : @Cert.Kernel3.defs₀ F _ _ = @Cert.Kernel3Ideal.defs₀ F _ _ := by
  funext pr l a
  cases pr with
  | tc =>
    obtain rfl : l = (0 : Fin 1) := Subsingleton.elim (α := Fin 1) _ _
    obtain ⟨t, s⟩ := a
    rfl
  | scScalar n => rfl
  | scVector n k => rfl

theorem defs_same : @Cert.Kernel3.defs F _ _ = @Cert.Kernel3Ideal.defs F _ _ :=
  congrArg (Pipeline.defs (Cert.Kernel3.pcfgs (F := F))) bodies_same

theorem main_same : @Cert.Kernel3.main F _ = @Cert.Kernel3Ideal.main F _ := rfl

end

/-- The frame of the call as it is, taken from the run of its idealized form. -/
theorem frame_kernel [Cert.Kernel3.Facts] : Cert.quiescent_Kernel3 := fun m ρ _ =>
  Eq.mpr (congrArg₂ (fun d e => θ_run d (onTc (τ := Cert.Kernel3.τ) e) ⟨m, fun _ => 0, ρ⟩ _) defs_same main_same)
    (frame (F := Bits) m ρ)

/-- The frame of the idealized call. -/
theorem frame_ideal : Cert.quiescent_Kernel3Ideal := fun m ρ _ => frame m ρ

end Cert.Ffn3
-- ==== Proof.Ffn3.Entries.lean ====
/- What each window of the first feed-forward call reads of the arguments, and its arithmetic entry by entry. -/
module

public import proofs.«01_k».proof.Proof.Ffn3.Frame
public import proofs.«01_k».proof.Proof.Ffn.Entries

@[expose] public section
set_option maxRecDepth 16384
noncomputable section
namespace Cert.Ffn3
open Idealize.ShloMosaic Idealize.ShloMosaic.TcCoe Idealize.SL.Sem
open Cert.Kernel3Ideal Cert.Kernel3Ideal.Gen
open Cert.Ffn (scale normed hidden closed)

/-- An `a × b × c` array of extended reals. -/
abbrev Arr (a b c : ℕ) := (⟨3, ![a, b, c]⟩ : Shape).Idx → EReal

section
variable (h g g' : Fin 2048 → EReal) (Wg Wu : Arr 1 2048 5632) (Wd : Arr 1 5632 2048)

/-- Hidden unit `q`'s share of entry `k` of a row's sums. -/
def unit (k : Fin 2048) (q : Fin 5632) : EReal :=
  hidden (normed h g) (fun j => Wg (ix3 0 j q)) (fun j => Wu (ix3 0 j q)) * Wd (ix3 0 q k)

/-- The layer's result for one row. -/
def layer (k : Fin 2048) : EReal := closed h (fun k => ∑ q : Fin 5632, unit h g Wg Wu Wd k q) g' k

/-- What the `s`th 256 hidden units add to entry `k`. -/
def part (k : Fin 2048) (s : ℕ) : EReal :=
  ∑ x : Fin 256, if e : s * 256 + x.val < 5632 then unit h g Wg Wu Wd k ⟨s * 256 + x.val, e⟩ else 0

/-- All parts together are the sum over the hidden units. -/
theorem parts_sum (k : Fin 2048) : ∑ s ∈ Finset.range 22, part h g Wg Wu Wd k s = ∑ q : Fin 5632, unit h g Wg Wu Wd k q := by
  rw [Finset.sum_range]
  exact Fin.sum_mul_add_congr (fun s x h => dif_pos h)

end

theorem closed_congr {h h' y y' g g' : Fin 2048 → EReal} (a : h = h') (b : y = y') (d : g = g') (k : Fin 2048) : closed h y g k = closed h' y' g' k := by
  rw [a, b, d]

theorem norm16_at (x : Vec Ideal S16x2048 .f32) (g : Vec Ideal S1x2048 .f32) (r : Fin 16) (k : Fin 2048) :
    k0_pay10 x g (ix2 r k) = normed (fun k => x (ix2 r k)) (fun k => g (ix2 0 k)) k := by
  unfold normed scale
  pointwise [k0_pay10]

theorem normX_at (x : Vec Ideal S16x2048 .f32) (g : Vec Ideal S1x2048 .f32) (r : Fin 16) (k : Fin 2048) :
    k0_pay2 x g (ix2 r k) = normed (fun k => x (ix2 r k)) (fun k => g (ix2 0 k)) k := by
  unfold normed scale
  pointwise [k0_pay2]

theorem close16_at (h x : Vec Ideal S16x2048 .f32) (g : Vec Ideal S1x2048 .f32) (r : Fin 16) (k : Fin 2048) :
    k0_pay74 h x g (ix2 r k) = closed (fun k => h (ix2 r k)) (fun k => x (ix2 r k)) (fun k => g (ix2 0 k)) k := by
  unfold closed normed scale
  pointwise [k0_pay74]

theorem closeX_at (h x : Vec Ideal S16x2048 .f32) (g : Vec Ideal S1x2048 .f32) (r : Fin 16) (k : Fin 2048) :
    k0_pay8 h x g (ix2 r k) = closed (fun k => h (ix2 r k)) (fun k => x (ix2 r k)) (fun k => g (ix2 0 k)) k := by
  unfold closed normed scale
  pointwise [k0_pay8]

theorem strip_row (Z : Vec Ideal S1024x2048 .f32) (r : Fin 1024) :
    (fun j : Fin 2048 => View.ld (Val := Elt Ideal) (e' := .f32) Z (Rect.unit ![16 * (r.val / 16), 0] ![16, 2048] (inb16 r)) (ix2 (⟨r.val % 16, Nat.mod_lt _ (by decide)⟩ : Fin 16) j)) = fun j => Z (ix2 r j) :=
  funext fun j => congrArg Z (by
    funext a
    match a with
    | 0 => exact Fin.ext (by show 16 * (r.val / 16) + 1 * (r.val % 16) = r.val; omega)
    | 1 => exact Fin.ext (by show 0 + 1 * j.val = j.val; omega))

theorem pre_at (X : Vec Ideal S1024x2048 .f32) (g : Vec Ideal S1x2048 .f32) (r : Fin 1024) (k : Fin 2048) :
    pre X g (ix2 r k) = normed (fun k => X (ix2 r k)) (fun k => g (ix2 0 k)) k :=
  (norm16_at _ g _ k).trans (congrArg (fun f => normed f _ k) (strip_row X r))

theorem post_at (X S : Vec Ideal S1024x2048 .f32) (g : Vec Ideal S1x2048 .f32) (r : Fin 1024) (k : Fin 2048) :
    post X S g (ix2 r k) = closed (fun k => X (ix2 r k)) (fun k => S (ix2 r k)) (fun k => g (ix2 0 k)) k :=
  (close16_at _ _ g _ k).trans (closed_congr (strip_row X r) (strip_row S r) rfl k)

section
variable (u : Vec Ideal S1040x2048 .bf16) (wg wu : Vec Ideal S1x2048x256 .f32) (wd : Vec Ideal S1x256x2048 .f32)

theorem both_at (r : Fin 1040) (k : Fin 2048) : k0_pay4 u wg wu wd (ix2 r k)
    = ∑ x : Fin 256, hidden (fun j => u (ix2 r j)) (fun j => wg (ix3 0 j x)) (fun j => wu (ix3 0 j x)) * wd (ix3 0 x k) := by
  unfold Cert.Ffn.hidden
  pointwise [k0_pay4]

theorem sumFirst_at (a : Vec Ideal S1024x2048 .f32) (r : Fin 1024) (k : Fin 2048) : k0_pay5 u wg wu wd a (ix2 r k) = a (ix2 r k)
    + ∑ x : Fin 256, hidden (fun j => u (ix2 (⟨r.val, by omega⟩ : Fin 1040) j)) (fun j => wg (ix3 0 j x)) (fun j => wu (ix3 0 j x)) * wd (ix3 0 x k) := by
  rw [← both_at]
  pointwise [k0_pay5]

theorem sumX_at (a : Vec Ideal S16x2048 .f32) (r : Fin 16) (k : Fin 2048) : k0_pay6 u wg wu wd a (ix2 r k) = a (ix2 r k)
    + ∑ x : Fin 256, hidden (fun j => u (ix2 (⟨1024 + r.val, by omega⟩ : Fin 1040) j)) (fun j => wg (ix3 0 j x)) (fun j => wu (ix3 0 j x)) * wd (ix3 0 x k) := by
  rw [← both_at]
  pointwise [k0_pay6]

theorem sum_at (a : Vec Ideal S1024x2048 .f32) (v : Vec Ideal S1024x2048 .bf16) (r : Fin 1024) (k : Fin 2048) : k0_pay7 a v wg wu wd (ix2 r k) = a (ix2 r k)
    + ∑ x : Fin 256, hidden (fun j => v (ix2 r j)) (fun j => wg (ix3 0 j x)) (fun j => wu (ix3 0 j x)) * wd (ix3 0 x k) := by
  unfold Cert.Ffn.hidden
  pointwise [k0_pay7]

theorem top_at (r : Fin 1024) (k : Fin 2048) : top u (ix2 r k) = u (ix2 (⟨r.val, by omega⟩ : Fin 1040) k) :=
  congrArg u (by
    funext a
    match a with
    | 0 => exact Fin.ext (by show 0 + 1 * r.val = r.val; omega)
    | 1 => exact Fin.ext (by show 0 + 1 * k.val = k.val; omega))

end

theorem zero_at (y : S1024x2048.Idx) : k0_pay1 (F := Ideal) y = 0 := by
  idx_vars y
  pointwise [k0_pay1]
theorem zeroX_at (y : S16x2048.Idx) : k0_pay3 (F := Ideal) y = 0 := by
  idx_vars y
  pointwise [k0_pay3]

variable (m : (ℓ : Loc nD τ sig) → Buf (Elt Ideal) ℓ)

/-- The block each window takes at each point. -/
theorem idx : ∀ t : Fin cfg0.N, win0_0.index t = ![t.val / 22, 0] ∧ win0_1.index t = ![0, 0] ∧ win0_2.index t = ![0, 0]
    ∧ win0_3.index t = ![0, 0, t.val % 22] ∧ win0_4.index t = ![0, 0, t.val % 22] ∧ win0_5.index t = ![0, t.val % 22, 0]
    ∧ win0_6.index t = ![0, 0] ∧ win0_7.index t = ![t.val / 22, 0] ∧ win0_8.index t = ![0, 0] :=
  (by decide +kernel : ∀ t : Fin grid0.N, _)

/-- The row block of a point. -/
abbrev bl (t : Fin cfg0.N) : Fin 8 := ⟨t.val / 22, by have := lt176 t; omega⟩
/-- The row of the whole array behind a row of a block. -/
abbrev row (b : Fin 8) (r : Fin 1024) : Fin 8192 := ⟨1024 * b.val + r.val, by omega⟩
/-- The hidden unit behind a column of a point's block. -/
abbrev col (t : Fin cfg0.N) (x : Fin 256) : Fin 5632 := ⟨t.val % 22 * 256 + x.val, by omega⟩

/-- A row of the residual. -/
abbrev mainRow (c : Dev nD) (r : Fin 8192) (k : Fin 2048) : EReal := m ((c : Thread nD τ).loc main_arg0) (ix3 0 r k)
/-- One of the sixteen extra rows. -/
abbrev extraRow (c : Dev nD) (r : Fin 16) (k : Fin 2048) : EReal := m ((c : Thread nD τ).loc main_arg1) (ix2 r k)
abbrev gainIn (c : Dev nD) (k : Fin 2048) : EReal := m ((c : Thread nD τ).loc main_arg2) (ix2 0 k)
abbrev gainOut (c : Dev nD) (k : Fin 2048) : EReal := m ((c : Thread nD τ).loc main_arg3) (ix2 0 k)
abbrev wGate (c : Dev nD) : Arr 1 2048 5632 := m ((c : Thread nD τ).loc main_arg4)
abbrev wUp (c : Dev nD) : Arr 1 2048 5632 := m ((c : Thread nD τ).loc main_arg5)
abbrev wDown (c : Dev nD) : Arr 1 5632 2048 := m ((c : Thread nD τ).loc main_arg6)

theorem gain_cast (X : S1x2048.Idx → EReal) (k : Fin 2048) :
    shapeCast S1x2048 (shapeCast S2048 X shapeCasts_S1x2048_S2048) shapeCasts_S2048_S1x2048 (ix2 0 k) = X (ix2 0 k) := by
  pointwise [hlo_ix]
theorem rows_cast (X : S1x8192x2048.Idx → EReal) (r : Fin 8192) (k : Fin 2048) :
    shapeCast S8192x2048 X shapeCasts_S1x8192x2048_S8192x2048 (ix2 r k) = X (ix3 0 r k) := by
  pointwise [hlo_ix]

theorem b0 (c : Dev nD) (t : Fin cfg0.N) (r : Fin 1024) (k : Fin 2048) : X0 m c t (ix2 r k) = mainRow m c (row (bl t) r) k := by
  have e : (V m c main_v0 : S8192x2048.Idx → EReal) = shapeCast S8192x2048 (m ((c : Thread nD τ).loc main_arg0) : S1x8192x2048.Idx → EReal) shapeCasts_S1x8192x2048_S8192x2048 := by
    entry_read
    rfl
  refine Eq.trans (?_ : _ = (V m c main_v0 : S8192x2048.Idx → EReal) (ix2 (row (bl t) r) k)) ((congrFun e _).trans (rows_cast _ _ k))
  refine congrArg (V m c main_v0) ?_
  have h := (idx t).1
  funext a
  match a with
  | 0 => exact Fin.ext (by show win0_0.index t 0 * 1024 + 1 * r.val = 1024 * (t.val / 22) + r.val; rw [h]; show t.val / 22 * 1024 + 1 * r.val = _; omega)
  | 1 => exact Fin.ext (by show win0_0.index t 1 * 2048 + 1 * k.val = k.val; rw [h]; show 0 * 2048 + 1 * k.val = _; omega)

theorem b1 (c : Dev nD) (t : Fin cfg0.N) (k : Fin 2048) : X1 m c t (ix2 0 k) = gainIn m c k := by
  have e : (V m c main_v2 : S1x2048.Idx → EReal) = shapeCast S1x2048 (shapeCast S2048 (m ((c : Thread nD τ).loc main_arg2) : S1x2048.Idx → EReal) shapeCasts_S1x2048_S2048) shapeCasts_S2048_S1x2048 := by
    entry_read
    rfl
  refine Eq.trans (?_ : _ = (V m c main_v2 : S1x2048.Idx → EReal) (ix2 0 k)) ((congrFun e _).trans (gain_cast _ k))
  refine congrArg (V m c main_v2) ?_
  have h := (idx t).2.1
  funext a
  match a with
  | 0 => exact Fin.ext (by show win0_1.index t 0 * 1 + 1 * 0 = 0; rw [h]; rfl)
  | 1 => exact Fin.ext (by show win0_1.index t 1 * 2048 + 1 * k.val = k.val; rw [h]; show 0 * 2048 + 1 * k.val = _; omega)

theorem b2 (c : Dev nD) (t : Fin cfg0.N) (k : Fin 2048) : X2 m c t (ix2 0 k) = gainOut m c k := by
  have e : (V m c main_v4 : S1x2048.Idx → EReal) = shapeCast S1x2048 (shapeCast S2048 (m ((c : Thread nD τ).loc main_arg3) : S1x2048.Idx → EReal) shapeCasts_S1x2048_S2048) shapeCasts_S2048_S1x2048 := by
    entry_read
    rfl
  refine Eq.trans (?_ : _ = (V m c main_v4 : S1x2048.Idx → EReal) (ix2 0 k)) ((congrFun e _).trans (gain_cast _ k))
  refine congrArg (V m c main_v4) ?_
  have h := (idx t).2.2.1
  funext a
  match a with
  | 0 => exact Fin.ext (by show win0_2.index t 0 * 1 + 1 * 0 = 0; rw [h]; rfl)
  | 1 => exact Fin.ext (by show win0_2.index t 1 * 2048 + 1 * k.val = k.val; rw [h]; show 0 * 2048 + 1 * k.val = _; omega)

theorem b3 (c : Dev nD) (t : Fin cfg0.N) (j : Fin 2048) (x : Fin 256) : X3 m c t (ix3 0 j x) = wGate m c (ix3 0 j (col t x)) := by
  refine Eq.trans (?_ : _ = V m c main_arg4 (ix3 0 j (col t x))) (congrFun (V_args m c).2.2.2.2.1 _)
  refine congrArg (V m c main_arg4) ?_
  have h := (idx t).2.2.2.1
  funext a
  match a with
  | 0 => exact Fin.ext (by show win0_3.index t 0 * 1 + 1 * 0 = 0; rw [h]; rfl)
  | 1 => exact Fin.ext (by show win0_3.index t 1 * 2048 + 1 * j.val = j.val; rw [h]; show 0 * 2048 + 1 * j.val = _; omega)
  | 2 => exact Fin.ext (by show win0_3.index t 2 * 256 + 1 * x.val = t.val % 22 * 256 + x.val; rw [h]; show t.val % 22 * 256 + 1 * x.val = _; omega)

theorem b4 (c : Dev nD) (t : Fin cfg0.N) (j : Fin 2048) (x : Fin 256) : X4 m c t (ix3 0 j x) = wUp m c (ix3 0 j (col t x)) := by
  refine Eq.trans (?_ : _ = V m c main_arg5 (ix3 0 j (col t x))) (congrFun (V_args m c).2.2.2.2.2.1 _)
  refine congrArg (V m c main_arg5) ?_
  have h := (idx t).2.2.2.2.1
  funext a
  match a with
  | 0 => exact Fin.ext (by show win0_4.index t 0 * 1 + 1 * 0 = 0; rw [h]; rfl)
  | 1 => exact Fin.ext (by show win0_4.index t 1 * 2048 + 1 * j.val = j.val; rw [h]; show 0 * 2048 + 1 * j.val = _; omega)
  | 2 => exact Fin.ext (by show win0_4.index t 2 * 256 + 1 * x.val = t.val % 22 * 256 + x.val; rw [h]; show t.val % 22 * 256 + 1 * x.val = _; omega)

theorem b5 (c : Dev nD) (t : Fin cfg0.N) (x : Fin 256) (k : Fin 2048) : X5 m c t (ix3 0 x k) = wDown m c (ix3 0 (col t x) k) := by
  refine Eq.trans (?_ : _ = V m c main_arg6 (ix3 0 (col t x) k)) (congrFun (V_args m c).2.2.2.2.2.2 _)
  refine congrArg (V m c main_arg6) ?_
  have h := (idx t).2.2.2.2.2.1
  funext a
  match a with
  | 0 => exact Fin.ext (by show win0_5.index t 0 * 1 + 1 * 0 = 0; rw [h]; rfl)
  | 1 => exact Fin.ext (by show win0_5.index t 1 * 256 + 1 * x.val = t.val % 22 * 256 + x.val; rw [h]; show t.val % 22 * 256 + 1 * x.val = _; omega)
  | 2 => exact Fin.ext (by show win0_5.index t 2 * 2048 + 1 * k.val = k.val; rw [h]; show 0 * 2048 + 1 * k.val = _; omega)

theorem b6 (c : Dev nD) (t : Fin cfg0.N) (r : Fin 16) (k : Fin 2048) : X6 m c t (ix2 r k) = extraRow m c r k := by
  refine Eq.trans (?_ : _ = V m c main_arg1 (ix2 r k)) (congrFun (V_args m c).2.1 _)
  refine congrArg (V m c main_arg1) ?_
  have h := (idx t).2.2.2.2.2.2.1
  funext a
  match a with
  | 0 => exact Fin.ext (by show win0_6.index t 0 * 16 + 1 * r.val = r.val; rw [h]; show 0 * 16 + 1 * r.val = _; omega)
  | 1 => exact Fin.ext (by show win0_6.index t 1 * 2048 + 1 * k.val = k.val; rw [h]; show 0 * 2048 + 1 * k.val = _; omega)

end Cert.Ffn3
end
-- ==== Proof.Ffn3.Values.lean ====
/- What the buffers hold after each point, entry by entry, and the two result arrays. -/
module

public import proofs.«01_k».proof.Proof.Ffn3.Entries
public import Idealize.ShloMosaic.Lib.Pipeline.Value

@[expose] public section
set_option maxRecDepth 16384
noncomputable section
namespace Cert.Ffn3
open Idealize.ShloMosaic Idealize.ShloMosaic.TcCoe Idealize.SL.Sem
open Cert.Kernel3Ideal Cert.Kernel3Ideal.Gen
open Cert.Ffn (scale normed hidden closed)
open Idealize.ShloMosaic.Pipeline (Dat Window)

variable (m : (ℓ : Loc nD τ sig) → Buf (Elt Ideal) ℓ)

/-- A block's normalised rows. -/
def blockRows (c : Dev nD) (b : Fin 8) : Vec Ideal S1024x2048 .bf16 := fun y => normed (mainRow m c (row b (y 0))) (gainIn m c) (y 1)
/-- The normalised extra rows. -/
def extraRows (c : Dev nD) : Vec Ideal S16x2048 .bf16 := fun y => normed (extraRow m c (y 0)) (gainIn m c) (y 1)
/-- What the scratch holds while block `b` is worked on. -/
abbrev held (c : Dev nD) (b : Fin 8) : Vec Ideal S1040x2048 .bf16 := both (blockRows m c b) (extraRows m c)

theorem held_main (c : Dev nD) (b : Fin 8) (r : Fin 1024) :
    (fun j : Fin 2048 => held m c b (ix2 (⟨r.val, by omega⟩ : Fin 1040) j)) = normed (mainRow m c (row b r)) (gainIn m c) :=
  funext fun j => dif_pos r.isLt

theorem held_extra (c : Dev nD) (b : Fin 8) (r : Fin 16) :
    (fun j : Fin 2048 => held m c b (ix2 (⟨1024 + r.val, by omega⟩ : Fin 1040) j)) = normed (extraRow m c r) (gainIn m c) :=
  funext fun j => (both_hi (blockRows m c b) (extraRows m c) (ix2 r j) _ rfl rfl).symm

theorem pre_rows (c : Dev nD) (t : Fin cfg0.N) : pre (X0 m c t) (X1 m c t) = blockRows m c (bl t) := by
  funext y
  obtain ⟨r, k, rfl⟩ : ∃ (r : Fin 1024) (k : Fin 2048), y = ix2 r k := ⟨y 0, y 1, eq_ix2 y⟩
  refine (pre_at _ _ r k).trans ?_
  rw [show (fun k => X0 m c t (ix2 r k)) = _ from funext fun k => b0 m c t r k, show (fun k => X1 m c t (ix2 0 k)) = _ from funext fun k => b1 m c t k]
  rfl

theorem pre_extra (c : Dev nD) (t : Fin cfg0.N) : k0_pay2 (X6 m c t) (X1 m c t) = extraRows m c := by
  funext y
  obtain ⟨r, k, rfl⟩ : ∃ (r : Fin 16) (k : Fin 2048), y = ix2 r k := ⟨y 0, y 1, eq_ix2 y⟩
  refine (normX_at _ _ r k).trans ?_
  rw [show (fun k => X6 m c t (ix2 r k)) = _ from funext fun k => b6 m c t r k, show (fun k => X1 m c t (ix2 0 k)) = _ from funext fun k => b1 m c t k]
  rfl

theorem low_both (p : Vec Ideal S1024x2048 .bf16) (q : Vec Ideal S16x2048 .bf16) : low (both p q) = q := by
  funext y
  exact (both_hi p q y _ rfl rfl).symm

theorem scratch_step (c : Dev nD) (t : Fin cfg0.N) (s : Vec Ideal S1024x2048 .f32 × Vec Ideal S1040x2048 .bf16 × Vec Ideal S16x2048 .f32) (h : ¬t.val = 0)
    (b : Fin 8) (hs : s.2.1 = held m c b) (hb : ¬t.val % 22 = 0 → b = bl t) : (step m c t s).2.1 = held m c (bl t) := by
  unfold step
  split_ifs with h2 h3 h4 h5
  · exact hs.trans (congrArg (held m c) (hb (by omega)))
  · exact hs.trans (congrArg (held m c) (hb (by omega)))
  · exact congrArg₂ both (pre_rows m c _) ((congrArg low hs).trans (low_both _ _))
  · exact hs.trans (congrArg (held m c) (hb h4))
  · exact hs.trans (congrArg (held m c) (hb h4))

/-- The scratch holds the block's normalised rows and the extra rows' after every point. -/
theorem scratch (c : Dev nD) : ∀ (n : ℕ) (hn : n < cfg0.N), (st m c n hn).2.1 = held m c (bl ⟨n, hn⟩)
  | 0, hn => by
    show (step m c ⟨0, hn⟩ _).2.1 = _
    rw [step, if_pos rfl]
    exact congrArg₂ both (pre_rows m c _) (pre_extra m c _)
  | n + 1, hn => scratch_step m c ⟨n + 1, hn⟩ _ (Nat.succ_ne_zero n) _ (scratch c n (Nat.lt_of_succ_lt hn))
      (fun h => Fin.ext (by have : ¬(n + 1) % 22 = 0 := h; show n / 22 = (n + 1) / 22; omega))

/-- The shares of the hidden units of one point. -/
theorem units (c : Dev nD) (t : Fin cfg0.N) (f h : Fin 2048 → EReal) (hf : f = normed h (gainIn m c)) (k : Fin 2048) :
    ∑ x : Fin 256, hidden f (fun j => X3 m c t (ix3 0 j x)) (fun j => X4 m c t (ix3 0 j x)) * X5 m c t (ix3 0 x k)
      = part h (gainIn m c) (wGate m c) (wUp m c) (wDown m c) k (t.val % 22) := by
  subst hf
  refine Finset.sum_congr rfl fun x _ => ?_
  rw [dif_pos (show t.val % 22 * 256 + x.val < 5632 by omega), b5]
  unfold unit
  rw [show (fun j => X3 m c t (ix3 0 j x)) = _ from funext fun j => b3 m c t j x, show (fun j => X4 m c t (ix3 0 j x)) = _ from funext fun j => b4 m c t j x]

/-- A point's share of a row of a block. -/
abbrev share (c : Dev nD) (b : Fin 8) (r : Fin 1024) (k : Fin 2048) (s : ℕ) : EReal :=
  part (mainRow m c (row b r)) (gainIn m c) (wGate m c) (wUp m c) (wDown m c) k s
/-- A point's share of an extra row. -/
abbrev shareX (c : Dev nD) (r : Fin 16) (k : Fin 2048) (s : ℕ) : EReal :=
  part (extraRow m c r) (gainIn m c) (wGate m c) (wUp m c) (wDown m c) k s

theorem first_step (c : Dev nD) (t : Fin cfg0.N) (u : Vec Ideal S1040x2048 .bf16) (hu : u = held m c (bl t)) (a : Vec Ideal S1024x2048 .f32) (r : Fin 1024) (k : Fin 2048) :
    k0_pay5 u (X3 m c t) (X4 m c t) (X5 m c t) a (ix2 r k) = a (ix2 r k) + share m c (bl t) r k (t.val % 22) := by
  subst hu
  exact (sumFirst_at _ _ _ _ a r k).trans (congrArg (a (ix2 r k) + ·) (units m c t _ _ (held_main m c (bl t) r) k))

theorem later_step (c : Dev nD) (t : Fin cfg0.N) (u : Vec Ideal S1040x2048 .bf16) (hu : u = held m c (bl t)) (a : Vec Ideal S1024x2048 .f32) (r : Fin 1024) (k : Fin 2048) :
    k0_pay7 a (top u) (X3 m c t) (X4 m c t) (X5 m c t) (ix2 r k) = a (ix2 r k) + share m c (bl t) r k (t.val % 22) := by
  subst hu
  exact (sum_at _ _ _ a _ r k).trans (congrArg (a (ix2 r k) + ·) (units m c t _ _ ((funext fun j => top_at _ r j).trans (held_main m c (bl t) r)) k))

theorem extra_step (c : Dev nD) (t : Fin cfg0.N) (u : Vec Ideal S1040x2048 .bf16) (hu : u = held m c (bl t)) (a : Vec Ideal S16x2048 .f32) (r : Fin 16) (k : Fin 2048) :
    k0_pay6 u (X3 m c t) (X4 m c t) (X5 m c t) a (ix2 r k) = a (ix2 r k) + shareX m c r k (t.val % 22) := by
  subst hu
  exact (sumX_at _ _ _ _ a r k).trans (congrArg (a (ix2 r k) + ·) (units m c t _ _ (held_extra m c (bl t) r) k))

/-- The rows held before a point that starts no block are the block's. -/
theorem prev_rows (c : Dev nD) (t : Fin cfg0.N) (h : ¬t.val % 22 = 0) : (prev m c t).2.1 = held m c (bl t) :=
  (scratch m c _ _).trans (congrArg (held m c) (Fin.ext (by show (t.val - 1) / 22 = t.val / 22; omega)))

theorem sum_step (c : Dev nD) (t : Fin cfg0.N) (s : Vec Ideal S1024x2048 .f32 × Vec Ideal S1040x2048 .bf16 × Vec Ideal S16x2048 .f32) (h : ¬t.val = 0) (h' : ¬t.val % 22 = 21)
    (b : Fin 8) (hs : s.2.1 = held m c b) (hb : ¬t.val % 22 = 0 → b = bl t) (r : Fin 1024) (k : Fin 2048) :
    (step m c t s).1 (ix2 r k) = (if t.val % 22 = 0 then 0 else s.1 (ix2 r k)) + share m c (bl t) r k (t.val % 22) := by
  unfold step
  by_cases h2 : t.val < 21
  · rw [if_neg h, if_pos h2, if_neg (by omega)]
    exact first_step m c t _ (hs.trans (congrArg (held m c) (hb (by omega)))) _ r k
  rw [if_neg h, if_neg h2, if_neg (by omega)]
  by_cases h4 : t.val % 22 = 0
  · rw [if_pos h4, if_pos h4]
    exact (later_step m c t _ (congrArg₂ both (pre_rows m c _) ((congrArg low hs).trans (low_both _ _))) _ r k).trans (congrArg (· + _) (zero_at _))
  · rw [if_neg h4, if_neg h4, if_neg h']
    exact later_step m c t _ (hs.trans (congrArg (held m c) (hb h4))) _ r k

/-- The sums before the last point of a block. -/
theorem sums (c : Dev nD) : ∀ (n : ℕ) (hn : n < cfg0.N) (_ : ¬n % 22 = 21) (r : Fin 1024) (k : Fin 2048),
    (st m c n hn).1 (ix2 r k) = ∑ s ∈ Finset.range (n % 22 + 1), share m c (bl ⟨n, hn⟩) r k s
  | 0, hn, h, r, k => by
    show (step m c ⟨0, hn⟩ _).1 _ = _
    rw [step, if_pos rfl]
    refine (first_step m c ⟨0, hn⟩ _ (congrArg₂ both (pre_rows m c _) (pre_extra m c _)) _ r k).trans ?_
    rw [zero_at, zero_add]
    exact (Finset.sum_range_one _).symm
  | n + 1, hn, h, r, k => by
    have hb : ¬(n + 1) % 22 = 0 → bl ⟨n, Nat.lt_of_succ_lt hn⟩ = bl ⟨n + 1, hn⟩ := fun h => Fin.ext (by show n / 22 = (n + 1) / 22; omega)
    refine (sum_step m c ⟨n + 1, hn⟩ _ (Nat.succ_ne_zero n) h _ (scratch m c n (Nat.lt_of_succ_lt hn)) hb r k).trans ?_
    rw [Finset.sum_range_succ _ ((n + 1) % 22)]
    refine congrArg (· + _) ?_
    show (if (n + 1) % 22 = 0 then (0 : EReal) else _) = _
    by_cases e : (n + 1) % 22 = 0
    · rw [if_pos e, e, Finset.sum_range_zero]
    · rw [if_neg e, sums c n (Nat.lt_of_succ_lt hn) (by omega) r k, hb e, show n % 22 + 1 = (n + 1) % 22 by omega]

theorem sumX_step (c : Dev nD) (t : Fin cfg0.N) (s : Vec Ideal S1024x2048 .f32 × Vec Ideal S1040x2048 .bf16 × Vec Ideal S16x2048 .f32) (h : ¬t.val = 0) (h' : t.val < 22)
    (hs : s.2.1 = held m c (bl t)) (r : Fin 16) (k : Fin 2048) : (step m c t s).2.2 (ix2 r k) = s.2.2 (ix2 r k) + shareX m c r k t.val := by
  rw [show t.val = t.val % 22 from (Nat.mod_eq_of_lt h').symm, ← extra_step m c t _ hs]
  unfold step
  by_cases h2 : t.val < 21
  · rw [if_neg h, if_pos h2]
  · rw [if_neg h, if_neg h2, if_pos (by omega)]

/-- The extra rows' sums while the first block is worked on. -/
theorem sumsX (c : Dev nD) : ∀ (n : ℕ) (hn : n < cfg0.N) (_ : n < 22) (r : Fin 16) (k : Fin 2048),
    (st m c n hn).2.2 (ix2 r k) = ∑ s ∈ Finset.range (n + 1), shareX m c r k s
  | 0, hn, h, r, k => by
    show (step m c ⟨0, hn⟩ _).2.2 _ = _
    rw [step, if_pos rfl]
    refine (extra_step m c ⟨0, hn⟩ _ (congrArg₂ both (pre_rows m c _) (pre_extra m c _)) _ r k).trans ?_
    rw [zeroX_at, zero_add]
    exact (Finset.sum_range_one _).symm
  | n + 1, hn, h, r, k => by
    refine (sumX_step m c ⟨n + 1, hn⟩ _ (Nat.succ_ne_zero n) h (prev_rows m c ⟨n + 1, hn⟩ (by show ¬(n + 1) % 22 = 0; omega)) r k).trans ?_
    rw [Finset.sum_range_succ _ (n + 1), ← sumsX c n (Nat.lt_of_succ_lt hn) (by omega) r k]
    rfl

/-- The layer's result for one row of the arguments. -/
abbrev layerOf (c : Dev nD) (h : Fin 2048 → EReal) (k : Fin 2048) : EReal := layer h (gainIn m c) (gainOut m c) (wGate m c) (wUp m c) (wDown m c) k

/-- The last point of a block leaves the layer's rows. -/
theorem last (c : Dev nD) (t : Fin cfg0.N) (h : t.val % 22 = 21) (r : Fin 1024) (k : Fin 2048) :
    (st m c t.val t.isLt).1 (ix2 r k) = layerOf m c (mainRow m c (row (bl t) r)) k := by
  have hs := prev_rows m c t (by omega)
  have e : ∀ (S : Vec Ideal S1024x2048 .f32) (_ : ∀ k, S (ix2 r k) = (prev m c t).1 (ix2 r k) + share m c (bl t) r k (t.val % 22)),
      post (X0 m c t) S (X2 m c t) (ix2 r k) = layerOf m c (mainRow m c (row (bl t) r)) k := fun S hS => by
    refine (post_at _ S _ r k).trans (closed_congr (funext fun k => b0 m c t r k) (funext fun k => ?_) (funext fun k => b2 m c t k) k)
    rw [hS, sums m c _ _ (by omega) r k, ← parts_sum, show (t.val - 1) % 22 + 1 = 21 by omega, h, Finset.sum_range_succ _ 21,
      show bl ⟨t.val - 1, _⟩ = bl t from Fin.ext (by show (t.val - 1) / 22 = t.val / 22; omega)]
  rw [st_pos m c t (by omega)]
  unfold step
  by_cases h3 : t.val = 21
  · rw [if_neg (by omega), if_neg (by omega), if_pos h3]
    exact e _ fun k => first_step m c t _ hs _ r k
  · rw [if_neg (by omega), if_neg (by omega), if_neg h3, if_neg (by omega), if_pos h]
    exact e _ fun k => later_step m c t _ hs _ r k

/-- The extra rows' result is the layer's. -/
theorem extra_eq (c : Dev nD) (r : Fin 16) (k : Fin 2048) : extra m c (ix2 r k) = layerOf m c (extraRow m c r) k := by
  refine (closeX_at _ _ _ r k).trans (closed_congr (funext fun k => b6 m c _ r k) (funext fun k => ?_) (funext fun k => b2 m c _ k) k)
  exact (sumsX m c 21 _ (by omega) r k).trans (parts_sum _ _ _ _ _ k)

/-- The rows of the first result. -/
def res0 (c : Dev nD) : S8192x2048.Idx → EReal := fun i => layerOf m c (mainRow m c (i 0)) (i 1)
/-- The rows of the second. -/
def res1 (c : Dev nD) : S16x2048.Idx → EReal := fun i => layerOf m c (extraRow m c (i 0)) (i 1)

theorem final7 (c : Dev nD) : (dats m 0 c).arrAt 7 cfg0.N = res0 m c :=
  (dats m 0 c).arrAt_eq_of_cover 7 _ (fun t hf => by
    show (cfg0.win 7).cut (grid0.coords t) ((dats m 0 c).after 7 t) = _
    rw [after7]
    funext y
    obtain ⟨r, k, rfl⟩ : ∃ (r : Fin 1024) (k : Fin 2048), y = ix2 r k := ⟨y 0, y 1, eq_ix2 y⟩
    refine Eq.trans ?_ ((last m c t ((flush0_7 t).mp hf) r k).trans (?_ : res0 m c (ix2 (row (bl t) r) k) = _))
    · exact congrArg (st m c t.val t.isLt).1 (by funext a; match a with | 0 => rfl | 1 => rfl)
    refine congrArg (res0 m c) ?_
    have h := (idx t).2.2.2.2.2.2.2.1
    funext a
    match a with
    | 0 => exact Fin.ext (by show 1024 * (t.val / 22) + r.val = win0_7.index t 0 * 1024 + 1 * r.val; rw [h]; show _ = t.val / 22 * 1024 + 1 * r.val; omega)
    | 1 => exact Fin.ext (by show k.val = win0_7.index t 1 * 2048 + 1 * k.val; rw [h]; show _ = 0 * 2048 + 1 * k.val; omega))
  (fun i => by
    have hi : (i 0).val < 8192 := (i 0).isLt
    have hk : (i 1).val < 2048 := (i 1).isLt
    have ht : 22 * ((i 0).val / 1024) + 21 < cfg0.N := by rw [show cfg0.N = 176 from N_0]; omega
    refine ⟨⟨_, ht⟩, (flush0_7 _).mpr (by show (22 * ((i 0).val / 1024) + 21) % 22 = 21; omega), ?_⟩
    have h := (idx ⟨_, ht⟩).2.2.2.2.2.2.2.1
    show i ∈ ((View.whole main_v5_0).slice (win0_7.rect ⟨_, ht⟩)).set
    rw [View.set_slice_whole, Rect.mem_set_unit]
    intro a
    show win0_7.index ⟨_, ht⟩ a * S1024x2048.size a ≤ (i a).val ∧ (i a).val < win0_7.index ⟨_, ht⟩ a * S1024x2048.size a + S1024x2048.size a
    rw [h]
    match a with
    | 0 => show (22 * ((i 0).val / 1024) + 21) / 22 * 1024 ≤ (i 0).val ∧ (i 0).val < (22 * ((i 0).val / 1024) + 21) / 22 * 1024 + 1024; omega
    | 1 => show 0 * 2048 ≤ (i 1).val ∧ (i 1).val < 0 * 2048 + 2048; omega)

theorem final8 (c : Dev nD) : (dats m 0 c).arrAt 8 cfg0.N = res1 m c :=
  (dats m 0 c).arrAt_eq_of_cover 8 _ (fun t hf => by
    show (cfg0.win 8).cut (grid0.coords t) ((dats m 0 c).after 8 t) = _
    rw [after8]
    funext y
    obtain ⟨r, k, rfl⟩ : ∃ (r : Fin 16) (k : Fin 2048), y = ix2 r k := ⟨y 0, y 1, eq_ix2 y⟩
    refine Eq.trans ?_ ((extra_eq m c r k).trans (?_ : res1 m c (ix2 r k) = _))
    · exact congrArg (extra m c) (by funext a; match a with | 0 => rfl | 1 => rfl)
    refine congrArg (res1 m c) ?_
    have h := (idx t).2.2.2.2.2.2.2.2
    funext a
    match a with
    | 0 => exact Fin.ext (by show r.val = win0_8.index t 0 * 16 + 1 * r.val; rw [h]; show _ = 0 * 16 + 1 * r.val; omega)
    | 1 => exact Fin.ext (by show k.val = win0_8.index t 1 * 2048 + 1 * k.val; rw [h]; show _ = 0 * 2048 + 1 * k.val; omega))
  (fun i => by
    have hi : (i 0).val < 16 := (i 0).isLt
    have hk : (i 1).val < 2048 := (i 1).isLt
    have ht : 175 < cfg0.N := by rw [show cfg0.N = 176 from N_0]; omega
    refine ⟨⟨_, ht⟩, (flush0_8 _).mpr (by show 175 % 176 = 175; omega), ?_⟩
    have h := (idx ⟨_, ht⟩).2.2.2.2.2.2.2.2
    show i ∈ ((View.whole main_v5_1).slice (win0_8.rect ⟨_, ht⟩)).set
    rw [View.set_slice_whole, Rect.mem_set_unit]
    intro a
    show win0_8.index ⟨_, ht⟩ a * S16x2048.size a ≤ (i a).val ∧ (i a).val < win0_8.index ⟨_, ht⟩ a * S16x2048.size a + S16x2048.size a
    rw [h]
    match a with
    | 0 => show 0 * 16 ≤ (i 0).val ∧ (i 0).val < 0 * 16 + 16; omega
    | 1 => show 0 * 2048 ≤ (i 1).val ∧ (i 1).val < 0 * 2048 + 2048; omega)

end Cert.Ffn3
end
-- ==== Proof.Ffn3.Ref.lean ====
/- The reference of the first feed-forward call, entry by entry. -/
module

public import proofs.«01_k».proof.Proof.Gen.Reference3Ideal.Run
public import proofs.«01_k».proof.Proof.Ffn3.Entries

@[expose] public section
set_option maxRecDepth 16384
noncomputable section
namespace Cert.Ffn3.Ref
open Idealize.ShloMosaic Idealize.ShloMosaic.TcCoe Idealize.SL.Sem
open Cert.Reference3Ideal Cert.Reference3Ideal.Gen
open Cert.Ffn (scale normed hidden closed)

/-- The extra rows above the residual's. -/
def stacked (e : FVec Ideal S16x2048 .f32) (x : FVec Ideal S1x8192x2048 .f32) : FVec Ideal S8208x2048 .f32 :=
  concatenate S8208x2048 0 [⟨S16x2048, e⟩, ⟨S8192x2048, shapeCast _ x shapeCasts_S1x8192x2048_S8192x2048⟩] concatenates_S16x2048_S8192x2048_S8208x2048_d0

/-- Every row normalised and multiplied by the gain. -/
def norm (x : FVec Ideal S8208x2048 .f32) (g : FVec Ideal S1x2048 .f32) : FVec Ideal S8208x2048 .f32 :=
  mulf (mulf x (broadcastInDim S8208x2048 ![0, 1] bcast_S8208x1_S8208x2048_0_1 (Host.rsqrt (addf (Host.divf (broadcastInDim S8208x1 ![0] bcast_S8208_S8208x1_0 (Host.reduceAdd (mulf x x) (constant S_ .f32 0x00000000#32) reducesTo_S8208x2048_S8208_d1 h_S_)) (broadcastInDim S8208x1 ![] bcast_S_S8208x1 (constant S_ .f32 0x45000000#32))) (broadcastInDim S8208x1 ![] bcast_S_S8208x1 (constant S_ .f32 0x358637BD#32))))))
    (broadcastInDim S8208x2048 ![0, 1] bcast_S1x2048_S8208x2048_0_1 (broadcastInDim S1x2048 ![1] bcast_S2048_S1x2048_1 (shapeCast _ g shapeCasts_S1x2048_S2048)))

/-- The rows times a weight array. -/
def dot (u : FVec Ideal S8208x2048 .f32) (w : FVec Ideal S1x2048x5632 .f32) : FVec Ideal S8208x5632 .f32 :=
  Host.dotGeneral dot_S8208x2048_S2048x5632_S8208x5632_1_0_0_1_n_n none u (shapeCast S2048x5632 w shapeCasts_S1x2048x5632_S2048x5632)

/-- `silu` of the first array times the second. -/
def gated (a b : FVec Ideal S8208x5632 .f32) : FVec Ideal S8208x5632 .f32 :=
  mulf (mulf a (Host.divf (broadcastInDim S8208x5632 ![] bcast_S_S8208x5632 (constant S_ .f32 0x3F800000#32)) (addf (broadcastInDim S8208x5632 ![] bcast_S_S8208x5632 (constant S_ .f32 0x3F800000#32)) (Host.exp (Host.negf a))))) b

/-- The hidden units times the last weight array. -/
def down (a : FVec Ideal S8208x5632 .f32) (w : FVec Ideal S1x5632x2048 .f32) : FVec Ideal S8208x2048 .f32 :=
  Host.dotGeneral dot_S8208x5632_S5632x2048_S8208x2048_1_0_0_1_n_n none a (shapeCast S5632x2048 w shapeCasts_S1x5632x2048_S5632x2048)

/-- The rows plus half of the other rows. -/
def plus (h y : FVec Ideal S8208x2048 .f32) : FVec Ideal S8208x2048 .f32 :=
  addf h (mulf (broadcastInDim S8208x2048 ![] bcast_S_S8208x2048 (constant S_ .f32 0x3F000000#32)) y)

/-- All rows' results. -/
def whole (e : FVec Ideal S16x2048 .f32) (x : FVec Ideal S1x8192x2048 .f32) (g g' : FVec Ideal S1x2048 .f32) (wg wu : FVec Ideal S1x2048x5632 .f32) (wd : FVec Ideal S1x5632x2048 .f32) : FVec Ideal S8208x2048 .f32 :=
  plus (stacked e x) (norm (down (gated (dot (norm (stacked e x) g) wg) (dot (norm (stacked e x) g) wu)) wd) g')

section
variable (m : (ℓ : Loc nD τ sig) → Buf (Elt Ideal) ℓ) (c : Dev nD)
/-- All rows' results of the arguments. -/
abbrev wholeOf : FVec Ideal S8208x2048 .f32 :=
  whole (m ((c.tc : Thread nD τ).loc main_arg1)) (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

theorem parts0 : Cert.Reference3Ideal.Value.res_main_v41 m c = extractStridedSlice S8192x2048 ![16, 0] (wholeOf m c) slices_S8208x2048_S8192x2048_16_0 := by
  rfl
theorem parts1 : Cert.Reference3Ideal.Value.res_main_v42 m c = extractStridedSlice S16x2048 ![0, 0] (wholeOf m c) slices_S8208x2048_S16x2048_0_0 := by
  rfl
end

theorem stacked_low (e : FVec Ideal S16x2048 .f32) (x : FVec Ideal S1x8192x2048 .f32) (r : Fin 8192) (k : Fin 2048) :
    stacked e x (ix2 (⟨16 + r.val, by omega⟩ : Fin 8208) k) = x (ix3 0 r k) := by
  unfold stacked
  pointwise [hlo_ix]
theorem stacked_top (e : FVec Ideal S16x2048 .f32) (x : FVec Ideal S1x8192x2048 .f32) (r : Fin 16) (k : Fin 2048) :
    stacked e x (ix2 (⟨r.val, by omega⟩ : Fin 8208) k) = e (ix2 r k) := by
  unfold stacked
  pointwise [hlo_ix]

theorem norm_at (x : FVec Ideal S8208x2048 .f32) (g : FVec Ideal S1x2048 .f32) (r : Fin 8208) (k : Fin 2048) :
    norm x g (ix2 r k) = normed (fun k => x (ix2 r k)) (fun k => g (ix2 0 k)) k := by
  unfold normed scale
  pointwise [norm, hlo_ix]

theorem dot_at (u : FVec Ideal S8208x2048 .f32) (w : FVec Ideal S1x2048x5632 .f32) (r : Fin 8208) (q : Fin 5632) :
    dot u w (ix2 r q) = ∑ j : Fin 2048, u (ix2 r j) * w (ix3 0 j q) := by
  pointwise [dot, hlo_ix]

theorem gated_at (a b : FVec Ideal S8208x5632 .f32) (r : Fin 8208) (q : Fin 5632) :
    gated a b (ix2 r q) = (a (ix2 r q) * Ideal.logistic (a (ix2 r q))) * b (ix2 r q) := by
  unfold Ideal.logistic
  pointwise [gated, hlo_ix]

theorem down_at (a : FVec Ideal S8208x5632 .f32) (w : FVec Ideal S1x5632x2048 .f32) (r : Fin 8208) (k : Fin 2048) :
    down a w (ix2 r k) = ∑ q : Fin 5632, a (ix2 r q) * w (ix3 0 q k) := by
  pointwise [down, hlo_ix]

theorem plus_at (h y : FVec Ideal S8208x2048 .f32) (r : Fin 8208) (k : Fin 2048) :
    plus h y (ix2 r k) = h (ix2 r k) + Ideal.ofBits FTy.f32 1056964608#32 * y (ix2 r k) := by
  pointwise [plus, hlo_ix]

theorem whole_at (e : FVec Ideal S16x2048 .f32) (x : FVec Ideal S1x8192x2048 .f32) (g g' : FVec Ideal S1x2048 .f32) (wg wu : FVec Ideal S1x2048x5632 .f32)
    (wd : FVec Ideal S1x5632x2048 .f32) (r : Fin 8208) (k : Fin 2048) :
    whole e x g g' wg wu wd (ix2 r k) = layer (fun k => stacked e x (ix2 r k)) (fun k => g (ix2 0 k)) (fun k => g' (ix2 0 k)) wg wu wd k := by
  unfold whole
  refine (plus_at _ _ r k).trans ?_
  rw [norm_at]
  simp only [down_at, gated_at, dot_at, norm_at]
  rfl

theorem result0 (m : (ℓ : Loc nD τ sig) → Buf (Elt Ideal) ℓ) (c : Dev nD) (r : Fin 8192) (k : Fin 2048) :
    Cert.Reference3Ideal.Value.res_main_v41 m c (ix2 r k) = wholeOf m c (ix2 (⟨16 + r.val, by omega⟩ : Fin 8208) k) := by
  rw [parts0]
  generalize wholeOf m c = w
  pointwise [hlo_ix]

theorem result1 (m : (ℓ : Loc nD τ sig) → Buf (Elt Ideal) ℓ) (c : Dev nD) (r : Fin 16) (k : Fin 2048) :
    Cert.Reference3Ideal.Value.res_main_v42 m c (ix2 r k) = wholeOf m c (ix2 (⟨r.val, by omega⟩ : Fin 8208) k) := by
  rw [parts1]
  generalize wholeOf m c = w
  pointwise [hlo_ix]

end Cert.Ffn3.Ref
end
-- ==== Proof.Ffn3.Equal.lean ====
/- The first feed-forward call and its reference leave the same two results. -/
module

public import proofs.«01_k».proof.Defs
public import proofs.«01_k».proof.Proof.Ffn3.Values
public import proofs.«01_k».proof.Proof.Ffn3.Ref

@[expose] public section
set_option maxRecDepth 16384
noncomputable section
namespace Cert.Ffn3
open Idealize.ShloMosaic Idealize.ShloMosaic.TcCoe Idealize.SL.Sem
open Cert.Kernel3Ideal Cert.Kernel3Ideal.Gen

/-- The reference's results, its arguments being the kernel's. -/
theorem ref_results {m : (ℓ : Loc nD τ sig) → Buf (Elt Ideal) ℓ} {c : Dev nD}
    {m' : (ℓ : Loc Cert.Reference3Ideal.nD Cert.Reference3Ideal.τ Cert.Reference3Ideal.sig) → Buf (Elt Ideal) ℓ}
    (e : m' ((c.tc : Thread Cert.Reference3Ideal.nD Cert.Reference3Ideal.τ).loc Cert.Reference3Ideal.main_arg0) = m ((c.tc : Thread nD τ).loc main_arg0)
      ∧ m' ((c.tc : Thread Cert.Reference3Ideal.nD Cert.Reference3Ideal.τ).loc Cert.Reference3Ideal.main_arg1) = m ((c.tc : Thread nD τ).loc main_arg1)
      ∧ m' ((c.tc : Thread Cert.Reference3Ideal.nD Cert.Reference3Ideal.τ).loc Cert.Reference3Ideal.main_arg2) = m ((c.tc : Thread nD τ).loc main_arg2)
      ∧ m' ((c.tc : Thread Cert.Reference3Ideal.nD Cert.Reference3Ideal.τ).loc Cert.Reference3Ideal.main_arg3) = m ((c.tc : Thread nD τ).loc main_arg3)
      ∧ m' ((c.tc : Thread Cert.Reference3Ideal.nD Cert.Reference3Ideal.τ).loc Cert.Reference3Ideal.main_arg4) = m ((c.tc : Thread nD τ).loc main_arg4)
      ∧ m' ((c.tc : Thread Cert.Reference3Ideal.nD Cert.Reference3Ideal.τ).loc Cert.Reference3Ideal.main_arg5) = m ((c.tc : Thread nD τ).loc main_arg5)
      ∧ m' ((c.tc : Thread Cert.Reference3Ideal.nD Cert.Reference3Ideal.τ).loc Cert.Reference3Ideal.main_arg6) = m ((c.tc : Thread nD τ).loc main_arg6)) :
    Cert.Reference3Ideal.Value.res_main_v41 m' c = res0 m c ∧ Cert.Reference3Ideal.Value.res_main_v42 m' c = res1 m c := by
  obtain ⟨e0, e1, e2, e3, e4, e5, e6⟩ := e
  constructor
  · funext i
    obtain ⟨r, k, rfl⟩ : ∃ (r : Fin 8192) (k : Fin 2048), i = ix2 r k := ⟨i 0, i 1, eq_ix2 i⟩
    refine (Ref.result0 m' c r k).trans ?_
    unfold Ref.wholeOf
    rw [e0, e1, e2, e3, e4, e5, e6]
    refine (Ref.whole_at _ _ _ _ _ _ _ _ k).trans ?_
    exact congrArg (fun f => layer f (gainIn m c) (gainOut m c) (wGate m c) (wUp m c) (wDown m c) k) (funext fun k => Ref.stacked_low _ _ r k)
  · funext i
    obtain ⟨r, k, rfl⟩ : ∃ (r : Fin 16) (k : Fin 2048), i = ix2 r k := ⟨i 0, i 1, eq_ix2 i⟩
    refine (Ref.result1 m' c r k).trans ?_
    unfold Ref.wholeOf
    rw [e0, e1, e2, e3, e4, e5, e6]
    refine (Ref.whole_at _ _ _ _ _ _ _ _ k).trans ?_
    exact congrArg (fun f => layer f (gainIn m c) (gainOut m c) (wGate m c) (wUp m c) (wDown m c) k) (funext fun k => Ref.stacked_top _ _ r k)

/-- The run of the kernel with both results read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5_0) = res0 m c ∧ r.2.mem ((c.tc : Thread nD τ).loc main_v5_1) = res1 m c ∧ Kept m c r :=
  (θ_run defs _ _).mono (fun r h c => ⟨((h.1 c).1 7).trans (final7 m c), ((h.1 c).1 8).trans (final8 m c), kept m r h.1 c⟩) (run_quiescent m ρ)

/-- Kernel and reference end with equal results at the extended reals. -/
theorem equal : Cert.algebraic_Kernel3Ideal_Reference3Ideal := fun m g m' g' _ e =>
  ⟨fun c => res0 m c, fun c => res1 m c, run m g,
    (θ_run Cert.Reference3Ideal.defs _ _).mono
      (fun r h c => ⟨(h c).1.trans (ref_results (e c)).1, (h c).2.1.trans (ref_results (e c)).2, (h c).2.2⟩) (Cert.Reference3Ideal.Value.run m' g')⟩

/-- The reference terminates, keeps its arguments and, having no semaphores, leaves none raised. -/
theorem frame_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

end Cert.Ffn3
end
-- ==== Proof.lean ====
/- The proof of the claims stated in `Defs.lean`: for each of the three calls, the kernel's frames, the frame of the
   reference, and the equality of their results. The mixing call's are proved in the modules under `Proof/Mix`, the
   second feed-forward call's in those under `Proof/Ffn`, the first's in those under `Proof/Ffn3`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Mix.Same
public import proofs.«01_k».proof.Proof.Mix.Equal
public import proofs.«01_k».proof.Proof.Ffn.Equal
public import proofs.«01_k».proof.Proof.Ffn3.Same
public import proofs.«01_k».proof.Proof.Ffn3.Equal
public import proofs.«01_k».proof.Proof.Gen.ReferenceIdeal.Run
public import proofs.«01_k».proof.Proof.Gen.ReferenceIdeal.Step
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Mix.tame_facts,
  Cert.Mix.frame_kernel, fun m ρ _ => Cert.KernelIdeal.Gen.frame m ρ, fun m ρ _ => Cert.KernelIdeal.Gen.frame m ρ,
  Cert.Mix.frame_reference, fun m ρ h => Cert.Mix.frame_reference m ρ trivial,
  fun m ρ _ => Cert.Kernel2.Gen.frame m ρ, fun m ρ _ => Cert.Kernel2Ideal.Gen.frame m ρ, Cert.Ffn.frame_reference,
  Cert.Ffn3.frame_kernel, Cert.Ffn3.frame_ideal, Cert.Ffn3.frame_reference,
  trivial, Cert.Mix.equal, trivial, Cert.Ffn.equal, trivial, Cert.Ffn3.equal⟩

end Cert.Proof

end
